-- ==== Defs.lean ====
def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_Down2Ideal_bounded2 [hPre_bounded2 : Cert.Pre_bounded2.Facts] (m : (ℓ : Loc Cert.Down2Ideal.nD Cert.Down2Ideal.τ Cert.Down2Ideal.sig) → Buf (Elt Ideal) ℓ) : Prop :=
  ∀ c : Dev Cert.Down2Ideal.nD,
    (Cert.Pre_bounded2.fn (F := Ideal) (m ((c.tc : Thread Cert.Down2Ideal.nD Cert.Down2Ideal.τ).loc Cert.Down2Ideal.main_arg0)) (m ((c.tc : Thread Cert.Down2Ideal.nD Cert.Down2Ideal.τ).loc Cert.Down2Ideal.main_arg1)) (m ((c.tc : Thread Cert.Down2Ideal.nD Cert.Down2Ideal.τ).loc Cert.Down2Ideal.main_arg2)) (m ((c.tc : Thread Cert.Down2Ideal.nD Cert.Down2Ideal.τ).loc Cert.Down2Ideal.main_arg3))).1 = (fun _ => 1#1)
    ∧ (Cert.Pre_bounded2.fn (F := Ideal) (m ((c.tc : Thread Cert.Down2Ideal.nD Cert.Down2Ideal.τ).loc Cert.Down2Ideal.main_arg0)) (m ((c.tc : Thread Cert.Down2Ideal.nD Cert.Down2Ideal.τ).loc Cert.Down2Ideal.main_arg1)) (m ((c.tc : Thread Cert.Down2Ideal.nD Cert.Down2Ideal.τ).loc Cert.Down2Ideal.main_arg2)) (m ((c.tc : Thread Cert.Down2Ideal.nD Cert.Down2Ideal.τ).loc Cert.Down2Ideal.main_arg3))).2.1 = (fun _ => 1#1)
    ∧ (Cert.Pre_bounded2.fn (F := Ideal) (m ((c.tc : Thread Cert.Down2Ideal.nD Cert.Down2Ideal.τ).loc Cert.Down2Ideal.main_arg0)) (m ((c.tc : Thread Cert.Down2Ideal.nD Cert.Down2Ideal.τ).loc Cert.Down2Ideal.main_arg1)) (m ((c.tc : Thread Cert.Down2Ideal.nD Cert.Down2Ideal.τ).loc Cert.Down2Ideal.main_arg2)) (m ((c.tc : Thread Cert.Down2Ideal.nD Cert.Down2Ideal.τ).loc Cert.Down2Ideal.main_arg3))).2.2 = (fun _ => 1#1)

def Pre_Ref2Ideal (m : (ℓ : Loc Cert.Ref2Ideal.nD Cert.Ref2Ideal.τ Cert.Ref2Ideal.sig) → Buf (Elt Ideal) ℓ) : Prop :=
  True

def Pre_Ref2Ideal_bounded2 [hPre_bounded2 : Cert.Pre_bounded2.Facts] (m : (ℓ : Loc Cert.Ref2Ideal.nD Cert.Ref2Ideal.τ Cert.Ref2Ideal.sig) → Buf (Elt Ideal) ℓ) : Prop :=
  ∀ c : Dev Cert.Ref2Ideal.nD,
    (Cert.Pre_bounded2.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3))).1 = (fun _ => 1#1)
    ∧ (Cert.Pre_bounded2.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3))).2.1 = (fun _ => 1#1)
    ∧ (Cert.Pre_bounded2.fn (F := Ideal) (m ((c.tc : Thread Cert.Ref2Ideal.nD Cert.Ref2Ideal.τ).loc Cert.Ref2Ideal.main_arg0)) (m ((c.tc : Thread Cert.Ref2Ideal.nD Cert.Ref2Ideal.τ).loc Cert.Ref2Ideal.main_arg1)) (m ((c.tc : Thread Cert.Ref2Ideal.nD Cert.Ref2Ideal.τ).loc Cert.Ref2Ideal.main_arg2)) (m ((c.tc : Thread Cert.Ref2Ideal.nD Cert.Ref2Ideal.τ).loc Cert.Ref2Ideal.main_arg3))).2.2 = (fun _ => 1#1)

def Pre_Down3 (m : (ℓ : Loc Cert.Down3.nD Cert.Down3.τ Cert.Down3.sig) → Buf (Elt Bits) ℓ) : Prop :=
  True

def Pre_Down3Ideal (m : (ℓ : Loc Cert.Down3Ideal.nD Cert.Down3Ideal.τ Cert.Down3Ideal.sig) → Buf (Elt Ideal) ℓ) : Prop :=
  True

def Pre_Down3Ideal_bounded3 [hPre_bounded3 : Cert.Pre_bounded3.Facts] (m : (ℓ : Loc Cert.Down3Ideal.nD Cert.Down3Ideal.τ Cert.Down3Ideal.sig) → Buf (Elt Ideal) ℓ) : Prop :=
  ∀ c : Dev Cert.Down3Ideal.nD,
    (Cert.Pre_bounded3.fn (F := Ideal) (m ((c.tc : Thread Cert.Down3Ideal.nD Cert.Down3Ideal.τ).loc Cert.Down3Ideal.main_arg0)) (m ((c.tc : Thread Cert.Down3Ideal.nD Cert.Down3Ideal.τ).loc Cert.Down3Ideal.main_arg1)) (m ((c.tc : Thread Cert.Down3Ideal.nD Cert.Down3Ideal.τ).loc Cert.Down3Ideal.main_arg2)) (m ((c.tc : Thread Cert.Down3Ideal.nD Cert.Down3Ideal.τ).loc Cert.Down3Ideal.main_arg3))).1 = (fun _ => 1#1)
    ∧ (Cert.Pre_bounded3.fn (F := Ideal) (m ((c.tc : Thread Cert.Down3Ideal.nD Cert.Down3Ideal.τ).loc Cert.Down3Ideal.main_arg0)) (m ((c.tc : Thread Cert.Down3Ideal.nD Cert.Down3Ideal.τ).loc Cert.Down3Ideal.main_arg1)) (m ((c.tc : Thread Cert.Down3Ideal.nD Cert.Down3Ideal.τ).loc Cert.Down3Ideal.main_arg2)) (m ((c.tc : Thread Cert.Down3Ideal.nD Cert.Down3Ideal.τ).loc Cert.Down3Ideal.main_arg3))).2.1 = (fun _ => 1#1)
    ∧ (Cert.Pre_bounded3.fn (F := Ideal) (m ((c.tc : Thread Cert.Down3Ideal.nD Cert.Down3Ideal.τ).loc Cert.Down3Ideal.main_arg0)) (m ((c.tc : Thread Cert.Down3Ideal.nD Cert.Down3Ideal.τ).loc Cert.Down3Ideal.main_arg1)) (m ((c.tc : Thread Cert.Down3Ideal.nD Cert.Down3Ideal.τ).loc Cert.Down3Ideal.main_arg2)) (m ((c.tc : Thread Cert.Down3Ideal.nD Cert.Down3Ideal.τ).loc Cert.Down3Ideal.main_arg3))).2.2 = (fun _ => 1#1)

def Pre_Ref3Ideal (m : (ℓ : Loc Cert.Ref3Ideal.nD Cert.Ref3Ideal.τ Cert.Ref3Ideal.sig) → Buf (Elt Ideal) ℓ) : Prop :=
  True

def Pre_Ref3Ideal_bounded3 [hPre_bounded3 : Cert.Pre_bounded3.Facts] (m : (ℓ : Loc Cert.Ref3Ideal.nD Cert.Ref3Ideal.τ Cert.Ref3Ideal.sig) → Buf (Elt Ideal) ℓ) : Prop :=
  ∀ c : Dev Cert.Ref3Ideal.nD,
    (Cert.Pre_bounded3.fn (F := Ideal) (m ((c.tc : Thread Cert.Ref3Ideal.nD Cert.Ref3Ideal.τ).loc Cert.Ref3Ideal.main_arg0)) (m ((c.tc : Thread Cert.Ref3Ideal.nD Cert.Ref3Ideal.τ).loc Cert.Ref3Ideal.main_arg1)) (m ((c.tc : Thread Cert.Ref3Ideal.nD Cert.Ref3Ideal.τ).loc Cert.Ref3Ideal.main_arg2)) (m ((c.tc : Thread Cert.Ref3Ideal.nD Cert.Ref3Ideal.τ).loc Cert.Ref3Ideal.main_arg3))).1 = (fun _ => 1#1)
    ∧ (Cert.Pre_bounded3.fn (F := Ideal) (m ((c.tc : Thread Cert.Ref3Ideal.nD Cert.Ref3Ideal.τ).loc Cert.Ref3Ideal.main_arg0)) (m ((c.tc : Thread Cert.Ref3Ideal.nD Cert.Ref3Ideal.τ).loc Cert.Ref3Ideal.main_arg1)) (m ((c.tc : Thread Cert.Ref3Ideal.nD Cert.Ref3Ideal.τ).loc Cert.Ref3Ideal.main_arg2)) (m ((c.tc : Thread Cert.Ref3Ideal.nD Cert.Ref3Ideal.τ).loc Cert.Ref3Ideal.main_arg3))).2.1 = (fun _ => 1#1)
    ∧ (Cert.Pre_bounded3.fn (F := Ideal) (m ((c.tc : Thread Cert.Ref3Ideal.nD Cert.Ref3Ideal.τ).loc Cert.Ref3Ideal.main_arg0)) (m ((c.tc : Thread Cert.Ref3Ideal.nD Cert.Ref3Ideal.τ).loc Cert.Ref3Ideal.main_arg1)) (m ((c.tc : Thread Cert.Ref3Ideal.nD Cert.Ref3Ideal.τ).loc Cert.Ref3Ideal.main_arg2)) (m ((c.tc : Thread Cert.Ref3Ideal.nD Cert.Ref3Ideal.τ).loc Cert.Ref3Ideal.main_arg3))).2.2 = (fun _ => 1#1)

def Pre_Down4 (m : (ℓ : Loc Cert.Down4.nD Cert.Down4.τ Cert.Down4.sig) → Buf (Elt Bits) ℓ) : Prop :=
  True

def Pre_Down4Ideal (m : (ℓ : Loc Cert.Down4Ideal.nD Cert.Down4Ideal.τ Cert.Down4Ideal.sig) → Buf (Elt Ideal) ℓ) : Prop :=
  True

def Pre_Down4Ideal_bounded4 [hPre_bounded4 : Cert.Pre_bounded4.Facts] (m : (ℓ : Loc Cert.Down4Ideal.nD Cert.Down4Ideal.τ Cert.Down4Ideal.sig) → Buf (Elt Ideal) ℓ) : Prop :=
  ∀ c : Dev Cert.Down4Ideal.nD,
    (Cert.Pre_bounded4.fn (F := Ideal) (m ((c.tc : Thread Cert.Down4Ideal.nD Cert.Down4Ideal.τ).loc Cert.Down4Ideal.main_arg0)) (m ((c.tc : Thread Cert.Down4Ideal.nD Cert.Down4Ideal.τ).loc Cert.Down4Ideal.main_arg1)) (m ((c.tc : Thread Cert.Down4Ideal.nD Cert.Down4Ideal.τ).loc Cert.Down4Ideal.main_arg2)) (m ((c.tc : Thread Cert.Down4Ideal.nD Cert.Down4Ideal.τ).loc Cert.Down4Ideal.main_arg3))).1 = (fun _ => 1#1)
    ∧ (Cert.Pre_bounded4.fn (F := Ideal) (m ((c.tc : Thread Cert.Down4Ideal.nD Cert.Down4Ideal.τ).loc Cert.Down4Ideal.main_arg0)) (m ((c.tc : Thread Cert.Down4Ideal.nD Cert.Down4Ideal.τ).loc Cert.Down4Ideal.main_arg1)) (m ((c.tc : Thread Cert.Down4Ideal.nD Cert.Down4Ideal.τ).loc Cert.Down4Ideal.main_arg2)) (m ((c.tc : Thread Cert.Down4Ideal.nD Cert.Down4Ideal.τ).loc Cert.Down4Ideal.main_arg3))).2.1 = (fun _ => 1#1)
    ∧ (Cert.Pre_bounded4.fn (F := Ideal) (m ((c.tc : Thread Cert.Down4Ideal.nD Cert.Down4Ideal.τ).loc Cert.Down4Ideal.main_arg0)) (m ((c.tc : Thread Cert.Down4Ideal.nD Cert.Down4Ideal.τ).loc Cert.Down4Ideal.main_arg1)) (m ((c.tc : Thread Cert.Down4Ideal.nD Cert.Down4Ideal.τ).loc Cert.Down4Ideal.main_arg2)) (m ((c.tc : Thread Cert.Down4Ideal.nD Cert.Down4Ideal.τ).loc Cert.Down4Ideal.main_arg3))).2.2 = (fun _ => 1#1)

def Pre_Ref4Ideal (m : (ℓ : Loc Cert.Ref4Ideal.nD Cert.Ref4Ideal.τ Cert.Ref4Ideal.sig) → Buf (Elt Ideal) ℓ) : Prop :=
  True

def Pre_Ref4Ideal_bounded4 [hPre_bounded4 : Cert.Pre_bounded4.Facts] (m : (ℓ : Loc Cert.Ref4Ideal.nD Cert.Ref4Ideal.τ Cert.Ref4Ideal.sig) → Buf (Elt Ideal) ℓ) : Prop :=
  ∀ c : Dev Cert.Ref4Ideal.nD,
    (Cert.Pre_bounded4.fn (F := Ideal) (m ((c.tc : Thread Cert.Ref4Ideal.nD Cert.Ref4Ideal.τ).loc Cert.Ref4Ideal.main_arg0)) (m ((c.tc : Thread Cert.Ref4Ideal.nD Cert.Ref4Ideal.τ).loc Cert.Ref4Ideal.main_arg1)) (m ((c.tc : Thread Cert.Ref4Ideal.nD Cert.Ref4Ideal.τ).loc Cert.Ref4Ideal.main_arg2)) (m ((c.tc : Thread Cert.Ref4Ideal.nD Cert.Ref4Ideal.τ).loc Cert.Ref4Ideal.main_arg3))).1 = (fun _ => 1#1)
    ∧ (Cert.Pre_bounded4.fn (F := Ideal) (m ((c.tc : Thread Cert.Ref4Ideal.nD Cert.Ref4Ideal.τ).loc Cert.Ref4Ideal.main_arg0)) (m ((c.tc : Thread Cert.Ref4Ideal.nD Cert.Ref4Ideal.τ).loc Cert.Ref4Ideal.main_arg1)) (m ((c.tc : Thread Cert.Ref4Ideal.nD Cert.Ref4Ideal.τ).loc Cert.Ref4Ideal.main_arg2)) (m ((c.tc : Thread Cert.Ref4Ideal.nD Cert.Ref4Ideal.τ).loc Cert.Ref4Ideal.main_arg3))).2.1 = (fun _ => 1#1)
    ∧ (Cert.Pre_bounded4.fn (F := Ideal) (m ((c.tc : Thread Cert.Ref4Ideal.nD Cert.Ref4Ideal.τ).loc Cert.Ref4Ideal.main_arg0)) (m ((c.tc : Thread Cert.Ref4Ideal.nD Cert.Ref4Ideal.τ).loc Cert.Ref4Ideal.main_arg1)) (m ((c.tc : Thread Cert.Ref4Ideal.nD Cert.Ref4Ideal.τ).loc Cert.Ref4Ideal.main_arg2)) (m ((c.tc : Thread Cert.Ref4Ideal.nD Cert.Ref4Ideal.τ).loc Cert.Ref4Ideal.main_arg3))).2.2 = (fun _ => 1#1)

def Pre_Down5 (m : (ℓ : Loc Cert.Down5.nD Cert.Down5.τ Cert.Down5.sig) → Buf (Elt Bits) ℓ) : Prop :=
  True

def Pre_Down5Ideal (m : (ℓ : Loc Cert.Down5Ideal.nD Cert.Down5Ideal.τ Cert.Down5Ideal.sig) → Buf (Elt Ideal) ℓ) : Prop :=
  True

def Pre_Down5Ideal_bounded5 [hPre_bounded5 : Cert.Pre_bounded5.Facts] (m : (ℓ : Loc Cert.Down5Ideal.nD Cert.Down5Ideal.τ Cert.Down5Ideal.sig) → Buf (Elt Ideal) ℓ) : Prop :=
  ∀ c : Dev Cert.Down5Ideal.nD,
    (Cert.Pre_bounded5.fn (F := Ideal) (m ((c.tc : Thread Cert.Down5Ideal.nD Cert.Down5Ideal.τ).loc Cert.Down5Ideal.main_arg0)) (m ((c.tc : Thread Cert.Down5Ideal.nD Cert.Down5Ideal.τ).loc Cert.Down5Ideal.main_arg1)) (m ((c.tc : Thread Cert.Down5Ideal.nD Cert.Down5Ideal.τ).loc Cert.Down5Ideal.main_arg2)) (m ((c.tc : Thread Cert.Down5Ideal.nD Cert.Down5Ideal.τ).loc Cert.Down5Ideal.main_arg3))).1 = (fun _ => 1#1)
    ∧ (Cert.Pre_bounded5.fn (F := Ideal) (m ((c.tc : Thread Cert.Down5Ideal.nD Cert.Down5Ideal.τ).loc Cert.Down5Ideal.main_arg0)) (m ((c.tc : Thread Cert.Down5Ideal.nD Cert.Down5Ideal.τ).loc Cert.Down5Ideal.main_arg1)) (m ((c.tc : Thread Cert.Down5Ideal.nD Cert.Down5Ideal.τ).loc Cert.Down5Ideal.main_arg2)) (m ((c.tc : Thread Cert.Down5Ideal.nD Cert.Down5Ideal.τ).loc Cert.Down5Ideal.main_arg3))).2.1 = (fun _ => 1#1)
    ∧ (Cert.Pre_bounded5.fn (F := Ideal) (m ((c.tc : Thread Cert.Down5Ideal.nD Cert.Down5Ideal.τ).loc Cert.Down5Ideal.main_arg0)) (m ((c.tc : Thread Cert.Down5Ideal.nD Cert.Down5Ideal.τ).loc Cert.Down5Ideal.main_arg1)) (m ((c.tc : Thread Cert.Down5Ideal.nD Cert.Down5Ideal.τ).loc Cert.Down5Ideal.main_arg2)) (m ((c.tc : Thread Cert.Down5Ideal.nD Cert.Down5Ideal.τ).loc Cert.Down5Ideal.main_arg3))).2.2 = (fun _ => 1#1)

def Pre_Ref5Ideal (m : (ℓ : Loc Cert.Ref5Ideal.nD Cert.Ref5Ideal.τ Cert.Ref5Ideal.sig) → Buf (Elt Ideal) ℓ) : Prop :=
  True

def Pre_Ref5Ideal_bounded5 [hPre_bounded5 : Cert.Pre_bounded5.Facts] (m : (ℓ : Loc Cert.Ref5Ideal.nD Cert.Ref5Ideal.τ Cert.Ref5Ideal.sig) → Buf (Elt Ideal) ℓ) : Prop :=
  ∀ c : Dev Cert.Ref5Ideal.nD,
    (Cert.Pre_bounded5.fn (F := Ideal) (m ((c.tc : Thread Cert.Ref5Ideal.nD Cert.Ref5Ideal.τ).loc Cert.Ref5Ideal.main_arg0)) (m ((c.tc : Thread Cert.Ref5Ideal.nD Cert.Ref5Ideal.τ).loc Cert.Ref5Ideal.main_arg1)) (m ((c.tc : Thread Cert.Ref5Ideal.nD Cert.Ref5Ideal.τ).loc Cert.Ref5Ideal.main_arg2)) (m ((c.tc : Thread Cert.Ref5Ideal.nD Cert.Ref5Ideal.τ).loc Cert.Ref5Ideal.main_arg3))).1 = (fun _ => 1#1)
    ∧ (Cert.Pre_bounded5.fn (F := Ideal) (m ((c.tc : Thread Cert.Ref5Ideal.nD Cert.Ref5Ideal.τ).loc Cert.Ref5Ideal.main_arg0)) (m ((c.tc : Thread Cert.Ref5Ideal.nD Cert.Ref5Ideal.τ).loc Cert.Ref5Ideal.main_arg1)) (m ((c.tc : Thread Cert.Ref5Ideal.nD Cert.Ref5Ideal.τ).loc Cert.Ref5Ideal.main_arg2)) (m ((c.tc : Thread Cert.Ref5Ideal.nD Cert.Ref5Ideal.τ).loc Cert.Ref5Ideal.main_arg3))).2.1 = (fun _ => 1#1)
    ∧ (Cert.Pre_bounded5.fn (F := Ideal) (m ((c.tc : Thread Cert.Ref5Ideal.nD Cert.Ref5Ideal.τ).loc Cert.Ref5Ideal.main_arg0)) (m ((c.tc : Thread Cert.Ref5Ideal.nD Cert.Ref5Ideal.τ).loc Cert.Ref5Ideal.main_arg1)) (m ((c.tc : Thread Cert.Ref5Ideal.nD Cert.Ref5Ideal.τ).loc Cert.Ref5Ideal.main_arg2)) (m ((c.tc : Thread Cert.Ref5Ideal.nD Cert.Ref5Ideal.τ).loc Cert.Ref5Ideal.main_arg3))).2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_nonneg2 [hPre_nonneg2 : Cert.Pre_nonneg2.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_nonneg2.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3))) = (fun _ => 1#1)

def Pre_NormRef2Ideal (m : (ℓ : Loc Cert.NormRef2Ideal.nD Cert.NormRef2Ideal.τ Cert.NormRef2Ideal.sig) → Buf (Elt Ideal) ℓ) : Prop :=
  True

def Pre_NormRef2Ideal_nonneg2 [hPre_nonneg2 : Cert.Pre_nonneg2.Facts] (m : (ℓ : Loc Cert.NormRef2Ideal.nD Cert.NormRef2Ideal.τ Cert.NormRef2Ideal.sig) → Buf (Elt Ideal) ℓ) : Prop :=
  ∀ c : Dev Cert.NormRef2Ideal.nD,
    (Cert.Pre_nonneg2.fn (F := Ideal) (m ((c.tc : Thread Cert.NormRef2Ideal.nD Cert.NormRef2Ideal.τ).loc Cert.NormRef2Ideal.main_arg0)) (m ((c.tc : Thread Cert.NormRef2Ideal.nD Cert.NormRef2Ideal.τ).loc Cert.NormRef2Ideal.main_arg1)) (m ((c.tc : Thread Cert.NormRef2Ideal.nD Cert.NormRef2Ideal.τ).loc Cert.NormRef2Ideal.main_arg2)) (m ((c.tc : Thread Cert.NormRef2Ideal.nD Cert.NormRef2Ideal.τ).loc Cert.NormRef2Ideal.main_arg3))) = (fun _ => 1#1)

def Pre_Norm3 (m : (ℓ : Loc Cert.Norm3.nD Cert.Norm3.τ Cert.Norm3.sig) → Buf (Elt Bits) ℓ) : Prop :=
  True

def Pre_Norm3Ideal (m : (ℓ : Loc Cert.Norm3Ideal.nD Cert.Norm3Ideal.τ Cert.Norm3Ideal.sig) → Buf (Elt Ideal) ℓ) : Prop :=
  True

def Pre_Norm3Ideal_nonneg3 [hPre_nonneg3 : Cert.Pre_nonneg3.Facts] (m : (ℓ : Loc Cert.Norm3Ideal.nD Cert.Norm3Ideal.τ Cert.Norm3Ideal.sig) → Buf (Elt Ideal) ℓ) : Prop :=
  ∀ c : Dev Cert.Norm3Ideal.nD,
    (Cert.Pre_nonneg3.fn (F := Ideal) (m ((c.tc : Thread Cert.Norm3Ideal.nD Cert.Norm3Ideal.τ).loc Cert.Norm3Ideal.main_arg0)) (m ((c.tc : Thread Cert.Norm3Ideal.nD Cert.Norm3Ideal.τ).loc Cert.Norm3Ideal.main_arg1)) (m ((c.tc : Thread Cert.Norm3Ideal.nD Cert.Norm3Ideal.τ).loc Cert.Norm3Ideal.main_arg2)) (m ((c.tc : Thread Cert.Norm3Ideal.nD Cert.Norm3Ideal.τ).loc Cert.Norm3Ideal.main_arg3))) = (fun _ => 1#1)

def Pre_NormRef3Ideal (m : (ℓ : Loc Cert.NormRef3Ideal.nD Cert.NormRef3Ideal.τ Cert.NormRef3Ideal.sig) → Buf (Elt Ideal) ℓ) : Prop :=
  True

def Pre_NormRef3Ideal_nonneg3 [hPre_nonneg3 : Cert.Pre_nonneg3.Facts] (m : (ℓ : Loc Cert.NormRef3Ideal.nD Cert.NormRef3Ideal.τ Cert.NormRef3Ideal.sig) → Buf (Elt Ideal) ℓ) : Prop :=
  ∀ c : Dev Cert.NormRef3Ideal.nD,
    (Cert.Pre_nonneg3.fn (F := Ideal) (m ((c.tc : Thread Cert.NormRef3Ideal.nD Cert.NormRef3Ideal.τ).loc Cert.NormRef3Ideal.main_arg0)) (m ((c.tc : Thread Cert.NormRef3Ideal.nD Cert.NormRef3Ideal.τ).loc Cert.NormRef3Ideal.main_arg1)) (m ((c.tc : Thread Cert.NormRef3Ideal.nD Cert.NormRef3Ideal.τ).loc Cert.NormRef3Ideal.main_arg2)) (m ((c.tc : Thread Cert.NormRef3Ideal.nD Cert.NormRef3Ideal.τ).loc Cert.NormRef3Ideal.main_arg3))) = (fun _ => 1#1)

def Pre_Norm4 (m : (ℓ : Loc Cert.Norm4.nD Cert.Norm4.τ Cert.Norm4.sig) → Buf (Elt Bits) ℓ) : Prop :=
  True

def Pre_Norm4Ideal (m : (ℓ : Loc Cert.Norm4Ideal.nD Cert.Norm4Ideal.τ Cert.Norm4Ideal.sig) → Buf (Elt Ideal) ℓ) : Prop :=
  True

def Pre_Norm4Ideal_nonneg4 [hPre_nonneg4 : Cert.Pre_nonneg4.Facts] (m : (ℓ : Loc Cert.Norm4Ideal.nD Cert.Norm4Ideal.τ Cert.Norm4Ideal.sig) → Buf (Elt Ideal) ℓ) : Prop :=
  ∀ c : Dev Cert.Norm4Ideal.nD,
    (Cert.Pre_nonneg4.fn (F := Ideal) (m ((c.tc : Thread Cert.Norm4Ideal.nD Cert.Norm4Ideal.τ).loc Cert.Norm4Ideal.main_arg0)) (m ((c.tc : Thread Cert.Norm4Ideal.nD Cert.Norm4Ideal.τ).loc Cert.Norm4Ideal.main_arg1)) (m ((c.tc : Thread Cert.Norm4Ideal.nD Cert.Norm4Ideal.τ).loc Cert.Norm4Ideal.main_arg2)) (m ((c.tc : Thread Cert.Norm4Ideal.nD Cert.Norm4Ideal.τ).loc Cert.Norm4Ideal.main_arg3))) = (fun _ => 1#1)

def Pre_NormRef4Ideal (m : (ℓ : Loc Cert.NormRef4Ideal.nD Cert.NormRef4Ideal.τ Cert.NormRef4Ideal.sig) → Buf (Elt Ideal) ℓ) : Prop :=
  True

def Pre_NormRef4Ideal_nonneg4 [hPre_nonneg4 : Cert.Pre_nonneg4.Facts] (m : (ℓ : Loc Cert.NormRef4Ideal.nD Cert.NormRef4Ideal.τ Cert.NormRef4Ideal.sig) → Buf (Elt Ideal) ℓ) : Prop :=
  ∀ c : Dev Cert.NormRef4Ideal.nD,
    (Cert.Pre_nonneg4.fn (F := Ideal) (m ((c.tc : Thread Cert.NormRef4Ideal.nD Cert.NormRef4Ideal.τ).loc Cert.NormRef4Ideal.main_arg0)) (m ((c.tc : Thread Cert.NormRef4Ideal.nD Cert.NormRef4Ideal.τ).loc Cert.NormRef4Ideal.main_arg1)) (m ((c.tc : Thread Cert.NormRef4Ideal.nD Cert.NormRef4Ideal.τ).loc Cert.NormRef4Ideal.main_arg2)) (m ((c.tc : Thread Cert.NormRef4Ideal.nD Cert.NormRef4Ideal.τ).loc Cert.NormRef4Ideal.main_arg3))) = (fun _ => 1#1)

def Pre_Norm5 (m : (ℓ : Loc Cert.Norm5.nD Cert.Norm5.τ Cert.Norm5.sig) → Buf (Elt Bits) ℓ) : Prop :=
  True

def Pre_Norm5Ideal (m : (ℓ : Loc Cert.Norm5Ideal.nD Cert.Norm5Ideal.τ Cert.Norm5Ideal.sig) → Buf (Elt Ideal) ℓ) : Prop :=
  True

def Pre_Norm5Ideal_nonneg5 [hPre_nonneg5 : Cert.Pre_nonneg5.Facts] (m : (ℓ : Loc Cert.Norm5Ideal.nD Cert.Norm5Ideal.τ Cert.Norm5Ideal.sig) → Buf (Elt Ideal) ℓ) : Prop :=
  ∀ c : Dev Cert.Norm5Ideal.nD,
    (Cert.Pre_nonneg5.fn (F := Ideal) (m ((c.tc : Thread Cert.Norm5Ideal.nD Cert.Norm5Ideal.τ).loc Cert.Norm5Ideal.main_arg0)) (m ((c.tc : Thread Cert.Norm5Ideal.nD Cert.Norm5Ideal.τ).loc Cert.Norm5Ideal.main_arg1)) (m ((c.tc : Thread Cert.Norm5Ideal.nD Cert.Norm5Ideal.τ).loc Cert.Norm5Ideal.main_arg2)) (m ((c.tc : Thread Cert.Norm5Ideal.nD Cert.Norm5Ideal.τ).loc Cert.Norm5Ideal.main_arg3))) = (fun _ => 1#1)

def Pre_NormRef5Ideal (m : (ℓ : Loc Cert.NormRef5Ideal.nD Cert.NormRef5Ideal.τ Cert.NormRef5Ideal.sig) → Buf (Elt Ideal) ℓ) : Prop :=
  True

def Pre_NormRef5Ideal_nonneg5 [hPre_nonneg5 : Cert.Pre_nonneg5.Facts] (m : (ℓ : Loc Cert.NormRef5Ideal.nD Cert.NormRef5Ideal.τ Cert.NormRef5Ideal.sig) → Buf (Elt Ideal) ℓ) : Prop :=
  ∀ c : Dev Cert.NormRef5Ideal.nD,
    (Cert.Pre_nonneg5.fn (F := Ideal) (m ((c.tc : Thread Cert.NormRef5Ideal.nD Cert.NormRef5Ideal.τ).loc Cert.NormRef5Ideal.main_arg0)) (m ((c.tc : Thread Cert.NormRef5Ideal.nD Cert.NormRef5Ideal.τ).loc Cert.NormRef5Ideal.main_arg1)) (m ((c.tc : Thread Cert.NormRef5Ideal.nD Cert.NormRef5Ideal.τ).loc Cert.NormRef5Ideal.main_arg2)) (m ((c.tc : Thread Cert.NormRef5Ideal.nD Cert.NormRef5Ideal.τ).loc Cert.NormRef5Ideal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1)
      ∧ r.2.mem ((c.tc : Thread Cert.Down2.nD Cert.Down2.τ).loc Cert.Down2.main_arg2) = m ((c.tc : Thread Cert.Down2.nD Cert.Down2.τ).loc Cert.Down2.main_arg2)
      ∧ r.2.mem ((c.tc : Thread Cert.Down2.nD Cert.Down2.τ).loc Cert.Down2.main_arg3) = m ((c.tc : Thread Cert.Down2.nD Cert.Down2.τ).loc Cert.Down2.main_arg3))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
      ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2)
      ∧ r.2.mem ((c.tc : Thread Cert.Down2Ideal.nD Cert.Down2Ideal.τ).loc Cert.Down2Ideal.main_arg3) = m ((c.tc : Thread Cert.Down2Ideal.nD Cert.Down2Ideal.τ).loc Cert.Down2Ideal.main_arg3))
      ∧ r.2.sem = fun _ => 0)

def quiescent_Down2Ideal_pre_bounded2 [hDown2Ideal : Cert.Down2Ideal.Facts] [hPre_bounded2 : Cert.Pre_bounded2.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal_bounded2 m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
      ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2)
      ∧ r.2.mem ((c.tc : Thread Cert.Down2Ideal.nD Cert.Down2Ideal.τ).loc Cert.Down2Ideal.main_arg3) = m ((c.tc : Thread Cert.Down2Ideal.nD Cert.Down2Ideal.τ).loc Cert.Down2Ideal.main_arg3))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3))
      ∧ r.2.sem = fun _ => 0)

def quiescent_Ref2Ideal_pre_bounded2 [hRef2Ideal : Cert.Ref2Ideal.Facts] [hPre_bounded2 : Cert.Pre_bounded2.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal_bounded2 m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3))
      ∧ r.2.sem = fun _ => 0)

def quiescent_Down3 [hDown3 : Cert.Down3.Facts] : Prop :=
  ∀ (m : (ℓ : Loc Cert.Down3.nD Cert.Down3.τ Cert.Down3.sig) → Buf (Elt Bits) ℓ) (g : Dev Cert.Down3.nD → PrngReg), Pre_Down3 m →
    θ_run (Cert.Down3.defs (F := Bits)) (onTc (τ := Cert.Down3.τ) (Cert.Down3.main (F := Bits))) ⟨m, fun _ => 0, g⟩ (fun r => (∀ c : Dev Cert.Down3.nD,
      r.2.mem ((c.tc : Thread Cert.Down3.nD Cert.Down3.τ).loc Cert.Down3.main_arg0) = m ((c.tc : Thread Cert.Down3.nD Cert.Down3.τ).loc Cert.Down3.main_arg0)
      ∧ r.2.mem ((c.tc : Thread Cert.Down3.nD Cert.Down3.τ).loc Cert.Down3.main_arg1) = m ((c.tc : Thread Cert.Down3.nD Cert.Down3.τ).loc Cert.Down3.main_arg1)
      ∧ r.2.mem ((c.tc : Thread Cert.Down3.nD Cert.Down3.τ).loc Cert.Down3.main_arg2) = m ((c.tc : Thread Cert.Down3.nD Cert.Down3.τ).loc Cert.Down3.main_arg2)
      ∧ r.2.mem ((c.tc : Thread Cert.Down3.nD Cert.Down3.τ).loc Cert.Down3.main_arg3) = m ((c.tc : Thread Cert.Down3.nD Cert.Down3.τ).loc Cert.Down3.main_arg3))
      ∧ r.2.sem = fun _ => 0)

def quiescent_Down3Ideal [hDown3Ideal : Cert.Down3Ideal.Facts] : Prop :=
  ∀ (m : (ℓ : Loc Cert.Down3Ideal.nD Cert.Down3Ideal.τ Cert.Down3Ideal.sig) → Buf (Elt Ideal) ℓ) (g : Dev Cert.Down3Ideal.nD → PrngReg), Pre_Down3Ideal m →
    θ_run (Cert.Down3Ideal.defs (F := Ideal)) (onTc (τ := Cert.Down3Ideal.τ) (Cert.Down3Ideal.main (F := Ideal))) ⟨m, fun _ => 0, g⟩ (fun r => (∀ c : Dev Cert.Down3Ideal.nD,
      r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
      ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1)
      ∧ r.2.mem ((c.tc : Thread Cert.Down3Ideal.nD Cert.Down3Ideal.τ).loc Cert.Down3Ideal.main_arg2) = m ((c.tc : Thread Cert.Down3Ideal.nD Cert.Down3Ideal.τ).loc Cert.Down3Ideal.main_arg2)
      ∧ r.2.mem ((c.tc : Thread Cert.Down3Ideal.nD Cert.Down3Ideal.τ).loc Cert.Down3Ideal.main_arg3) = m ((c.tc : Thread Cert.Down3Ideal.nD Cert.Down3Ideal.τ).loc Cert.Down3Ideal.main_arg3))
      ∧ r.2.sem = fun _ => 0)

def quiescent_Down3Ideal_pre_bounded3 [hDown3Ideal : Cert.Down3Ideal.Facts] [hPre_bounded3 : Cert.Pre_bounded3.Facts] : Prop :=
  ∀ (m : (ℓ : Loc Cert.Down3Ideal.nD Cert.Down3Ideal.τ Cert.Down3Ideal.sig) → Buf (Elt Ideal) ℓ) (g : Dev Cert.Down3Ideal.nD → PrngReg), Pre_Down3Ideal_bounded3 m →
    θ_run (Cert.Down3Ideal.defs (F := Ideal)) (onTc (τ := Cert.Down3Ideal.τ) (Cert.Down3Ideal.main (F := Ideal))) ⟨m, fun _ => 0, g⟩ (fun r => (∀ c : Dev Cert.Down3Ideal.nD,
      r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
      ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1)
      ∧ r.2.mem ((c.tc : Thread Cert.Down3Ideal.nD Cert.Down3Ideal.τ).loc Cert.Down3Ideal.main_arg2) = m ((c.tc : Thread Cert.Down3Ideal.nD Cert.Down3Ideal.τ).loc Cert.Down3Ideal.main_arg2)
      ∧ r.2.mem ((c.tc : Thread Cert.Down3Ideal.nD Cert.Down3Ideal.τ).loc Cert.Down3Ideal.main_arg3) = m ((c.tc : Thread Cert.Down3Ideal.nD Cert.Down3Ideal.τ).loc Cert.Down3Ideal.main_arg3))
      ∧ r.2.sem = fun _ => 0)

def quiescent_Ref3Ideal [hRef3Ideal : Cert.Ref3Ideal.Facts] : Prop :=
  ∀ (m : (ℓ : Loc Cert.Ref3Ideal.nD Cert.Ref3Ideal.τ Cert.Ref3Ideal.sig) → Buf (Elt Ideal) ℓ) (g : Dev Cert.Ref3Ideal.nD → PrngReg), Pre_Ref3Ideal m →
    θ_run (Cert.Ref3Ideal.defs (F := Ideal)) (onTc (τ := Cert.Ref3Ideal.τ) (Cert.Ref3Ideal.main (F := Ideal))) ⟨m, fun _ => 0, g⟩ (fun r => (∀ c : Dev Cert.Ref3Ideal.nD,
      r.2.mem ((c.tc : Thread Cert.Ref3Ideal.nD Cert.Ref3Ideal.τ).loc Cert.Ref3Ideal.main_arg0) = m ((c.tc : Thread Cert.Ref3Ideal.nD Cert.Ref3Ideal.τ).loc Cert.Ref3Ideal.main_arg0)
      ∧ r.2.mem ((c.tc : Thread Cert.Ref3Ideal.nD Cert.Ref3Ideal.τ).loc Cert.Ref3Ideal.main_arg1) = m ((c.tc : Thread Cert.Ref3Ideal.nD Cert.Ref3Ideal.τ).loc Cert.Ref3Ideal.main_arg1)
      ∧ r.2.mem ((c.tc : Thread Cert.Ref3Ideal.nD Cert.Ref3Ideal.τ).loc Cert.Ref3Ideal.main_arg2) = m ((c.tc : Thread Cert.Ref3Ideal.nD Cert.Ref3Ideal.τ).loc Cert.Ref3Ideal.main_arg2)
      ∧ r.2.mem ((c.tc : Thread Cert.Ref3Ideal.nD Cert.Ref3Ideal.τ).loc Cert.Ref3Ideal.main_arg3) = m ((c.tc : Thread Cert.Ref3Ideal.nD Cert.Ref3Ideal.τ).loc Cert.Ref3Ideal.main_arg3))
      ∧ r.2.sem = fun _ => 0)

def quiescent_Ref3Ideal_pre_bounded3 [hRef3Ideal : Cert.Ref3Ideal.Facts] [hPre_bounded3 : Cert.Pre_bounded3.Facts] : Prop :=
  ∀ (m : (ℓ : Loc Cert.Ref3Ideal.nD Cert.Ref3Ideal.τ Cert.Ref3Ideal.sig) → Buf (Elt Ideal) ℓ) (g : Dev Cert.Ref3Ideal.nD → PrngReg), Pre_Ref3Ideal_bounded3 m →
    θ_run (Cert.Ref3Ideal.defs (F := Ideal)) (onTc (τ := Cert.Ref3Ideal.τ) (Cert.Ref3Ideal.main (F := Ideal))) ⟨m, fun _ => 0, g⟩ (fun r => (∀ c : Dev Cert.Ref3Ideal.nD,
      r.2.mem ((c.tc : Thread Cert.Ref3Ideal.nD Cert.Ref3Ideal.τ).loc Cert.Ref3Ideal.main_arg0) = m ((c.tc : Thread Cert.Ref3Ideal.nD Cert.Ref3Ideal.τ).loc Cert.Ref3Ideal.main_arg0)
      ∧ r.2.mem ((c.tc : Thread Cert.Ref3Ideal.nD Cert.Ref3Ideal.τ).loc Cert.Ref3Ideal.main_arg1) = m ((c.tc : Thread Cert.Ref3Ideal.nD Cert.Ref3Ideal.τ).loc Cert.Ref3Ideal.main_arg1)
      ∧ r.2.mem ((c.tc : Thread Cert.Ref3Ideal.nD Cert.Ref3Ideal.τ).loc Cert.Ref3Ideal.main_arg2) = m ((c.tc : Thread Cert.Ref3Ideal.nD Cert.Ref3Ideal.τ).loc Cert.Ref3Ideal.main_arg2)
      ∧ r.2.mem ((c.tc : Thread Cert.Ref3Ideal.nD Cert.Ref3Ideal.τ).loc Cert.Ref3Ideal.main_arg3) = m ((c.tc : Thread Cert.Ref3Ideal.nD Cert.Ref3Ideal.τ).loc Cert.Ref3Ideal.main_arg3))
      ∧ r.2.sem = fun _ => 0)

def quiescent_Down4 [hDown4 : Cert.Down4.Facts] : Prop :=
  ∀ (m : (ℓ : Loc Cert.Down4.nD Cert.Down4.τ Cert.Down4.sig) → Buf (Elt Bits) ℓ) (g : Dev Cert.Down4.nD → PrngReg), Pre_Down4 m →
    θ_run (Cert.Down4.defs (F := Bits)) (onTc (τ := Cert.Down4.τ) (Cert.Down4.main (F := Bits))) ⟨m, fun _ => 0, g⟩ (fun r => (∀ c : Dev Cert.Down4.nD,
      r.2.mem ((c.tc : Thread Cert.Down4.nD Cert.Down4.τ).loc Cert.Down4.main_arg0) = m ((c.tc : Thread Cert.Down4.nD Cert.Down4.τ).loc Cert.Down4.main_arg0)
      ∧ r.2.mem ((c.tc : Thread Cert.Down4.nD Cert.Down4.τ).loc Cert.Down4.main_arg1) = m ((c.tc : Thread Cert.Down4.nD Cert.Down4.τ).loc Cert.Down4.main_arg1)
      ∧ r.2.mem ((c.tc : Thread Cert.Down4.nD Cert.Down4.τ).loc Cert.Down4.main_arg2) = m ((c.tc : Thread Cert.Down4.nD Cert.Down4.τ).loc Cert.Down4.main_arg2)
      ∧ r.2.mem ((c.tc : Thread Cert.Down4.nD Cert.Down4.τ).loc Cert.Down4.main_arg3) = m ((c.tc : Thread Cert.Down4.nD Cert.Down4.τ).loc Cert.Down4.main_arg3))
      ∧ r.2.sem = fun _ => 0)

def quiescent_Down4Ideal [hDown4Ideal : Cert.Down4Ideal.Facts] : Prop :=
  ∀ (m : (ℓ : Loc Cert.Down4Ideal.nD Cert.Down4Ideal.τ Cert.Down4Ideal.sig) → Buf (Elt Ideal) ℓ) (g : Dev Cert.Down4Ideal.nD → PrngReg), Pre_Down4Ideal m →
    θ_run (Cert.Down4Ideal.defs (F := Ideal)) (onTc (τ := Cert.Down4Ideal.τ) (Cert.Down4Ideal.main (F := Ideal))) ⟨m, fun _ => 0, g⟩ (fun r => (∀ c : Dev Cert.Down4Ideal.nD,
      r.2.mem ((c.tc : Thread Cert.Down4Ideal.nD Cert.Down4Ideal.τ).loc Cert.Down4Ideal.main_arg0) = m ((c.tc : Thread Cert.Down4Ideal.nD Cert.Down4Ideal.τ).loc Cert.Down4Ideal.main_arg0)
      ∧ r.2.mem ((c.tc : Thread Cert.Down4Ideal.nD Cert.Down4Ideal.τ).loc Cert.Down4Ideal.main_arg1) = m ((c.tc : Thread Cert.Down4Ideal.nD Cert.Down4Ideal.τ).loc Cert.Down4Ideal.main_arg1)
      ∧ r.2.mem ((c.tc : Thread Cert.Down4Ideal.nD Cert.Down4Ideal.τ).loc Cert.Down4Ideal.main_arg2) = m ((c.tc : Thread Cert.Down4Ideal.nD Cert.Down4Ideal.τ).loc Cert.Down4Ideal.main_arg2)
      ∧ r.2.mem ((c.tc : Thread Cert.Down4Ideal.nD Cert.Down4Ideal.τ).loc Cert.Down4Ideal.main_arg3) = m ((c.tc : Thread Cert.Down4Ideal.nD Cert.Down4Ideal.τ).loc Cert.Down4Ideal.main_arg3))
      ∧ r.2.sem = fun _ => 0)

def quiescent_Down4Ideal_pre_bounded4 [hDown4Ideal : Cert.Down4Ideal.Facts] [hPre_bounded4 : Cert.Pre_bounded4.Facts] : Prop :=
  ∀ (m : (ℓ : Loc Cert.Down4Ideal.nD Cert.Down4Ideal.τ Cert.Down4Ideal.sig) → Buf (Elt Ideal) ℓ) (g : Dev Cert.Down4Ideal.nD → PrngReg), Pre_Down4Ideal_bounded4 m →
    θ_run (Cert.Down4Ideal.defs (F := Ideal)) (onTc (τ := Cert.Down4Ideal.τ) (Cert.Down4Ideal.main (F := Ideal))) ⟨m, fun _ => 0, g⟩ (fun r => (∀ c : Dev Cert.Down4Ideal.nD,
      r.2.mem ((c.tc : Thread Cert.Down4Ideal.nD Cert.Down4Ideal.τ).loc Cert.Down4Ideal.main_arg0) = m ((c.tc : Thread Cert.Down4Ideal.nD Cert.Down4Ideal.τ).loc Cert.Down4Ideal.main_arg0)
      ∧ r.2.mem ((c.tc : Thread Cert.Down4Ideal.nD Cert.Down4Ideal.τ).loc Cert.Down4Ideal.main_arg1) = m ((c.tc : Thread Cert.Down4Ideal.nD Cert.Down4Ideal.τ).loc Cert.Down4Ideal.main_arg1)
      ∧ r.2.mem ((c.tc : Thread Cert.Down4Ideal.nD Cert.Down4Ideal.τ).loc Cert.Down4Ideal.main_arg2) = m ((c.tc : Thread Cert.Down4Ideal.nD Cert.Down4Ideal.τ).loc Cert.Down4Ideal.main_arg2)
      ∧ r.2.mem ((c.tc : Thread Cert.Down4Ideal.nD Cert.Down4Ideal.τ).loc Cert.Down4Ideal.main_arg3) = m ((c.tc : Thread Cert.Down4Ideal.nD Cert.Down4Ideal.τ).loc Cert.Down4Ideal.main_arg3))
      ∧ r.2.sem = fun _ => 0)

def quiescent_Ref4Ideal [hRef4Ideal : Cert.Ref4Ideal.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1)
      ∧ r.2.mem ((c.tc : Thread Cert.Ref4Ideal.nD Cert.Ref4Ideal.τ).loc Cert.Ref4Ideal.main_arg2) = m ((c.tc : Thread Cert.Ref4Ideal.nD Cert.Ref4Ideal.τ).loc Cert.Ref4Ideal.main_arg2)
      ∧ r.2.mem ((c.tc : Thread Cert.Ref4Ideal.nD Cert.Ref4Ideal.τ).loc Cert.Ref4Ideal.main_arg3) = m ((c.tc : Thread Cert.Ref4Ideal.nD Cert.Ref4Ideal.τ).loc Cert.Ref4Ideal.main_arg3))
      ∧ r.2.sem = fun _ => 0)

def quiescent_Ref4Ideal_pre_bounded4 [hRef4Ideal : Cert.Ref4Ideal.Facts] [hPre_bounded4 : Cert.Pre_bounded4.Facts] : Prop :=
  ∀ (m : (ℓ : Loc Cert.Ref4Ideal.nD Cert.Ref4Ideal.τ Cert.Ref4Ideal.sig) → Buf (Elt Ideal) ℓ) (g : Dev Cert.Ref4Ideal.nD → PrngReg), Pre_Ref4Ideal_bounded4 m →
    θ_run (Cert.Ref4Ideal.defs (F := Ideal)) (onTc (τ := Cert.Ref4Ideal.τ) (Cert.Ref4Ideal.main (F := Ideal))) ⟨m, fun _ => 0, g⟩ (fun r => (∀ c : Dev Cert.Ref4Ideal.nD,
      r.2.mem ((c.tc : Thread Cert.Ref4Ideal.nD Cert.Ref4Ideal.τ).loc Cert.Ref4Ideal.main_arg0) = m ((c.tc : Thread Cert.Ref4Ideal.nD Cert.Ref4Ideal.τ).loc Cert.Ref4Ideal.main_arg0)
      ∧ r.2.mem ((c.tc : Thread Cert.Ref4Ideal.nD Cert.Ref4Ideal.τ).loc Cert.Ref4Ideal.main_arg1) = m ((c.tc : Thread Cert.Ref4Ideal.nD Cert.Ref4Ideal.τ).loc Cert.Ref4Ideal.main_arg1)
      ∧ r.2.mem ((c.tc : Thread Cert.Ref4Ideal.nD Cert.Ref4Ideal.τ).loc Cert.Ref4Ideal.main_arg2) = m ((c.tc : Thread Cert.Ref4Ideal.nD Cert.Ref4Ideal.τ).loc Cert.Ref4Ideal.main_arg2)
      ∧ r.2.mem ((c.tc : Thread Cert.Ref4Ideal.nD Cert.Ref4Ideal.τ).loc Cert.Ref4Ideal.main_arg3) = m ((c.tc : Thread Cert.Ref4Ideal.nD Cert.Ref4Ideal.τ).loc Cert.Ref4Ideal.main_arg3))
      ∧ r.2.sem = fun _ => 0)

def quiescent_Down5 [hDown5 : Cert.Down5.Facts] : Prop :=
  ∀ (m : (ℓ : Loc Cert.Down5.nD Cert.Down5.τ Cert.Down5.sig) → Buf (Elt Bits) ℓ) (g : Dev Cert.Down5.nD → PrngReg), Pre_Down5 m →
    θ_run (Cert.Down5.defs (F := Bits)) (onTc (τ := Cert.Down5.τ) (Cert.Down5.main (F := Bits))) ⟨m, fun _ => 0, g⟩ (fun r => (∀ c : Dev Cert.Down5.nD,
      r.2.mem ((c.tc : Thread Cert.Down5.nD Cert.Down5.τ).loc Cert.Down5.main_arg0) = m ((c.tc : Thread Cert.Down5.nD Cert.Down5.τ).loc Cert.Down5.main_arg0)
      ∧ r.2.mem ((c.tc : Thread Cert.Down5.nD Cert.Down5.τ).loc Cert.Down5.main_arg1) = m ((c.tc : Thread Cert.Down5.nD Cert.Down5.τ).loc Cert.Down5.main_arg1)
      ∧ r.2.mem ((c.tc : Thread Cert.Down5.nD Cert.Down5.τ).loc Cert.Down5.main_arg2) = m ((c.tc : Thread Cert.Down5.nD Cert.Down5.τ).loc Cert.Down5.main_arg2)
      ∧ r.2.mem ((c.tc : Thread Cert.Down5.nD Cert.Down5.τ).loc Cert.Down5.main_arg3) = m ((c.tc : Thread Cert.Down5.nD Cert.Down5.τ).loc Cert.Down5.main_arg3))
      ∧ r.2.sem = fun _ => 0)

def quiescent_Down5Ideal [hDown5Ideal : Cert.Down5Ideal.Facts] : Prop :=
  ∀ (m : (ℓ : Loc Cert.Down5Ideal.nD Cert.Down5Ideal.τ Cert.Down5Ideal.sig) → Buf (Elt Ideal) ℓ) (g : Dev Cert.Down5Ideal.nD → PrngReg), Pre_Down5Ideal m →
    θ_run (Cert.Down5Ideal.defs (F := Ideal)) (onTc (τ := Cert.Down5Ideal.τ) (Cert.Down5Ideal.main (F := Ideal))) ⟨m, fun _ => 0, g⟩ (fun r => (∀ c : Dev Cert.Down5Ideal.nD,
      r.2.mem ((c.tc : Thread Cert.Down5Ideal.nD Cert.Down5Ideal.τ).loc Cert.Down5Ideal.main_arg0) = m ((c.tc : Thread Cert.Down5Ideal.nD Cert.Down5Ideal.τ).loc Cert.Down5Ideal.main_arg0)
      ∧ r.2.mem ((c.tc : Thread Cert.Down5Ideal.nD Cert.Down5Ideal.τ).loc Cert.Down5Ideal.main_arg1) = m ((c.tc : Thread Cert.Down5Ideal.nD Cert.Down5Ideal.τ).loc Cert.Down5Ideal.main_arg1)
      ∧ r.2.mem ((c.tc : Thread Cert.Down5Ideal.nD Cert.Down5Ideal.τ).loc Cert.Down5Ideal.main_arg2) = m ((c.tc : Thread Cert.Down5Ideal.nD Cert.Down5Ideal.τ).loc Cert.Down5Ideal.main_arg2)
      ∧ r.2.mem ((c.tc : Thread Cert.Down5Ideal.nD Cert.Down5Ideal.τ).loc Cert.Down5Ideal.main_arg3) = m ((c.tc : Thread Cert.Down5Ideal.nD Cert.Down5Ideal.τ).loc Cert.Down5Ideal.main_arg3))
      ∧ r.2.sem = fun _ => 0)

def quiescent_Down5Ideal_pre_bounded5 [hDown5Ideal : Cert.Down5Ideal.Facts] [hPre_bounded5 : Cert.Pre_bounded5.Facts] : Prop :=
  ∀ (m : (ℓ : Loc Cert.Down5Ideal.nD Cert.Down5Ideal.τ Cert.Down5Ideal.sig) → Buf (Elt Ideal) ℓ) (g : Dev Cert.Down5Ideal.nD → PrngReg), Pre_Down5Ideal_bounded5 m →
    θ_run (Cert.Down5Ideal.defs (F := Ideal)) (onTc (τ := Cert.Down5Ideal.τ) (Cert.Down5Ideal.main (F := Ideal))) ⟨m, fun _ => 0, g⟩ (fun r => (∀ c : Dev Cert.Down5Ideal.nD,
      r.2.mem ((c.tc : Thread Cert.Down5Ideal.nD Cert.Down5Ideal.τ).loc Cert.Down5Ideal.main_arg0) = m ((c.tc : Thread Cert.Down5Ideal.nD Cert.Down5Ideal.τ).loc Cert.Down5Ideal.main_arg0)
      ∧ r.2.mem ((c.tc : Thread Cert.Down5Ideal.nD Cert.Down5Ideal.τ).loc Cert.Down5Ideal.main_arg1) = m ((c.tc : Thread Cert.Down5Ideal.nD Cert.Down5Ideal.τ).loc Cert.Down5Ideal.main_arg1)
      ∧ r.2.mem ((c.tc : Thread Cert.Down5Ideal.nD Cert.Down5Ideal.τ).loc Cert.Down5Ideal.main_arg2) = m ((c.tc : Thread Cert.Down5Ideal.nD Cert.Down5Ideal.τ).loc Cert.Down5Ideal.main_arg2)
      ∧ r.2.mem ((c.tc : Thread Cert.Down5Ideal.nD Cert.Down5Ideal.τ).loc Cert.Down5Ideal.main_arg3) = m ((c.tc : Thread Cert.Down5Ideal.nD Cert.Down5Ideal.τ).loc Cert.Down5Ideal.main_arg3))
      ∧ r.2.sem = fun _ => 0)

def quiescent_Ref5Ideal [hRef5Ideal : Cert.Ref5Ideal.Facts] : Prop :=
  ∀ (m : (ℓ : Loc Cert.Ref5Ideal.nD Cert.Ref5Ideal.τ Cert.Ref5Ideal.sig) → Buf (Elt Ideal) ℓ) (g : Dev Cert.Ref5Ideal.nD → PrngReg), Pre_Ref5Ideal m →
    θ_run (Cert.Ref5Ideal.defs (F := Ideal)) (onTc (τ := Cert.Ref5Ideal.τ) (Cert.Ref5Ideal.main (F := Ideal))) ⟨m, fun _ => 0, g⟩ (fun r => (∀ c : Dev Cert.Ref5Ideal.nD,
      r.2.mem ((c.tc : Thread Cert.Ref5Ideal.nD Cert.Ref5Ideal.τ).loc Cert.Ref5Ideal.main_arg0) = m ((c.tc : Thread Cert.Ref5Ideal.nD Cert.Ref5Ideal.τ).loc Cert.Ref5Ideal.main_arg0)
      ∧ r.2.mem ((c.tc : Thread Cert.Ref5Ideal.nD Cert.Ref5Ideal.τ).loc Cert.Ref5Ideal.main_arg1) = m ((c.tc : Thread Cert.Ref5Ideal.nD Cert.Ref5Ideal.τ).loc Cert.Ref5Ideal.main_arg1)
      ∧ r.2.mem ((c.tc : Thread Cert.Ref5Ideal.nD Cert.Ref5Ideal.τ).loc Cert.Ref5Ideal.main_arg2) = m ((c.tc : Thread Cert.Ref5Ideal.nD Cert.Ref5Ideal.τ).loc Cert.Ref5Ideal.main_arg2)
      ∧ r.2.mem ((c.tc : Thread Cert.Ref5Ideal.nD Cert.Ref5Ideal.τ).loc Cert.Ref5Ideal.main_arg3) = m ((c.tc : Thread Cert.Ref5Ideal.nD Cert.Ref5Ideal.τ).loc Cert.Ref5Ideal.main_arg3))
      ∧ r.2.sem = fun _ => 0)

def quiescent_Ref5Ideal_pre_bounded5 [hRef5Ideal : Cert.Ref5Ideal.Facts] [hPre_bounded5 : Cert.Pre_bounded5.Facts] : Prop :=
  ∀ (m : (ℓ : Loc Cert.Ref5Ideal.nD Cert.Ref5Ideal.τ Cert.Ref5Ideal.sig) → Buf (Elt Ideal) ℓ) (g : Dev Cert.Ref5Ideal.nD → PrngReg), Pre_Ref5Ideal_bounded5 m →
    θ_run (Cert.Ref5Ideal.defs (F := Ideal)) (onTc (τ := Cert.Ref5Ideal.τ) (Cert.Ref5Ideal.main (F := Ideal))) ⟨m, fun _ => 0, g⟩ (fun r => (∀ c : Dev Cert.Ref5Ideal.nD,
      r.2.mem ((c.tc : Thread Cert.Ref5Ideal.nD Cert.Ref5Ideal.τ).loc Cert.Ref5Ideal.main_arg0) = m ((c.tc : Thread Cert.Ref5Ideal.nD Cert.Ref5Ideal.τ).loc Cert.Ref5Ideal.main_arg0)
      ∧ r.2.mem ((c.tc : Thread Cert.Ref5Ideal.nD Cert.Ref5Ideal.τ).loc Cert.Ref5Ideal.main_arg1) = m ((c.tc : Thread Cert.Ref5Ideal.nD Cert.Ref5Ideal.τ).loc Cert.Ref5Ideal.main_arg1)
      ∧ r.2.mem ((c.tc : Thread Cert.Ref5Ideal.nD Cert.Ref5Ideal.τ).loc Cert.Ref5Ideal.main_arg2) = m ((c.tc : Thread Cert.Ref5Ideal.nD Cert.Ref5Ideal.τ).loc Cert.Ref5Ideal.main_arg2)
      ∧ r.2.mem ((c.tc : Thread Cert.Ref5Ideal.nD Cert.Ref5Ideal.τ).loc Cert.Ref5Ideal.main_arg3) = m ((c.tc : Thread Cert.Ref5Ideal.nD Cert.Ref5Ideal.τ).loc Cert.Ref5Ideal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ r.2.sem = fun _ => 0)

def quiescent_Norm2Ideal_pre_nonneg2 [hNorm2Ideal : Cert.Norm2Ideal.Facts] [hPre_nonneg2 : Cert.Pre_nonneg2.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_nonneg2 m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ r.2.sem = fun _ => 0)

def quiescent_NormRef2Ideal [hNormRef2Ideal : Cert.NormRef2Ideal.Facts] : Prop :=
  ∀ (m : (ℓ : Loc Cert.NormRef2Ideal.nD Cert.NormRef2Ideal.τ Cert.NormRef2Ideal.sig) → Buf (Elt Ideal) ℓ) (g : Dev Cert.NormRef2Ideal.nD → PrngReg), Pre_NormRef2Ideal m →
    θ_run (Cert.NormRef2Ideal.defs (F := Ideal)) (onTc (τ := Cert.NormRef2Ideal.τ) (Cert.NormRef2Ideal.main (F := Ideal))) ⟨m, fun _ => 0, g⟩ (fun r => (∀ c : Dev Cert.NormRef2Ideal.nD,
      r.2.mem ((c.tc : Thread Cert.NormRef2Ideal.nD Cert.NormRef2Ideal.τ).loc Cert.NormRef2Ideal.main_arg0) = m ((c.tc : Thread Cert.NormRef2Ideal.nD Cert.NormRef2Ideal.τ).loc Cert.NormRef2Ideal.main_arg0)
      ∧ r.2.mem ((c.tc : Thread Cert.NormRef2Ideal.nD Cert.NormRef2Ideal.τ).loc Cert.NormRef2Ideal.main_arg1) = m ((c.tc : Thread Cert.NormRef2Ideal.nD Cert.NormRef2Ideal.τ).loc Cert.NormRef2Ideal.main_arg1)
      ∧ r.2.mem ((c.tc : Thread Cert.NormRef2Ideal.nD Cert.NormRef2Ideal.τ).loc Cert.NormRef2Ideal.main_arg2) = m ((c.tc : Thread Cert.NormRef2Ideal.nD Cert.NormRef2Ideal.τ).loc Cert.NormRef2Ideal.main_arg2)
      ∧ r.2.mem ((c.tc : Thread Cert.NormRef2Ideal.nD Cert.NormRef2Ideal.τ).loc Cert.NormRef2Ideal.main_arg3) = m ((c.tc : Thread Cert.NormRef2Ideal.nD Cert.NormRef2Ideal.τ).loc Cert.NormRef2Ideal.main_arg3))
      ∧ r.2.sem = fun _ => 0)

def quiescent_NormRef2Ideal_pre_nonneg2 [hNormRef2Ideal : Cert.NormRef2Ideal.Facts] [hPre_nonneg2 : Cert.Pre_nonneg2.Facts] : Prop :=
  ∀ (m : (ℓ : Loc Cert.NormRef2Ideal.nD Cert.NormRef2Ideal.τ Cert.NormRef2Ideal.sig) → Buf (Elt Ideal) ℓ) (g : Dev Cert.NormRef2Ideal.nD → PrngReg), Pre_NormRef2Ideal_nonneg2 m →
    θ_run (Cert.NormRef2Ideal.defs (F := Ideal)) (onTc (τ := Cert.NormRef2Ideal.τ) (Cert.NormRef2Ideal.main (F := Ideal))) ⟨m, fun _ => 0, g⟩ (fun r => (∀ c : Dev Cert.NormRef2Ideal.nD,
      r.2.mem ((c.tc : Thread Cert.NormRef2Ideal.nD Cert.NormRef2Ideal.τ).loc Cert.NormRef2Ideal.main_arg0) = m ((c.tc : Thread Cert.NormRef2Ideal.nD Cert.NormRef2Ideal.τ).loc Cert.NormRef2Ideal.main_arg0)
      ∧ r.2.mem ((c.tc : Thread Cert.NormRef2Ideal.nD Cert.NormRef2Ideal.τ).loc Cert.NormRef2Ideal.main_arg1) = m ((c.tc : Thread Cert.NormRef2Ideal.nD Cert.NormRef2Ideal.τ).loc Cert.NormRef2Ideal.main_arg1)
      ∧ r.2.mem ((c.tc : Thread Cert.NormRef2Ideal.nD Cert.NormRef2Ideal.τ).loc Cert.NormRef2Ideal.main_arg2) = m ((c.tc : Thread Cert.NormRef2Ideal.nD Cert.NormRef2Ideal.τ).loc Cert.NormRef2Ideal.main_arg2)
      ∧ r.2.mem ((c.tc : Thread Cert.NormRef2Ideal.nD Cert.NormRef2Ideal.τ).loc Cert.NormRef2Ideal.main_arg3) = m ((c.tc : Thread Cert.NormRef2Ideal.nD Cert.NormRef2Ideal.τ).loc Cert.NormRef2Ideal.main_arg3))
      ∧ r.2.sem = fun _ => 0)

def quiescent_Norm3 [hNorm3 : Cert.Norm3.Facts] : Prop :=
  ∀ (m : (ℓ : Loc Cert.Norm3.nD Cert.Norm3.τ Cert.Norm3.sig) → Buf (Elt Bits) ℓ) (g : Dev Cert.Norm3.nD → PrngReg), Pre_Norm3 m →
    θ_run (Cert.Norm3.defs (F := Bits)) (onTc (τ := Cert.Norm3.τ) (Cert.Norm3.main (F := Bits))) ⟨m, fun _ => 0, g⟩ (fun r => (∀ c : Dev Cert.Norm3.nD,
      r.2.mem ((c.tc : Thread Cert.Norm3.nD Cert.Norm3.τ).loc Cert.Norm3.main_arg0) = m ((c.tc : Thread Cert.Norm3.nD Cert.Norm3.τ).loc Cert.Norm3.main_arg0)
      ∧ r.2.mem ((c.tc : Thread Cert.Norm3.nD Cert.Norm3.τ).loc Cert.Norm3.main_arg1) = m ((c.tc : Thread Cert.Norm3.nD Cert.Norm3.τ).loc Cert.Norm3.main_arg1)
      ∧ r.2.mem ((c.tc : Thread Cert.Norm3.nD Cert.Norm3.τ).loc Cert.Norm3.main_arg2) = m ((c.tc : Thread Cert.Norm3.nD Cert.Norm3.τ).loc Cert.Norm3.main_arg2)
      ∧ r.2.mem ((c.tc : Thread Cert.Norm3.nD Cert.Norm3.τ).loc Cert.Norm3.main_arg3) = m ((c.tc : Thread Cert.Norm3.nD Cert.Norm3.τ).loc Cert.Norm3.main_arg3))
      ∧ r.2.sem = fun _ => 0)

def quiescent_Norm3Ideal [hNorm3Ideal : Cert.Norm3Ideal.Facts] : Prop :=
  ∀ (m : (ℓ : Loc Cert.Norm3Ideal.nD Cert.Norm3Ideal.τ Cert.Norm3Ideal.sig) → Buf (Elt Ideal) ℓ) (g : Dev Cert.Norm3Ideal.nD → PrngReg), Pre_Norm3Ideal m →
    θ_run (Cert.Norm3Ideal.defs (F := Ideal)) (onTc (τ := Cert.Norm3Ideal.τ) (Cert.Norm3Ideal.main (F := Ideal))) ⟨m, fun _ => 0, g⟩ (fun r => (∀ c : Dev Cert.Norm3Ideal.nD,
      r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
      ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
      ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
      ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3))
      ∧ r.2.sem = fun _ => 0)

def quiescent_Norm3Ideal_pre_nonneg3 [hNorm3Ideal : Cert.Norm3Ideal.Facts] [hPre_nonneg3 : Cert.Pre_nonneg3.Facts] : Prop :=
  ∀ (m : (ℓ : Loc Cert.Norm3Ideal.nD Cert.Norm3Ideal.τ Cert.Norm3Ideal.sig) → Buf (Elt Ideal) ℓ) (g : Dev Cert.Norm3Ideal.nD → PrngReg), Pre_Norm3Ideal_nonneg3 m →
    θ_run (Cert.Norm3Ideal.defs (F := Ideal)) (onTc (τ := Cert.Norm3Ideal.τ) (Cert.Norm3Ideal.main (F := Ideal))) ⟨m, fun _ => 0, g⟩ (fun r => (∀ c : Dev Cert.Norm3Ideal.nD,
      r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
      ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
      ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
      ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3))
      ∧ r.2.sem = fun _ => 0)

def quiescent_NormRef3Ideal [hNormRef3Ideal : Cert.NormRef3Ideal.Facts] : Prop :=
  ∀ (m : (ℓ : Loc Cert.NormRef3Ideal.nD Cert.NormRef3Ideal.τ Cert.NormRef3Ideal.sig) → Buf (Elt Ideal) ℓ) (g : Dev Cert.NormRef3Ideal.nD → PrngReg), Pre_NormRef3Ideal m →
    θ_run (Cert.NormRef3Ideal.defs (F := Ideal)) (onTc (τ := Cert.NormRef3Ideal.τ) (Cert.NormRef3Ideal.main (F := Ideal))) ⟨m, fun _ => 0, g⟩ (fun r => (∀ c : Dev Cert.NormRef3Ideal.nD,
      r.2.mem ((c.tc : Thread Cert.NormRef3Ideal.nD Cert.NormRef3Ideal.τ).loc Cert.NormRef3Ideal.main_arg0) = m ((c.tc : Thread Cert.NormRef3Ideal.nD Cert.NormRef3Ideal.τ).loc Cert.NormRef3Ideal.main_arg0)
      ∧ r.2.mem ((c.tc : Thread Cert.NormRef3Ideal.nD Cert.NormRef3Ideal.τ).loc Cert.NormRef3Ideal.main_arg1) = m ((c.tc : Thread Cert.NormRef3Ideal.nD Cert.NormRef3Ideal.τ).loc Cert.NormRef3Ideal.main_arg1)
      ∧ r.2.mem ((c.tc : Thread Cert.NormRef3Ideal.nD Cert.NormRef3Ideal.τ).loc Cert.NormRef3Ideal.main_arg2) = m ((c.tc : Thread Cert.NormRef3Ideal.nD Cert.NormRef3Ideal.τ).loc Cert.NormRef3Ideal.main_arg2)
      ∧ r.2.mem ((c.tc : Thread Cert.NormRef3Ideal.nD Cert.NormRef3Ideal.τ).loc Cert.NormRef3Ideal.main_arg3) = m ((c.tc : Thread Cert.NormRef3Ideal.nD Cert.NormRef3Ideal.τ).loc Cert.NormRef3Ideal.main_arg3))
      ∧ r.2.sem = fun _ => 0)

def quiescent_NormRef3Ideal_pre_nonneg3 [hNormRef3Ideal : Cert.NormRef3Ideal.Facts] [hPre_nonneg3 : Cert.Pre_nonneg3.Facts] : Prop :=
  ∀ (m : (ℓ : Loc Cert.NormRef3Ideal.nD Cert.NormRef3Ideal.τ Cert.NormRef3Ideal.sig) → Buf (Elt Ideal) ℓ) (g : Dev Cert.NormRef3Ideal.nD → PrngReg), Pre_NormRef3Ideal_nonneg3 m →
    θ_run (Cert.NormRef3Ideal.defs (F := Ideal)) (onTc (τ := Cert.NormRef3Ideal.τ) (Cert.NormRef3Ideal.main (F := Ideal))) ⟨m, fun _ => 0, g⟩ (fun r => (∀ c : Dev Cert.NormRef3Ideal.nD,
      r.2.mem ((c.tc : Thread Cert.NormRef3Ideal.nD Cert.NormRef3Ideal.τ).loc Cert.NormRef3Ideal.main_arg0) = m ((c.tc : Thread Cert.NormRef3Ideal.nD Cert.NormRef3Ideal.τ).loc Cert.NormRef3Ideal.main_arg0)
      ∧ r.2.mem ((c.tc : Thread Cert.NormRef3Ideal.nD Cert.NormRef3Ideal.τ).loc Cert.NormRef3Ideal.main_arg1) = m ((c.tc : Thread Cert.NormRef3Ideal.nD Cert.NormRef3Ideal.τ).loc Cert.NormRef3Ideal.main_arg1)
      ∧ r.2.mem ((c.tc : Thread Cert.NormRef3Ideal.nD Cert.NormRef3Ideal.τ).loc Cert.NormRef3Ideal.main_arg2) = m ((c.tc : Thread Cert.NormRef3Ideal.nD Cert.NormRef3Ideal.τ).loc Cert.NormRef3Ideal.main_arg2)
      ∧ r.2.mem ((c.tc : Thread Cert.NormRef3Ideal.nD Cert.NormRef3Ideal.τ).loc Cert.NormRef3Ideal.main_arg3) = m ((c.tc : Thread Cert.NormRef3Ideal.nD Cert.NormRef3Ideal.τ).loc Cert.NormRef3Ideal.main_arg3))
      ∧ r.2.sem = fun _ => 0)

def quiescent_Norm4 [hNorm4 : Cert.Norm4.Facts] : Prop :=
  ∀ (m : (ℓ : Loc Cert.Norm4.nD Cert.Norm4.τ Cert.Norm4.sig) → Buf (Elt Bits) ℓ) (g : Dev Cert.Norm4.nD → PrngReg), Pre_Norm4 m →
    θ_run (Cert.Norm4.defs (F := Bits)) (onTc (τ := Cert.Norm4.τ) (Cert.Norm4.main (F := Bits))) ⟨m, fun _ => 0, g⟩ (fun r => (∀ c : Dev Cert.Norm4.nD,
      r.2.mem ((c.tc : Thread Cert.Norm4.nD Cert.Norm4.τ).loc Cert.Norm4.main_arg0) = m ((c.tc : Thread Cert.Norm4.nD Cert.Norm4.τ).loc Cert.Norm4.main_arg0)
      ∧ r.2.mem ((c.tc : Thread Cert.Norm4.nD Cert.Norm4.τ).loc Cert.Norm4.main_arg1) = m ((c.tc : Thread Cert.Norm4.nD Cert.Norm4.τ).loc Cert.Norm4.main_arg1)
      ∧ r.2.mem ((c.tc : Thread Cert.Norm4.nD Cert.Norm4.τ).loc Cert.Norm4.main_arg2) = m ((c.tc : Thread Cert.Norm4.nD Cert.Norm4.τ).loc Cert.Norm4.main_arg2)
      ∧ r.2.mem ((c.tc : Thread Cert.Norm4.nD Cert.Norm4.τ).loc Cert.Norm4.main_arg3) = m ((c.tc : Thread Cert.Norm4.nD Cert.Norm4.τ).loc Cert.Norm4.main_arg3))
      ∧ r.2.sem = fun _ => 0)

def quiescent_Norm4Ideal [hNorm4Ideal : Cert.Norm4Ideal.Facts] : Prop :=
  ∀ (m : (ℓ : Loc Cert.Norm4Ideal.nD Cert.Norm4Ideal.τ Cert.Norm4Ideal.sig) → Buf (Elt Ideal) ℓ) (g : Dev Cert.Norm4Ideal.nD → PrngReg), Pre_Norm4Ideal m →
    θ_run (Cert.Norm4Ideal.defs (F := Ideal)) (onTc (τ := Cert.Norm4Ideal.τ) (Cert.Norm4Ideal.main (F := Ideal))) ⟨m, fun _ => 0, g⟩ (fun r => (∀ c : Dev Cert.Norm4Ideal.nD,
      r.2.mem ((c.tc : Thread Cert.Norm4Ideal.nD Cert.Norm4Ideal.τ).loc Cert.Norm4Ideal.main_arg0) = m ((c.tc : Thread Cert.Norm4Ideal.nD Cert.Norm4Ideal.τ).loc Cert.Norm4Ideal.main_arg0)
      ∧ r.2.mem ((c.tc : Thread Cert.Norm4Ideal.nD Cert.Norm4Ideal.τ).loc Cert.Norm4Ideal.main_arg1) = m ((c.tc : Thread Cert.Norm4Ideal.nD Cert.Norm4Ideal.τ).loc Cert.Norm4Ideal.main_arg1)
      ∧ r.2.mem ((c.tc : Thread Cert.Norm4Ideal.nD Cert.Norm4Ideal.τ).loc Cert.Norm4Ideal.main_arg2) = m ((c.tc : Thread Cert.Norm4Ideal.nD Cert.Norm4Ideal.τ).loc Cert.Norm4Ideal.main_arg2)
      ∧ r.2.mem ((c.tc : Thread Cert.Norm4Ideal.nD Cert.Norm4Ideal.τ).loc Cert.Norm4Ideal.main_arg3) = m ((c.tc : Thread Cert.Norm4Ideal.nD Cert.Norm4Ideal.τ).loc Cert.Norm4Ideal.main_arg3))
      ∧ r.2.sem = fun _ => 0)

def quiescent_Norm4Ideal_pre_nonneg4 [hNorm4Ideal : Cert.Norm4Ideal.Facts] [hPre_nonneg4 : Cert.Pre_nonneg4.Facts] : Prop :=
  ∀ (m : (ℓ : Loc Cert.Norm4Ideal.nD Cert.Norm4Ideal.τ Cert.Norm4Ideal.sig) → Buf (Elt Ideal) ℓ) (g : Dev Cert.Norm4Ideal.nD → PrngReg), Pre_Norm4Ideal_nonneg4 m →
    θ_run (Cert.Norm4Ideal.defs (F := Ideal)) (onTc (τ := Cert.Norm4Ideal.τ) (Cert.Norm4Ideal.main (F := Ideal))) ⟨m, fun _ => 0, g⟩ (fun r => (∀ c : Dev Cert.Norm4Ideal.nD,
      r.2.mem ((c.tc : Thread Cert.Norm4Ideal.nD Cert.Norm4Ideal.τ).loc Cert.Norm4Ideal.main_arg0) = m ((c.tc : Thread Cert.Norm4Ideal.nD Cert.Norm4Ideal.τ).loc Cert.Norm4Ideal.main_arg0)
      ∧ r.2.mem ((c.tc : Thread Cert.Norm4Ideal.nD Cert.Norm4Ideal.τ).loc Cert.Norm4Ideal.main_arg1) = m ((c.tc : Thread Cert.Norm4Ideal.nD Cert.Norm4Ideal.τ).loc Cert.Norm4Ideal.main_arg1)
      ∧ r.2.mem ((c.tc : Thread Cert.Norm4Ideal.nD Cert.Norm4Ideal.τ).loc Cert.Norm4Ideal.main_arg2) = m ((c.tc : Thread Cert.Norm4Ideal.nD Cert.Norm4Ideal.τ).loc Cert.Norm4Ideal.main_arg2)
      ∧ r.2.mem ((c.tc : Thread Cert.Norm4Ideal.nD Cert.Norm4Ideal.τ).loc Cert.Norm4Ideal.main_arg3) = m ((c.tc : Thread Cert.Norm4Ideal.nD Cert.Norm4Ideal.τ).loc Cert.Norm4Ideal.main_arg3))
      ∧ r.2.sem = fun _ => 0)

def quiescent_NormRef4Ideal [hNormRef4Ideal : Cert.NormRef4Ideal.Facts] : Prop :=
  ∀ (m : (ℓ : Loc Cert.NormRef4Ideal.nD Cert.NormRef4Ideal.τ Cert.NormRef4Ideal.sig) → Buf (Elt Ideal) ℓ) (g : Dev Cert.NormRef4Ideal.nD → PrngReg), Pre_NormRef4Ideal m →
    θ_run (Cert.NormRef4Ideal.defs (F := Ideal)) (onTc (τ := Cert.NormRef4Ideal.τ) (Cert.NormRef4Ideal.main (F := Ideal))) ⟨m, fun _ => 0, g⟩ (fun r => (∀ c : Dev Cert.NormRef4Ideal.nD,
      r.2.mem ((c.tc : Thread Cert.NormRef4Ideal.nD Cert.NormRef4Ideal.τ).loc Cert.NormRef4Ideal.main_arg0) = m ((c.tc : Thread Cert.NormRef4Ideal.nD Cert.NormRef4Ideal.τ).loc Cert.NormRef4Ideal.main_arg0)
      ∧ r.2.mem ((c.tc : Thread Cert.NormRef4Ideal.nD Cert.NormRef4Ideal.τ).loc Cert.NormRef4Ideal.main_arg1) = m ((c.tc : Thread Cert.NormRef4Ideal.nD Cert.NormRef4Ideal.τ).loc Cert.NormRef4Ideal.main_arg1)
      ∧ r.2.mem ((c.tc : Thread Cert.NormRef4Ideal.nD Cert.NormRef4Ideal.τ).loc Cert.NormRef4Ideal.main_arg2) = m ((c.tc : Thread Cert.NormRef4Ideal.nD Cert.NormRef4Ideal.τ).loc Cert.NormRef4Ideal.main_arg2)
      ∧ r.2.mem ((c.tc : Thread Cert.NormRef4Ideal.nD Cert.NormRef4Ideal.τ).loc Cert.NormRef4Ideal.main_arg3) = m ((c.tc : Thread Cert.NormRef4Ideal.nD Cert.NormRef4Ideal.τ).loc Cert.NormRef4Ideal.main_arg3))
      ∧ r.2.sem = fun _ => 0)

def quiescent_NormRef4Ideal_pre_nonneg4 [hNormRef4Ideal : Cert.NormRef4Ideal.Facts] [hPre_nonneg4 : Cert.Pre_nonneg4.Facts] : Prop :=
  ∀ (m : (ℓ : Loc Cert.NormRef4Ideal.nD Cert.NormRef4Ideal.τ Cert.NormRef4Ideal.sig) → Buf (Elt Ideal) ℓ) (g : Dev Cert.NormRef4Ideal.nD → PrngReg), Pre_NormRef4Ideal_nonneg4 m →
    θ_run (Cert.NormRef4Ideal.defs (F := Ideal)) (onTc (τ := Cert.NormRef4Ideal.τ) (Cert.NormRef4Ideal.main (F := Ideal))) ⟨m, fun _ => 0, g⟩ (fun r => (∀ c : Dev Cert.NormRef4Ideal.nD,
      r.2.mem ((c.tc : Thread Cert.NormRef4Ideal.nD Cert.NormRef4Ideal.τ).loc Cert.NormRef4Ideal.main_arg0) = m ((c.tc : Thread Cert.NormRef4Ideal.nD Cert.NormRef4Ideal.τ).loc Cert.NormRef4Ideal.main_arg0)
      ∧ r.2.mem ((c.tc : Thread Cert.NormRef4Ideal.nD Cert.NormRef4Ideal.τ).loc Cert.NormRef4Ideal.main_arg1) = m ((c.tc : Thread Cert.NormRef4Ideal.nD Cert.NormRef4Ideal.τ).loc Cert.NormRef4Ideal.main_arg1)
      ∧ r.2.mem ((c.tc : Thread Cert.NormRef4Ideal.nD Cert.NormRef4Ideal.τ).loc Cert.NormRef4Ideal.main_arg2) = m ((c.tc : Thread Cert.NormRef4Ideal.nD Cert.NormRef4Ideal.τ).loc Cert.NormRef4Ideal.main_arg2)
      ∧ r.2.mem ((c.tc : Thread Cert.NormRef4Ideal.nD Cert.NormRef4Ideal.τ).loc Cert.NormRef4Ideal.main_arg3) = m ((c.tc : Thread Cert.NormRef4Ideal.nD Cert.NormRef4Ideal.τ).loc Cert.NormRef4Ideal.main_arg3))
      ∧ r.2.sem = fun _ => 0)

def quiescent_Norm5 [hNorm5 : Cert.Norm5.Facts] : Prop :=
  ∀ (m : (ℓ : Loc Cert.Norm5.nD Cert.Norm5.τ Cert.Norm5.sig) → Buf (Elt Bits) ℓ) (g : Dev Cert.Norm5.nD → PrngReg), Pre_Norm5 m →
    θ_run (Cert.Norm5.defs (F := Bits)) (onTc (τ := Cert.Norm5.τ) (Cert.Norm5.main (F := Bits))) ⟨m, fun _ => 0, g⟩ (fun r => (∀ c : Dev Cert.Norm5.nD,
      r.2.mem ((c.tc : Thread Cert.Norm5.nD Cert.Norm5.τ).loc Cert.Norm5.main_arg0) = m ((c.tc : Thread Cert.Norm5.nD Cert.Norm5.τ).loc Cert.Norm5.main_arg0)
      ∧ r.2.mem ((c.tc : Thread Cert.Norm5.nD Cert.Norm5.τ).loc Cert.Norm5.main_arg1) = m ((c.tc : Thread Cert.Norm5.nD Cert.Norm5.τ).loc Cert.Norm5.main_arg1)
      ∧ r.2.mem ((c.tc : Thread Cert.Norm5.nD Cert.Norm5.τ).loc Cert.Norm5.main_arg2) = m ((c.tc : Thread Cert.Norm5.nD Cert.Norm5.τ).loc Cert.Norm5.main_arg2)
      ∧ r.2.mem ((c.tc : Thread Cert.Norm5.nD Cert.Norm5.τ).loc Cert.Norm5.main_arg3) = m ((c.tc : Thread Cert.Norm5.nD Cert.Norm5.τ).loc Cert.Norm5.main_arg3))
      ∧ r.2.sem = fun _ => 0)

def quiescent_Norm5Ideal [hNorm5Ideal : Cert.Norm5Ideal.Facts] : Prop :=
  ∀ (m : (ℓ : Loc Cert.Norm5Ideal.nD Cert.Norm5Ideal.τ Cert.Norm5Ideal.sig) → Buf (Elt Ideal) ℓ) (g : Dev Cert.Norm5Ideal.nD → PrngReg), Pre_Norm5Ideal m →
    θ_run (Cert.Norm5Ideal.defs (F := Ideal)) (onTc (τ := Cert.Norm5Ideal.τ) (Cert.Norm5Ideal.main (F := Ideal))) ⟨m, fun _ => 0, g⟩ (fun r => (∀ c : Dev Cert.Norm5Ideal.nD,
      r.2.mem ((c.tc : Thread Cert.Norm5Ideal.nD Cert.Norm5Ideal.τ).loc Cert.Norm5Ideal.main_arg0) = m ((c.tc : Thread Cert.Norm5Ideal.nD Cert.Norm5Ideal.τ).loc Cert.Norm5Ideal.main_arg0)
      ∧ r.2.mem ((c.tc : Thread Cert.Norm5Ideal.nD Cert.Norm5Ideal.τ).loc Cert.Norm5Ideal.main_arg1) = m ((c.tc : Thread Cert.Norm5Ideal.nD Cert.Norm5Ideal.τ).loc Cert.Norm5Ideal.main_arg1)
      ∧ r.2.mem ((c.tc : Thread Cert.Norm5Ideal.nD Cert.Norm5Ideal.τ).loc Cert.Norm5Ideal.main_arg2) = m ((c.tc : Thread Cert.Norm5Ideal.nD Cert.Norm5Ideal.τ).loc Cert.Norm5Ideal.main_arg2)
      ∧ r.2.mem ((c.tc : Thread Cert.Norm5Ideal.nD Cert.Norm5Ideal.τ).loc Cert.Norm5Ideal.main_arg3) = m ((c.tc : Thread Cert.Norm5Ideal.nD Cert.Norm5Ideal.τ).loc Cert.Norm5Ideal.main_arg3))
      ∧ r.2.sem = fun _ => 0)

def quiescent_Norm5Ideal_pre_nonneg5 [hNorm5Ideal : Cert.Norm5Ideal.Facts] [hPre_nonneg5 : Cert.Pre_nonneg5.Facts] : Prop :=
  ∀ (m : (ℓ : Loc Cert.Norm5Ideal.nD Cert.Norm5Ideal.τ Cert.Norm5Ideal.sig) → Buf (Elt Ideal) ℓ) (g : Dev Cert.Norm5Ideal.nD → PrngReg), Pre_Norm5Ideal_nonneg5 m →
    θ_run (Cert.Norm5Ideal.defs (F := Ideal)) (onTc (τ := Cert.Norm5Ideal.τ) (Cert.Norm5Ideal.main (F := Ideal))) ⟨m, fun _ => 0, g⟩ (fun r => (∀ c : Dev Cert.Norm5Ideal.nD,
      r.2.mem ((c.tc : Thread Cert.Norm5Ideal.nD Cert.Norm5Ideal.τ).loc Cert.Norm5Ideal.main_arg0) = m ((c.tc : Thread Cert.Norm5Ideal.nD Cert.Norm5Ideal.τ).loc Cert.Norm5Ideal.main_arg0)
      ∧ r.2.mem ((c.tc : Thread Cert.Norm5Ideal.nD Cert.Norm5Ideal.τ).loc Cert.Norm5Ideal.main_arg1) = m ((c.tc : Thread Cert.Norm5Ideal.nD Cert.Norm5Ideal.τ).loc Cert.Norm5Ideal.main_arg1)
      ∧ r.2.mem ((c.tc : Thread Cert.Norm5Ideal.nD Cert.Norm5Ideal.τ).loc Cert.Norm5Ideal.main_arg2) = m ((c.tc : Thread Cert.Norm5Ideal.nD Cert.Norm5Ideal.τ).loc Cert.Norm5Ideal.main_arg2)
      ∧ r.2.mem ((c.tc : Thread Cert.Norm5Ideal.nD Cert.Norm5Ideal.τ).loc Cert.Norm5Ideal.main_arg3) = m ((c.tc : Thread Cert.Norm5Ideal.nD Cert.Norm5Ideal.τ).loc Cert.Norm5Ideal.main_arg3))
      ∧ r.2.sem = fun _ => 0)

def quiescent_NormRef5Ideal [hNormRef5Ideal : Cert.NormRef5Ideal.Facts] : Prop :=
  ∀ (m : (ℓ : Loc Cert.NormRef5Ideal.nD Cert.NormRef5Ideal.τ Cert.NormRef5Ideal.sig) → Buf (Elt Ideal) ℓ) (g : Dev Cert.NormRef5Ideal.nD → PrngReg), Pre_NormRef5Ideal m →
    θ_run (Cert.NormRef5Ideal.defs (F := Ideal)) (onTc (τ := Cert.NormRef5Ideal.τ) (Cert.NormRef5Ideal.main (F := Ideal))) ⟨m, fun _ => 0, g⟩ (fun r => (∀ c : Dev Cert.NormRef5Ideal.nD,
      r.2.mem ((c.tc : Thread Cert.NormRef5Ideal.nD Cert.NormRef5Ideal.τ).loc Cert.NormRef5Ideal.main_arg0) = m ((c.tc : Thread Cert.NormRef5Ideal.nD Cert.NormRef5Ideal.τ).loc Cert.NormRef5Ideal.main_arg0)
      ∧ r.2.mem ((c.tc : Thread Cert.NormRef5Ideal.nD Cert.NormRef5Ideal.τ).loc Cert.NormRef5Ideal.main_arg1) = m ((c.tc : Thread Cert.NormRef5Ideal.nD Cert.NormRef5Ideal.τ).loc Cert.NormRef5Ideal.main_arg1)
      ∧ r.2.mem ((c.tc : Thread Cert.NormRef5Ideal.nD Cert.NormRef5Ideal.τ).loc Cert.NormRef5Ideal.main_arg2) = m ((c.tc : Thread Cert.NormRef5Ideal.nD Cert.NormRef5Ideal.τ).loc Cert.NormRef5Ideal.main_arg2)
      ∧ r.2.mem ((c.tc : Thread Cert.NormRef5Ideal.nD Cert.NormRef5Ideal.τ).loc Cert.NormRef5Ideal.main_arg3) = m ((c.tc : Thread Cert.NormRef5Ideal.nD Cert.NormRef5Ideal.τ).loc Cert.NormRef5Ideal.main_arg3))
      ∧ r.2.sem = fun _ => 0)

def quiescent_NormRef5Ideal_pre_nonneg5 [hNormRef5Ideal : Cert.NormRef5Ideal.Facts] [hPre_nonneg5 : Cert.Pre_nonneg5.Facts] : Prop :=
  ∀ (m : (ℓ : Loc Cert.NormRef5Ideal.nD Cert.NormRef5Ideal.τ Cert.NormRef5Ideal.sig) → Buf (Elt Ideal) ℓ) (g : Dev Cert.NormRef5Ideal.nD → PrngReg), Pre_NormRef5Ideal_nonneg5 m →
    θ_run (Cert.NormRef5Ideal.defs (F := Ideal)) (onTc (τ := Cert.NormRef5Ideal.τ) (Cert.NormRef5Ideal.main (F := Ideal))) ⟨m, fun _ => 0, g⟩ (fun r => (∀ c : Dev Cert.NormRef5Ideal.nD,
      r.2.mem ((c.tc : Thread Cert.NormRef5Ideal.nD Cert.NormRef5Ideal.τ).loc Cert.NormRef5Ideal.main_arg0) = m ((c.tc : Thread Cert.NormRef5Ideal.nD Cert.NormRef5Ideal.τ).loc Cert.NormRef5Ideal.main_arg0)
      ∧ r.2.mem ((c.tc : Thread Cert.NormRef5Ideal.nD Cert.NormRef5Ideal.τ).loc Cert.NormRef5Ideal.main_arg1) = m ((c.tc : Thread Cert.NormRef5Ideal.nD Cert.NormRef5Ideal.τ).loc Cert.NormRef5Ideal.main_arg1)
      ∧ r.2.mem ((c.tc : Thread Cert.NormRef5Ideal.nD Cert.NormRef5Ideal.τ).loc Cert.NormRef5Ideal.main_arg2) = m ((c.tc : Thread Cert.NormRef5Ideal.nD Cert.NormRef5Ideal.τ).loc Cert.NormRef5Ideal.main_arg2)
      ∧ r.2.mem ((c.tc : Thread Cert.NormRef5Ideal.nD Cert.NormRef5Ideal.τ).loc Cert.NormRef5Ideal.main_arg3) = m ((c.tc : Thread Cert.NormRef5Ideal.nD Cert.NormRef5Ideal.τ).loc Cert.NormRef5Ideal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def preserves_Down2_Down2Ideal : Prop :=
  True

def algebraic_Down2Ideal_Ref2Ideal_pre_bounded2 [hDown2Ideal : Cert.Down2Ideal.Facts] [hRef2Ideal : Cert.Ref2Ideal.Facts] [hPre_bounded2 : Cert.Pre_bounded2.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Down2Ideal_bounded2 m →
    (∀ c : Dev Cert.Down2Ideal.nD,
      m' ((c.tc : Thread Cert.Ref2Ideal.nD Cert.Ref2Ideal.τ).loc Cert.Ref2Ideal.main_arg0) = m ((c.tc : Thread Cert.Down2Ideal.nD Cert.Down2Ideal.τ).loc Cert.Down2Ideal.main_arg0)
      ∧ m' ((c.tc : Thread Cert.Ref2Ideal.nD Cert.Ref2Ideal.τ).loc Cert.Ref2Ideal.main_arg1) = m ((c.tc : Thread Cert.Down2Ideal.nD Cert.Down2Ideal.τ).loc Cert.Down2Ideal.main_arg1)
      ∧ m' ((c.tc : Thread Cert.Ref2Ideal.nD Cert.Ref2Ideal.τ).loc Cert.Ref2Ideal.main_arg2) = m ((c.tc : Thread Cert.Down2Ideal.nD Cert.Down2Ideal.τ).loc Cert.Down2Ideal.main_arg2)
      ∧ m' ((c.tc : Thread Cert.Ref2Ideal.nD Cert.Ref2Ideal.τ).loc Cert.Ref2Ideal.main_arg3) = m ((c.tc : Thread Cert.Down2Ideal.nD Cert.Down2Ideal.τ).loc Cert.Down2Ideal.main_arg3)) →
    ∃ (v0 : (c : Dev Cert.Down2Ideal.nD) → Buf (Elt Ideal) ((c.tc : Thread Cert.Down2Ideal.nD Cert.Down2Ideal.τ).loc Cert.Down2Ideal.main_v19_0)) (v1 : (c : Dev Cert.Down2Ideal.nD) → Buf (Elt Ideal) ((c.tc : Thread Cert.Down2Ideal.nD Cert.Down2Ideal.τ).loc Cert.Down2Ideal.main_v19_1)) (v2 : (c : Dev Cert.Down2Ideal.nD) → Buf (Elt Ideal) ((c.tc : Thread Cert.Down2Ideal.nD Cert.Down2Ideal.τ).loc Cert.Down2Ideal.main_v19_2)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v19_0) = v0 c
          ∧ r.2.mem ((c.tc : Thread Cert.Down2Ideal.nD Cert.Down2Ideal.τ).loc Cert.Down2Ideal.main_v19_1) = v1 c
          ∧ r.2.mem ((c.tc : Thread Cert.Down2Ideal.nD Cert.Down2Ideal.τ).loc Cert.Down2Ideal.main_v19_2) = v2 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
          ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2)
          ∧ r.2.mem ((c.tc : Thread Cert.Down2Ideal.nD Cert.Down2Ideal.τ).loc Cert.Down2Ideal.main_arg3) = m ((c.tc : Thread Cert.Down2Ideal.nD Cert.Down2Ideal.τ).loc Cert.Down2Ideal.main_arg3))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v32) = v0 c
          ∧ r.2.mem ((c.tc : Thread Cert.Ref2Ideal.nD Cert.Ref2Ideal.τ).loc Cert.Ref2Ideal.main_v28) = v1 c
          ∧ r.2.mem ((c.tc : Thread Cert.Ref2Ideal.nD Cert.Ref2Ideal.τ).loc Cert.Ref2Ideal.main_v31) = v2 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3))

def preserves_Down3_Down3Ideal : Prop :=
  True

def algebraic_Down3Ideal_Ref3Ideal_pre_bounded3 [hDown3Ideal : Cert.Down3Ideal.Facts] [hRef3Ideal : Cert.Ref3Ideal.Facts] [hPre_bounded3 : Cert.Pre_bounded3.Facts] : Prop :=
  ∀ (m : (ℓ : Loc Cert.Down3Ideal.nD Cert.Down3Ideal.τ Cert.Down3Ideal.sig) → Buf (Elt Ideal) ℓ) (g : Dev Cert.Down3Ideal.nD → PrngReg)
    (m' : (ℓ : Loc Cert.Ref3Ideal.nD Cert.Ref3Ideal.τ Cert.Ref3Ideal.sig) → Buf (Elt Ideal) ℓ) (g' : Dev Cert.Ref3Ideal.nD → PrngReg), Pre_Down3Ideal_bounded3 m →
    (∀ c : Dev Cert.Down3Ideal.nD,
      m' ((c.tc : Thread Cert.Ref3Ideal.nD Cert.Ref3Ideal.τ).loc Cert.Ref3Ideal.main_arg0) = m ((c.tc : Thread Cert.Down3Ideal.nD Cert.Down3Ideal.τ).loc Cert.Down3Ideal.main_arg0)
      ∧ m' ((c.tc : Thread Cert.Ref3Ideal.nD Cert.Ref3Ideal.τ).loc Cert.Ref3Ideal.main_arg1) = m ((c.tc : Thread Cert.Down3Ideal.nD Cert.Down3Ideal.τ).loc Cert.Down3Ideal.main_arg1)
      ∧ m' ((c.tc : Thread Cert.Ref3Ideal.nD Cert.Ref3Ideal.τ).loc Cert.Ref3Ideal.main_arg2) = m ((c.tc : Thread Cert.Down3Ideal.nD Cert.Down3Ideal.τ).loc Cert.Down3Ideal.main_arg2)
      ∧ m' ((c.tc : Thread Cert.Ref3Ideal.nD Cert.Ref3Ideal.τ).loc Cert.Ref3Ideal.main_arg3) = m ((c.tc : Thread Cert.Down3Ideal.nD Cert.Down3Ideal.τ).loc Cert.Down3Ideal.main_arg3)) →
    ∃ (v0 : (c : Dev Cert.Down3Ideal.nD) → Buf (Elt Ideal) ((c.tc : Thread Cert.Down3Ideal.nD Cert.Down3Ideal.τ).loc Cert.Down3Ideal.main_v19_0)) (v1 : (c : Dev Cert.Down3Ideal.nD) → Buf (Elt Ideal) ((c.tc : Thread Cert.Down3Ideal.nD Cert.Down3Ideal.τ).loc Cert.Down3Ideal.main_v19_1)) (v2 : (c : Dev Cert.Down3Ideal.nD) → Buf (Elt Ideal) ((c.tc : Thread Cert.Down3Ideal.nD Cert.Down3Ideal.τ).loc Cert.Down3Ideal.main_v19_2)),
      θ_run (Cert.Down3Ideal.defs (F := Ideal)) (onTc (τ := Cert.Down3Ideal.τ) (Cert.Down3Ideal.main (F := Ideal))) ⟨m, fun _ => 0, g⟩ (fun r => ∀ c : Dev Cert.Down3Ideal.nD,
          r.2.mem ((c.tc : Thread Cert.Down3Ideal.nD Cert.Down3Ideal.τ).loc Cert.Down3Ideal.main_v19_0) = v0 c
          ∧ r.2.mem ((c.tc : Thread Cert.Down3Ideal.nD Cert.Down3Ideal.τ).loc Cert.Down3Ideal.main_v19_1) = v1 c
          ∧ r.2.mem ((c.tc : Thread Cert.Down3Ideal.nD Cert.Down3Ideal.τ).loc Cert.Down3Ideal.main_v19_2) = v2 c
          ∧ r.2.mem ((c.tc : Thread Cert.Down3Ideal.nD Cert.Down3Ideal.τ).loc Cert.Down3Ideal.main_arg0) = m ((c.tc : Thread Cert.Down3Ideal.nD Cert.Down3Ideal.τ).loc Cert.Down3Ideal.main_arg0)
          ∧ r.2.mem ((c.tc : Thread Cert.Down3Ideal.nD Cert.Down3Ideal.τ).loc Cert.Down3Ideal.main_arg1) = m ((c.tc : Thread Cert.Down3Ideal.nD Cert.Down3Ideal.τ).loc Cert.Down3Ideal.main_arg1)
          ∧ r.2.mem ((c.tc : Thread Cert.Down3Ideal.nD Cert.Down3Ideal.τ).loc Cert.Down3Ideal.main_arg2) = m ((c.tc : Thread Cert.Down3Ideal.nD Cert.Down3Ideal.τ).loc Cert.Down3Ideal.main_arg2)
          ∧ r.2.mem ((c.tc : Thread Cert.Down3Ideal.nD Cert.Down3Ideal.τ).loc Cert.Down3Ideal.main_arg3) = m ((c.tc : Thread Cert.Down3Ideal.nD Cert.Down3Ideal.τ).loc Cert.Down3Ideal.main_arg3))
      ∧ θ_run (Cert.Ref3Ideal.defs (F := Ideal)) (onTc (τ := Cert.Ref3Ideal.τ) (Cert.Ref3Ideal.main (F := Ideal))) ⟨m', fun _ => 0, g'⟩ (fun r => ∀ c : Dev Cert.Ref3Ideal.nD,
          r.2.mem ((c.tc : Thread Cert.Ref3Ideal.nD Cert.Ref3Ideal.τ).loc Cert.Ref3Ideal.main_v32) = v0 c
          ∧ r.2.mem ((c.tc : Thread Cert.Ref3Ideal.nD Cert.Ref3Ideal.τ).loc Cert.Ref3Ideal.main_v28) = v1 c
          ∧ r.2.mem ((c.tc : Thread Cert.Ref3Ideal.nD Cert.Ref3Ideal.τ).loc Cert.Ref3Ideal.main_v31) = v2 c
          ∧ r.2.mem ((c.tc : Thread Cert.Ref3Ideal.nD Cert.Ref3Ideal.τ).loc Cert.Ref3Ideal.main_arg0) = m' ((c.tc : Thread Cert.Ref3Ideal.nD Cert.Ref3Ideal.τ).loc Cert.Ref3Ideal.main_arg0)
          ∧ r.2.mem ((c.tc : Thread Cert.Ref3Ideal.nD Cert.Ref3Ideal.τ).loc Cert.Ref3Ideal.main_arg1) = m' ((c.tc : Thread Cert.Ref3Ideal.nD Cert.Ref3Ideal.τ).loc Cert.Ref3Ideal.main_arg1)
          ∧ r.2.mem ((c.tc : Thread Cert.Ref3Ideal.nD Cert.Ref3Ideal.τ).loc Cert.Ref3Ideal.main_arg2) = m' ((c.tc : Thread Cert.Ref3Ideal.nD Cert.Ref3Ideal.τ).loc Cert.Ref3Ideal.main_arg2)
          ∧ r.2.mem ((c.tc : Thread Cert.Ref3Ideal.nD Cert.Ref3Ideal.τ).loc Cert.Ref3Ideal.main_arg3) = m' ((c.tc : Thread Cert.Ref3Ideal.nD Cert.Ref3Ideal.τ).loc Cert.Ref3Ideal.main_arg3))

def preserves_Down4_Down4Ideal : Prop :=
  True

def algebraic_Down4Ideal_Ref4Ideal_pre_bounded4 [hDown4Ideal : Cert.Down4Ideal.Facts] [hRef4Ideal : Cert.Ref4Ideal.Facts] [hPre_bounded4 : Cert.Pre_bounded4.Facts] : Prop :=
  ∀ (m : (ℓ : Loc Cert.Down4Ideal.nD Cert.Down4Ideal.τ Cert.Down4Ideal.sig) → Buf (Elt Ideal) ℓ) (g : Dev Cert.Down4Ideal.nD → PrngReg)
    (m' : (ℓ : Loc Cert.Ref4Ideal.nD Cert.Ref4Ideal.τ Cert.Ref4Ideal.sig) → Buf (Elt Ideal) ℓ) (g' : Dev Cert.Ref4Ideal.nD → PrngReg), Pre_Down4Ideal_bounded4 m →
    (∀ c : Dev Cert.Down4Ideal.nD,
      m' ((c.tc : Thread Cert.Ref4Ideal.nD Cert.Ref4Ideal.τ).loc Cert.Ref4Ideal.main_arg0) = m ((c.tc : Thread Cert.Down4Ideal.nD Cert.Down4Ideal.τ).loc Cert.Down4Ideal.main_arg0)
      ∧ m' ((c.tc : Thread Cert.Ref4Ideal.nD Cert.Ref4Ideal.τ).loc Cert.Ref4Ideal.main_arg1) = m ((c.tc : Thread Cert.Down4Ideal.nD Cert.Down4Ideal.τ).loc Cert.Down4Ideal.main_arg1)
      ∧ m' ((c.tc : Thread Cert.Ref4Ideal.nD Cert.Ref4Ideal.τ).loc Cert.Ref4Ideal.main_arg2) = m ((c.tc : Thread Cert.Down4Ideal.nD Cert.Down4Ideal.τ).loc Cert.Down4Ideal.main_arg2)
      ∧ m' ((c.tc : Thread Cert.Ref4Ideal.nD Cert.Ref4Ideal.τ).loc Cert.Ref4Ideal.main_arg3) = m ((c.tc : Thread Cert.Down4Ideal.nD Cert.Down4Ideal.τ).loc Cert.Down4Ideal.main_arg3)) →
    ∃ (v0 : (c : Dev Cert.Down4Ideal.nD) → Buf (Elt Ideal) ((c.tc : Thread Cert.Down4Ideal.nD Cert.Down4Ideal.τ).loc Cert.Down4Ideal.main_v19_0)) (v1 : (c : Dev Cert.Down4Ideal.nD) → Buf (Elt Ideal) ((c.tc : Thread Cert.Down4Ideal.nD Cert.Down4Ideal.τ).loc Cert.Down4Ideal.main_v19_1)) (v2 : (c : Dev Cert.Down4Ideal.nD) → Buf (Elt Ideal) ((c.tc : Thread Cert.Down4Ideal.nD Cert.Down4Ideal.τ).loc Cert.Down4Ideal.main_v19_2)),
      θ_run (Cert.Down4Ideal.defs (F := Ideal)) (onTc (τ := Cert.Down4Ideal.τ) (Cert.Down4Ideal.main (F := Ideal))) ⟨m, fun _ => 0, g⟩ (fun r => ∀ c : Dev Cert.Down4Ideal.nD,
          r.2.mem ((c.tc : Thread Cert.Down4Ideal.nD Cert.Down4Ideal.τ).loc Cert.Down4Ideal.main_v19_0) = v0 c
          ∧ r.2.mem ((c.tc : Thread Cert.Down4Ideal.nD Cert.Down4Ideal.τ).loc Cert.Down4Ideal.main_v19_1) = v1 c
          ∧ r.2.mem ((c.tc : Thread Cert.Down4Ideal.nD Cert.Down4Ideal.τ).loc Cert.Down4Ideal.main_v19_2) = v2 c
          ∧ r.2.mem ((c.tc : Thread Cert.Down4Ideal.nD Cert.Down4Ideal.τ).loc Cert.Down4Ideal.main_arg0) = m ((c.tc : Thread Cert.Down4Ideal.nD Cert.Down4Ideal.τ).loc Cert.Down4Ideal.main_arg0)
          ∧ r.2.mem ((c.tc : Thread Cert.Down4Ideal.nD Cert.Down4Ideal.τ).loc Cert.Down4Ideal.main_arg1) = m ((c.tc : Thread Cert.Down4Ideal.nD Cert.Down4Ideal.τ).loc Cert.Down4Ideal.main_arg1)
          ∧ r.2.mem ((c.tc : Thread Cert.Down4Ideal.nD Cert.Down4Ideal.τ).loc Cert.Down4Ideal.main_arg2) = m ((c.tc : Thread Cert.Down4Ideal.nD Cert.Down4Ideal.τ).loc Cert.Down4Ideal.main_arg2)
          ∧ r.2.mem ((c.tc : Thread Cert.Down4Ideal.nD Cert.Down4Ideal.τ).loc Cert.Down4Ideal.main_arg3) = m ((c.tc : Thread Cert.Down4Ideal.nD Cert.Down4Ideal.τ).loc Cert.Down4Ideal.main_arg3))
      ∧ θ_run (Cert.Ref4Ideal.defs (F := Ideal)) (onTc (τ := Cert.Ref4Ideal.τ) (Cert.Ref4Ideal.main (F := Ideal))) ⟨m', fun _ => 0, g'⟩ (fun r => ∀ c : Dev Cert.Ref4Ideal.nD,
          r.2.mem ((c.tc : Thread Cert.Ref4Ideal.nD Cert.Ref4Ideal.τ).loc Cert.Ref4Ideal.main_v32) = v0 c
          ∧ r.2.mem ((c.tc : Thread Cert.Ref4Ideal.nD Cert.Ref4Ideal.τ).loc Cert.Ref4Ideal.main_v28) = v1 c
          ∧ r.2.mem ((c.tc : Thread Cert.Ref4Ideal.nD Cert.Ref4Ideal.τ).loc Cert.Ref4Ideal.main_v31) = v2 c
          ∧ r.2.mem ((c.tc : Thread Cert.Ref4Ideal.nD Cert.Ref4Ideal.τ).loc Cert.Ref4Ideal.main_arg0) = m' ((c.tc : Thread Cert.Ref4Ideal.nD Cert.Ref4Ideal.τ).loc Cert.Ref4Ideal.main_arg0)
          ∧ r.2.mem ((c.tc : Thread Cert.Ref4Ideal.nD Cert.Ref4Ideal.τ).loc Cert.Ref4Ideal.main_arg1) = m' ((c.tc : Thread Cert.Ref4Ideal.nD Cert.Ref4Ideal.τ).loc Cert.Ref4Ideal.main_arg1)
          ∧ r.2.mem ((c.tc : Thread Cert.Ref4Ideal.nD Cert.Ref4Ideal.τ).loc Cert.Ref4Ideal.main_arg2) = m' ((c.tc : Thread Cert.Ref4Ideal.nD Cert.Ref4Ideal.τ).loc Cert.Ref4Ideal.main_arg2)
          ∧ r.2.mem ((c.tc : Thread Cert.Ref4Ideal.nD Cert.Ref4Ideal.τ).loc Cert.Ref4Ideal.main_arg3) = m' ((c.tc : Thread Cert.Ref4Ideal.nD Cert.Ref4Ideal.τ).loc Cert.Ref4Ideal.main_arg3))

def preserves_Down5_Down5Ideal : Prop :=
  True

def algebraic_Down5Ideal_Ref5Ideal_pre_bounded5 [hDown5Ideal : Cert.Down5Ideal.Facts] [hRef5Ideal : Cert.Ref5Ideal.Facts] [hPre_bounded5 : Cert.Pre_bounded5.Facts] : Prop :=
  ∀ (m : (ℓ : Loc Cert.Down5Ideal.nD Cert.Down5Ideal.τ Cert.Down5Ideal.sig) → Buf (Elt Ideal) ℓ) (g : Dev Cert.Down5Ideal.nD → PrngReg)
    (m' : (ℓ : Loc Cert.Ref5Ideal.nD Cert.Ref5Ideal.τ Cert.Ref5Ideal.sig) → Buf (Elt Ideal) ℓ) (g' : Dev Cert.Ref5Ideal.nD → PrngReg), Pre_Down5Ideal_bounded5 m →
    (∀ c : Dev Cert.Down5Ideal.nD,
      m' ((c.tc : Thread Cert.Ref5Ideal.nD Cert.Ref5Ideal.τ).loc Cert.Ref5Ideal.main_arg0) = m ((c.tc : Thread Cert.Down5Ideal.nD Cert.Down5Ideal.τ).loc Cert.Down5Ideal.main_arg0)
      ∧ m' ((c.tc : Thread Cert.Ref5Ideal.nD Cert.Ref5Ideal.τ).loc Cert.Ref5Ideal.main_arg1) = m ((c.tc : Thread Cert.Down5Ideal.nD Cert.Down5Ideal.τ).loc Cert.Down5Ideal.main_arg1)
      ∧ m' ((c.tc : Thread Cert.Ref5Ideal.nD Cert.Ref5Ideal.τ).loc Cert.Ref5Ideal.main_arg2) = m ((c.tc : Thread Cert.Down5Ideal.nD Cert.Down5Ideal.τ).loc Cert.Down5Ideal.main_arg2)
      ∧ m' ((c.tc : Thread Cert.Ref5Ideal.nD Cert.Ref5Ideal.τ).loc Cert.Ref5Ideal.main_arg3) = m ((c.tc : Thread Cert.Down5Ideal.nD Cert.Down5Ideal.τ).loc Cert.Down5Ideal.main_arg3)) →
    ∃ (v0 : (c : Dev Cert.Down5Ideal.nD) → Buf (Elt Ideal) ((c.tc : Thread Cert.Down5Ideal.nD Cert.Down5Ideal.τ).loc Cert.Down5Ideal.main_v19_0)) (v1 : (c : Dev Cert.Down5Ideal.nD) → Buf (Elt Ideal) ((c.tc : Thread Cert.Down5Ideal.nD Cert.Down5Ideal.τ).loc Cert.Down5Ideal.main_v19_1)) (v2 : (c : Dev Cert.Down5Ideal.nD) → Buf (Elt Ideal) ((c.tc : Thread Cert.Down5Ideal.nD Cert.Down5Ideal.τ).loc Cert.Down5Ideal.main_v19_2)),
      θ_run (Cert.Down5Ideal.defs (F := Ideal)) (onTc (τ := Cert.Down5Ideal.τ) (Cert.Down5Ideal.main (F := Ideal))) ⟨m, fun _ => 0, g⟩ (fun r => ∀ c : Dev Cert.Down5Ideal.nD,
          r.2.mem ((c.tc : Thread Cert.Down5Ideal.nD Cert.Down5Ideal.τ).loc Cert.Down5Ideal.main_v19_0) = v0 c
          ∧ r.2.mem ((c.tc : Thread Cert.Down5Ideal.nD Cert.Down5Ideal.τ).loc Cert.Down5Ideal.main_v19_1) = v1 c
          ∧ r.2.mem ((c.tc : Thread Cert.Down5Ideal.nD Cert.Down5Ideal.τ).loc Cert.Down5Ideal.main_v19_2) = v2 c
          ∧ r.2.mem ((c.tc : Thread Cert.Down5Ideal.nD Cert.Down5Ideal.τ).loc Cert.Down5Ideal.main_arg0) = m ((c.tc : Thread Cert.Down5Ideal.nD Cert.Down5Ideal.τ).loc Cert.Down5Ideal.main_arg0)
          ∧ r.2.mem ((c.tc : Thread Cert.Down5Ideal.nD Cert.Down5Ideal.τ).loc Cert.Down5Ideal.main_arg1) = m ((c.tc : Thread Cert.Down5Ideal.nD Cert.Down5Ideal.τ).loc Cert.Down5Ideal.main_arg1)
          ∧ r.2.mem ((c.tc : Thread Cert.Down5Ideal.nD Cert.Down5Ideal.τ).loc Cert.Down5Ideal.main_arg2) = m ((c.tc : Thread Cert.Down5Ideal.nD Cert.Down5Ideal.τ).loc Cert.Down5Ideal.main_arg2)
          ∧ r.2.mem ((c.tc : Thread Cert.Down5Ideal.nD Cert.Down5Ideal.τ).loc Cert.Down5Ideal.main_arg3) = m ((c.tc : Thread Cert.Down5Ideal.nD Cert.Down5Ideal.τ).loc Cert.Down5Ideal.main_arg3))
      ∧ θ_run (Cert.Ref5Ideal.defs (F := Ideal)) (onTc (τ := Cert.Ref5Ideal.τ) (Cert.Ref5Ideal.main (F := Ideal))) ⟨m', fun _ => 0, g'⟩ (fun r => ∀ c : Dev Cert.Ref5Ideal.nD,
          r.2.mem ((c.tc : Thread Cert.Ref5Ideal.nD Cert.Ref5Ideal.τ).loc Cert.Ref5Ideal.main_v32) = v0 c
          ∧ r.2.mem ((c.tc : Thread Cert.Ref5Ideal.nD Cert.Ref5Ideal.τ).loc Cert.Ref5Ideal.main_v28) = v1 c
          ∧ r.2.mem ((c.tc : Thread Cert.Ref5Ideal.nD Cert.Ref5Ideal.τ).loc Cert.Ref5Ideal.main_v31) = v2 c
          ∧ r.2.mem ((c.tc : Thread Cert.Ref5Ideal.nD Cert.Ref5Ideal.τ).loc Cert.Ref5Ideal.main_arg0) = m' ((c.tc : Thread Cert.Ref5Ideal.nD Cert.Ref5Ideal.τ).loc Cert.Ref5Ideal.main_arg0)
          ∧ r.2.mem ((c.tc : Thread Cert.Ref5Ideal.nD Cert.Ref5Ideal.τ).loc Cert.Ref5Ideal.main_arg1) = m' ((c.tc : Thread Cert.Ref5Ideal.nD Cert.Ref5Ideal.τ).loc Cert.Ref5Ideal.main_arg1)
          ∧ r.2.mem ((c.tc : Thread Cert.Ref5Ideal.nD Cert.Ref5Ideal.τ).loc Cert.Ref5Ideal.main_arg2) = m' ((c.tc : Thread Cert.Ref5Ideal.nD Cert.Ref5Ideal.τ).loc Cert.Ref5Ideal.main_arg2)
          ∧ r.2.mem ((c.tc : Thread Cert.Ref5Ideal.nD Cert.Ref5Ideal.τ).loc Cert.Ref5Ideal.main_arg3) = m' ((c.tc : Thread Cert.Ref5Ideal.nD Cert.Ref5Ideal.τ).loc Cert.Ref5Ideal.main_arg3))

def preserves_Norm2_Norm2Ideal : Prop :=
  True

def algebraic_Norm2Ideal_NormRef2Ideal_pre_nonneg2 [hNorm2Ideal : Cert.Norm2Ideal.Facts] [hNormRef2Ideal : Cert.NormRef2Ideal.Facts] [hPre_nonneg2 : Cert.Pre_nonneg2.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.NormRef2Ideal.nD Cert.NormRef2Ideal.τ Cert.NormRef2Ideal.sig) → Buf (Elt Ideal) ℓ) (g' : Dev Cert.NormRef2Ideal.nD → PrngReg), Pre_Norm2Ideal_nonneg2 m →
    (∀ c : Dev Cert.Norm2Ideal.nD,
      m' ((c.tc : Thread Cert.NormRef2Ideal.nD Cert.NormRef2Ideal.τ).loc Cert.NormRef2Ideal.main_arg0) = m ((c.tc : Thread Cert.Norm2Ideal.nD Cert.Norm2Ideal.τ).loc Cert.Norm2Ideal.main_arg0)
      ∧ m' ((c.tc : Thread Cert.NormRef2Ideal.nD Cert.NormRef2Ideal.τ).loc Cert.NormRef2Ideal.main_arg1) = m ((c.tc : Thread Cert.Norm2Ideal.nD Cert.Norm2Ideal.τ).loc Cert.Norm2Ideal.main_arg1)
      ∧ m' ((c.tc : Thread Cert.NormRef2Ideal.nD Cert.NormRef2Ideal.τ).loc Cert.NormRef2Ideal.main_arg2) = m ((c.tc : Thread Cert.Norm2Ideal.nD Cert.Norm2Ideal.τ).loc Cert.Norm2Ideal.main_arg2)
      ∧ m' ((c.tc : Thread Cert.NormRef2Ideal.nD Cert.NormRef2Ideal.τ).loc Cert.NormRef2Ideal.main_arg3) = m ((c.tc : Thread Cert.Norm2Ideal.nD Cert.Norm2Ideal.τ).loc Cert.Norm2Ideal.main_arg3)) →
    ∃ (v0 : (c : Dev Cert.Norm2Ideal.nD) → Buf (Elt Ideal) ((c.tc : Thread Cert.Norm2Ideal.nD Cert.Norm2Ideal.τ).loc Cert.Norm2Ideal.main_v14)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v14) = v0 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3))
      ∧ θ_run (Cert.NormRef2Ideal.defs (F := Ideal)) (onTc (τ := Cert.NormRef2Ideal.τ) (Cert.NormRef2Ideal.main (F := Ideal))) ⟨m', fun _ => 0, g'⟩ (fun r => ∀ c : Dev Cert.NormRef2Ideal.nD,
          r.2.mem ((c.tc : Thread Cert.NormRef2Ideal.nD Cert.NormRef2Ideal.τ).loc Cert.NormRef2Ideal.main_v20) = v0 c
          ∧ r.2.mem ((c.tc : Thread Cert.NormRef2Ideal.nD Cert.NormRef2Ideal.τ).loc Cert.NormRef2Ideal.main_arg0) = m' ((c.tc : Thread Cert.NormRef2Ideal.nD Cert.NormRef2Ideal.τ).loc Cert.NormRef2Ideal.main_arg0)
          ∧ r.2.mem ((c.tc : Thread Cert.NormRef2Ideal.nD Cert.NormRef2Ideal.τ).loc Cert.NormRef2Ideal.main_arg1) = m' ((c.tc : Thread Cert.NormRef2Ideal.nD Cert.NormRef2Ideal.τ).loc Cert.NormRef2Ideal.main_arg1)
          ∧ r.2.mem ((c.tc : Thread Cert.NormRef2Ideal.nD Cert.NormRef2Ideal.τ).loc Cert.NormRef2Ideal.main_arg2) = m' ((c.tc : Thread Cert.NormRef2Ideal.nD Cert.NormRef2Ideal.τ).loc Cert.NormRef2Ideal.main_arg2)
          ∧ r.2.mem ((c.tc : Thread Cert.NormRef2Ideal.nD Cert.NormRef2Ideal.τ).loc Cert.NormRef2Ideal.main_arg3) = m' ((c.tc : Thread Cert.NormRef2Ideal.nD Cert.NormRef2Ideal.τ).loc Cert.NormRef2Ideal.main_arg3))

def preserves_Norm3_Norm3Ideal : Prop :=
  True

def algebraic_Norm3Ideal_NormRef3Ideal_pre_nonneg3 [hNorm3Ideal : Cert.Norm3Ideal.Facts] [hNormRef3Ideal : Cert.NormRef3Ideal.Facts] [hPre_nonneg3 : Cert.Pre_nonneg3.Facts] : Prop :=
  ∀ (m : (ℓ : Loc Cert.Norm3Ideal.nD Cert.Norm3Ideal.τ Cert.Norm3Ideal.sig) → Buf (Elt Ideal) ℓ) (g : Dev Cert.Norm3Ideal.nD → PrngReg)
    (m' : (ℓ : Loc Cert.NormRef3Ideal.nD Cert.NormRef3Ideal.τ Cert.NormRef3Ideal.sig) → Buf (Elt Ideal) ℓ) (g' : Dev Cert.NormRef3Ideal.nD → PrngReg), Pre_Norm3Ideal_nonneg3 m →
    (∀ c : Dev Cert.Norm3Ideal.nD,
      m' ((c.tc : Thread Cert.NormRef3Ideal.nD Cert.NormRef3Ideal.τ).loc Cert.NormRef3Ideal.main_arg0) = m ((c.tc : Thread Cert.Norm3Ideal.nD Cert.Norm3Ideal.τ).loc Cert.Norm3Ideal.main_arg0)
      ∧ m' ((c.tc : Thread Cert.NormRef3Ideal.nD Cert.NormRef3Ideal.τ).loc Cert.NormRef3Ideal.main_arg1) = m ((c.tc : Thread Cert.Norm3Ideal.nD Cert.Norm3Ideal.τ).loc Cert.Norm3Ideal.main_arg1)
      ∧ m' ((c.tc : Thread Cert.NormRef3Ideal.nD Cert.NormRef3Ideal.τ).loc Cert.NormRef3Ideal.main_arg2) = m ((c.tc : Thread Cert.Norm3Ideal.nD Cert.Norm3Ideal.τ).loc Cert.Norm3Ideal.main_arg2)
      ∧ m' ((c.tc : Thread Cert.NormRef3Ideal.nD Cert.NormRef3Ideal.τ).loc Cert.NormRef3Ideal.main_arg3) = m ((c.tc : Thread Cert.Norm3Ideal.nD Cert.Norm3Ideal.τ).loc Cert.Norm3Ideal.main_arg3)) →
    ∃ (v0 : (c : Dev Cert.Norm3Ideal.nD) → Buf (Elt Ideal) ((c.tc : Thread Cert.Norm3Ideal.nD Cert.Norm3Ideal.τ).loc Cert.Norm3Ideal.main_v14)),
      θ_run (Cert.Norm3Ideal.defs (F := Ideal)) (onTc (τ := Cert.Norm3Ideal.τ) (Cert.Norm3Ideal.main (F := Ideal))) ⟨m, fun _ => 0, g⟩ (fun r => ∀ c : Dev Cert.Norm3Ideal.nD,
          r.2.mem ((c.tc : Thread Cert.Norm3Ideal.nD Cert.Norm3Ideal.τ).loc Cert.Norm3Ideal.main_v14) = v0 c
          ∧ r.2.mem ((c.tc : Thread Cert.Norm3Ideal.nD Cert.Norm3Ideal.τ).loc Cert.Norm3Ideal.main_arg0) = m ((c.tc : Thread Cert.Norm3Ideal.nD Cert.Norm3Ideal.τ).loc Cert.Norm3Ideal.main_arg0)
          ∧ r.2.mem ((c.tc : Thread Cert.Norm3Ideal.nD Cert.Norm3Ideal.τ).loc Cert.Norm3Ideal.main_arg1) = m ((c.tc : Thread Cert.Norm3Ideal.nD Cert.Norm3Ideal.τ).loc Cert.Norm3Ideal.main_arg1)
          ∧ r.2.mem ((c.tc : Thread Cert.Norm3Ideal.nD Cert.Norm3Ideal.τ).loc Cert.Norm3Ideal.main_arg2) = m ((c.tc : Thread Cert.Norm3Ideal.nD Cert.Norm3Ideal.τ).loc Cert.Norm3Ideal.main_arg2)
          ∧ r.2.mem ((c.tc : Thread Cert.Norm3Ideal.nD Cert.Norm3Ideal.τ).loc Cert.Norm3Ideal.main_arg3) = m ((c.tc : Thread Cert.Norm3Ideal.nD Cert.Norm3Ideal.τ).loc Cert.Norm3Ideal.main_arg3))
      ∧ θ_run (Cert.NormRef3Ideal.defs (F := Ideal)) (onTc (τ := Cert.NormRef3Ideal.τ) (Cert.NormRef3Ideal.main (F := Ideal))) ⟨m', fun _ => 0, g'⟩ (fun r => ∀ c : Dev Cert.NormRef3Ideal.nD,
          r.2.mem ((c.tc : Thread Cert.NormRef3Ideal.nD Cert.NormRef3Ideal.τ).loc Cert.NormRef3Ideal.main_v20) = v0 c
          ∧ r.2.mem ((c.tc : Thread Cert.NormRef3Ideal.nD Cert.NormRef3Ideal.τ).loc Cert.NormRef3Ideal.main_arg0) = m' ((c.tc : Thread Cert.NormRef3Ideal.nD Cert.NormRef3Ideal.τ).loc Cert.NormRef3Ideal.main_arg0)
          ∧ r.2.mem ((c.tc : Thread Cert.NormRef3Ideal.nD Cert.NormRef3Ideal.τ).loc Cert.NormRef3Ideal.main_arg1) = m' ((c.tc : Thread Cert.NormRef3Ideal.nD Cert.NormRef3Ideal.τ).loc Cert.NormRef3Ideal.main_arg1)
          ∧ r.2.mem ((c.tc : Thread Cert.NormRef3Ideal.nD Cert.NormRef3Ideal.τ).loc Cert.NormRef3Ideal.main_arg2) = m' ((c.tc : Thread Cert.NormRef3Ideal.nD Cert.NormRef3Ideal.τ).loc Cert.NormRef3Ideal.main_arg2)
          ∧ r.2.mem ((c.tc : Thread Cert.NormRef3Ideal.nD Cert.NormRef3Ideal.τ).loc Cert.NormRef3Ideal.main_arg3) = m' ((c.tc : Thread Cert.NormRef3Ideal.nD Cert.NormRef3Ideal.τ).loc Cert.NormRef3Ideal.main_arg3))

def preserves_Norm4_Norm4Ideal : Prop :=
  True

def algebraic_Norm4Ideal_NormRef4Ideal_pre_nonneg4 [hNorm4Ideal : Cert.Norm4Ideal.Facts] [hNormRef4Ideal : Cert.NormRef4Ideal.Facts] [hPre_nonneg4 : Cert.Pre_nonneg4.Facts] : Prop :=
  ∀ (m : (ℓ : Loc Cert.Norm4Ideal.nD Cert.Norm4Ideal.τ Cert.Norm4Ideal.sig) → Buf (Elt Ideal) ℓ) (g : Dev Cert.Norm4Ideal.nD → PrngReg)
    (m' : (ℓ : Loc Cert.NormRef4Ideal.nD Cert.NormRef4Ideal.τ Cert.NormRef4Ideal.sig) → Buf (Elt Ideal) ℓ) (g' : Dev Cert.NormRef4Ideal.nD → PrngReg), Pre_Norm4Ideal_nonneg4 m →
    (∀ c : Dev Cert.Norm4Ideal.nD,
      m' ((c.tc : Thread Cert.NormRef4Ideal.nD Cert.NormRef4Ideal.τ).loc Cert.NormRef4Ideal.main_arg0) = m ((c.tc : Thread Cert.Norm4Ideal.nD Cert.Norm4Ideal.τ).loc Cert.Norm4Ideal.main_arg0)
      ∧ m' ((c.tc : Thread Cert.NormRef4Ideal.nD Cert.NormRef4Ideal.τ).loc Cert.NormRef4Ideal.main_arg1) = m ((c.tc : Thread Cert.Norm4Ideal.nD Cert.Norm4Ideal.τ).loc Cert.Norm4Ideal.main_arg1)
      ∧ m' ((c.tc : Thread Cert.NormRef4Ideal.nD Cert.NormRef4Ideal.τ).loc Cert.NormRef4Ideal.main_arg2) = m ((c.tc : Thread Cert.Norm4Ideal.nD Cert.Norm4Ideal.τ).loc Cert.Norm4Ideal.main_arg2)
      ∧ m' ((c.tc : Thread Cert.NormRef4Ideal.nD Cert.NormRef4Ideal.τ).loc Cert.NormRef4Ideal.main_arg3) = m ((c.tc : Thread Cert.Norm4Ideal.nD Cert.Norm4Ideal.τ).loc Cert.Norm4Ideal.main_arg3)) →
    ∃ (v0 : (c : Dev Cert.Norm4Ideal.nD) → Buf (Elt Ideal) ((c.tc : Thread Cert.Norm4Ideal.nD Cert.Norm4Ideal.τ).loc Cert.Norm4Ideal.main_v14)),
      θ_run (Cert.Norm4Ideal.defs (F := Ideal)) (onTc (τ := Cert.Norm4Ideal.τ) (Cert.Norm4Ideal.main (F := Ideal))) ⟨m, fun _ => 0, g⟩ (fun r => ∀ c : Dev Cert.Norm4Ideal.nD,
          r.2.mem ((c.tc : Thread Cert.Norm4Ideal.nD Cert.Norm4Ideal.τ).loc Cert.Norm4Ideal.main_v14) = v0 c
          ∧ r.2.mem ((c.tc : Thread Cert.Norm4Ideal.nD Cert.Norm4Ideal.τ).loc Cert.Norm4Ideal.main_arg0) = m ((c.tc : Thread Cert.Norm4Ideal.nD Cert.Norm4Ideal.τ).loc Cert.Norm4Ideal.main_arg0)
          ∧ r.2.mem ((c.tc : Thread Cert.Norm4Ideal.nD Cert.Norm4Ideal.τ).loc Cert.Norm4Ideal.main_arg1) = m ((c.tc : Thread Cert.Norm4Ideal.nD Cert.Norm4Ideal.τ).loc Cert.Norm4Ideal.main_arg1)
          ∧ r.2.mem ((c.tc : Thread Cert.Norm4Ideal.nD Cert.Norm4Ideal.τ).loc Cert.Norm4Ideal.main_arg2) = m ((c.tc : Thread Cert.Norm4Ideal.nD Cert.Norm4Ideal.τ).loc Cert.Norm4Ideal.main_arg2)
          ∧ r.2.mem ((c.tc : Thread Cert.Norm4Ideal.nD Cert.Norm4Ideal.τ).loc Cert.Norm4Ideal.main_arg3) = m ((c.tc : Thread Cert.Norm4Ideal.nD Cert.Norm4Ideal.τ).loc Cert.Norm4Ideal.main_arg3))
      ∧ θ_run (Cert.NormRef4Ideal.defs (F := Ideal)) (onTc (τ := Cert.NormRef4Ideal.τ) (Cert.NormRef4Ideal.main (F := Ideal))) ⟨m', fun _ => 0, g'⟩ (fun r => ∀ c : Dev Cert.NormRef4Ideal.nD,
          r.2.mem ((c.tc : Thread Cert.NormRef4Ideal.nD Cert.NormRef4Ideal.τ).loc Cert.NormRef4Ideal.main_v20) = v0 c
          ∧ r.2.mem ((c.tc : Thread Cert.NormRef4Ideal.nD Cert.NormRef4Ideal.τ).loc Cert.NormRef4Ideal.main_arg0) = m' ((c.tc : Thread Cert.NormRef4Ideal.nD Cert.NormRef4Ideal.τ).loc Cert.NormRef4Ideal.main_arg0)
          ∧ r.2.mem ((c.tc : Thread Cert.NormRef4Ideal.nD Cert.NormRef4Ideal.τ).loc Cert.NormRef4Ideal.main_arg1) = m' ((c.tc : Thread Cert.NormRef4Ideal.nD Cert.NormRef4Ideal.τ).loc Cert.NormRef4Ideal.main_arg1)
          ∧ r.2.mem ((c.tc : Thread Cert.NormRef4Ideal.nD Cert.NormRef4Ideal.τ).loc Cert.NormRef4Ideal.main_arg2) = m' ((c.tc : Thread Cert.NormRef4Ideal.nD Cert.NormRef4Ideal.τ).loc Cert.NormRef4Ideal.main_arg2)
          ∧ r.2.mem ((c.tc : Thread Cert.NormRef4Ideal.nD Cert.NormRef4Ideal.τ).loc Cert.NormRef4Ideal.main_arg3) = m' ((c.tc : Thread Cert.NormRef4Ideal.nD Cert.NormRef4Ideal.τ).loc Cert.NormRef4Ideal.main_arg3))

def preserves_Norm5_Norm5Ideal : Prop :=
  True

def algebraic_Norm5Ideal_NormRef5Ideal_pre_nonneg5 [hNorm5Ideal : Cert.Norm5Ideal.Facts] [hNormRef5Ideal : Cert.NormRef5Ideal.Facts] [hPre_nonneg5 : Cert.Pre_nonneg5.Facts] : Prop :=
  ∀ (m : (ℓ : Loc Cert.Norm5Ideal.nD Cert.Norm5Ideal.τ Cert.Norm5Ideal.sig) → Buf (Elt Ideal) ℓ) (g : Dev Cert.Norm5Ideal.nD → PrngReg)
    (m' : (ℓ : Loc Cert.NormRef5Ideal.nD Cert.NormRef5Ideal.τ Cert.NormRef5Ideal.sig) → Buf (Elt Ideal) ℓ) (g' : Dev Cert.NormRef5Ideal.nD → PrngReg), Pre_Norm5Ideal_nonneg5 m →
    (∀ c : Dev Cert.Norm5Ideal.nD,
      m' ((c.tc : Thread Cert.NormRef5Ideal.nD Cert.NormRef5Ideal.τ).loc Cert.NormRef5Ideal.main_arg0) = m ((c.tc : Thread Cert.Norm5Ideal.nD Cert.Norm5Ideal.τ).loc Cert.Norm5Ideal.main_arg0)
      ∧ m' ((c.tc : Thread Cert.NormRef5Ideal.nD Cert.NormRef5Ideal.τ).loc Cert.NormRef5Ideal.main_arg1) = m ((c.tc : Thread Cert.Norm5Ideal.nD Cert.Norm5Ideal.τ).loc Cert.Norm5Ideal.main_arg1)
      ∧ m' ((c.tc : Thread Cert.NormRef5Ideal.nD Cert.NormRef5Ideal.τ).loc Cert.NormRef5Ideal.main_arg2) = m ((c.tc : Thread Cert.Norm5Ideal.nD Cert.Norm5Ideal.τ).loc Cert.Norm5Ideal.main_arg2)
      ∧ m' ((c.tc : Thread Cert.NormRef5Ideal.nD Cert.NormRef5Ideal.τ).loc Cert.NormRef5Ideal.main_arg3) = m ((c.tc : Thread Cert.Norm5Ideal.nD Cert.Norm5Ideal.τ).loc Cert.Norm5Ideal.main_arg3)) →
    ∃ (v0 : (c : Dev Cert.Norm5Ideal.nD) → Buf (Elt Ideal) ((c.tc : Thread Cert.Norm5Ideal.nD Cert.Norm5Ideal.τ).loc Cert.Norm5Ideal.main_v14)),
      θ_run (Cert.Norm5Ideal.defs (F := Ideal)) (onTc (τ := Cert.Norm5Ideal.τ) (Cert.Norm5Ideal.main (F := Ideal))) ⟨m, fun _ => 0, g⟩ (fun r => ∀ c : Dev Cert.Norm5Ideal.nD,
          r.2.mem ((c.tc : Thread Cert.Norm5Ideal.nD Cert.Norm5Ideal.τ).loc Cert.Norm5Ideal.main_v14) = v0 c
          ∧ r.2.mem ((c.tc : Thread Cert.Norm5Ideal.nD Cert.Norm5Ideal.τ).loc Cert.Norm5Ideal.main_arg0) = m ((c.tc : Thread Cert.Norm5Ideal.nD Cert.Norm5Ideal.τ).loc Cert.Norm5Ideal.main_arg0)
          ∧ r.2.mem ((c.tc : Thread Cert.Norm5Ideal.nD Cert.Norm5Ideal.τ).loc Cert.Norm5Ideal.main_arg1) = m ((c.tc : Thread Cert.Norm5Ideal.nD Cert.Norm5Ideal.τ).loc Cert.Norm5Ideal.main_arg1)
          ∧ r.2.mem ((c.tc : Thread Cert.Norm5Ideal.nD Cert.Norm5Ideal.τ).loc Cert.Norm5Ideal.main_arg2) = m ((c.tc : Thread Cert.Norm5Ideal.nD Cert.Norm5Ideal.τ).loc Cert.Norm5Ideal.main_arg2)
          ∧ r.2.mem ((c.tc : Thread Cert.Norm5Ideal.nD Cert.Norm5Ideal.τ).loc Cert.Norm5Ideal.main_arg3) = m ((c.tc : Thread Cert.Norm5Ideal.nD Cert.Norm5Ideal.τ).loc Cert.Norm5Ideal.main_arg3))
      ∧ θ_run (Cert.NormRef5Ideal.defs (F := Ideal)) (onTc (τ := Cert.NormRef5Ideal.τ) (Cert.NormRef5Ideal.main (F := Ideal))) ⟨m', fun _ => 0, g'⟩ (fun r => ∀ c : Dev Cert.NormRef5Ideal.nD,
          r.2.mem ((c.tc : Thread Cert.NormRef5Ideal.nD Cert.NormRef5Ideal.τ).loc Cert.NormRef5Ideal.main_v22) = v0 c
          ∧ r.2.mem ((c.tc : Thread Cert.NormRef5Ideal.nD Cert.NormRef5Ideal.τ).loc Cert.NormRef5Ideal.main_arg0) = m' ((c.tc : Thread Cert.NormRef5Ideal.nD Cert.NormRef5Ideal.τ).loc Cert.NormRef5Ideal.main_arg0)
          ∧ r.2.mem ((c.tc : Thread Cert.NormRef5Ideal.nD Cert.NormRef5Ideal.τ).loc Cert.NormRef5Ideal.main_arg1) = m' ((c.tc : Thread Cert.NormRef5Ideal.nD Cert.NormRef5Ideal.τ).loc Cert.NormRef5Ideal.main_arg1)
          ∧ r.2.mem ((c.tc : Thread Cert.NormRef5Ideal.nD Cert.NormRef5Ideal.τ).loc Cert.NormRef5Ideal.main_arg2) = m' ((c.tc : Thread Cert.NormRef5Ideal.nD Cert.NormRef5Ideal.τ).loc Cert.NormRef5Ideal.main_arg2)
          ∧ r.2.mem ((c.tc : Thread Cert.NormRef5Ideal.nD Cert.NormRef5Ideal.τ).loc Cert.NormRef5Ideal.main_arg3) = m' ((c.tc : Thread Cert.NormRef5Ideal.nD Cert.NormRef5Ideal.τ).loc Cert.NormRef5Ideal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v22) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def Claim : Prop :=
  ∃ (hDown2 : Cert.Down2.Facts) (hDown2Ideal : Cert.Down2Ideal.Facts) (hRef2Ideal : Cert.Ref2Ideal.Facts) (hDown3 : Cert.Down3.Facts) (hDown3Ideal : Cert.Down3Ideal.Facts) (hRef3Ideal : Cert.Ref3Ideal.Facts) (hDown4 : Cert.Down4.Facts) (hDown4Ideal : Cert.Down4Ideal.Facts) (hRef4Ideal : Cert.Ref4Ideal.Facts) (hDown5 : Cert.Down5.Facts) (hDown5Ideal : Cert.Down5Ideal.Facts) (hRef5Ideal : Cert.Ref5Ideal.Facts) (hNorm2 : Cert.Norm2.Facts) (hNorm2Ideal : Cert.Norm2Ideal.Facts) (hNormRef2Ideal : Cert.NormRef2Ideal.Facts) (hNorm3 : Cert.Norm3.Facts) (hNorm3Ideal : Cert.Norm3Ideal.Facts) (hNormRef3Ideal : Cert.NormRef3Ideal.Facts) (hNorm4 : Cert.Norm4.Facts) (hNorm4Ideal : Cert.Norm4Ideal.Facts) (hNormRef4Ideal : Cert.NormRef4Ideal.Facts) (hNorm5 : Cert.Norm5.Facts) (hNorm5Ideal : Cert.Norm5Ideal.Facts) (hNormRef5Ideal : Cert.NormRef5Ideal.Facts) (hMlp : Cert.Mlp.Facts) (hMlpIdeal : Cert.MlpIdeal.Facts) (hMlpRefIdeal : Cert.MlpRefIdeal.Facts) (hPre_bounded2 : Cert.Pre_bounded2.Facts) (hPre_bounded3 : Cert.Pre_bounded3.Facts) (hPre_bounded4 : Cert.Pre_bounded4.Facts) (hPre_bounded5 : Cert.Pre_bounded5.Facts) (hPre_nonneg2 : Cert.Pre_nonneg2.Facts) (hPre_nonneg3 : Cert.Pre_nonneg3.Facts) (hPre_nonneg4 : Cert.Pre_nonneg4.Facts) (hPre_nonneg5 : Cert.Pre_nonneg5.Facts),
    quiescent_Down2 (hDown2 := hDown2)
    ∧ quiescent_Down2Ideal (hDown2Ideal := hDown2Ideal)
    ∧ quiescent_Down2Ideal_pre_bounded2 (hDown2Ideal := hDown2Ideal) (hPre_bounded2 := hPre_bounded2)
    ∧ quiescent_Ref2Ideal (hRef2Ideal := hRef2Ideal)
    ∧ quiescent_Ref2Ideal_pre_bounded2 (hRef2Ideal := hRef2Ideal) (hPre_bounded2 := hPre_bounded2)
    ∧ quiescent_Down3 (hDown3 := hDown3)
    ∧ quiescent_Down3Ideal (hDown3Ideal := hDown3Ideal)
    ∧ quiescent_Down3Ideal_pre_bounded3 (hDown3Ideal := hDown3Ideal) (hPre_bounded3 := hPre_bounded3)
    ∧ quiescent_Ref3Ideal (hRef3Ideal := hRef3Ideal)
    ∧ quiescent_Ref3Ideal_pre_bounded3 (hRef3Ideal := hRef3Ideal) (hPre_bounded3 := hPre_bounded3)
    ∧ quiescent_Down4 (hDown4 := hDown4)
    ∧ quiescent_Down4Ideal (hDown4Ideal := hDown4Ideal)
    ∧ quiescent_Down4Ideal_pre_bounded4 (hDown4Ideal := hDown4Ideal) (hPre_bounded4 := hPre_bounded4)
    ∧ quiescent_Ref4Ideal (hRef4Ideal := hRef4Ideal)
    ∧ quiescent_Ref4Ideal_pre_bounded4 (hRef4Ideal := hRef4Ideal) (hPre_bounded4 := hPre_bounded4)
    ∧ quiescent_Down5 (hDown5 := hDown5)
    ∧ quiescent_Down5Ideal (hDown5Ideal := hDown5Ideal)
    ∧ quiescent_Down5Ideal_pre_bounded5 (hDown5Ideal := hDown5Ideal) (hPre_bounded5 := hPre_bounded5)
    ∧ quiescent_Ref5Ideal (hRef5Ideal := hRef5Ideal)
    ∧ quiescent_Ref5Ideal_pre_bounded5 (hRef5Ideal := hRef5Ideal) (hPre_bounded5 := hPre_bounded5)
    ∧ quiescent_Norm2 (hNorm2 := hNorm2)
    ∧ quiescent_Norm2Ideal (hNorm2Ideal := hNorm2Ideal)
    ∧ quiescent_Norm2Ideal_pre_nonneg2 (hNorm2Ideal := hNorm2Ideal) (hPre_nonneg2 := hPre_nonneg2)
    ∧ quiescent_NormRef2Ideal (hNormRef2Ideal := hNormRef2Ideal)
    ∧ quiescent_NormRef2Ideal_pre_nonneg2 (hNormRef2Ideal := hNormRef2Ideal) (hPre_nonneg2 := hPre_nonneg2)
    ∧ quiescent_Norm3 (hNorm3 := hNorm3)
    ∧ quiescent_Norm3Ideal (hNorm3Ideal := hNorm3Ideal)
    ∧ quiescent_Norm3Ideal_pre_nonneg3 (hNorm3Ideal := hNorm3Ideal) (hPre_nonneg3 := hPre_nonneg3)
    ∧ quiescent_NormRef3Ideal (hNormRef3Ideal := hNormRef3Ideal)
    ∧ quiescent_NormRef3Ideal_pre_nonneg3 (hNormRef3Ideal := hNormRef3Ideal) (hPre_nonneg3 := hPre_nonneg3)
    ∧ quiescent_Norm4 (hNorm4 := hNorm4)
    ∧ quiescent_Norm4Ideal (hNorm4Ideal := hNorm4Ideal)
    ∧ quiescent_Norm4Ideal_pre_nonneg4 (hNorm4Ideal := hNorm4Ideal) (hPre_nonneg4 := hPre_nonneg4)
    ∧ quiescent_NormRef4Ideal (hNormRef4Ideal := hNormRef4Ideal)
    ∧ quiescent_NormRef4Ideal_pre_nonneg4 (hNormRef4Ideal := hNormRef4Ideal) (hPre_nonneg4 := hPre_nonneg4)
    ∧ quiescent_Norm5 (hNorm5 := hNorm5)
    ∧ quiescent_Norm5Ideal (hNorm5Ideal := hNorm5Ideal)
    ∧ quiescent_Norm5Ideal_pre_nonneg5 (hNorm5Ideal := hNorm5Ideal) (hPre_nonneg5 := hPre_nonneg5)
    ∧ quiescent_NormRef5Ideal (hNormRef5Ideal := hNormRef5Ideal)
    ∧ quiescent_NormRef5Ideal_pre_nonneg5 (hNormRef5Ideal := hNormRef5Ideal) (hPre_nonneg5 := hPre_nonneg5)
    ∧ quiescent_Mlp (hMlp := hMlp)
    ∧ quiescent_MlpIdeal (hMlpIdeal := hMlpIdeal)
    ∧ quiescent_MlpRefIdeal (hMlpRefIdeal := hMlpRefIdeal)
    ∧ preserves_Down2_Down2Ideal
    ∧ algebraic_Down2Ideal_Ref2Ideal_pre_bounded2 (hDown2Ideal := hDown2Ideal) (hRef2Ideal := hRef2Ideal) (hPre_bounded2 := hPre_bounded2)
    ∧ preserves_Down3_Down3Ideal
    ∧ algebraic_Down3Ideal_Ref3Ideal_pre_bounded3 (hDown3Ideal := hDown3Ideal) (hRef3Ideal := hRef3Ideal) (hPre_bounded3 := hPre_bounded3)
    ∧ preserves_Down4_Down4Ideal
    ∧ algebraic_Down4Ideal_Ref4Ideal_pre_bounded4 (hDown4Ideal := hDown4Ideal) (hRef4Ideal := hRef4Ideal) (hPre_bounded4 := hPre_bounded4)
    ∧ preserves_Down5_Down5Ideal
    ∧ algebraic_Down5Ideal_Ref5Ideal_pre_bounded5 (hDown5Ideal := hDown5Ideal) (hRef5Ideal := hRef5Ideal) (hPre_bounded5 := hPre_bounded5)
    ∧ preserves_Norm2_Norm2Ideal
    ∧ algebraic_Norm2Ideal_NormRef2Ideal_pre_nonneg2 (hNorm2Ideal := hNorm2Ideal) (hNormRef2Ideal := hNormRef2Ideal) (hPre_nonneg2 := hPre_nonneg2)
    ∧ preserves_Norm3_Norm3Ideal
    ∧ algebraic_Norm3Ideal_NormRef3Ideal_pre_nonneg3 (hNorm3Ideal := hNorm3Ideal) (hNormRef3Ideal := hNormRef3Ideal) (hPre_nonneg3 := hPre_nonneg3)
    ∧ preserves_Norm4_Norm4Ideal
    ∧ algebraic_Norm4Ideal_NormRef4Ideal_pre_nonneg4 (hNorm4Ideal := hNorm4Ideal) (hNormRef4Ideal := hNormRef4Ideal) (hPre_nonneg4 := hPre_nonneg4)
    ∧ preserves_Norm5_Norm5Ideal
    ∧ algebraic_Norm5Ideal_NormRef5Ideal_pre_nonneg5 (hNorm5Ideal := hNorm5Ideal) (hNormRef5Ideal := hNormRef5Ideal) (hPre_nonneg5 := hPre_nonneg5)
    ∧ preserves_Mlp_MlpIdeal
    ∧ algebraic_MlpIdeal_MlpRefIdeal (hMlpIdeal := hMlpIdeal) (hMlpRefIdeal := hMlpRefIdeal)
-- ==== Pre_bounded2.lean ====
abbrev S4x4096x3 : Shape := ⟨3, ![4, 4096, 3]⟩
abbrev S4x1024x3 : Shape := ⟨3, ![4, 1024, 3]⟩
abbrev S4x4096x32 : Shape := ⟨3, ![4, 4096, 32]⟩
abbrev S35x64 : Shape := ⟨2, ![35, 64]⟩
abbrev S_ : Shape := ⟨0, ![]⟩
abbrev S3x64 : Shape := ⟨2, ![3, 64]⟩

class Facts : Prop where
  bcast_S_S4x4096x3 : S_.BroadcastsInDim S4x4096x3 (![] : Fin 0 → Fin S4x4096x3.rank)
  bcast_S_S4x1024x3 : S_.BroadcastsInDim S4x1024x3 (![] : Fin 0 → Fin S4x1024x3.rank)
  slices_S35x64_S3x64_0_0 : S35x64.Slices ![0, 0] S3x64
  bcast_S_S3x64 : S_.BroadcastsInDim S3x64 (![] : Fin 0 → Fin S3x64.rank)

variable [Facts]

def fn {F : FTy → Type} [FloatOps F] (main_arg0 : FVec F S4x4096x3 .f32) (main_arg1 : FVec F S4x1024x3 .f32) (main_arg2 : FVec F S4x4096x32 .f32) (main_arg3 : FVec F S35x64 .f32) : IVec S4x4096x3 1 × IVec S4x1024x3 1 × IVec S3x64 1 :=
  let main_v0 : FVec F S4x4096x3 .f32 := Host.absf main_arg0
  let main_cst : FVec F S_ .f32 := constant S_ .f32 0x5E000000#32
  let main_v1 : FVec F S4x4096x3 .f32 := broadcastInDim S4x4096x3 ![] bcast_S_S4x4096x3 main_cst
  let main_v2 : IVec S4x4096x3 1 := cmpf .ole main_v0 main_v1
  let main_v3 : FVec F S4x1024x3 .f32 := Host.absf main_arg1
  let main_cst_0 : FVec F S_ .f32 := constant S_ .f32 0x5E000000#32
  let main_v4 : FVec F S4x1024x3 .f32 := broadcastInDim S4x1024x3 ![] bcast_S_S4x1024x3 main_cst_0
  let main_v5 : IVec S4x1024x3 1 := cmpf .ole main_v3 main_v4
  let main_v6 : FVec F S3x64 .f32 := (extractStridedSlice S3x64 ![0, 0] · slices_S35x64_S3x64_0_0) main_arg3
  let main_v7 : FVec F S3x64 .f32 := Host.absf main_v6
  let main_cst_1 : FVec F S_ .f32 := constant S_ .f32 0x7F800000#32
  let main_v8 : FVec F S3x64 .f32 := broadcastInDim S3x64 ![] bcast_S_S3x64 main_cst_1
  let main_v9 : IVec S3x64 1 := cmpf .olt main_v7 main_v8
  (main_v2, main_v5, main_v9)
-- ==== Pre_bounded3.lean ====
abbrev S4x1024x3 : Shape := ⟨3, ![4, 1024, 3]⟩
abbrev S4x256x3 : Shape := ⟨3, ![4, 256, 3]⟩
abbrev S4x1024x64 : Shape := ⟨3, ![4, 1024, 64]⟩
abbrev S67x128 : Shape := ⟨2, ![67, 128]⟩
abbrev S_ : Shape := ⟨0, ![]⟩
abbrev S3x128 : Shape := ⟨2, ![3, 128]⟩

class Facts : Prop where
  bcast_S_S4x1024x3 : S_.BroadcastsInDim S4x1024x3 (![] : Fin 0 → Fin S4x1024x3.rank)
  bcast_S_S4x256x3 : S_.BroadcastsInDim S4x256x3 (![] : Fin 0 → Fin S4x256x3.rank)
  slices_S67x128_S3x128_0_0 : S67x128.Slices ![0, 0] S3x128
  bcast_S_S3x128 : S_.BroadcastsInDim S3x128 (![] : Fin 0 → Fin S3x128.rank)

variable [Facts]

def fn {F : FTy → Type} [FloatOps F] (main_arg0 : FVec F S4x1024x3 .f32) (main_arg1 : FVec F S4x256x3 .f32) (main_arg2 : FVec F S4x1024x64 .f32) (main_arg3 : FVec F S67x128 .f32) : IVec S4x1024x3 1 × IVec S4x256x3 1 × IVec S3x128 1 :=
  let main_v0 : FVec F S4x1024x3 .f32 := Host.absf main_arg0
  let main_cst : FVec F S_ .f32 := constant S_ .f32 0x5E000000#32
  let main_v1 : FVec F S4x1024x3 .f32 := broadcastInDim S4x1024x3 ![] bcast_S_S4x1024x3 main_cst
  let main_v2 : IVec S4x1024x3 1 := cmpf .ole main_v0 main_v1
  let main_v3 : FVec F S4x256x3 .f32 := Host.absf main_arg1
  let main_cst_0 : FVec F S_ .f32 := constant S_ .f32 0x5E000000#32
  let main_v4 : FVec F S4x256x3 .f32 := broadcastInDim S4x256x3 ![] bcast_S_S4x256x3 main_cst_0
  let main_v5 : IVec S4x256x3 1 := cmpf .ole main_v3 main_v4
  let main_v6 : FVec F S3x128 .f32 := (extractStridedSlice S3x128 ![0, 0] · slices_S67x128_S3x128_0_0) main_arg3
  let main_v7 : FVec F S3x128 .f32 := Host.absf main_v6
  let main_cst_1 : FVec F S_ .f32 := constant S_ .f32 0x7F800000#32
  let main_v8 : FVec F S3x128 .f32 := broadcastInDim S3x128 ![] bcast_S_S3x128 main_cst_1
  let main_v9 : IVec S3x128 1 := cmpf .olt main_v7 main_v8
  (main_v2, main_v5, main_v9)
-- ==== Pre_bounded4.lean ====
abbrev S4x256x3 : Shape := ⟨3, ![4, 256, 3]⟩
abbrev S4x64x3 : Shape := ⟨3, ![4, 64, 3]⟩
abbrev S4x256x128 : Shape := ⟨3, ![4, 256, 128]⟩
abbrev S131x256 : Shape := ⟨2, ![131, 256]⟩
abbrev S_ : Shape := ⟨0, ![]⟩
abbrev S3x256 : Shape := ⟨2, ![3, 256]⟩

class Facts : Prop where
  bcast_S_S4x256x3 : S_.BroadcastsInDim S4x256x3 (![] : Fin 0 → Fin S4x256x3.rank)
  bcast_S_S4x64x3 : S_.BroadcastsInDim S4x64x3 (![] : Fin 0 → Fin S4x64x3.rank)
  slices_S131x256_S3x256_0_0 : S131x256.Slices ![0, 0] S3x256
  bcast_S_S3x256 : S_.BroadcastsInDim S3x256 (![] : Fin 0 → Fin S3x256.rank)

variable [Facts]

def fn {F : FTy → Type} [FloatOps F] (main_arg0 : FVec F S4x256x3 .f32) (main_arg1 : FVec F S4x64x3 .f32) (main_arg2 : FVec F S4x256x128 .f32) (main_arg3 : FVec F S131x256 .f32) : IVec S4x256x3 1 × IVec S4x64x3 1 × IVec S3x256 1 :=
  let main_v0 : FVec F S4x256x3 .f32 := Host.absf main_arg0
  let main_cst : FVec F S_ .f32 := constant S_ .f32 0x5E000000#32
  let main_v1 : FVec F S4x256x3 .f32 := broadcastInDim S4x256x3 ![] bcast_S_S4x256x3 main_cst
  let main_v2 : IVec S4x256x3 1 := cmpf .ole main_v0 main_v1
  let main_v3 : FVec F S4x64x3 .f32 := Host.absf main_arg1
  let main_cst_0 : FVec F S_ .f32 := constant S_ .f32 0x5E000000#32
  let main_v4 : FVec F S4x64x3 .f32 := broadcastInDim S4x64x3 ![] bcast_S_S4x64x3 main_cst_0
  let main_v5 : IVec S4x64x3 1 := cmpf .ole main_v3 main_v4
  let main_v6 : FVec F S3x256 .f32 := (extractStridedSlice S3x256 ![0, 0] · slices_S131x256_S3x256_0_0) main_arg3
  let main_v7 : FVec F S3x256 .f32 := Host.absf main_v6
  let main_cst_1 : FVec F S_ .f32 := constant S_ .f32 0x7F800000#32
  let main_v8 : FVec F S3x256 .f32 := broadcastInDim S3x256 ![] bcast_S_S3x256 main_cst_1
  let main_v9 : IVec S3x256 1 := cmpf .olt main_v7 main_v8
  (main_v2, main_v5, main_v9)
-- ==== Pre_bounded5.lean ====
abbrev S4x64x3 : Shape := ⟨3, ![4, 64, 3]⟩
abbrev S4x16x3 : Shape := ⟨3, ![4, 16, 3]⟩
abbrev S4x64x256 : Shape := ⟨3, ![4, 64, 256]⟩
abbrev S259x1024 : Shape := ⟨2, ![259, 1024]⟩
abbrev S_ : Shape := ⟨0, ![]⟩
abbrev S3x1024 : Shape := ⟨2, ![3, 1024]⟩

class Facts : Prop where
  bcast_S_S4x64x3 : S_.BroadcastsInDim S4x64x3 (![] : Fin 0 → Fin S4x64x3.rank)
  bcast_S_S4x16x3 : S_.BroadcastsInDim S4x16x3 (![] : Fin 0 → Fin S4x16x3.rank)
  slices_S259x1024_S3x1024_0_0 : S259x1024.Slices ![0, 0] S3x1024
  bcast_S_S3x1024 : S_.BroadcastsInDim S3x1024 (![] : Fin 0 → Fin S3x1024.rank)

variable [Facts]

def fn {F : FTy → Type} [FloatOps F] (main_arg0 : FVec F S4x64x3 .f32) (main_arg1 : FVec F S4x16x3 .f32) (main_arg2 : FVec F S4x64x256 .f32) (main_arg3 : FVec F S259x1024 .f32) : IVec S4x64x3 1 × IVec S4x16x3 1 × IVec S3x1024 1 :=
  let main_v0 : FVec F S4x64x3 .f32 := Host.absf main_arg0
  let main_cst : FVec F S_ .f32 := constant S_ .f32 0x5E000000#32
  let main_v1 : FVec F S4x64x3 .f32 := broadcastInDim S4x64x3 ![] bcast_S_S4x64x3 main_cst
  let main_v2 : IVec S4x64x3 1 := cmpf .ole main_v0 main_v1
  let main_v3 : FVec F S4x16x3 .f32 := Host.absf main_arg1
  let main_cst_0 : FVec F S_ .f32 := constant S_ .f32 0x5E000000#32
  let main_v4 : FVec F S4x16x3 .f32 := broadcastInDim S4x16x3 ![] bcast_S_S4x16x3 main_cst_0
  let main_v5 : IVec S4x16x3 1 := cmpf .ole main_v3 main_v4
  let main_v6 : FVec F S3x1024 .f32 := (extractStridedSlice S3x1024 ![0, 0] · slices_S259x1024_S3x1024_0_0) main_arg3
  let main_v7 : FVec F S3x1024 .f32 := Host.absf main_v6
  let main_cst_1 : FVec F S_ .f32 := constant S_ .f32 0x7F800000#32
  let main_v8 : FVec F S3x1024 .f32 := broadcastInDim S3x1024 ![] bcast_S_S3x1024 main_cst_1
  let main_v9 : IVec S3x1024 1 := cmpf .olt main_v7 main_v8
  (main_v2, main_v5, main_v9)
-- ==== Pre_nonneg2.lean ====
abbrev S4x1024x16x64 : Shape := ⟨4, ![4, 1024, 16, 64]⟩
abbrev S4x1024x3 : Shape := ⟨3, ![4, 1024, 3]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S4x1024x16x64 .f32) (main_arg1 : FVec F S4x1024x3 .f32) (main_arg2 : FVec F S64 .f32) (main_arg3 : FVec F S64 .f32) : IVec S64 1 :=
  let main_cst : FVec F S_ .f32 := constant S_ .f32 0x00000000#32
  let main_v0 : FVec F S64 .f32 := broadcastInDim S64 ![] bcast_S_S64 main_cst
  let main_v1 : IVec S64 1 := cmpf .oge main_arg2 main_v0
  main_v1
-- ==== Pre_nonneg3.lean ====
abbrev S4x256x16x128 : Shape := ⟨4, ![4, 256, 16, 128]⟩
abbrev S4x256x3 : Shape := ⟨3, ![4, 256, 3]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S4x256x16x128 .f32) (main_arg1 : FVec F S4x256x3 .f32) (main_arg2 : FVec F S128 .f32) (main_arg3 : FVec F S128 .f32) : IVec S128 1 :=
  let main_cst : FVec F S_ .f32 := constant S_ .f32 0x00000000#32
  let main_v0 : FVec F S128 .f32 := broadcastInDim S128 ![] bcast_S_S128 main_cst
  let main_v1 : IVec S128 1 := cmpf .oge main_arg2 main_v0
  main_v1
-- ==== Pre_nonneg4.lean ====
abbrev S4x64x16x256 : Shape := ⟨4, ![4, 64, 16, 256]⟩
abbrev S4x64x3 : Shape := ⟨3, ![4, 64, 3]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S4x64x16x256 .f32) (main_arg1 : FVec F S4x64x3 .f32) (main_arg2 : FVec F S256 .f32) (main_arg3 : FVec F S256 .f32) : IVec S256 1 :=
  let main_cst : FVec F S_ .f32 := constant S_ .f32 0x00000000#32
  let main_v0 : FVec F S256 .f32 := broadcastInDim S256 ![] bcast_S_S256 main_cst
  let main_v1 : IVec S256 1 := cmpf .oge main_arg2 main_v0
  main_v1
-- ==== Pre_nonneg5.lean ====
abbrev S4x16x16x1024 : Shape := ⟨4, ![4, 16, 16, 1024]⟩
abbrev S4x16x3 : Shape := ⟨3, ![4, 16, 3]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S4x16x16x1024 .f32) (main_arg1 : FVec F S4x16x3 .f32) (main_arg2 : FVec F S1024 .f32) (main_arg3 : FVec F S1024 .f32) : IVec S1024 1 :=
  let main_cst : FVec F S_ .f32 := constant S_ .f32 0x00000000#32
  let main_v0 : FVec F S1024 .f32 := broadcastInDim S1024 ![] bcast_S_S1024 main_cst
  let main_v1 : IVec S1024 1 := cmpf .oge main_arg2 main_v0
  main_v1
-- ==== Down2.lean ====
abbrev S4x4096x3 : Shape := ⟨3, ![4, 4096, 3]⟩
abbrev S4x1024x3 : Shape := ⟨3, ![4, 1024, 3]⟩
abbrev S4x4096x32 : Shape := ⟨3, ![4, 4096, 32]⟩
abbrev S35x64 : Shape := ⟨2, ![35, 64]⟩
abbrev S4x4096x35 : Shape := ⟨3, ![4, 4096, 35]⟩
abbrev S4x4096x1 : Shape := ⟨3, ![4, 4096, 1]⟩
abbrev S4x4096 : Shape := ⟨2, ![4, 4096]⟩
abbrev S4x1024x1 : Shape := ⟨3, ![4, 1024, 1]⟩
abbrev S4x1024 : Shape := ⟨2, ![4, 1024]⟩
abbrev S4x1x4096 : Shape := ⟨3, ![4, 1, 4096]⟩
abbrev S4x1024x64 : Shape := ⟨3, ![4, 1024, 64]⟩
abbrev S1x64 : Shape := ⟨2, ![1, 64]⟩
abbrev S1x1x4096 : Shape := ⟨3, ![1, 1, 4096]⟩
abbrev S1x128x1 : Shape := ⟨3, ![1, 128, 1]⟩
abbrev S1x4096x35 : Shape := ⟨3, ![1, 4096, 35]⟩
abbrev S1x128x64 : Shape := ⟨3, ![1, 128, 64]⟩
abbrev S1x4096 : Shape := ⟨2, ![1, 4096]⟩
abbrev S128x1 : Shape := ⟨2, ![128, 1]⟩
abbrev S4096x35 : Shape := ⟨2, ![4096, 35]⟩
abbrev S128x4096 : Shape := ⟨2, ![128, 4096]⟩
abbrev S128x3 : Shape := ⟨2, ![128, 3]⟩
abbrev S3x64 : Shape := ⟨2, ![3, 64]⟩
abbrev S128x64 : Shape := ⟨2, ![128, 64]⟩
abbrev S128 : Shape := ⟨1, ![128]⟩
abbrev S128x35 : Shape := ⟨2, ![128, 35]⟩
abbrev S64 : Shape := ⟨1, ![64]⟩

abbrev nBuf : Space → Nat
  | .hbm => 26
  | .vmem => 19
  | .smem => 0
  | _ => 0

abbrev bufTy : (tb : Table) → Fin (tcTables nBuf tb) → BufTy
  | .hbm, ⟨0, _⟩ => ⟨S4x4096x3, .f32⟩
  | .hbm, ⟨1, _⟩ => ⟨S4x1024x3, .f32⟩
  | .hbm, ⟨2, _⟩ => ⟨S4x4096x32, .f32⟩
  | .hbm, ⟨3, _⟩ => ⟨S35x64, .f32⟩
  | .hbm, ⟨4, _⟩ => ⟨S4x4096x35, .f32⟩
  | .hbm, ⟨5, _⟩ => ⟨S4x4096x1, .f32⟩
  | .hbm, ⟨6, _⟩ => ⟨S4x4096, .f32⟩
  | .hbm, ⟨7, _⟩ => ⟨S4x4096x1, .f32⟩
  | .hbm, ⟨8, _⟩ => ⟨S4x4096, .f32⟩
  | .hbm, ⟨9, _⟩ => ⟨S4x4096x1, .f32⟩
  | .hbm, ⟨10, _⟩ => ⟨S4x4096, .f32⟩
  | .hbm, ⟨11, _⟩ => ⟨S4x1024x1, .f32⟩
  | .hbm, ⟨12, _⟩ => ⟨S4x1024, .f32⟩
  | .hbm, ⟨13, _⟩ => ⟨S4x1024x1, .f32⟩
  | .hbm, ⟨14, _⟩ => ⟨S4x1024, .f32⟩
  | .hbm, ⟨15, _⟩ => ⟨S4x1024x1, .f32⟩
  | .hbm, ⟨16, _⟩ => ⟨S4x1024, .f32⟩
  | .hbm, ⟨17, _⟩ => ⟨S4x1x4096, .f32⟩
  | .hbm, ⟨18, _⟩ => ⟨S4x1x4096, .f32⟩
  | .hbm, ⟨19, _⟩ => ⟨S4x1x4096, .f32⟩
  | .hbm, ⟨20, _⟩ => ⟨S4x1024x1, .f32⟩
  | .hbm, ⟨21, _⟩ => ⟨S4x1024x1, .f32⟩
  | .hbm, ⟨22, _⟩ => ⟨S4x1024x1, .f32⟩
  | .hbm, ⟨23, _⟩ => ⟨S4x1024x64, .f32⟩
  | .hbm, ⟨24, _⟩ => ⟨S1x64, .f32⟩
  | .hbm, ⟨25, _⟩ => ⟨S1x64, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x4096x35, .f32⟩
  | .local _ .vmem, ⟨13, _⟩ => ⟨S1x4096x35, .f32⟩
  | .local _ .vmem, ⟨14, _⟩ => ⟨S35x64, .f32⟩
  | .local _ .vmem, ⟨15, _⟩ => ⟨S1x128x64, .f32⟩
  | .local _ .vmem, ⟨16, _⟩ => ⟨S1x128x64, .f32⟩
  | .local _ .vmem, ⟨17, _⟩ => ⟨S1x64, .f32⟩
  | .local _ .vmem, ⟨18, _⟩ => ⟨S1x64, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v456 : BitVec 32 := Scalar.extui v455
  let c0_i32_188 : BitVec 32 := 0#32
  let v457 : BitVec 1 := Scalar.cmpi .ne v456 c0_i32_188
  v457

def k0_cond2 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v_true : BitVec 1 := 1#1
  let v458 : BitVec 1 := Scalar.xori v455 v_true
  let v459 : BitVec 32 := Scalar.extui v458
  let c0_i32_189 : BitVec 32 := 0#32
  let v460 : BitVec 1 := Scalar.cmpi .ne v459 c0_i32_189
  v460

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x35 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S35x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Ref2Ideal.lean ====
abbrev S4x4096x3 : Shape := ⟨3, ![4, 4096, 3]⟩
abbrev S4x1024x3 : Shape := ⟨3, ![4, 1024, 3]⟩
abbrev S4x4096x32 : Shape := ⟨3, ![4, 4096, 32]⟩
abbrev S35x64 : Shape := ⟨2, ![35, 64]⟩
abbrev S4x1024x1x3 : Shape := ⟨4, ![4, 1024, 1, 3]⟩
abbrev S4x1x4096x3 : Shape := ⟨4, ![4, 1, 4096, 3]⟩
abbrev S4x1024x4096x3 : Shape := ⟨4, ![4, 1024, 4096, 3]⟩
abbrev S_ : Shape := ⟨0, ![]⟩
abbrev S4x1024x4096 : Shape := ⟨3, ![4, 1024, 4096]⟩
abbrev S4x1024x16 : Shape := ⟨3, ![4, 1024, 16]⟩
abbrev S4x1024x16x1 : Shape := ⟨4, ![4, 1024, 16, 1]⟩
abbrev S4x1024x16x3 : Shape := ⟨4, ![4, 1024, 16, 3]⟩
abbrev S4x1024x16x32 : Shape := ⟨4, ![4, 1024, 16, 32]⟩
abbrev S4x1024x16x35 : Shape := ⟨4, ![4, 1024, 16, 35]⟩
abbrev S4x1024x16x64 : Shape := ⟨4, ![4, 1024, 16, 64]⟩
abbrev S64 : Shape := ⟨1, ![64]⟩
abbrev S1x64 : Shape := ⟨2, ![1, 64]⟩
abbrev S4x1024x64 : Shape := ⟨3, ![4, 1024, 64]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x1024x3, .f32⟩
  | .hbm, ⟨2, _⟩ => ⟨S4x4096x32, .f32⟩
  | .hbm, ⟨3, _⟩ => ⟨S35x64, .f32⟩
  | .hbm, ⟨4, _⟩ => ⟨S4x1024x1x3, .f32⟩
  | .hbm, ⟨5, _⟩ => ⟨S4x1x4096x3, .f32⟩
  | .hbm, ⟨6, _⟩ => ⟨S4x1024x4096x3, .f32⟩
  | .hbm, ⟨7, _⟩ => ⟨S4x1024x4096x3, .f32⟩
  | .hbm, ⟨8, _⟩ => ⟨S4x1024x4096x3, .f32⟩
  | .hbm, ⟨9, _⟩ => ⟨S4x1024x4096x3, .f32⟩
  | .hbm, ⟨10, _⟩ => ⟨S_, .f32⟩
  | .hbm, ⟨11, _⟩ => ⟨S4x1024x4096, .f32⟩
  | .hbm, ⟨12, _⟩ => ⟨S4x1024x4096, .f32⟩
  | .hbm, ⟨13, _⟩ => ⟨S4x1024x16, .f32⟩
  | .hbm, ⟨14, _⟩ => ⟨S4x1024x16, .i32⟩
  | .hbm, ⟨15, _⟩ => ⟨S_, .i32⟩
  | .hbm, ⟨16, _⟩ => ⟨S4x1024x16, .i32⟩
  | .hbm, ⟨17, _⟩ => ⟨S4x1024x16, .i1⟩
  | .hbm, ⟨18, _⟩ => ⟨S_, .i32⟩
  | .hbm, ⟨19, _⟩ => ⟨S4x1024x16, .i32⟩
  | .hbm, ⟨20, _⟩ => ⟨S4x1024x16, .i32⟩
  | .hbm, ⟨21, _⟩ => ⟨S4x1024x16, .i32⟩
  | .hbm, ⟨22, _⟩ => ⟨S4x1024x16x1, .i32⟩
  | .hbm, ⟨23, _⟩ => ⟨S4x1024x16x3, .f32⟩
  | .hbm, ⟨24, _⟩ => ⟨S_, .i32⟩
  | .hbm, ⟨25, _⟩ => ⟨S4x1024x16, .i32⟩
  | .hbm, ⟨26, _⟩ => ⟨S4x1024x16, .i1⟩
  | .hbm, ⟨27, _⟩ => ⟨S_, .i32⟩
  | .hbm, ⟨28, _⟩ => ⟨S4x1024x16, .i32⟩
  | .hbm, ⟨29, _⟩ => ⟨S4x1024x16, .i32⟩
  | .hbm, ⟨30, _⟩ => ⟨S4x1024x16, .i32⟩
  | .hbm, ⟨31, _⟩ => ⟨S4x1024x16x1, .i32⟩
  | .hbm, ⟨32, _⟩ => ⟨S4x1024x16x32, .f32⟩
  | .hbm, ⟨33, _⟩ => ⟨S4x1024x1x3, .f32⟩
  | .hbm, ⟨34, _⟩ => ⟨S4x1024x16x3, .f32⟩
  | .hbm, ⟨35, _⟩ => ⟨S4x1024x16x3, .f32⟩
  | .hbm, ⟨36, _⟩ => ⟨S4x1024x16x35, .f32⟩
  | .hbm, ⟨37, _⟩ => ⟨S4x1024x16x64, .f32⟩
  | .hbm, ⟨38, _⟩ => ⟨S_, .f32⟩
  | .hbm, ⟨39, _⟩ => ⟨S64, .f32⟩
  | .hbm, ⟨40, _⟩ => ⟨S1x64, .f32⟩
  | .hbm, ⟨41, _⟩ => ⟨S4x1024x16x64, .f32⟩
  | .hbm, ⟨42, _⟩ => ⟨S_, .f32⟩
  | .hbm, ⟨43, _⟩ => ⟨S64, .f32⟩
  | .hbm, ⟨44, _⟩ => ⟨S1x64, .f32⟩
  | .hbm, ⟨45, _⟩ => ⟨S_, .f32⟩
  | .hbm, ⟨46, _⟩ => ⟨S4x1024x64, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Down3.lean ====
abbrev S4x1024x3 : Shape := ⟨3, ![4, 1024, 3]⟩
abbrev S4x256x3 : Shape := ⟨3, ![4, 256, 3]⟩
abbrev S4x1024x64 : Shape := ⟨3, ![4, 1024, 64]⟩
abbrev S67x128 : Shape := ⟨2, ![67, 128]⟩
abbrev S4x1024x67 : Shape := ⟨3, ![4, 1024, 67]⟩
abbrev S4x1024x1 : Shape := ⟨3, ![4, 1024, 1]⟩
abbrev S4x1024 : Shape := ⟨2, ![4, 1024]⟩
abbrev S4x256x1 : Shape := ⟨3, ![4, 256, 1]⟩
abbrev S4x256 : Shape := ⟨2, ![4, 256]⟩
abbrev S4x1x1024 : Shape := ⟨3, ![4, 1, 1024]⟩
abbrev S4x256x128 : Shape := ⟨3, ![4, 256, 128]⟩
abbrev S1x128 : Shape := ⟨2, ![1, 128]⟩
abbrev S1x1x1024 : Shape := ⟨3, ![1, 1, 1024]⟩
abbrev S1x128x1 : Shape := ⟨3, ![1, 128, 1]⟩
abbrev S1x1024x67 : Shape := ⟨3, ![1, 1024, 67]⟩
abbrev S1x128x128 : Shape := ⟨3, ![1, 128, 128]⟩
abbrev S1x1024 : Shape := ⟨2, ![1, 1024]⟩
abbrev S128x1 : Shape := ⟨2, ![128, 1]⟩
abbrev S1024x67 : Shape := ⟨2, ![1024, 67]⟩
abbrev S128x1024 : Shape := ⟨2, ![128, 1024]⟩
abbrev S128x3 : Shape := ⟨2, ![128, 3]⟩
abbrev S3x128 : Shape := ⟨2, ![3, 128]⟩
abbrev S128x128 : Shape := ⟨2, ![128, 128]⟩
abbrev S128 : Shape := ⟨1, ![128]⟩
abbrev S128x67 : Shape := ⟨2, ![128, 67]⟩

abbrev nBuf : Space → Nat
  | .hbm => 26
  | .vmem => 19
  | .smem => 0
  | _ => 0

abbrev bufTy : (tb : Table) → Fin (tcTables nBuf tb) → BufTy
  | .hbm, ⟨0, _⟩ => ⟨S4x1024x3, .f32⟩
  | .hbm, ⟨1, _⟩ => ⟨S4x256x3, .f32⟩
  | .hbm, ⟨2, _⟩ => ⟨S4x1024x64, .f32⟩
  | .hbm, ⟨3, _⟩ => ⟨S67x128, .f32⟩
  | .hbm, ⟨4, _⟩ => ⟨S4x1024x67, .f32⟩
  | .hbm, ⟨5, _⟩ => ⟨S4x1024x1, .f32⟩
  | .hbm, ⟨6, _⟩ => ⟨S4x1024, .f32⟩
  | .hbm, ⟨7, _⟩ => ⟨S4x1024x1, .f32⟩
  | .hbm, ⟨8, _⟩ => ⟨S4x1024, .f32⟩
  | .hbm, ⟨9, _⟩ => ⟨S4x1024x1, .f32⟩
  | .hbm, ⟨10, _⟩ => ⟨S4x1024, .f32⟩
  | .hbm, ⟨11, _⟩ => ⟨S4x256x1, .f32⟩
  | .hbm, ⟨12, _⟩ => ⟨S4x256, .f32⟩
  | .hbm, ⟨13, _⟩ => ⟨S4x256x1, .f32⟩
  | .hbm, ⟨14, _⟩ => ⟨S4x256, .f32⟩
  | .hbm, ⟨15, _⟩ => ⟨S4x256x1, .f32⟩
  | .hbm, ⟨16, _⟩ => ⟨S4x256, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x256x1, .f32⟩
  | .hbm, ⟨21, _⟩ => ⟨S4x256x1, .f32⟩
  | .hbm, ⟨22, _⟩ => ⟨S4x256x1, .f32⟩
  | .hbm, ⟨23, _⟩ => ⟨S4x256x128, .f32⟩
  | .hbm, ⟨24, _⟩ => ⟨S1x128, .f32⟩
  | .hbm, ⟨25, _⟩ => ⟨S1x128, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x1024x67, .f32⟩
  | .local _ .vmem, ⟨13, _⟩ => ⟨S1x1024x67, .f32⟩
  | .local _ .vmem, ⟨14, _⟩ => ⟨S67x128, .f32⟩
  | .local _ .vmem, ⟨15, _⟩ => ⟨S1x128x128, .f32⟩
  | .local _ .vmem, ⟨16, _⟩ => ⟨S1x128x128, .f32⟩
  | .local _ .vmem, ⟨17, _⟩ => ⟨S1x128, .f32⟩
  | .local _ .vmem, ⟨18, _⟩ => ⟨S1x128, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v456 : BitVec 32 := Scalar.extui v455
  let c0_i32_188 : BitVec 32 := 0#32
  let v457 : BitVec 1 := Scalar.cmpi .ne v456 c0_i32_188
  v457

def k0_cond2 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v_true : BitVec 1 := 1#1
  let v458 : BitVec 1 := Scalar.xori v455 v_true
  let v459 : BitVec 32 := Scalar.extui v458
  let c0_i32_189 : BitVec 32 := 0#32
  let v460 : BitVec 1 := Scalar.cmpi .ne v459 c0_i32_189
  v460

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x67 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S67x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Ref3Ideal.lean ====
abbrev S4x1024x3 : Shape := ⟨3, ![4, 1024, 3]⟩
abbrev S4x256x3 : Shape := ⟨3, ![4, 256, 3]⟩
abbrev S4x1024x64 : Shape := ⟨3, ![4, 1024, 64]⟩
abbrev S67x128 : Shape := ⟨2, ![67, 128]⟩
abbrev S4x256x1x3 : Shape := ⟨4, ![4, 256, 1, 3]⟩
abbrev S4x1x1024x3 : Shape := ⟨4, ![4, 1, 1024, 3]⟩
abbrev S4x256x1024x3 : Shape := ⟨4, ![4, 256, 1024, 3]⟩
abbrev S_ : Shape := ⟨0, ![]⟩
abbrev S4x256x1024 : Shape := ⟨3, ![4, 256, 1024]⟩
abbrev S4x256x16 : Shape := ⟨3, ![4, 256, 16]⟩
abbrev S4x256x16x1 : Shape := ⟨4, ![4, 256, 16, 1]⟩
abbrev S4x256x16x3 : Shape := ⟨4, ![4, 256, 16, 3]⟩
abbrev S4x256x16x64 : Shape := ⟨4, ![4, 256, 16, 64]⟩
abbrev S4x256x16x67 : Shape := ⟨4, ![4, 256, 16, 67]⟩
abbrev S4x256x16x128 : Shape := ⟨4, ![4, 256, 16, 128]⟩
abbrev S128 : Shape := ⟨1, ![128]⟩
abbrev S1x128 : Shape := ⟨2, ![1, 128]⟩
abbrev S4x256x128 : Shape := ⟨3, ![4, 256, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x256x3, .f32⟩
  | .hbm, ⟨2, _⟩ => ⟨S4x1024x64, .f32⟩
  | .hbm, ⟨3, _⟩ => ⟨S67x128, .f32⟩
  | .hbm, ⟨4, _⟩ => ⟨S4x256x1x3, .f32⟩
  | .hbm, ⟨5, _⟩ => ⟨S4x1x1024x3, .f32⟩
  | .hbm, ⟨6, _⟩ => ⟨S4x256x1024x3, .f32⟩
  | .hbm, ⟨7, _⟩ => ⟨S4x256x1024x3, .f32⟩
  | .hbm, ⟨8, _⟩ => ⟨S4x256x1024x3, .f32⟩
  | .hbm, ⟨9, _⟩ => ⟨S4x256x1024x3, .f32⟩
  | .hbm, ⟨10, _⟩ => ⟨S_, .f32⟩
  | .hbm, ⟨11, _⟩ => ⟨S4x256x1024, .f32⟩
  | .hbm, ⟨12, _⟩ => ⟨S4x256x1024, .f32⟩
  | .hbm, ⟨13, _⟩ => ⟨S4x256x16, .f32⟩
  | .hbm, ⟨14, _⟩ => ⟨S4x256x16, .i32⟩
  | .hbm, ⟨15, _⟩ => ⟨S_, .i32⟩
  | .hbm, ⟨16, _⟩ => ⟨S4x256x16, .i32⟩
  | .hbm, ⟨17, _⟩ => ⟨S4x256x16, .i1⟩
  | .hbm, ⟨18, _⟩ => ⟨S_, .i32⟩
  | .hbm, ⟨19, _⟩ => ⟨S4x256x16, .i32⟩
  | .hbm, ⟨20, _⟩ => ⟨S4x256x16, .i32⟩
  | .hbm, ⟨21, _⟩ => ⟨S4x256x16, .i32⟩
  | .hbm, ⟨22, _⟩ => ⟨S4x256x16x1, .i32⟩
  | .hbm, ⟨23, _⟩ => ⟨S4x256x16x3, .f32⟩
  | .hbm, ⟨24, _⟩ => ⟨S_, .i32⟩
  | .hbm, ⟨25, _⟩ => ⟨S4x256x16, .i32⟩
  | .hbm, ⟨26, _⟩ => ⟨S4x256x16, .i1⟩
  | .hbm, ⟨27, _⟩ => ⟨S_, .i32⟩
  | .hbm, ⟨28, _⟩ => ⟨S4x256x16, .i32⟩
  | .hbm, ⟨29, _⟩ => ⟨S4x256x16, .i32⟩
  | .hbm, ⟨30, _⟩ => ⟨S4x256x16, .i32⟩
  | .hbm, ⟨31, _⟩ => ⟨S4x256x16x1, .i32⟩
  | .hbm, ⟨32, _⟩ => ⟨S4x256x16x64, .f32⟩
  | .hbm, ⟨33, _⟩ => ⟨S4x256x1x3, .f32⟩
  | .hbm, ⟨34, _⟩ => ⟨S4x256x16x3, .f32⟩
  | .hbm, ⟨35, _⟩ => ⟨S4x256x16x3, .f32⟩
  | .hbm, ⟨36, _⟩ => ⟨S4x256x16x67, .f32⟩
  | .hbm, ⟨37, _⟩ => ⟨S4x256x16x128, .f32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S4x256x16x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S_, .f32⟩
  | .hbm, ⟨46, _⟩ => ⟨S4x256x128, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Down4.lean ====
abbrev S4x256x3 : Shape := ⟨3, ![4, 256, 3]⟩
abbrev S4x64x3 : Shape := ⟨3, ![4, 64, 3]⟩
abbrev S4x256x128 : Shape := ⟨3, ![4, 256, 128]⟩
abbrev S131x256 : Shape := ⟨2, ![131, 256]⟩
abbrev S4x256x131 : Shape := ⟨3, ![4, 256, 131]⟩
abbrev S4x256x1 : Shape := ⟨3, ![4, 256, 1]⟩
abbrev S4x256 : Shape := ⟨2, ![4, 256]⟩
abbrev S4x64x1 : Shape := ⟨3, ![4, 64, 1]⟩
abbrev S4x64 : Shape := ⟨2, ![4, 64]⟩
abbrev S4x1x256 : Shape := ⟨3, ![4, 1, 256]⟩
abbrev S4x64x256 : Shape := ⟨3, ![4, 64, 256]⟩
abbrev S1x256 : Shape := ⟨2, ![1, 256]⟩
abbrev S1x1x256 : Shape := ⟨3, ![1, 1, 256]⟩
abbrev S1x64x1 : Shape := ⟨3, ![1, 64, 1]⟩
abbrev S1x256x131 : Shape := ⟨3, ![1, 256, 131]⟩
abbrev S1x64x256 : Shape := ⟨3, ![1, 64, 256]⟩
abbrev S64x1 : Shape := ⟨2, ![64, 1]⟩
abbrev S256x131 : Shape := ⟨2, ![256, 131]⟩
abbrev S64x256 : Shape := ⟨2, ![64, 256]⟩
abbrev S64x3 : Shape := ⟨2, ![64, 3]⟩
abbrev S3x256 : Shape := ⟨2, ![3, 256]⟩
abbrev S64 : Shape := ⟨1, ![64]⟩
abbrev S64x131 : Shape := ⟨2, ![64, 131]⟩
abbrev S256 : Shape := ⟨1, ![256]⟩

abbrev nBuf : Space → Nat
  | .hbm => 26
  | .vmem => 19
  | .smem => 0
  | _ => 0

abbrev bufTy : (tb : Table) → Fin (tcTables nBuf tb) → BufTy
  | .hbm, ⟨0, _⟩ => ⟨S4x256x3, .f32⟩
  | .hbm, ⟨1, _⟩ => ⟨S4x64x3, .f32⟩
  | .hbm, ⟨2, _⟩ => ⟨S4x256x128, .f32⟩
  | .hbm, ⟨3, _⟩ => ⟨S131x256, .f32⟩
  | .hbm, ⟨4, _⟩ => ⟨S4x256x131, .f32⟩
  | .hbm, ⟨5, _⟩ => ⟨S4x256x1, .f32⟩
  | .hbm, ⟨6, _⟩ => ⟨S4x256, .f32⟩
  | .hbm, ⟨7, _⟩ => ⟨S4x256x1, .f32⟩
  | .hbm, ⟨8, _⟩ => ⟨S4x256, .f32⟩
  | .hbm, ⟨9, _⟩ => ⟨S4x256x1, .f32⟩
  | .hbm, ⟨10, _⟩ => ⟨S4x256, .f32⟩
  | .hbm, ⟨11, _⟩ => ⟨S4x64x1, .f32⟩
  | .hbm, ⟨12, _⟩ => ⟨S4x64, .f32⟩
  | .hbm, ⟨13, _⟩ => ⟨S4x64x1, .f32⟩
  | .hbm, ⟨14, _⟩ => ⟨S4x64, .f32⟩
  | .hbm, ⟨15, _⟩ => ⟨S4x64x1, .f32⟩
  | .hbm, ⟨16, _⟩ => ⟨S4x64, .f32⟩
  | .hbm, ⟨17, _⟩ => ⟨S4x1x256, .f32⟩
  | .hbm, ⟨18, _⟩ => ⟨S4x1x256, .f32⟩
  | .hbm, ⟨19, _⟩ => ⟨S4x1x256, .f32⟩
  | .hbm, ⟨20, _⟩ => ⟨S4x64x1, .f32⟩
  | .hbm, ⟨21, _⟩ => ⟨S4x64x1, .f32⟩
  | .hbm, ⟨22, _⟩ => ⟨S4x64x1, .f32⟩
  | .hbm, ⟨23, _⟩ => ⟨S4x64x256, .f32⟩
  | .hbm, ⟨24, _⟩ => ⟨S1x256, .f32⟩
  | .hbm, ⟨25, _⟩ => ⟨S1x256, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S1x64x1, .f32⟩
  | .local _ .vmem, ⟨12, _⟩ => ⟨S1x256x131, .f32⟩
  | .local _ .vmem, ⟨13, _⟩ => ⟨S1x256x131, .f32⟩
  | .local _ .vmem, ⟨14, _⟩ => ⟨S131x256, .f32⟩
  | .local _ .vmem, ⟨15, _⟩ => ⟨S1x64x256, .f32⟩
  | .local _ .vmem, ⟨16, _⟩ => ⟨S1x64x256, .f32⟩
  | .local _ .vmem, ⟨17, _⟩ => ⟨S1x256, .f32⟩
  | .local _ .vmem, ⟨18, _⟩ => ⟨S1x256, .f32⟩
  | _, _ => ⟨S4x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v456 : BitVec 32 := Scalar.extui v455
  let c0_i32_188 : BitVec 32 := 0#32
  let v457 : BitVec 1 := Scalar.cmpi .ne v456 c0_i32_188
  v457

def k0_cond2 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v_true : BitVec 1 := 1#1
  let v458 : BitVec 1 := Scalar.xori v455 v_true
  let v459 : BitVec 32 := Scalar.extui v458
  let c0_i32_189 : BitVec 32 := 0#32
  let v460 : BitVec 1 := Scalar.cmpi .ne v459 c0_i32_189
  v460

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x131 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S131x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Ref4Ideal.lean ====
abbrev S4x256x3 : Shape := ⟨3, ![4, 256, 3]⟩
abbrev S4x64x3 : Shape := ⟨3, ![4, 64, 3]⟩
abbrev S4x256x128 : Shape := ⟨3, ![4, 256, 128]⟩
abbrev S131x256 : Shape := ⟨2, ![131, 256]⟩
abbrev S4x64x1x3 : Shape := ⟨4, ![4, 64, 1, 3]⟩
abbrev S4x1x256x3 : Shape := ⟨4, ![4, 1, 256, 3]⟩
abbrev S4x64x256x3 : Shape := ⟨4, ![4, 64, 256, 3]⟩
abbrev S_ : Shape := ⟨0, ![]⟩
abbrev S4x64x256 : Shape := ⟨3, ![4, 64, 256]⟩
abbrev S4x64x16 : Shape := ⟨3, ![4, 64, 16]⟩
abbrev S4x64x16x1 : Shape := ⟨4, ![4, 64, 16, 1]⟩
abbrev S4x64x16x3 : Shape := ⟨4, ![4, 64, 16, 3]⟩
abbrev S4x64x16x128 : Shape := ⟨4, ![4, 64, 16, 128]⟩
abbrev S4x64x16x131 : Shape := ⟨4, ![4, 64, 16, 131]⟩
abbrev S4x64x16x256 : Shape := ⟨4, ![4, 64, 16, 256]⟩
abbrev S256 : Shape := ⟨1, ![256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x256x3, .f32⟩
  | .hbm, ⟨1, _⟩ => ⟨S4x64x3, .f32⟩
  | .hbm, ⟨2, _⟩ => ⟨S4x256x128, .f32⟩
  | .hbm, ⟨3, _⟩ => ⟨S131x256, .f32⟩
  | .hbm, ⟨4, _⟩ => ⟨S4x64x1x3, .f32⟩
  | .hbm, ⟨5, _⟩ => ⟨S4x1x256x3, .f32⟩
  | .hbm, ⟨6, _⟩ => ⟨S4x64x256x3, .f32⟩
  | .hbm, ⟨7, _⟩ => ⟨S4x64x256x3, .f32⟩
  | .hbm, ⟨8, _⟩ => ⟨S4x64x256x3, .f32⟩
  | .hbm, ⟨9, _⟩ => ⟨S4x64x256x3, .f32⟩
  | .hbm, ⟨10, _⟩ => ⟨S_, .f32⟩
  | .hbm, ⟨11, _⟩ => ⟨S4x64x256, .f32⟩
  | .hbm, ⟨12, _⟩ => ⟨S4x64x256, .f32⟩
  | .hbm, ⟨13, _⟩ => ⟨S4x64x16, .f32⟩
  | .hbm, ⟨14, _⟩ => ⟨S4x64x16, .i32⟩
  | .hbm, ⟨15, _⟩ => ⟨S_, .i32⟩
  | .hbm, ⟨16, _⟩ => ⟨S4x64x16, .i32⟩
  | .hbm, ⟨17, _⟩ => ⟨S4x64x16, .i1⟩
  | .hbm, ⟨18, _⟩ => ⟨S_, .i32⟩
  | .hbm, ⟨19, _⟩ => ⟨S4x64x16, .i32⟩
  | .hbm, ⟨20, _⟩ => ⟨S4x64x16, .i32⟩
  | .hbm, ⟨21, _⟩ => ⟨S4x64x16, .i32⟩
  | .hbm, ⟨22, _⟩ => ⟨S4x64x16x1, .i32⟩
  | .hbm, ⟨23, _⟩ => ⟨S4x64x16x3, .f32⟩
  | .hbm, ⟨24, _⟩ => ⟨S_, .i32⟩
  | .hbm, ⟨25, _⟩ => ⟨S4x64x16, .i32⟩
  | .hbm, ⟨26, _⟩ => ⟨S4x64x16, .i1⟩
  | .hbm, ⟨27, _⟩ => ⟨S_, .i32⟩
  | .hbm, ⟨28, _⟩ => ⟨S4x64x16, .i32⟩
  | .hbm, ⟨29, _⟩ => ⟨S4x64x16, .i32⟩
  | .hbm, ⟨30, _⟩ => ⟨S4x64x16, .i32⟩
  | .hbm, ⟨31, _⟩ => ⟨S4x64x16x1, .i32⟩
  | .hbm, ⟨32, _⟩ => ⟨S4x64x16x128, .f32⟩
  | .hbm, ⟨33, _⟩ => ⟨S4x64x1x3, .f32⟩
  | .hbm, ⟨34, _⟩ => ⟨S4x64x16x3, .f32⟩
  | .hbm, ⟨35, _⟩ => ⟨S4x64x16x3, .f32⟩
  | .hbm, ⟨36, _⟩ => ⟨S4x64x16x131, .f32⟩
  | .hbm, ⟨37, _⟩ => ⟨S4x64x16x256, .f32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S4x64x16x256, .f32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S_, .f32⟩
  | .hbm, ⟨46, _⟩ => ⟨S4x64x256, .f32⟩
  | _, _ => ⟨S4x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Down5.lean ====
abbrev S4x64x3 : Shape := ⟨3, ![4, 64, 3]⟩
abbrev S4x16x3 : Shape := ⟨3, ![4, 16, 3]⟩
abbrev S4x64x256 : Shape := ⟨3, ![4, 64, 256]⟩
abbrev S259x1024 : Shape := ⟨2, ![259, 1024]⟩
abbrev S4x64x259 : Shape := ⟨3, ![4, 64, 259]⟩
abbrev S4x64x1 : Shape := ⟨3, ![4, 64, 1]⟩
abbrev S4x64 : Shape := ⟨2, ![4, 64]⟩
abbrev S4x16x1 : Shape := ⟨3, ![4, 16, 1]⟩
abbrev S4x16 : Shape := ⟨2, ![4, 16]⟩
abbrev S4x1x64 : Shape := ⟨3, ![4, 1, 64]⟩
abbrev S4x16x1024 : Shape := ⟨3, ![4, 16, 1024]⟩
abbrev S1x1024 : Shape := ⟨2, ![1, 1024]⟩
abbrev S1x1x64 : Shape := ⟨3, ![1, 1, 64]⟩
abbrev S1x16x1 : Shape := ⟨3, ![1, 16, 1]⟩
abbrev S1x64x259 : Shape := ⟨3, ![1, 64, 259]⟩
abbrev S1x16x1024 : Shape := ⟨3, ![1, 16, 1024]⟩
abbrev S1x64 : Shape := ⟨2, ![1, 64]⟩
abbrev S16x1 : Shape := ⟨2, ![16, 1]⟩
abbrev S64x259 : Shape := ⟨2, ![64, 259]⟩
abbrev S16x64 : Shape := ⟨2, ![16, 64]⟩
abbrev S16x3 : Shape := ⟨2, ![16, 3]⟩
abbrev S3x1024 : Shape := ⟨2, ![3, 1024]⟩
abbrev S16x1024 : Shape := ⟨2, ![16, 1024]⟩
abbrev S16 : Shape := ⟨1, ![16]⟩
abbrev S16x259 : Shape := ⟨2, ![16, 259]⟩
abbrev S1024 : Shape := ⟨1, ![1024]⟩

abbrev nBuf : Space → Nat
  | .hbm => 26
  | .vmem => 19
  | .smem => 0
  | _ => 0

abbrev bufTy : (tb : Table) → Fin (tcTables nBuf tb) → BufTy
  | .hbm, ⟨0, _⟩ => ⟨S4x64x3, .f32⟩
  | .hbm, ⟨1, _⟩ => ⟨S4x16x3, .f32⟩
  | .hbm, ⟨2, _⟩ => ⟨S4x64x256, .f32⟩
  | .hbm, ⟨3, _⟩ => ⟨S259x1024, .f32⟩
  | .hbm, ⟨4, _⟩ => ⟨S4x64x259, .f32⟩
  | .hbm, ⟨5, _⟩ => ⟨S4x64x1, .f32⟩
  | .hbm, ⟨6, _⟩ => ⟨S4x64, .f32⟩
  | .hbm, ⟨7, _⟩ => ⟨S4x64x1, .f32⟩
  | .hbm, ⟨8, _⟩ => ⟨S4x64, .f32⟩
  | .hbm, ⟨9, _⟩ => ⟨S4x64x1, .f32⟩
  | .hbm, ⟨10, _⟩ => ⟨S4x64, .f32⟩
  | .hbm, ⟨11, _⟩ => ⟨S4x16x1, .f32⟩
  | .hbm, ⟨12, _⟩ => ⟨S4x16, .f32⟩
  | .hbm, ⟨13, _⟩ => ⟨S4x16x1, .f32⟩
  | .hbm, ⟨14, _⟩ => ⟨S4x16, .f32⟩
  | .hbm, ⟨15, _⟩ => ⟨S4x16x1, .f32⟩
  | .hbm, ⟨16, _⟩ => ⟨S4x16, .f32⟩
  | .hbm, ⟨17, _⟩ => ⟨S4x1x64, .f32⟩
  | .hbm, ⟨18, _⟩ => ⟨S4x1x64, .f32⟩
  | .hbm, ⟨19, _⟩ => ⟨S4x1x64, .f32⟩
  | .hbm, ⟨20, _⟩ => ⟨S4x16x1, .f32⟩
  | .hbm, ⟨21, _⟩ => ⟨S4x16x1, .f32⟩
  | .hbm, ⟨22, _⟩ => ⟨S4x16x1, .f32⟩
  | .hbm, ⟨23, _⟩ => ⟨S4x16x1024, .f32⟩
  | .hbm, ⟨24, _⟩ => ⟨S1x1024, .f32⟩
  | .hbm, ⟨25, _⟩ => ⟨S1x1024, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | .local _ .vmem, ⟨11, _⟩ => ⟨S1x16x1, .f32⟩
  | .local _ .vmem, ⟨12, _⟩ => ⟨S1x64x259, .f32⟩
  | .local _ .vmem, ⟨13, _⟩ => ⟨S1x64x259, .f32⟩
  | .local _ .vmem, ⟨14, _⟩ => ⟨S259x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x1024, .f32⟩
  | .local _ .vmem, ⟨18, _⟩ => ⟨S1x1024, .f32⟩
  | _, _ => ⟨S4x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v456 : BitVec 32 := Scalar.extui v455
  let c0_i32_188 : BitVec 32 := 0#32
  let v457 : BitVec 1 := Scalar.cmpi .ne v456 c0_i32_188
  v457

def k0_cond2 (i : grid0.Coords) : BitVec 1 :=
  let arg0 : BitVec 32 := BitVec.ofNat 32 (i 0).val
  let c0_i32 : BitVec 32 := 0#32
  let v453 : BitVec 1 := Scalar.cmpi .eq arg0 c0_i32
  let arg1 : BitVec 32 := BitVec.ofNat 32 (i 1).val
  let c0_i32_187 : BitVec 32 := 0#32
  let v454 : BitVec 1 := Scalar.cmpi .eq arg1 c0_i32_187
  let v455 : BitVec 1 := Scalar.andi v453 v454
  let v_true : BitVec 1 := 1#1
  let v458 : BitVec 1 := Scalar.xori v455 v_true
  let v459 : BitVec 32 := Scalar.extui v458
  let c0_i32_189 : BitVec 32 := 0#32
  let v460 : BitVec 1 := Scalar.cmpi .ne v459 c0_i32_189
  v460

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x259 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S259x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Ref5Ideal.lean ====
abbrev S4x64x3 : Shape := ⟨3, ![4, 64, 3]⟩
abbrev S4x16x3 : Shape := ⟨3, ![4, 16, 3]⟩
abbrev S4x64x256 : Shape := ⟨3, ![4, 64, 256]⟩
abbrev S259x1024 : Shape := ⟨2, ![259, 1024]⟩
abbrev S4x16x1x3 : Shape := ⟨4, ![4, 16, 1, 3]⟩
abbrev S4x1x64x3 : Shape := ⟨4, ![4, 1, 64, 3]⟩
abbrev S4x16x64x3 : Shape := ⟨4, ![4, 16, 64, 3]⟩
abbrev S_ : Shape := ⟨0, ![]⟩
abbrev S4x16x64 : Shape := ⟨3, ![4, 16, 64]⟩
abbrev S4x16x16 : Shape := ⟨3, ![4, 16, 16]⟩
abbrev S4x16x16x1 : Shape := ⟨4, ![4, 16, 16, 1]⟩
abbrev S4x16x16x3 : Shape := ⟨4, ![4, 16, 16, 3]⟩
abbrev S4x16x16x256 : Shape := ⟨4, ![4, 16, 16, 256]⟩
abbrev S4x16x16x259 : Shape := ⟨4, ![4, 16, 16, 259]⟩
abbrev S4x16x16x1024 : Shape := ⟨4, ![4, 16, 16, 1024]⟩
abbrev S1024 : Shape := ⟨1, ![1024]⟩
abbrev S1x1024 : Shape := ⟨2, ![1, 1024]⟩
abbrev S4x16x1024 : Shape := ⟨3, ![4, 16, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x64x3, .f32⟩
  | .hbm, ⟨1, _⟩ => ⟨S4x16x3, .f32⟩
  | .hbm, ⟨2, _⟩ => ⟨S4x64x256, .f32⟩
  | .hbm, ⟨3, _⟩ => ⟨S259x1024, .f32⟩
  | .hbm, ⟨4, _⟩ => ⟨S4x16x1x3, .f32⟩
  | .hbm, ⟨5, _⟩ => ⟨S4x1x64x3, .f32⟩
  | .hbm, ⟨6, _⟩ => ⟨S4x16x64x3, .f32⟩
  | .hbm, ⟨7, _⟩ => ⟨S4x16x64x3, .f32⟩
  | .hbm, ⟨8, _⟩ => ⟨S4x16x64x3, .f32⟩
  | .hbm, ⟨9, _⟩ => ⟨S4x16x64x3, .f32⟩
  | .hbm, ⟨10, _⟩ => ⟨S_, .f32⟩
  | .hbm, ⟨11, _⟩ => ⟨S4x16x64, .f32⟩
  | .hbm, ⟨12, _⟩ => ⟨S4x16x64, .f32⟩
  | .hbm, ⟨13, _⟩ => ⟨S4x16x16, .f32⟩
  | .hbm, ⟨14, _⟩ => ⟨S4x16x16, .i32⟩
  | .hbm, ⟨15, _⟩ => ⟨S_, .i32⟩
  | .hbm, ⟨16, _⟩ => ⟨S4x16x16, .i32⟩
  | .hbm, ⟨17, _⟩ => ⟨S4x16x16, .i1⟩
  | .hbm, ⟨18, _⟩ => ⟨S_, .i32⟩
  | .hbm, ⟨19, _⟩ => ⟨S4x16x16, .i32⟩
  | .hbm, ⟨20, _⟩ => ⟨S4x16x16, .i32⟩
  | .hbm, ⟨21, _⟩ => ⟨S4x16x16, .i32⟩
  | .hbm, ⟨22, _⟩ => ⟨S4x16x16x1, .i32⟩
  | .hbm, ⟨23, _⟩ => ⟨S4x16x16x3, .f32⟩
  | .hbm, ⟨24, _⟩ => ⟨S_, .i32⟩
  | .hbm, ⟨25, _⟩ => ⟨S4x16x16, .i32⟩
  | .hbm, ⟨26, _⟩ => ⟨S4x16x16, .i1⟩
  | .hbm, ⟨27, _⟩ => ⟨S_, .i32⟩
  | .hbm, ⟨28, _⟩ => ⟨S4x16x16, .i32⟩
  | .hbm, ⟨29, _⟩ => ⟨S4x16x16, .i32⟩
  | .hbm, ⟨30, _⟩ => ⟨S4x16x16, .i32⟩
  | .hbm, ⟨31, _⟩ => ⟨S4x16x16x1, .i32⟩
  | .hbm, ⟨32, _⟩ => ⟨S4x16x16x256, .f32⟩
  | .hbm, ⟨33, _⟩ => ⟨S4x16x1x3, .f32⟩
  | .hbm, ⟨34, _⟩ => ⟨S4x16x16x3, .f32⟩
  | .hbm, ⟨35, _⟩ => ⟨S4x16x16x3, .f32⟩
  | .hbm, ⟨36, _⟩ => ⟨S4x16x16x259, .f32⟩
  | .hbm, ⟨37, _⟩ => ⟨S4x16x16x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4x16x16x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S4x16x1024, .f32⟩
  | _, _ => ⟨S4x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Norm2.lean ====
abbrev S4x1024x16x64 : Shape := ⟨4, ![4, 1024, 16, 64]⟩
abbrev S4x1024x3 : Shape := ⟨3, ![4, 1024, 3]⟩
abbrev S64 : Shape := ⟨1, ![64]⟩
abbrev S_ : Shape := ⟨0, ![]⟩
abbrev S1x64 : Shape := ⟨2, ![1, 64]⟩
abbrev S4x1024x64 : Shape := ⟨3, ![4, 1024, 64]⟩
abbrev S4x1024x1 : Shape := ⟨3, ![4, 1024, 1]⟩
abbrev S4x1024 : Shape := ⟨2, ![4, 1024]⟩
abbrev S4x1024x67 : Shape := ⟨3, ![4, 1024, 67]⟩
abbrev S1x1x64 : Shape := ⟨3, ![1, 1, 64]⟩

abbrev nBuf : Space → Nat
  | .hbm => 22
  | .vmem => 9
  | .smem => 0
  | _ => 0

abbrev bufTy : (tb : Table) → Fin (tcTables nBuf tb) → BufTy
  | .hbm, ⟨0, _⟩ => ⟨S4x1024x16x64, .f32⟩
  | .hbm, ⟨1, _⟩ => ⟨S4x1024x3, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S1x64, .f32⟩
  | .hbm, ⟨7, _⟩ => ⟨S4x1024x16x64, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S_, .f32⟩
  | .hbm, ⟨12, _⟩ => ⟨S4x1024x64, .f32⟩
  | .hbm, ⟨13, _⟩ => ⟨S4x1024x1, .f32⟩
  | .hbm, ⟨14, _⟩ => ⟨S4x1024, .f32⟩
  | .hbm, ⟨15, _⟩ => ⟨S4x1024x1, .f32⟩
  | .hbm, ⟨16, _⟩ => ⟨S4x1024, .f32⟩
  | .hbm, ⟨17, _⟩ => ⟨S4x1024x1, .f32⟩
  | .hbm, ⟨18, _⟩ => ⟨S4x1024, .f32⟩
  | .hbm, ⟨19, _⟩ => ⟨S1x64, .f32⟩
  | .hbm, ⟨20, _⟩ => ⟨S1x64, .f32⟩
  | .hbm, ⟨21, _⟩ => ⟨S4x1024x67, .f32⟩
  | .local _ .vmem, ⟨0, _⟩ => ⟨S4x1024x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024x67, .f32⟩
  | _, _ => ⟨S4x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024x67 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== NormRef2Ideal.lean ====
abbrev S4x1024x16x64 : Shape := ⟨4, ![4, 1024, 16, 64]⟩
abbrev S4x1024x3 : Shape := ⟨3, ![4, 1024, 3]⟩
abbrev S64 : Shape := ⟨1, ![64]⟩
abbrev S_ : Shape := ⟨0, ![]⟩
abbrev S1x1x1x64 : Shape := ⟨4, ![1, 1, 1, 64]⟩
abbrev S4x1024x64 : Shape := ⟨3, ![4, 1024, 64]⟩
abbrev S4x1024x67 : Shape := ⟨3, ![4, 1024, 67]⟩

abbrev nBuf : Space → Nat
  | .hbm => 54
  | .vmem => 0
  | .smem => 0
  | _ => 0

abbrev bufTy : (tb : Table) → Fin (tcTables nBuf tb) → BufTy
  | .hbm, ⟨0, _⟩ => ⟨S4x1024x16x64, .f32⟩
  | .hbm, ⟨1, _⟩ => ⟨S4x1024x3, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S1x1x1x64, .f32⟩
  | .hbm, ⟨7, _⟩ => ⟨S_, .f32⟩
  | .hbm, ⟨8, _⟩ => ⟨S1x1x1x64, .f32⟩
  | .hbm, ⟨9, _⟩ => ⟨S1x1x1x64, .f32⟩
  | .hbm, ⟨10, _⟩ => ⟨S_, .i32⟩
  | .hbm, ⟨11, _⟩ => ⟨S_, .f32⟩
  | .hbm, ⟨12, _⟩ => ⟨S64, .f32⟩
  | .hbm, ⟨13, _⟩ => ⟨S1x1x1x64, .f32⟩
  | .hbm, ⟨14, _⟩ => ⟨S_, .f32⟩
  | .hbm, ⟨15, _⟩ => ⟨S1x1x1x64, .f32⟩
  | .hbm, ⟨16, _⟩ => ⟨S1x1x1x64, .f32⟩
  | .hbm, ⟨17, _⟩ => ⟨S4x1024x16x64, .f32⟩
  | .hbm, ⟨18, _⟩ => ⟨S4x1024x16x64, .f32⟩
  | .hbm, ⟨19, _⟩ => ⟨S4x1024x16x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S1x1x1x64, .f32⟩
  | .hbm, ⟨26, _⟩ => ⟨S1x1x1x64, .f32⟩
  | .hbm, ⟨27, _⟩ => ⟨S1x1x1x64, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x1x1x64, .f32⟩
  | .hbm, ⟨33, _⟩ => ⟨S1x1x1x64, .f32⟩
  | .hbm, ⟨34, _⟩ => ⟨S4x1024x16x64, .f32⟩
  | .hbm, ⟨35, _⟩ => ⟨S4x1024x16x64, .f32⟩
  | .hbm, ⟨36, _⟩ => ⟨S_, .f32⟩
  | .hbm, ⟨37, _⟩ => ⟨S1x1x1x64, .f32⟩
  | .hbm, ⟨38, _⟩ => ⟨S1x1x1x64, .f32⟩
  | .hbm, ⟨39, _⟩ => ⟨S1x1x1x64, .f32⟩
  | .hbm, ⟨40, _⟩ => ⟨S4x1024x16x64, .f32⟩
  | .hbm, ⟨41, _⟩ => ⟨S4x1024x16x64, .f32⟩
  | .hbm, ⟨42, _⟩ => ⟨S1x1x1x64, .f32⟩
  | .hbm, ⟨43, _⟩ => ⟨S4x1024x16x64, .f32⟩
  | .hbm, ⟨44, _⟩ => ⟨S4x1024x16x64, .f32⟩
  | .hbm, ⟨45, _⟩ => ⟨S1x1x1x64, .f32⟩
  | .hbm, ⟨46, _⟩ => ⟨S4x1024x16x64, .f32⟩
  | .hbm, ⟨47, _⟩ => ⟨S4x1024x16x64, .f32⟩
  | .hbm, ⟨48, _⟩ => ⟨S_, .f32⟩
  | .hbm, ⟨49, _⟩ => ⟨S4x1024x16x64, .f32⟩
  | .hbm, ⟨50, _⟩ => ⟨S4x1024x16x64, .f32⟩
  | .hbm, ⟨51, _⟩ => ⟨S_, .f32⟩
  | .hbm, ⟨52, _⟩ => ⟨S4x1024x64, .f32⟩
  | .hbm, ⟨53, _⟩ => ⟨S4x1024x67, .f32⟩
  | _, _ => ⟨S4x1024x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Norm3.lean ====
abbrev S4x256x16x128 : Shape := ⟨4, ![4, 256, 16, 128]⟩
abbrev S4x256x3 : Shape := ⟨3, ![4, 256, 3]⟩
abbrev S128 : Shape := ⟨1, ![128]⟩
abbrev S_ : Shape := ⟨0, ![]⟩
abbrev S1x128 : Shape := ⟨2, ![1, 128]⟩
abbrev S4x256x128 : Shape := ⟨3, ![4, 256, 128]⟩
abbrev S4x256x1 : Shape := ⟨3, ![4, 256, 1]⟩
abbrev S4x256 : Shape := ⟨2, ![4, 256]⟩
abbrev S4x256x131 : Shape := ⟨3, ![4, 256, 131]⟩
abbrev S1x1x128 : Shape := ⟨3, ![1, 1, 128]⟩

abbrev nBuf : Space → Nat
  | .hbm => 22
  | .vmem => 9
  | .smem => 0
  | _ => 0

abbrev bufTy : (tb : Table) → Fin (tcTables nBuf tb) → BufTy
  | .hbm, ⟨0, _⟩ => ⟨S4x256x16x128, .f32⟩
  | .hbm, ⟨1, _⟩ => ⟨S4x256x3, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S4x256x16x128, .f32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .f32⟩
  | .hbm, ⟨12, _⟩ => ⟨S4x256x128, .f32⟩
  | .hbm, ⟨13, _⟩ => ⟨S4x256x1, .f32⟩
  | .hbm, ⟨14, _⟩ => ⟨S4x256, .f32⟩
  | .hbm, ⟨15, _⟩ => ⟨S4x256x1, .f32⟩
  | .hbm, ⟨16, _⟩ => ⟨S4x256, .f32⟩
  | .hbm, ⟨17, _⟩ => ⟨S4x256x1, .f32⟩
  | .hbm, ⟨18, _⟩ => ⟨S4x256, .f32⟩
  | .hbm, ⟨19, _⟩ => ⟨S1x128, .f32⟩
  | .hbm, ⟨20, _⟩ => ⟨S1x128, .f32⟩
  | .hbm, ⟨21, _⟩ => ⟨S4x256x131, .f32⟩
  | .local _ .vmem, ⟨0, _⟩ => ⟨S4x256x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256x131, .f32⟩
  | _, _ => ⟨S4x256x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256x131 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== NormRef3Ideal.lean ====
abbrev S4x256x16x128 : Shape := ⟨4, ![4, 256, 16, 128]⟩
abbrev S4x256x3 : Shape := ⟨3, ![4, 256, 3]⟩
abbrev S128 : Shape := ⟨1, ![128]⟩
abbrev S_ : Shape := ⟨0, ![]⟩
abbrev S1x1x1x128 : Shape := ⟨4, ![1, 1, 1, 128]⟩
abbrev S4x256x128 : Shape := ⟨3, ![4, 256, 128]⟩
abbrev S4x256x131 : Shape := ⟨3, ![4, 256, 131]⟩

abbrev nBuf : Space → Nat
  | .hbm => 54
  | .vmem => 0
  | .smem => 0
  | _ => 0

abbrev bufTy : (tb : Table) → Fin (tcTables nBuf tb) → BufTy
  | .hbm, ⟨0, _⟩ => ⟨S4x256x16x128, .f32⟩
  | .hbm, ⟨1, _⟩ => ⟨S4x256x3, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S1x1x1x128, .f32⟩
  | .hbm, ⟨7, _⟩ => ⟨S_, .f32⟩
  | .hbm, ⟨8, _⟩ => ⟨S1x1x1x128, .f32⟩
  | .hbm, ⟨9, _⟩ => ⟨S1x1x1x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x1x1x128, .f32⟩
  | .hbm, ⟨14, _⟩ => ⟨S_, .f32⟩
  | .hbm, ⟨15, _⟩ => ⟨S1x1x1x128, .f32⟩
  | .hbm, ⟨16, _⟩ => ⟨S1x1x1x128, .f32⟩
  | .hbm, ⟨17, _⟩ => ⟨S4x256x16x128, .f32⟩
  | .hbm, ⟨18, _⟩ => ⟨S4x256x16x128, .f32⟩
  | .hbm, ⟨19, _⟩ => ⟨S4x256x16x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S128, .f32⟩
  | .hbm, ⟨25, _⟩ => ⟨S1x1x1x128, .f32⟩
  | .hbm, ⟨26, _⟩ => ⟨S1x1x1x128, .f32⟩
  | .hbm, ⟨27, _⟩ => ⟨S1x1x1x128, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x1x1x128, .f32⟩
  | .hbm, ⟨33, _⟩ => ⟨S1x1x1x128, .f32⟩
  | .hbm, ⟨34, _⟩ => ⟨S4x256x16x128, .f32⟩
  | .hbm, ⟨35, _⟩ => ⟨S4x256x16x128, .f32⟩
  | .hbm, ⟨36, _⟩ => ⟨S_, .f32⟩
  | .hbm, ⟨37, _⟩ => ⟨S1x1x1x128, .f32⟩
  | .hbm, ⟨38, _⟩ => ⟨S1x1x1x128, .f32⟩
  | .hbm, ⟨39, _⟩ => ⟨S1x1x1x128, .f32⟩
  | .hbm, ⟨40, _⟩ => ⟨S4x256x16x128, .f32⟩
  | .hbm, ⟨41, _⟩ => ⟨S4x256x16x128, .f32⟩
  | .hbm, ⟨42, _⟩ => ⟨S1x1x1x128, .f32⟩
  | .hbm, ⟨43, _⟩ => ⟨S4x256x16x128, .f32⟩
  | .hbm, ⟨44, _⟩ => ⟨S4x256x16x128, .f32⟩
  | .hbm, ⟨45, _⟩ => ⟨S1x1x1x128, .f32⟩
  | .hbm, ⟨46, _⟩ => ⟨S4x256x16x128, .f32⟩
  | .hbm, ⟨47, _⟩ => ⟨S4x256x16x128, .f32⟩
  | .hbm, ⟨48, _⟩ => ⟨S_, .f32⟩
  | .hbm, ⟨49, _⟩ => ⟨S4x256x16x128, .f32⟩
  | .hbm, ⟨50, _⟩ => ⟨S4x256x16x128, .f32⟩
  | .hbm, ⟨51, _⟩ => ⟨S_, .f32⟩
  | .hbm, ⟨52, _⟩ => ⟨S4x256x128, .f32⟩
  | .hbm, ⟨53, _⟩ => ⟨S4x256x131, .f32⟩
  | _, _ => ⟨S4x256x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Norm4.lean ====
abbrev S4x64x16x256 : Shape := ⟨4, ![4, 64, 16, 256]⟩
abbrev S4x64x3 : Shape := ⟨3, ![4, 64, 3]⟩
abbrev S256 : Shape := ⟨1, ![256]⟩
abbrev S_ : Shape := ⟨0, ![]⟩
abbrev S1x256 : Shape := ⟨2, ![1, 256]⟩
abbrev S4x64x256 : Shape := ⟨3, ![4, 64, 256]⟩
abbrev S4x64x1 : Shape := ⟨3, ![4, 64, 1]⟩
abbrev S4x64 : Shape := ⟨2, ![4, 64]⟩
abbrev S4x64x259 : Shape := ⟨3, ![4, 64, 259]⟩
abbrev S1x1x256 : Shape := ⟨3, ![1, 1, 256]⟩

abbrev nBuf : Space → Nat
  | .hbm => 22
  | .vmem => 9
  | .smem => 0
  | _ => 0

abbrev bufTy : (tb : Table) → Fin (tcTables nBuf tb) → BufTy
  | .hbm, ⟨0, _⟩ => ⟨S4x64x16x256, .f32⟩
  | .hbm, ⟨1, _⟩ => ⟨S4x64x3, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S1x256, .f32⟩
  | .hbm, ⟨7, _⟩ => ⟨S4x64x16x256, .f32⟩
  | .hbm, ⟨8, _⟩ => ⟨S_, .f32⟩
  | .hbm, ⟨9, _⟩ => ⟨S256, .f32⟩
  | .hbm, ⟨10, _⟩ => ⟨S1x256, .f32⟩
  | .hbm, ⟨11, _⟩ => ⟨S_, .f32⟩
  | .hbm, ⟨12, _⟩ => ⟨S4x64x256, .f32⟩
  | .hbm, ⟨13, _⟩ => ⟨S4x64x1, .f32⟩
  | .hbm, ⟨14, _⟩ => ⟨S4x64, .f32⟩
  | .hbm, ⟨15, _⟩ => ⟨S4x64x1, .f32⟩
  | .hbm, ⟨16, _⟩ => ⟨S4x64, .f32⟩
  | .hbm, ⟨17, _⟩ => ⟨S4x64x1, .f32⟩
  | .hbm, ⟨18, _⟩ => ⟨S4x64, .f32⟩
  | .hbm, ⟨19, _⟩ => ⟨S1x256, .f32⟩
  | .hbm, ⟨20, _⟩ => ⟨S1x256, .f32⟩
  | .hbm, ⟨21, _⟩ => ⟨S4x64x259, .f32⟩
  | .local _ .vmem, ⟨0, _⟩ => ⟨S4x64x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S4x64, .f32⟩
  | .local _ .vmem, ⟨6, _⟩ => ⟨S4x64, .f32⟩
  | .local _ .vmem, ⟨7, _⟩ => ⟨S4x64, .f32⟩
  | .local _ .vmem, ⟨8, _⟩ => ⟨S4x64x259, .f32⟩
  | _, _ => ⟨S4x64x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64x259 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== NormRef4Ideal.lean ====
abbrev S4x64x16x256 : Shape := ⟨4, ![4, 64, 16, 256]⟩
abbrev S4x64x3 : Shape := ⟨3, ![4, 64, 3]⟩
abbrev S256 : Shape := ⟨1, ![256]⟩
abbrev S_ : Shape := ⟨0, ![]⟩
abbrev S1x1x1x256 : Shape := ⟨4, ![1, 1, 1, 256]⟩
abbrev S4x64x256 : Shape := ⟨3, ![4, 64, 256]⟩
abbrev S4x64x259 : Shape := ⟨3, ![4, 64, 259]⟩

abbrev nBuf : Space → Nat
  | .hbm => 54
  | .vmem => 0
  | .smem => 0
  | _ => 0

abbrev bufTy : (tb : Table) → Fin (tcTables nBuf tb) → BufTy
  | .hbm, ⟨0, _⟩ => ⟨S4x64x16x256, .f32⟩
  | .hbm, ⟨1, _⟩ => ⟨S4x64x3, .f32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S1x1x1x256, .f32⟩
  | .hbm, ⟨7, _⟩ => ⟨S_, .f32⟩
  | .hbm, ⟨8, _⟩ => ⟨S1x1x1x256, .f32⟩
  | .hbm, ⟨9, _⟩ => ⟨S1x1x1x256, .f32⟩
  | .hbm, ⟨10, _⟩ => ⟨S_, .i32⟩
  | .hbm, ⟨11, _⟩ => ⟨S_, .f32⟩
  | .hbm, ⟨12, _⟩ => ⟨S256, .f32⟩
  | .hbm, ⟨13, _⟩ => ⟨S1x1x1x256, .f32⟩
  | .hbm, ⟨14, _⟩ => ⟨S_, .f32⟩
  | .hbm, ⟨15, _⟩ => ⟨S1x1x1x256, .f32⟩
  | .hbm, ⟨16, _⟩ => ⟨S1x1x1x256, .f32⟩
  | .hbm, ⟨17, _⟩ => ⟨S4x64x16x256, .f32⟩
  | .hbm, ⟨18, _⟩ => ⟨S4x64x16x256, .f32⟩
  | .hbm, ⟨19, _⟩ => ⟨S4x64x16x256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256, .f32⟩
  | .hbm, ⟨25, _⟩ => ⟨S1x1x1x256, .f32⟩
  | .hbm, ⟨26, _⟩ => ⟨S1x1x1x256, .f32⟩
  | .hbm, ⟨27, _⟩ => ⟨S1x1x1x256, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x1x1x256, .f32⟩
  | .hbm, ⟨33, _⟩ => ⟨S1x1x1x256, .f32⟩
  | .hbm, ⟨34, _⟩ => ⟨S4x64x16x256, .f32⟩
  | .hbm, ⟨35, _⟩ => ⟨S4x64x16x256, .f32⟩
  | .hbm, ⟨36, _⟩ => ⟨S_, .f32⟩
  | .hbm, ⟨37, _⟩ => ⟨S1x1x1x256, .f32⟩
  | .hbm, ⟨38, _⟩ => ⟨S1x1x1x256, .f32⟩
  | .hbm, ⟨39, _⟩ => ⟨S1x1x1x256, .f32⟩
  | .hbm, ⟨40, _⟩ => ⟨S4x64x16x256, .f32⟩
  | .hbm, ⟨41, _⟩ => ⟨S4x64x16x256, .f32⟩
  | .hbm, ⟨42, _⟩ => ⟨S1x1x1x256, .f32⟩
  | .hbm, ⟨43, _⟩ => ⟨S4x64x16x256, .f32⟩
  | .hbm, ⟨44, _⟩ => ⟨S4x64x16x256, .f32⟩
  | .hbm, ⟨45, _⟩ => ⟨S1x1x1x256, .f32⟩
  | .hbm, ⟨46, _⟩ => ⟨S4x64x16x256, .f32⟩
  | .hbm, ⟨47, _⟩ => ⟨S4x64x16x256, .f32⟩
  | .hbm, ⟨48, _⟩ => ⟨S_, .f32⟩
  | .hbm, ⟨49, _⟩ => ⟨S4x64x16x256, .f32⟩
  | .hbm, ⟨50, _⟩ => ⟨S4x64x16x256, .f32⟩
  | .hbm, ⟨51, _⟩ => ⟨S_, .f32⟩
  | .hbm, ⟨52, _⟩ => ⟨S4x64x256, .f32⟩
  | .hbm, ⟨53, _⟩ => ⟨S4x64x259, .f32⟩
  | _, _ => ⟨S4x64x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩

abbrev nD : Nat := 1
abbrev τ : Topo := Topo.v7x

variable {F : FTy → Type} [FloatOps F]
-- ==== Norm5.lean ====
abbrev S4x16x16x1024 : Shape := ⟨4, ![4, 16, 16, 1024]⟩
abbrev S4x16x3 : Shape := ⟨3, ![4, 16, 3]⟩
abbrev S1024 : Shape := ⟨1, ![1024]⟩
abbrev S_ : Shape := ⟨0, ![]⟩
abbrev S1x1024 : Shape := ⟨2, ![1, 1024]⟩
abbrev S4x16x1024 : Shape := ⟨3, ![4, 16, 1024]⟩
abbrev S4x16x1 : Shape := ⟨3, ![4, 16, 1]⟩
abbrev S4x16 : Shape := ⟨2, ![4, 16]⟩
abbrev S4x1024 : Shape := ⟨2, ![4, 1024]⟩
abbrev S1x1x1024 : Shape := ⟨3, ![1, 1, 1024]⟩

abbrev nBuf : Space → Nat
  | .hbm => 22
  | .vmem => 9
  | .smem => 0
  | _ => 0

abbrev bufTy : (tb : Table) → Fin (tcTables nBuf tb) → BufTy
  | .hbm, ⟨0, _⟩ => ⟨S4x16x16x1024, .f32⟩
  | .hbm, ⟨1, _⟩ => ⟨S4x16x3, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S4x16x16x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S4x16x1024, .f32⟩
  | .hbm, ⟨13, _⟩ => ⟨S4x16x1, .f32⟩
  | .hbm, ⟨14, _⟩ => ⟨S4x16, .f32⟩
  | .hbm, ⟨15, _⟩ => ⟨S4x16x1, .f32⟩
  | .hbm, ⟨16, _⟩ => ⟨S4x16, .f32⟩
  | .hbm, ⟨17, _⟩ => ⟨S4x16x1, .f32⟩
  | .hbm, ⟨18, _⟩ => ⟨S4x16, .f32⟩
  | .hbm, ⟨19, _⟩ => ⟨S1x1024, .f32⟩
  | .hbm, ⟨20, _⟩ => ⟨S1x1024, .f32⟩
  | .hbm, ⟨21, _⟩ => ⟨S4x1024, .f32⟩
  | .local _ .vmem, ⟨0, _⟩ => ⟨S4x16x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S4x16, .f32⟩
  | .local _ .vmem, ⟨6, _⟩ => ⟨S4x16, .f32⟩
  | .local _ .vmem, ⟨7, _⟩ => ⟨S4x16, .f32⟩
  | .local _ .vmem, ⟨8, _⟩ => ⟨S4x1024, .f32⟩
  | _, _ => ⟨S4x16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== NormRef5Ideal.lean ====
abbrev S4x16x16x1024 : Shape := ⟨4, ![4, 16, 16, 1024]⟩
abbrev S4x16x3 : Shape := ⟨3, ![4, 16, 3]⟩
abbrev S1024 : Shape := ⟨1, ![1024]⟩
abbrev S_ : Shape := ⟨0, ![]⟩
abbrev S1x1x1x1024 : Shape := ⟨4, ![1, 1, 1, 1024]⟩
abbrev S4x16x1024 : Shape := ⟨3, ![4, 16, 1024]⟩
abbrev S4x1024 : Shape := ⟨2, ![4, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x16x16x1024, .f32⟩
  | .hbm, ⟨1, _⟩ => ⟨S4x16x3, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1x1x1x1024, .f32⟩
  | .hbm, ⟨7, _⟩ => ⟨S_, .f32⟩
  | .hbm, ⟨8, _⟩ => ⟨S1x1x1x1024, .f32⟩
  | .hbm, ⟨9, _⟩ => ⟨S1x1x1x1024, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S1x1x1x1024, .f32⟩
  | .hbm, ⟨14, _⟩ => ⟨S_, .f32⟩
  | .hbm, ⟨15, _⟩ => ⟨S1x1x1x1024, .f32⟩
  | .hbm, ⟨16, _⟩ => ⟨S1x1x1x1024, .f32⟩
  | .hbm, ⟨17, _⟩ => ⟨S4x16x16x1024, .f32⟩
  | .hbm, ⟨18, _⟩ => ⟨S4x16x16x1024, .f32⟩
  | .hbm, ⟨19, _⟩ => ⟨S4x16x16x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024, .f32⟩
  | .hbm, ⟨25, _⟩ => ⟨S1x1x1x1024, .f32⟩
  | .hbm, ⟨26, _⟩ => ⟨S1x1x1x1024, .f32⟩
  | .hbm, ⟨27, _⟩ => ⟨S1x1x1x1024, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S1x1x1x1024, .f32⟩
  | .hbm, ⟨33, _⟩ => ⟨S1x1x1x1024, .f32⟩
  | .hbm, ⟨34, _⟩ => ⟨S4x16x16x1024, .f32⟩
  | .hbm, ⟨35, _⟩ => ⟨S4x16x16x1024, .f32⟩
  | .hbm, ⟨36, _⟩ => ⟨S_, .f32⟩
  | .hbm, ⟨37, _⟩ => ⟨S1x1x1x1024, .f32⟩
  | .hbm, ⟨38, _⟩ => ⟨S1x1x1x1024, .f32⟩
  | .hbm, ⟨39, _⟩ => ⟨S1x1x1x1024, .f32⟩
  | .hbm, ⟨40, _⟩ => ⟨S4x16x16x1024, .f32⟩
  | .hbm, ⟨41, _⟩ => ⟨S4x16x16x1024, .f32⟩
  | .hbm, ⟨42, _⟩ => ⟨S1x1x1x1024, .f32⟩
  | .hbm, ⟨43, _⟩ => ⟨S4x16x16x1024, .f32⟩
  | .hbm, ⟨44, _⟩ => ⟨S4x16x16x1024, .f32⟩
  | .hbm, ⟨45, _⟩ => ⟨S1x1x1x1024, .f32⟩
  | .hbm, ⟨46, _⟩ => ⟨S4x16x16x1024, .f32⟩
  | .hbm, ⟨47, _⟩ => ⟨S4x16x16x1024, .f32⟩
  | .hbm, ⟨48, _⟩ => ⟨S_, .f32⟩
  | .hbm, ⟨49, _⟩ => ⟨S4x16x16x1024, .f32⟩
  | .hbm, ⟨50, _⟩ => ⟨S4x16x16x1024, .f32⟩
  | .hbm, ⟨51, _⟩ => ⟨S_, .f32⟩
  | .hbm, ⟨52, _⟩ => ⟨S4x16x1024, .f32⟩
  | .hbm, ⟨53, _⟩ => ⟨S_, .f32⟩
  | .hbm, ⟨54, _⟩ => ⟨S4x1024, .f32⟩
  | .hbm, ⟨55, _⟩ => ⟨S_, .f32⟩
  | .hbm, ⟨56, _⟩ => ⟨S4x1024, .f32⟩
  | .hbm, ⟨57, _⟩ => ⟨S4x1024, .f32⟩
  | _, _ => ⟨S4x16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_cst : Ref sig .tc := ⟨.hbm, 48, rfl⟩
abbrev main_call1_v0 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_cst_4 : Ref sig .tc := ⟨.hbm, 55, rfl⟩
abbrev main_v21 : Ref sig .tc := ⟨.hbm, 56, rfl⟩
abbrev main_v22 : Ref sig .tc := ⟨.hbm, 57, rfl⟩

abbrev nD : Nat := 1
abbrev τ : Topo := Topo.v7x

variable {F : FTy → Type} [FloatOps F]
-- ==== Mlp.lean ====
abbrev S4x4096x6 : Shape := ⟨3, ![4, 4096, 6]⟩
abbrev S6x32 : Shape := ⟨2, ![6, 32]⟩
abbrev S32 : Shape := ⟨1, ![32]⟩
abbrev S16384x6 : Shape := ⟨2, ![16384, 6]⟩
abbrev S1x32 : Shape := ⟨2, ![1, 32]⟩
abbrev S16384x35 : Shape := ⟨2, ![16384, 35]⟩
abbrev S16384x32 : Shape := ⟨2, ![16384, 32]⟩
abbrev S16384x3 : Shape := ⟨2, ![16384, 3]⟩

abbrev nBuf : Space → Nat
  | .hbm => 8
  | .vmem => 5
  | .smem => 0
  | _ => 0

abbrev bufTy : (tb : Table) → Fin (tcTables nBuf tb) → BufTy
  | .hbm, ⟨0, _⟩ => ⟨S4x4096x6, .f32⟩
  | .hbm, ⟨1, _⟩ => ⟨S6x32, .f32⟩
  | .hbm, ⟨2, _⟩ => ⟨S32, .f32⟩
  | .hbm, ⟨3, _⟩ => ⟨S32, .f32⟩
  | .hbm, ⟨4, _⟩ => ⟨S16384x6, .f32⟩
  | .hbm, ⟨5, _⟩ => ⟨S1x32, .f32⟩
  | .hbm, ⟨6, _⟩ => ⟨S1x32, .f32⟩
  | .hbm, ⟨7, _⟩ => ⟨S16384x35, .f32⟩
  | .local _ .vmem, ⟨0, _⟩ => ⟨S16384x6, .f32⟩
  | .local _ .vmem, ⟨1, _⟩ => ⟨S6x32, .f32⟩
  | .local _ .vmem, ⟨2, _⟩ => ⟨S1x32, .f32⟩
  | .local _ .vmem, ⟨3, _⟩ => ⟨S1x32, .f32⟩
  | .local _ .vmem, ⟨4, _⟩ => ⟨S16384x35, .f32⟩
  | _, _ => ⟨S4x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x35 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MlpRefIdeal.lean ====
abbrev S4x4096x6 : Shape := ⟨3, ![4, 4096, 6]⟩
abbrev S6x32 : Shape := ⟨2, ![6, 32]⟩
abbrev S32 : Shape := ⟨1, ![32]⟩
abbrev S4x4096x3 : Shape := ⟨3, ![4, 4096, 3]⟩
abbrev S4x4096x32 : Shape := ⟨3, ![4, 4096, 32]⟩
abbrev S_ : Shape := ⟨0, ![]⟩
abbrev S1x1x32 : Shape := ⟨3, ![1, 1, 32]⟩
abbrev S4x4096x35 : Shape := ⟨3, ![4, 4096, 35]⟩
abbrev S16384x35 : Shape := ⟨2, ![16384, 35]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x6, .f32⟩
  | .hbm, ⟨1, _⟩ => ⟨S6x32, .f32⟩
  | .hbm, ⟨2, _⟩ => ⟨S32, .f32⟩
  | .hbm, ⟨3, _⟩ => ⟨S32, .f32⟩
  | .hbm, ⟨4, _⟩ => ⟨S4x4096x3, .f32⟩
  | .hbm, ⟨5, _⟩ => ⟨S4x4096x32, .f32⟩
  | .hbm, ⟨6, _⟩ => ⟨S_, .f32⟩
  | .hbm, ⟨7, _⟩ => ⟨S32, .f32⟩
  | .hbm, ⟨8, _⟩ => ⟨S1x1x32, .f32⟩
  | .hbm, ⟨9, _⟩ => ⟨S_, .f32⟩
  | .hbm, ⟨10, _⟩ => ⟨S1x1x32, .f32⟩
  | .hbm, ⟨11, _⟩ => ⟨S1x1x32, .f32⟩
  | .hbm, ⟨12, _⟩ => ⟨S_, .i32⟩
  | .hbm, ⟨13, _⟩ => ⟨S_, .f32⟩
  | .hbm, ⟨14, _⟩ => ⟨S32, .f32⟩
  | .hbm, ⟨15, _⟩ => ⟨S1x1x32, .f32⟩
  | .hbm, ⟨16, _⟩ => ⟨S_, .f32⟩
  | .hbm, ⟨17, _⟩ => ⟨S1x1x32, .f32⟩
  | .hbm, ⟨18, _⟩ => ⟨S1x1x32, .f32⟩
  | .hbm, ⟨19, _⟩ => ⟨S4x4096x32, .f32⟩
  | .hbm, ⟨20, _⟩ => ⟨S4x4096x32, .f32⟩
  | .hbm, ⟨21, _⟩ => ⟨S4x4096x32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32, .f32⟩
  | .hbm, ⟨27, _⟩ => ⟨S1x1x32, .f32⟩
  | .hbm, ⟨28, _⟩ => ⟨S1x1x32, .f32⟩
  | .hbm, ⟨29, _⟩ => ⟨S1x1x32, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1x1x32, .f32⟩
  | .hbm, ⟨35, _⟩ => ⟨S1x1x32, .f32⟩
  | .hbm, ⟨36, _⟩ => ⟨S4x4096x32, .f32⟩
  | .hbm, ⟨37, _⟩ => ⟨S4x4096x32, .f32⟩
  | .hbm, ⟨38, _⟩ => ⟨S_, .f32⟩
  | .hbm, ⟨39, _⟩ => ⟨S1x1x32, .f32⟩
  | .hbm, ⟨40, _⟩ => ⟨S1x1x32, .f32⟩
  | .hbm, ⟨41, _⟩ => ⟨S1x1x32, .f32⟩
  | .hbm, ⟨42, _⟩ => ⟨S4x4096x32, .f32⟩
  | .hbm, ⟨43, _⟩ => ⟨S4x4096x32, .f32⟩
  | .hbm, ⟨44, _⟩ => ⟨S1x1x32, .f32⟩
  | .hbm, ⟨45, _⟩ => ⟨S4x4096x32, .f32⟩
  | .hbm, ⟨46, _⟩ => ⟨S4x4096x32, .f32⟩
  | .hbm, ⟨47, _⟩ => ⟨S1x1x32, .f32⟩
  | .hbm, ⟨48, _⟩ => ⟨S4x4096x32, .f32⟩
  | .hbm, ⟨49, _⟩ => ⟨S4x4096x32, .f32⟩
  | .hbm, ⟨50, _⟩ => ⟨S_, .f32⟩
  | .hbm, ⟨51, _⟩ => ⟨S4x4096x32, .f32⟩
  | .hbm, ⟨52, _⟩ => ⟨S4x4096x32, .f32⟩
  | .hbm, ⟨53, _⟩ => ⟨S4x4096x35, .f32⟩
  | .hbm, ⟨54, _⟩ => ⟨S16384x35, .f32⟩
  | _, _ => ⟨S4x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_cst : Ref sig .tc := ⟨.hbm, 50, rfl⟩
abbrev main_call1_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩

abbrev nD : Nat := 1
abbrev τ : Topo := Topo.v7x

variable {F : FTy → Type} [FloatOps F]
-- ==== Proof.Bounds.lean ====
/-
  WHAT THE PRECONDITIONS' COMPARISONS SAY: an absolute value compared with a bound makes the extended real a real number.
-/
module

public import Idealize.ShloMosaic.Lib.StableHlo
public import Idealize.ShloMosaic.PureOps.Ideal.Laws

@[expose] public section

noncomputable section

namespace Cert.Bounds

open Idealize.ShloMosaic

/-- The pattern of the bound is `2 ^ 61`. -/
theorem bound_eq : Ideal.ofBits .f32 0x5E000000#32 = ((2 ^ 61 : ℝ) : EReal) := by
  simp [Ideal.ofBits, Ideal.ieee]
  rw [← EReal.coe_pow, ← EReal.coe_pow, ← EReal.coe_mul]
  norm_num

/-- The pattern of infinity. -/
theorem inf_eq : Ideal.ofBits .f32 0x7F800000#32 = ⊤ := by simp [Ideal.ofBits, Ideal.ieee]

/-- An extended real of absolute value at most `2 ^ 61` is a real number of that bound. -/
theorem abs_le {a : EReal} (h : Ideal.cmp .ole (max a (-a)) (Ideal.ofBits .f32 0x5E000000#32) = 1#1) :
    ∃ x : ℝ, a = (x : EReal) ∧ |x| ≤ 2 ^ 61 := by
  have h' : max a (-a) ≤ ((2 ^ 61 : ℝ) : EReal) := by
    rw [bound_eq] at h
    by_contra hn
    have h0 : Ideal.cmp .ole (max a (-a)) ((2 ^ 61 : ℝ) : EReal) = 0#1 := by
      show BitVec.ofBool (decide _) = _
      rw [decide_eq_false hn]
      rfl
    rw [h0] at h
    exact absurd h (by decide)
  have h1 := (le_max_left _ _).trans h'
  have h2 := (le_max_right _ _).trans h'
  induction a with
  | bot => exact absurd h2 (not_le.mpr (EReal.coe_lt_top _))
  | top => exact absurd h1 (not_le.mpr (EReal.coe_lt_top _))
  | coe x =>
    refine ⟨x, rfl, _root_.abs_le.mpr ⟨?_, EReal.coe_le_coe_iff.mp h1⟩⟩
    rw [← EReal.coe_neg] at h2
    have := EReal.coe_le_coe_iff.mp h2
    linarith

/-- An extended real of absolute value below infinity is a real number. -/
theorem abs_lt {a : EReal} (h : Ideal.cmp .olt (max a (-a)) (Ideal.ofBits .f32 0x7F800000#32) = 1#1) : ∃ x : ℝ, a = (x : EReal) := by
  have h' : max a (-a) < ⊤ := by
    rw [inf_eq] at h
    by_contra hn
    have h0 : Ideal.cmp .olt (max a (-a)) ⊤ = 0#1 := by
      show BitVec.ofBool (decide _) = _
      rw [decide_eq_false hn]
      rfl
    rw [h0] at h
    exact absurd h (by decide)
  have h1 := (le_max_left _ _).trans_lt h'
  have h2 := (le_max_right _ _).trans_lt h'
  induction a with
  | bot => exact absurd h2 (by simp)
  | top => exact absurd h1 (by simp)
  | coe x => exact ⟨x, rfl⟩

/-- An extended real that compares as at least zero is. -/
theorem zero_le {a : EReal} (h : Ideal.cmp .oge a (Ideal.ofBits .f32 0x00000000#32) = 1#1) : 0 ≤ a := by
  rw [Ideal.ofBits_zero_f32] at h
  by_contra hn
  have h0 : Ideal.cmp .oge a 0 = 0#1 := by
    show BitVec.ofBool (decide _) = _
    rw [decide_eq_false hn]
    rfl
  rw [h0] at h
  exact absurd h (by decide)

end Cert.Bounds

end
-- ==== Proof.Nearest.lean ====
/-
  Picking nearest points one at a time, over the extended reals.

  `near D k` is the point a repeated search picks in round `k`: the first of the points at the least remaining distance, whose distance is
  then replaced by a value `B` above all distances. For at most as many rounds as there are points the picks are exactly the first entries of
  the stable sort of the points by distance.
-/
module

public import Idealize.ShloMosaic.Lib.SortPrefix
public import Idealize.ShloMosaic.PureOps.Ideal
public import Mathlib.Data.Prod.Lex

@[expose] public section

noncomputable section

namespace Cert.Nearest

open Idealize.ShloMosaic

variable {n : ℕ}

/-- There is a first position among those with the least value. -/
theorem exists_first (hn : 0 < n) (f : Fin n → EReal) : ∃ i : Fin n, ∀ j, f i < f j ∨ (f i = f j ∧ i ≤ j) := by
  obtain ⟨i, -, h⟩ := Finset.exists_min_image Finset.univ (fun i => toLex (f i, i)) ⟨⟨0, hn⟩, Finset.mem_univ _⟩
  exact ⟨i, fun j => Prod.Lex.toLex_le_toLex.mp (h j (Finset.mem_univ _))⟩

/-- The first of the positions at which `f` is least. -/
def first (hn : 0 < n) (f : Fin n → EReal) : Fin n := (exists_first hn f).choose

variable (hn : 0 < n)

/-- The first least position: every other value is greater, or equal and at a later position. -/
theorem first_spec (f : Fin n → EReal) (j : Fin n) : f (first hn f) < f j ∨ (f (first hn f) = f j ∧ first hn f ≤ j) :=
  (exists_first hn f).choose_spec j

/-- No value lies below the one at the first least position. -/
theorem first_le (f : Fin n → EReal) (j : Fin n) : f (first hn f) ≤ f j := by
  rcases first_spec hn f j with h | h
  · exact h.le
  · exact h.1.le

/-- The minimum of the values is the value at the first least position. -/
theorem fold_min (f : Fin n → EReal) : Finset.univ.fold min ⊤ f = f (first hn f) :=
  le_antisymm (Finset.inf_le (f := f) (Finset.mem_univ _)) (Finset.le_inf fun j _ => first_le hn f j)

/-- A position's number equals the least number of a position holding the minimum (all others counted as `n`) exactly at the first least position. -/
theorem first_test (f : Fin n → EReal) (c : Fin n) :
    ((c.val : ℝ) : EReal) = Finset.univ.fold min ⊤ (fun i : Fin n => if f i = Finset.univ.fold min ⊤ f then ((i.val : ℝ) : EReal) else ((n : ℝ) : EReal))
      ↔ c = first hn f := by
  have e : Finset.univ.fold min ⊤ (fun i : Fin n => if f i = Finset.univ.fold min ⊤ f then ((i.val : ℝ) : EReal) else ((n : ℝ) : EReal))
      = (((first hn f).val : ℝ) : EReal) := by
    rw [fold_min hn f]
    refine le_antisymm ?_ (Finset.le_inf fun j _ => ?_)
    · refine (Finset.inf_le (Finset.mem_univ (first hn f))).trans_eq ?_
      simp only [if_true]
    · split
      · next h =>
        rcases first_spec hn f j with h' | h'
        · exact absurd h'.ne' (by simpa using h)
        · exact EReal.coe_le_coe_iff.mpr (Nat.cast_le.mpr h'.2)
      · exact EReal.coe_le_coe_iff.mpr (Nat.cast_le.mpr (first hn f).isLt.le)
  rw [e, EReal.coe_eq_coe_iff, Nat.cast_inj, Fin.ext_iff]

/-- The distances left after `k` picks: each picked point's distance replaced by `B`. -/
def rest (B : EReal) (D : Fin n → EReal) : ℕ → Fin n → EReal
  | 0 => D
  | k + 1 => Function.update (rest B D k) (first hn (rest B D k)) B

/-- The point picked in round `k`. -/
def near (B : EReal) (D : Fin n → EReal) (k : ℕ) : Fin n := first hn (rest hn B D k)

variable (B : EReal) (D : Fin n → EReal)

/-- A point's remaining distance is `B` if an earlier round picked it, else its distance. -/
theorem rest_of_picked (k j : ℕ) (hj : j < k) : rest hn B D k (near hn B D j) = B := by
  induction k with
  | zero => exact absurd hj (Nat.not_lt_zero _)
  | succ k ih =>
    show Function.update (rest hn B D k) (first hn (rest hn B D k)) B _ = B
    by_cases h : near hn B D j = first hn (rest hn B D k)
    · rw [h, Function.update_self]
    · rw [Function.update_of_ne h]
      refine ih (lt_of_le_of_ne (Nat.le_of_lt_succ hj) fun e => h ?_)
      rw [e]; rfl

/-- A point no earlier round picked keeps its distance. -/
theorem rest_of_new (k : ℕ) (i : Fin n) (h : ∀ j < k, near hn B D j ≠ i) : rest hn B D k i = D i := by
  induction k with
  | zero => rfl
  | succ k ih =>
    show Function.update (rest hn B D k) (first hn (rest hn B D k)) B i = D i
    rw [Function.update_of_ne (show i ≠ first hn (rest hn B D k) from fun e => h k (Nat.lt_succ_self k) e.symm)]
    exact ih fun j hj => h j (Nat.lt_succ_of_lt hj)

variable (hD : ∀ i, D i < B)
include hD

/-- While points are left, a round picks one that no earlier round picked. -/
theorem near_new (k : ℕ) (hk : k < n) (j : ℕ) (hj : j < k) : near hn B D j ≠ near hn B D k := by
  obtain ⟨i, hi⟩ : ∃ i : Fin n, i ∉ (Finset.range k).image (near hn B D) := by
    by_contra h
    push Not at h
    have h1 : Finset.univ ⊆ (Finset.range k).image (near hn B D) := fun i _ => h i
    have h2 := (Finset.card_le_card h1).trans Finset.card_image_le
    rw [Finset.card_univ, Fintype.card_fin, Finset.card_range] at h2
    omega
  intro e
  have h1 := first_le hn (rest hn B D k) i
  rw [rest_of_new hn B D k i fun j hj e => hi (Finset.mem_image.mpr ⟨j, Finset.mem_range.mpr hj, e⟩)] at h1
  have h2 : rest hn B D k (first hn (rest hn B D k)) = B := by
    have := rest_of_picked hn B D k j hj
    rwa [e] at this
  exact absurd (hD i) (not_lt.mpr (h2 ▸ h1))

/-- The picks of two rounds are in order: the earlier one is nearer, or as near and at an earlier position. -/
theorem near_order (k : ℕ) (hk : k < n) (p : Fin n) (hp : ∀ j ≤ k, near hn B D j ≠ p) :
    D (near hn B D k) < D p ∨ (D (near hn B D k) = D p ∧ near hn B D k ≤ p) := by
  have h := first_spec hn (rest hn B D k) p
  rw [rest_of_new hn B D k p fun j hj => hp j hj.le] at h
  have h2 := rest_of_new hn B D k (near hn B D k) fun j hj => near_new hn B D hD k hk j hj
  rw [show rest hn B D k (first hn (rest hn B D k)) = D (near hn B D k) from h2] at h
  exact h

omit hD in
/-- A stable sort by distance alone is the sort by distance and then by position, on a list already in the order of positions. -/
theorem stableSort_distance (l : List (Fin n)) (hl : l.Pairwise (· < ·)) :
    stableSort (fun a b => decide (D a < D b)) l
      = stableSort (fun a b => decide (D a < D b) || (decide (D a = D b) && decide (a < b))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab := hl.1 b hb'
    simp [not_lt.mpr hab.le]

/-- THE PICKS ARE THE SORT'S FIRST ENTRIES: where all distances lie below `B`, the stable sort of the points by distance puts at place `k`
    the point that round `k` of the repeated search picks. -/
theorem sortedFrom_eq_near (k : Fin n) :
    sortedFrom (fun a b : Fin n => decide (D a < D b)) k = near hn B D k.val := by
  have e : sortedFrom (fun a b : Fin n => decide (D a < D b))
      = sortedFrom (fun a b : Fin n => decide (D a < D b) || (decide (D a = D b) && decide (a < b))) := by
    funext k
    unfold sortedFrom
    rw [List.get_of_eq (show sortPositions n _ = sortPositions n _ from stableSort_distance D _ (List.pairwise_lt_finRange n))]
    rfl
  rw [e]
  have hB := StrictTotalBefore.of_key_then_position (fun a b : EReal => decide (a < b)) D (by simp)
    (fun a b c => by simpa using fun h1 h2 => lt_trans h1 h2) (fun a b => by simpa using lt_trichotomy a b)
  have hfalse : ∀ (i : ℕ) (p : Fin n), (D (near hn B D i) < D p ∨ (D (near hn B D i) = D p ∧ near hn B D i ≤ p)) →
      (decide (D p < D (near hn B D i)) || (decide (D p = D (near hn B D i)) && decide (p < near hn B D i))) = false := by
    intro i p h
    rcases h with h | ⟨h, h'⟩
    · simp [not_lt.mpr h.le, h.ne']
    · simp [h, not_lt.mpr h']
  have := hB.sortedFrom_eq_of_prefix (le_refl n) (fun i : Fin n => near hn B D i.val)
    (fun i j h => by
      by_contra hne
      rcases lt_or_gt_of_ne fun e => hne (Fin.ext e) with hlt | hlt
      · exact near_new hn B D hD j.val j.isLt i.val hlt h
      · exact near_new hn B D hD i.val i.isLt j.val hlt h.symm)
    (fun i j hij => hfalse i.val _ (near_order hn B D hD i.val i.isLt _ fun l hl => near_new hn B D hD j.val j.isLt l (lt_of_le_of_lt hl hij)))
    (fun i p hp => hfalse i.val p (near_order hn B D hD i.val i.isLt p fun l hl => hp ⟨l, lt_of_le_of_lt hl i.isLt⟩)) k
  exact this

end Cert.Nearest

end
-- ==== Proof.Step.lean ====
/-
  The grouping kernel's rounds, at any sizes, over the extended reals: the vocabulary its printed text folds into, and what each word of it
  is at an index. `d` holds the squared distances of `M` queries to `n` points, `fi` the number of each column, `tab` the points' features
  (the first three the coordinates), `w` the weights, `qw` the part of a product that the query's own coordinates contribute.
-/
module

public import Idealize.ShloMosaic.Lib.Pointwise
public import Idealize.ShloMosaic.Lib.ValueLayoutCasts
public import Idealize.ShloMosaic.Lib.MatmulPlain
public import proofs.«01_k».proof.Proof.Nearest

@[expose] public section

set_option maxRecDepth 16384

noncomputable section

namespace Cert.Step

open Idealize.ShloMosaic Cert.Nearest

/-- A matrix of extended reals. -/
abbrev Mat (a b : ℕ) : Type := FVec Ideal ⟨2, ![a, b]⟩ .f32

/-- The shape conditions of one round. -/
structure Fit (M n dout : ℕ) : Prop where
  rowMin : (⟨2, ![M, n]⟩ : Shape).Reduces [1] ⟨1, ![M]⟩
  column : (⟨1, ![M]⟩ : Shape).ShapeCasts ⟨2, ![M, 1]⟩
  spread : (⟨2, ![M, 1]⟩ : Shape).Broadcasts ⟨2, ![M, n]⟩
  colSum : (⟨2, ![M, dout]⟩ : Shape).Reduces [0] ⟨1, ![dout]⟩
  line : (⟨1, ![dout]⟩ : Shape).ShapeCasts ⟨2, ![1, dout]⟩

variable {M n tc dout : ℕ} (H : Fit M n dout) (cn : BitVec 32)

/-- Each row's minimum, repeated along the row. -/
def rowMin (d : Mat M n) : Mat M n :=
  broadcastTo ⟨2, ![M, n]⟩ (shapeCast ⟨2, ![M, 1]⟩ (multiReduction .minimumf [1] ⟨1, ![M]⟩ d 0x7F800000#32 H.rowMin (.inl rfl) rfl) H.column) H.spread

/-- The mask of the points a round picks: in each row the least number of a column holding the row's minimum. -/
def sel (d fi : Mat M n) : IVec ⟨2, ![M, n]⟩ 1 :=
  cmpf .oeq fi (rowMin H (select (cmpf .oeq d (rowMin H d)) fi (broadcast ⟨2, ![M, n]⟩ (Scalar.ofBits .f32 cn))))

/-- The distances left when the picked points are struck out. -/
def strike (d fi : Mat M n) : Mat M n :=
  select (sel H cn d fi) (broadcast ⟨2, ![M, n]⟩ (Scalar.ofBits .f32 0x7F000000#32)) d

/-- The products of the picked points' features with the weights, less the query's part. -/
def prod (d fi : Mat M n) (tab : Mat n tc) (w : Mat tc dout) (qw : Mat M dout) : Mat M dout :=
  subf (matmul (DotDims.plain M tc dout) none (matmul (DotDims.plain M n tc) none
    (select (sel H cn d fi) (broadcast ⟨2, ![M, n]⟩ (Scalar.ofBits .f32 0x3F800000#32)) (broadcast ⟨2, ![M, n]⟩ (Scalar.ofBits .f32 0x00000000#32)))
    tab (constant ⟨2, ![M, tc]⟩ .f32 0x00000000#32)) w (constant ⟨2, ![M, dout]⟩ .f32 0x00000000#32)) qw

/-- The sums of the columns, as one line. -/
def colSum (y : Mat M dout) : Mat 1 dout :=
  shapeCast ⟨2, ![1, dout]⟩ (multiReduction .add [0] ⟨1, ![dout]⟩ y 0x00000000#32 H.colSum (.inl rfl) rfl) H.line

/-- The distances left after `k` rounds. -/
def dist (d fi : Mat M n) : ℕ → Mat M n
  | 0 => d
  | k + 1 => strike H cn (dist d fi k) fi

variable (d fi : Mat M n) (tab : Mat n tc) (w : Mat tc dout) (qw : Mat M dout)

/-- Round `k`'s products. -/
def grouped (k : ℕ) : Mat M dout := prod H cn (dist H cn d fi k) fi tab w qw

/-- The largest product of the first `k` rounds. -/
def top : ℕ → Mat M dout
  | 0 => broadcast ⟨2, ![M, dout]⟩ (Scalar.ofBits .f32 0xFF800000#32)
  | k + 1 => maximumf (top k) (grouped H cn d fi tab w qw k)

/-- The sum of the first `k` rounds' products. -/
def total : ℕ → Mat 1 dout
  | 0 => broadcast ⟨2, ![1, dout]⟩ (Scalar.ofBits .f32 0x00000000#32)
  | k + 1 => addf (total k) (colSum H (grouped H cn d fi tab w qw k))

/-- The sum of the squares of the first `k` rounds' products. -/
def totalSq : ℕ → Mat 1 dout
  | 0 => broadcast ⟨2, ![1, dout]⟩ (Scalar.ofBits .f32 0x00000000#32)
  | k + 1 => addf (totalSq k) (colSum H (mulf (grouped H cn d fi tab w qw k) (grouped H cn d fi tab w qw k)))

/-! ## Folding the printed text into this vocabulary -/

/-- The least entry of each row, spread along the row. -/
theorem rowMin_eq : broadcastTo ⟨2, ![M, n]⟩ (shapeCast ⟨2, ![M, 1]⟩ (multiReduction .minimumf [1] ⟨1, ![M]⟩ d 0x7F800000#32 H.rowMin (.inl rfl) rfl)
    H.column) H.spread = rowMin H d := rfl

/-- The mask of the first nearest point. -/
theorem sel_eq : cmpf .oeq fi (rowMin H (select (cmpf .oeq d (rowMin H d)) fi (broadcast ⟨2, ![M, n]⟩ (Scalar.ofBits .f32 cn)))) = sel H cn d fi := rfl

/-- The distances with the picked point struck. -/
theorem strike_eq : select (sel H cn d fi) (broadcast ⟨2, ![M, n]⟩ (Scalar.ofBits .f32 0x7F000000#32)) d = strike H cn d fi := rfl

/-- The products of the picked points' rows with the weights, less the query's part. -/
theorem prod_eq : subf (matmul (DotDims.plain M tc dout) none (matmul (DotDims.plain M n tc) none
    (select (sel H cn d fi) (broadcast ⟨2, ![M, n]⟩ (Scalar.ofBits .f32 0x3F800000#32)) (broadcast ⟨2, ![M, n]⟩ (Scalar.ofBits .f32 0x00000000#32)))
    tab (constant ⟨2, ![M, tc]⟩ .f32 0x00000000#32)) w (constant ⟨2, ![M, dout]⟩ .f32 0x00000000#32)) qw = prod H cn d fi tab w qw := rfl

/-- The sums down the columns. -/
theorem colSum_eq (y : Mat M dout) : shapeCast ⟨2, ![1, dout]⟩ (multiReduction .add [0] ⟨1, ![dout]⟩ y 0x00000000#32 H.colSum (.inl rfl) rfl) H.line
    = colSum H y := rfl

/-! ## At an index -/

/-- The pattern `0x7F800000` is plus infinity, the greatest extended real. -/
theorem ofBits_top : Ideal.ofBits .f32 0x7F800000#32 = ⊤ := by simp [Ideal.ofBits, Ideal.ieee]

/-- The pattern `0xFF800000` is minus infinity, the least extended real. -/
theorem ofBits_bot : Ideal.ofBits .f32 0xFF800000#32 = ⊥ := by simp [Ideal.ofBits, Ideal.ieee]

/-- The value a picked point's distance is replaced by. -/
def big : EReal := Ideal.ofBits .f32 0x7F000000#32

/-- The ordered comparison for equality. -/
theorem cmp_oeq (x y : EReal) : Ideal.cmp .oeq x y = BitVec.ofBool (decide (x = y)) := rfl

/-- A column repeated along the rows reads the column at the row. -/
theorem spread_apply {α : Type} (v : (⟨2, ![M, 1]⟩ : Shape).Idx → α) (h : (⟨2, ![M, 1]⟩ : Shape).Broadcasts ⟨2, ![M, n]⟩) (r : Fin M) (c : Fin n) :
    broadcastTo ⟨2, ![M, n]⟩ v h (ix2 r c) = v (ix2 r (0 : Fin 1)) :=
  broadcastTo_apply v h _ _ fun ax => by
    match ax with
    | ⟨0, _⟩ =>
      show r.val = if M = 1 then 0 else r.val
      split
      · have := r.isLt; omega
      · rfl
    | ⟨1, _⟩ => rfl

/-- Repeated along a row, a row's minimum is the minimum of its entries. -/
theorem rowMin_apply (r : Fin M) (c : Fin n) : rowMin H d (ix2 r c) = Finset.univ.fold min ⊤ fun i => d (ix2 r i) := by
  unfold rowMin
  rw [spread_apply, ix2_eq_valueIdx, ValueIdx.shapeCast_a_a1_apply, ← ix1_eq_valueIdx, ← ofBits_top]
  pointwise []

variable (hn : 0 < n) (hcn : Ideal.ofBits .f32 cn = ((n : ℝ) : EReal)) (hfi : ∀ (r : Fin M) (c : Fin n), fi (ix2 r c) = ((c.val : ℝ) : EReal))
include hcn hfi

/-- The mask marks, in each row, the first point at the least distance. -/
theorem sel_apply (r : Fin M) (c : Fin n) :
    sel H cn d fi (ix2 r c) = if c = first hn (fun i => d (ix2 r i)) then 1#1 else 0#1 := by
  have e := first_test hn (fun i => d (ix2 r i)) c
  have e2 : sel H cn d fi (ix2 r c) = BitVec.ofBool (decide (((c.val : ℝ) : EReal) = Finset.univ.fold min ⊤ (fun i : Fin n =>
      if d (ix2 r i) = Finset.univ.fold min ⊤ (fun i => d (ix2 r i)) then ((i.val : ℝ) : EReal) else ((n : ℝ) : EReal)))) := by
    show Ideal.cmp .oeq (fi (ix2 r c)) (rowMin H _ (ix2 r c)) = _
    rw [rowMin_apply, hfi]
    rw [cmp_oeq]
    congr 3
    refine Finset.fold_congr fun i _ => ?_
    show Scalar.select (Ideal.cmp .oeq (d (ix2 r i)) (rowMin H d (ix2 r i))) (fi (ix2 r i)) (Ideal.ofBits .f32 cn) = _
    rw [rowMin_apply, hfi, hcn, cmp_oeq]
    unfold Scalar.select
    by_cases h : d (ix2 r i) = Finset.univ.fold min ⊤ fun i => d (ix2 r i)
    · rw [if_pos h, decide_eq_true h]; rfl
    · rw [if_neg h, decide_eq_false h]; rfl
  rw [e2]
  by_cases h : c = first hn (fun i => d (ix2 r i))
  · rw [if_pos h, decide_eq_true (e.mpr h)]; rfl
  · rw [if_neg h, decide_eq_false fun h' => h (e.mp h')]; rfl

/-- The distances left after `k` rounds are those of the repeated search. -/
theorem dist_apply (k : ℕ) (r : Fin M) (c : Fin n) :
    dist H cn d fi k (ix2 r c) = rest hn big (fun i => d (ix2 r i)) k c := by
  induction k generalizing c with
  | zero => rfl
  | succ k ih =>
    show Scalar.select (sel H cn (dist H cn d fi k) fi (ix2 r c)) big (dist H cn d fi k (ix2 r c)) = _
    rw [sel_apply H cn (dist H cn d fi k) fi hn hcn hfi, ih, show (fun i => dist H cn d fi k (ix2 r i)) = rest hn big (fun i => d (ix2 r i)) k from funext ih]
    show _ = Function.update (rest hn big (fun i => d (ix2 r i)) k) (first hn (rest hn big (fun i => d (ix2 r i)) k)) big c
    by_cases h : c = first hn (rest hn big (fun i => d (ix2 r i)) k)
    · rw [if_pos h, h, Function.update_self]; rfl
    · rw [if_neg h, Function.update_of_ne h]; rfl

omit hcn hfi in
theorem plain_apply {a b c : ℕ} (l : Mat a b) (r : Mat b c) (i : Fin a) (j : Fin c) :
    matmul (DotDims.plain a b c) none l r (constant ⟨2, ![a, c]⟩ .f32 0x00000000#32) (ix2 i j) = ∑ k : Fin b, l (ix2 i k) * r (ix2 k j) := by
  rw [ix2_eq_valueIdx]
  refine (Ideal.matmul_plain_apply none l r _ i j).trans ?_
  rw [show (constant (F := Ideal) ⟨2, ![a, c]⟩ .f32 0x00000000#32 (ValueIdx.ix2 i j)) = (0 : EReal) from Ideal.ofBits_zero_f32, zero_add]
  simp only [ix2_eq_valueIdx]

/-- Round `k`'s product for a query is the product of the features of the point it picks with the weights, less the query's part. -/
theorem grouped_apply (k : ℕ) (r : Fin M) (j : Fin dout) :
    grouped H cn d fi tab w qw k (ix2 r j)
      = (∑ l : Fin tc, tab (ix2 (near hn big (fun i => d (ix2 r i)) k) l) * w (ix2 l j)) - qw (ix2 r j) := by
  show matmul (F := Ideal) _ _ _ _ _ (ix2 r j) - qw (ix2 r j) = _
  rw [plain_apply]
  congr 1
  refine Finset.sum_congr rfl fun l _ => ?_
  rw [plain_apply]
  congr 1
  have e : ∀ i : Fin n, select (sel H cn (dist H cn d fi k) fi) (broadcast ⟨2, ![M, n]⟩ (Scalar.ofBits .f32 0x3F800000#32))
      (broadcast ⟨2, ![M, n]⟩ (Scalar.ofBits (F := Ideal) .f32 0x00000000#32)) (ix2 r i)
      = if i = near hn big (fun i => d (ix2 r i)) k then (1 : EReal) else 0 := by
    intro i
    show Scalar.select (sel H cn (dist H cn d fi k) fi (ix2 r i)) (Ideal.ofBits .f32 0x3F800000#32) (Ideal.ofBits .f32 0x00000000#32) = _
    rw [sel_apply H cn (dist H cn d fi k) fi hn hcn hfi, Ideal.ofBits_one_f32, Ideal.ofBits_zero_f32,
      show (fun i => dist H cn d fi k (ix2 r i)) = rest hn big (fun i => d (ix2 r i)) k from funext (dist_apply H cn d fi hn hcn hfi k r)]
    unfold Scalar.select near
    split <;> simp
  simp only [e, ite_mul, one_mul, zero_mul, Finset.sum_ite_eq', Finset.mem_univ, if_true]

omit hcn hfi in
/-- A line of column sums at a column is the sum over the rows. -/
theorem colSum_apply (y : Mat M dout) (u : Fin 1) (j : Fin dout) : colSum H y (ix2 u j) = ∑ r : Fin M, y (ix2 r j) := by
  unfold colSum
  rw [ix2_eq_valueIdx, ValueIdx.shapeCast_a_1a_apply, ← ix1_eq_valueIdx]
  pointwise []

omit hcn hfi in
/-- The largest product of the first `k` rounds is their supremum. -/
theorem top_apply (k : ℕ) (r : Fin M) (j : Fin dout) :
    top H cn d fi tab w qw k (ix2 r j) = (Finset.range k).sup fun i => grouped H cn d fi tab w qw i (ix2 r j) := by
  induction k with
  | zero => exact ofBits_bot
  | succ k ih =>
    rw [Finset.range_add_one, Finset.sup_insert, sup_comm, ← ih]
    rfl

omit hcn hfi in
/-- The sum of the first `k` rounds' products. -/
theorem total_apply (k : ℕ) (u : Fin 1) (j : Fin dout) :
    total H cn d fi tab w qw k (ix2 u j) = ∑ i ∈ Finset.range k, ∑ r : Fin M, grouped H cn d fi tab w qw i (ix2 r j) := by
  induction k with
  | zero => exact Ideal.ofBits_zero_f32
  | succ k ih =>
    rw [Finset.sum_range_succ, ← ih, ← colSum_apply H _ u j]
    rfl

omit hcn hfi in
/-- The sum of the squares of the first `k` rounds' products. -/
theorem totalSq_apply (k : ℕ) (u : Fin 1) (j : Fin dout) :
    totalSq H cn d fi tab w qw k (ix2 u j)
      = ∑ i ∈ Finset.range k, ∑ r : Fin M, grouped H cn d fi tab w qw i (ix2 r j) * grouped H cn d fi tab w qw i (ix2 r j) := by
  induction k with
  | zero => exact Ideal.ofBits_zero_f32
  | succ k ih =>
    rw [Finset.sum_range_succ, ← ih]
    show totalSq H cn d fi tab w qw k (ix2 u j) + colSum H _ (ix2 u j) = _
    rw [colSum_apply]
    rfl

end Cert.Step

end
-- ==== Proof.Group.lean ====
/-
  THE GROUPED PRODUCTS, AS FUNCTIONS OF THE ARGUMENTS. `B` clouds of `n` points with coordinates `p` and features `h`, `m` query points
  `q` per cloud, weights `w`. Query `r` of cloud `b` has its nearest points (`In.nbr`); neighbour `k` has the row `In.cat`: the offset
  from the query, then the features; `In.y` is that row times the weights. The kernel multiplies the row of coordinates and features
  instead and subtracts the query's part afterwards: `In.fold_query` says the two agree where the coordinates and the first three rows
  of the weights are real numbers. `In.tile_*` read one tile of the kernel's text (`Step`) as these products.
-/
module

public import proofs.«01_k».proof.Proof.Step

@[expose] public section

noncomputable section

namespace Cert.Group

open Idealize.ShloMosaic Cert.Nearest Cert.Step

/-- Arrays of three axes. -/
abbrev Cube (a b c : ℕ) := FVec Ideal ⟨3, ![a, b, c]⟩ .f32

/-- What a grouped product is computed from: the points, the queries, the features and the weights, whose first three rows meet the
    coordinates. -/
structure In (B n m ch tc dout : ℕ) where
  p : Cube B n 3
  q : Cube B m 3
  h : Cube B n ch
  w : Mat tc dout
  hn : 0 < n
  ht : tc = 3 + ch

namespace In

variable {B n m ch tc dout : ℕ} (I : In B n m ch tc dout)

/-- The squared distance from query `r` to point `i`. -/
def sq (b : Fin B) (r : Fin m) (i : Fin n) : EReal :=
  ∑ a : Fin 3, (I.q (ix3 b r a) - I.p (ix3 b i a)) * (I.q (ix3 b r a) - I.p (ix3 b i a))

/-- Query `r`'s `k`-th nearest point. -/
def nbr (b : Fin B) (r : Fin m) (k : ℕ) : Fin n := near I.hn big (I.sq b r) k

/-- Point `i`'s coordinates, then its features. -/
def tab (b : Fin B) (i : Fin n) (l : Fin tc) : EReal :=
  if hl : l.val < 3 then I.p (ix3 b i ⟨l.val, hl⟩) else I.h (ix3 b i ⟨l.val - 3, by have := l.isLt; have := I.ht; omega⟩)

/-- The offset of the `k`-th neighbour from the query, then the neighbour's features. -/
def cat (b : Fin B) (r : Fin m) (k : ℕ) (l : Fin tc) : EReal :=
  if hl : l.val < 3 then I.p (ix3 b (I.nbr b r k) ⟨l.val, hl⟩) - I.q (ix3 b r ⟨l.val, hl⟩)
  else I.h (ix3 b (I.nbr b r k) ⟨l.val - 3, by have := l.isLt; have := I.ht; omega⟩)

/-- The `k`-th neighbour's row times the weights. -/
def y (b : Fin B) (r : Fin m) (k : ℕ) (j : Fin dout) : EReal := ∑ l : Fin tc, I.cat b r k l * I.w (ix2 l j)

/-- The number of the weights' row that meets coordinate `a`. -/
def row (a : Fin 3) : Fin tc := ⟨a.val, by have := a.isLt; have := I.ht; omega⟩

/-- The query's part of the products. -/
def qw (b : Fin B) (r : Fin m) (j : Fin dout) : EReal := ∑ a : Fin 3, I.q (ix3 b r a) * I.w (ix2 (I.row a) j)

/-- The largest of the sixteen neighbours' products. -/
def top (b : Fin B) (r : Fin m) (j : Fin dout) : EReal := (Finset.range 16).sup fun k => I.y b r k j

/-- The sum of all products of a column. -/
def total (j : Fin dout) : EReal := ∑ b : Fin B, ∑ r : Fin m, ∑ k ∈ Finset.range 16, I.y b r k j

/-- The sum of the squares of all products of a column. -/
def totalSq (j : Fin dout) : EReal := ∑ b : Fin B, ∑ r : Fin m, ∑ k ∈ Finset.range 16, I.y b r k j * I.y b r k j

/-- The coordinates are real numbers of at most `2 ^ 61`, and the first three rows of the weights are real numbers. -/
structure Ok : Prop where
  p : ∀ i, ∃ x : ℝ, I.p i = (x : EReal) ∧ |x| ≤ 2 ^ 61
  q : ∀ i, ∃ x : ℝ, I.q i = (x : EReal) ∧ |x| ≤ 2 ^ 61
  w : ∀ a j, ∃ x : ℝ, I.w (ix2 (I.row a) j) = (x : EReal)

/-- The value struck distances are replaced by is `2 ^ 127`. -/
theorem big_eq : big = ((2 ^ 127 : ℝ) : EReal) := by
  unfold big
  simp [Ideal.ofBits, Ideal.ieee]
  rw [← EReal.coe_pow, ← EReal.coe_pow, ← EReal.coe_mul]
  norm_num

variable {I}

/-- Every squared distance lies below the value struck distances are replaced by. -/
theorem sq_lt (ok : I.Ok) (b : Fin B) (r : Fin m) (i : Fin n) : I.sq b r i < big := by
  unfold sq
  have key : ∀ a : Fin 3, ∃ z : ℝ, (I.q (ix3 b r a) - I.p (ix3 b i a)) * (I.q (ix3 b r a) - I.p (ix3 b i a)) = (z : EReal) ∧ z ≤ 2 ^ 124 := by
    intro a
    obtain ⟨x, hx, bx⟩ := ok.q (ix3 b r a)
    obtain ⟨z, hz, bz⟩ := ok.p (ix3 b i a)
    refine ⟨(x - z) * (x - z), ?_, ?_⟩
    · rw [hx, hz]; push_cast; rfl
    · have h1 : |x - z| ≤ 2 ^ 62 := by
        have := abs_sub x z
        calc |x - z| ≤ |x| + |z| := abs_sub _ _
          _ ≤ 2 ^ 61 + 2 ^ 61 := add_le_add bx bz
          _ = 2 ^ 62 := by norm_num
      have h2 := mul_le_mul h1 h1 (abs_nonneg _) (by positivity)
      rw [abs_mul_abs_self] at h2
      linarith [h2, (by norm_num : (2 : ℝ) ^ 62 * 2 ^ 62 = 2 ^ 124)]
  rw [Fin.sum_univ_three]
  obtain ⟨z0, e0, b0⟩ := key 0
  obtain ⟨z1, e1, b1⟩ := key 1
  obtain ⟨z2, e2, b2⟩ := key 2
  rw [e0, e1, e2, big_eq, ← EReal.coe_add, ← EReal.coe_add, EReal.coe_lt_coe_iff]
  linarith [(by norm_num : (2 : ℝ) ^ 124 * 8 = 2 ^ 127), (by positivity : (0 : ℝ) < 2 ^ 124)]

/-- The products of coordinates and features, less the query's part, are the products of offsets and features. -/
theorem fold_query (ok : I.Ok) (b : Fin B) (r : Fin m) (k : ℕ) (j : Fin dout) :
    (∑ l : Fin tc, I.tab b (I.nbr b r k) l * I.w (ix2 l j)) - I.qw b r j = I.y b r k j := by
  obtain ⟨p, q, h, w, hn, ht⟩ := I
  subst ht
  set I : In B n m ch (3 + ch) dout := ⟨p, q, h, w, hn, rfl⟩ with hI
  unfold y qw
  rw [Fin.sum_univ_add, Fin.sum_univ_add]
  have e : ∀ l : Fin ch, I.tab b (I.nbr b r k) (Fin.natAdd 3 l) = I.cat b r k (Fin.natAdd 3 l) := by
    intro l
    unfold tab cat
    rw [dif_neg (by simp), dif_neg (by simp)]
  simp only [e]
  generalize (∑ l : Fin ch, I.cat b r k (Fin.natAdd 3 l) * I.w (ix2 (Fin.natAdd 3 l) j)) = R
  rw [sub_eq_add_neg, add_right_comm, ← sub_eq_add_neg]
  congr 1
  have ep : ∀ a : Fin 3, I.tab b (I.nbr b r k) (Fin.castAdd ch a) = I.p (ix3 b (I.nbr b r k) a) := by
    intro a
    unfold tab
    rw [dif_pos (show (Fin.castAdd ch a).val < 3 from a.isLt)]
    rfl
  have ec : ∀ a : Fin 3, I.cat b r k (Fin.castAdd ch a) = I.p (ix3 b (I.nbr b r k) a) - I.q (ix3 b r a) := by
    intro a
    unfold cat
    rw [dif_pos (show (Fin.castAdd ch a).val < 3 from a.isLt)]
    rfl
  have er : ∀ a : Fin 3, I.row a = Fin.castAdd ch a := fun a => rfl
  simp only [ep, ec]
  simp only [← er]
  have key : ∀ a : Fin 3, ∃ x z u : ℝ, I.p (ix3 b (I.nbr b r k) a) = (x : EReal) ∧ I.q (ix3 b r a) = (z : EReal) ∧ I.w (ix2 (I.row a) j) = (u : EReal) := by
    intro a
    obtain ⟨x, hx, _⟩ := ok.p (ix3 b (I.nbr b r k) a)
    obtain ⟨z, hz, _⟩ := ok.q (ix3 b r a)
    obtain ⟨u, hu⟩ := ok.w a j
    exact ⟨x, z, u, hx, hz, hu⟩
  choose x z u hx hz hu using key
  simp only [Fin.sum_univ_three, hx, hz, hu]
  rw [← EReal.coe_sub, ← EReal.coe_sub, ← EReal.coe_sub]
  simp only [← EReal.coe_mul, ← EReal.coe_add]
  rw [← EReal.coe_sub]
  congr 1
  ring

section Tile

variable {M : ℕ} (H : Fit M n dout) (cn : BitVec 32) (hcn : Ideal.ofBits .f32 cn = ((n : ℝ) : EReal)) (ok : I.Ok)
  {d fi : Mat M n} {tb : Mat n tc} {w : Mat tc dout} {qw : Mat M dout} (b : Fin B) (f : Fin M → Fin m)
  (hd : ∀ r i, d (ix2 r i) = I.sq b (f r) i) (hfi : ∀ (r : Fin M) (i : Fin n), fi (ix2 r i) = ((i.val : ℝ) : EReal))
  (htb : ∀ i l, tb (ix2 i l) = I.tab b i l) (hw : w = I.w) (hqw : ∀ r j, qw (ix2 r j) = I.qw b (f r) j)
include hcn ok hd hfi htb hw hqw

/-- Round `k`'s products in a tile of queries are the `k`-th neighbours' products. -/
theorem tile_grouped (k : ℕ) (r : Fin M) (j : Fin dout) : grouped H cn d fi tb w qw k (ix2 r j) = I.y b (f r) k j := by
  rw [grouped_apply H cn d fi tb w qw I.hn hcn hfi, ← fold_query ok, hqw, hw]
  simp only [hd, htb]
  rfl

/-- A tile's largest products. -/
theorem tile_top (r : Fin M) (j : Fin dout) : Step.top H cn d fi tb w qw 16 (ix2 r j) = I.top b (f r) j := by
  rw [top_apply]
  simp only [tile_grouped H cn hcn ok b f hd hfi htb hw hqw]
  rfl

/-- A tile's sums of products. -/
theorem tile_total (u : Fin 1) (j : Fin dout) :
    Step.total H cn d fi tb w qw 16 (ix2 u j) = ∑ r : Fin M, ∑ k ∈ Finset.range 16, I.y b (f r) k j := by
  rw [total_apply, Finset.sum_comm]
  simp only [tile_grouped H cn hcn ok b f hd hfi htb hw hqw]

/-- A tile's sums of squares of products. -/
theorem tile_totalSq (u : Fin 1) (j : Fin dout) :
    Step.totalSq H cn d fi tb w qw 16 (ix2 u j) = ∑ r : Fin M, ∑ k ∈ Finset.range 16, I.y b (f r) k j * I.y b (f r) k j := by
  rw [totalSq_apply, Finset.sum_comm]
  simp only [tile_grouped H cn hcn ok b f hd hfi htb hw hqw]

end Tile

end In

/-- A function of cloud and query, by the query's number when all clouds' queries are counted in order. -/
def flat {B m : ℕ} (f : Fin B → Fin m → EReal) (R : ℕ) : EReal :=
  if hR : R < B * m then f ⟨R / m, Nat.div_lt_of_lt_mul (by rwa [Nat.mul_comm])⟩ ⟨R % m, Nat.mod_lt _ (Nat.pos_of_ne_zero (by rintro rfl; simp at hR))⟩ else 0

/-- Summing the numbered queries in runs of `M` is summing them in order. -/
theorem sum_runs (F : ℕ → EReal) (M N : ℕ) : ∑ s ∈ Finset.range N, ∑ r : Fin M, F (s * M + r.val) = ∑ R ∈ Finset.range (N * M), F R := by
  induction N with
  | zero => simp
  | succ N ih =>
    rw [Finset.sum_range_succ, ih, Nat.succ_mul, Finset.sum_range_add]
    congr 1
    exact Fin.sum_univ_eq_sum_range (fun x => F (N * M + x)) M

/-- Summing the numbered queries is summing over clouds and queries. -/
theorem sum_flat {B m : ℕ} (f : Fin B → Fin m → EReal) (M N : ℕ) (h : N * M = B * m) :
    ∑ s ∈ Finset.range N, ∑ r : Fin M, flat f (s * M + r.val) = ∑ b : Fin B, ∑ r : Fin m, f b r := by
  rw [sum_runs, h, ← sum_runs]
  rw [← Fin.sum_univ_eq_sum_range (fun s => ∑ r : Fin m, flat f (s * m + r.val)) B]
  refine Finset.sum_congr rfl fun b _ => Finset.sum_congr rfl fun r _ => ?_
  have hb := b.isLt
  have hr := r.isLt
  have hlt : b.val * m + r.val < B * m := by
    calc b.val * m + r.val < b.val * m + m := by omega
      _ = (b.val + 1) * m := by ring
      _ ≤ B * m := Nat.mul_le_mul_right _ hb
  unfold flat
  rw [dif_pos hlt]
  have h1 : (b.val * m + r.val) / m = b.val := by rw [Nat.mul_comm, Nat.mul_add_div (by omega), Nat.div_eq_of_lt hr, Nat.add_zero]
  have h2 : (b.val * m + r.val) % m = r.val := by rw [Nat.mul_comm, Nat.mul_add_mod, Nat.mod_eq_of_lt hr]
  simp only [h1, h2]

end Cert.Group

end
-- ==== Proof.Down2Value.lean ====
/-
  WHAT ONE POINT OF THE GROUPING CALL LEAVES in its result blocks, 4096 points and 1024 queries a cloud, 128 queries a point: the rounds of
  `Step` on the point's blocks (`out_*_8` the largest products, `out_*_9` the sums, `out_*_10` the sums of squares; case A is the first
  point, case B a later one, which adds to what the point before left).
-/
module

public import proofs.«01_k».proof.Proof.Step
public import proofs.«01_k».proof.Proof.Gen.Down2Ideal.Value

@[expose] public section

set_option maxRecDepth 16384

noncomputable section

namespace Cert.Down2Value

open Cert.Down2Ideal Cert.Down2Ideal.Gen Idealize.ShloMosaic Idealize.ShloMosaic.TcCoe Idealize.SL.Sem

attribute [local instance] Cert.Down2Ideal.Gen.facts

/-- The shape conditions of this call's rounds. -/
theorem fit : Step.Fit 128 4096 64 := ⟨reduces_S128x4096_S128, shapeCasts_S128_S128x1, broadcasts_S128x1_S128x4096, reduces_S128x64_S64, shapeCasts_S64_S1x64⟩

/-- The offset of a whole rank-2 access. -/
theorem hz2 : (![0, 0] : Fin 2 → ℕ) = fun _ => 0 := by funext a; fin_cases a <;> rfl

/-- The offset of a whole rank-3 access. -/
theorem hz3 : (![0, 0, 0] : Fin 3 → ℕ) = fun _ => 0 := by funext a; fin_cases a <;> rfl

/-- The product with the mask contracts over the points. -/
theorem dot1 : dot_S128x4096_S4096x35_S128x35_1_0_0_1_n_n = DotDims.plain 128 4096 35 := rfl

/-- The product with the weights contracts over the features. -/
theorem dot2 : dot_S128x35_S35x64_S128x64_1_0_0_1_n_n = DotDims.plain 128 35 64 := rfl

/-- The largest products at the first point. -/
theorem out_A_8 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : cond0_0 i) (hc1 : ¬cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = shapeCast S1x128x64 (Step.top fit 0x45800000#32 (k0_pay5 x0 x1 x2 x3 x4 x5) k0_pay6 (k0_pay4 x6) x7 (k0_pay7 x3 x4 x5 x7) 16) shapeCasts_S128x64_S1x128x64 := by
  unfold out0_A_8
  rw [View.read_writes_junk_eq_canon]
  unfold kernelRun0_A
  dsimp only
  sl_unfold_words
  simp only [View.canon_unit_zero (S := S1x128x64) hz3, View.readAt_eq_ld, harg2.read_unread, harg3.read_unread, harg4.read_unread, harg5.read_unread, harg6.read_unread, harg7.read_unread, harg8.read_unread, harg9.read_unread,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at the first point. -/
theorem out_A_9 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : cond0_0 i) (hc1 : ¬cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.total fit 0x45800000#32 (k0_pay5 x0 x1 x2 x3 x4 x5) k0_pay6 (k0_pay4 x6) x7 (k0_pay7 x3 x4 x5 x7) 16 := by
  unfold out0_A_9
  rw [View.read_writes_junk_eq_canon]
  unfold kernelRun0_A
  dsimp only
  sl_unfold_words
  simp only [View.canon_unit_zero (S := S1x64) hz2, View.readAt_eq_ld, harg2.read_unread, harg3.read_unread, harg4.read_unread, harg5.read_unread, harg6.read_unread, harg7.read_unread, harg8.read_unread, harg9.read_unread,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at the first point. -/
theorem out_A_10 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : cond0_0 i) (hc1 : ¬cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.totalSq fit 0x45800000#32 (k0_pay5 x0 x1 x2 x3 x4 x5) k0_pay6 (k0_pay4 x6) x7 (k0_pay7 x3 x4 x5 x7) 16 := by
  unfold out0_A_10
  rw [View.read_writes_junk_eq_canon]
  unfold kernelRun0_A
  dsimp only
  sl_unfold_words
  simp only [View.canon_unit_zero (S := S1x64) hz2, View.readAt_eq_ld, harg2.read_unread, harg3.read_unread, harg4.read_unread, harg5.read_unread, harg6.read_unread, harg7.read_unread, harg8.read_unread, harg9.read_unread,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The largest products at a later point. -/
theorem out_B_8 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) (xo9 : Vec Ideal S1x64 .f32) (xo10 : Vec Ideal S1x64 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = shapeCast S1x128x64 (Step.top fit 0x45800000#32 (k0_pay5 x0 x1 x2 x3 x4 x5) k0_pay6 (k0_pay4 x6) x7 (k0_pay7 x3 x4 x5 x7) 16) shapeCasts_S128x64_S1x128x64 := by
  unfold out0_B_8
  rw [View.read_writes_junk_eq_canon]
  unfold kernelRun0_B
  dsimp only
  sl_unfold_words
  simp only [View.canon_unit_zero (S := S1x128x64) hz3, View.readAt_eq_ld, harg2.read_unread, harg3.read_unread, harg4.read_unread, harg5.read_unread, harg6.read_unread, harg7.read_unread, harg8.read_unread, harg9.read_unread, harg11.read_unread, harg12.read_unread, View.ld_unit_zero (S := S1x64) hz2,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at a later point, added to what was there. -/
theorem out_B_9 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) (xo9 : Vec Ideal S1x64 .f32) (xo10 : Vec Ideal S1x64 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo9 (Step.total fit 0x45800000#32 (k0_pay5 x0 x1 x2 x3 x4 x5) k0_pay6 (k0_pay4 x6) x7 (k0_pay7 x3 x4 x5 x7) 16) := by
  unfold out0_B_9
  rw [View.read_writes_junk_eq_canon]
  unfold kernelRun0_B
  dsimp only
  sl_unfold_words
  simp only [View.canon_unit_zero (S := S1x64) hz2, View.readAt_eq_ld, harg2.read_unread, harg3.read_unread, harg4.read_unread, harg5.read_unread, harg6.read_unread, harg7.read_unread, harg8.read_unread, harg9.read_unread, harg11.read_unread, harg12.read_unread, View.ld_unit_zero (S := S1x64) hz2,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at a later point, added to what was there. -/
theorem out_B_10 (c : Dev nD) (i : grid0.Coords) (arg2 : Memref sig .tc .vmem S1x1x4096 .f32) (harg2 : arg2.IsWhole) (arg3 : Memref sig .tc .vmem S1x1x4096 .f32) (harg3 : arg3.IsWhole) (arg4 : Memref sig .tc .vmem S1x1x4096 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x4096x35 .f32) (harg8 : arg8.IsWhole) (arg9 : Memref sig .tc .vmem S35x64 .f32) (harg9 : arg9.IsWhole) (arg10 : Memref sig .tc .vmem S1x128x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : cond0_1 i)
    (x0 : Vec Ideal S1x1x4096 .f32) (x1 : Vec Ideal S1x1x4096 .f32) (x2 : Vec Ideal S1x1x4096 .f32) (x3 : Vec Ideal S1x128x1 .f32) (x4 : Vec Ideal S1x128x1 .f32) (x5 : Vec Ideal S1x128x1 .f32) (x6 : Vec Ideal S1x4096x35 .f32) (x7 : Vec Ideal S35x64 .f32) (xo9 : Vec Ideal S1x64 .f32) (xo10 : Vec Ideal S1x64 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo10 (Step.totalSq fit 0x45800000#32 (k0_pay5 x0 x1 x2 x3 x4 x5) k0_pay6 (k0_pay4 x6) x7 (k0_pay7 x3 x4 x5 x7) 16) := by
  unfold out0_B_10
  rw [View.read_writes_junk_eq_canon]
  unfold kernelRun0_B
  dsimp only
  sl_unfold_words
  simp only [View.canon_unit_zero (S := S1x64) hz2, View.readAt_eq_ld, harg2.read_unread, harg3.read_unread, harg4.read_unread, harg5.read_unread, harg6.read_unread, harg7.read_unread, harg8.read_unread, harg9.read_unread, harg11.read_unread, harg12.read_unread, View.ld_unit_zero (S := S1x64) hz2,
    View.ld_unit_zero (S := S35x64) hz2, View.ld_unit_zero (S := S1x1x4096) hz3, View.ld_unit_zero (S := S1x128x1) hz3, View.ld_unit_zero (S := S1x4096x35) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

end Cert.Down2Value

end
-- ==== Proof.Down2Array.lean ====
/-
  THE RESULT ARRAYS OF THE GROUPING CALL, 4096 points and 1024 queries a cloud, as functions of the arguments (`Group.In`): the blocks the
  call's windows cut from the host's arrays are the arguments' entries; point `t` works on cloud `t / 8` and its queries from
  `t % 8 * 128` on; the largest products are written point by point, the sums after the last point.
-/
module

public import proofs.«01_k».proof.Proof.Group
public import proofs.«01_k».proof.Proof.Down2Value
public import Idealize.ShloMosaic.Lib.Pipeline.Value
public import Idealize.ShloMosaic.Lib.Pipeline.ValueKit.Geometry

@[expose] public section

set_option maxRecDepth 16384

noncomputable section

namespace Cert.Down2Array

open Cert.Down2Ideal Cert.Down2Ideal.Gen Idealize.ShloMosaic Idealize.ShloMosaic.TcCoe Idealize.SL.Sem Cert.Step Cert.Group Cert.Down2Value

attribute [local instance] Cert.Down2Ideal.Gen.facts

/-! ## The body's first values, at an index -/

/-- The features' block, its unit axis dropped. -/
theorem pay4_apply (x6 : Vec Ideal S1x4096x35 .f32) (i : Fin 4096) (l : Fin 35) : k0_pay4 x6 (ix2 i l) = x6 (ix3 (0 : Fin 1) i l) := by
  unfold k0_pay4
  rw [ix2_eq_valueIdx, ix3_eq_valueIdx]
  exact ValueIdx.shapeCast_1ab_ab_apply ..

/-- The squared distances. -/
theorem pay5_apply (x0 x1 x2 : Vec Ideal S1x1x4096 .f32) (x3 x4 x5 : Vec Ideal S1x128x1 .f32) (r : Fin 128) (i : Fin 4096) :
    k0_pay5 x0 x1 x2 x3 x4 x5 (ix2 r i)
      = (x3 (ix3 (0 : Fin 1) r (0 : Fin 1)) - x0 (ix3 (0 : Fin 1) (0 : Fin 1) i)) * (x3 (ix3 (0 : Fin 1) r (0 : Fin 1)) - x0 (ix3 (0 : Fin 1) (0 : Fin 1) i))
        + (x4 (ix3 (0 : Fin 1) r (0 : Fin 1)) - x1 (ix3 (0 : Fin 1) (0 : Fin 1) i)) * (x4 (ix3 (0 : Fin 1) r (0 : Fin 1)) - x1 (ix3 (0 : Fin 1) (0 : Fin 1) i))
        + (x5 (ix3 (0 : Fin 1) r (0 : Fin 1)) - x2 (ix3 (0 : Fin 1) (0 : Fin 1) i)) * (x5 (ix3 (0 : Fin 1) r (0 : Fin 1)) - x2 (ix3 (0 : Fin 1) (0 : Fin 1) i)) := by
  pointwise [k0_pay5, k0_pay1, k0_pay2, k0_pay3]

/-- The number of the column. -/
theorem pay6_apply (r : Fin 128) (i : Fin 4096) : (k0_pay6 (F := Ideal)) (ix2 r i) = ((i.val : ℝ) : EReal) := by
  pointwise [k0_pay6]
  have hi := i.isLt
  have e : (BitVec.ofNat 32 i.val).toInt = (i.val : ℤ) := by
    rw [BitVec.toInt_eq_toNat_of_lt (by rw [BitVec.toNat_ofNat]; omega), BitVec.toNat_ofNat, Nat.mod_eq_of_lt (by omega)]
  show (((BitVec.ofNat 32 i.val).toInt : ℝ) : EReal) = _
  rw [e]
  norm_cast

/-- The query's part of the products. -/
theorem pay7_apply (x3 x4 x5 : Vec Ideal S1x128x1 .f32) (x7 : Vec Ideal S35x64 .f32) (r : Fin 128) (j : Fin 64) :
    k0_pay7 x3 x4 x5 x7 (ix2 r j)
      = x3 (ix3 (0 : Fin 1) r (0 : Fin 1)) * x7 (ix2 (0 : Fin 35) j) + x4 (ix3 (0 : Fin 1) r (0 : Fin 1)) * x7 (ix2 (1 : Fin 35) j)
        + x5 (ix3 (0 : Fin 1) r (0 : Fin 1)) * x7 (ix2 (2 : Fin 35) j) := by
  unfold k0_pay7
  rw [show dot_S128x3_S3x64_S128x64_1_0_0_1_n_n = DotDims.plain 128 3 64 from rfl, plain_apply, Fin.sum_univ_three]
  pointwise [k0_pay1, k0_pay2, k0_pay3]

/-! ## The host's arrays -/

variable (m : (ℓ : Loc nD τ sig) → Buf (Elt Ideal) ℓ)

/-- The arguments, as what the grouped products are computed from. -/
def args (c : Dev nD) : In 4 4096 1024 32 35 64 where
  p := m ((c : Thread nD τ).loc main_arg0)
  q := m ((c : Thread nD τ).loc main_arg1)
  h := m ((c : Thread nD τ).loc main_arg2)
  w := m ((c : Thread nD τ).loc main_arg3)
  hn := by decide
  ht := rfl

/-- The first coordinates of the points. -/
theorem V13 (c : Dev nD) (b : Fin 4) (i : Fin 4096) :
    (V m c main_v13 : Vec Ideal S4x1x4096 .f32) (ix3 b (0 : Fin 1) i) = (args m c).p (ix3 b i (0 : Fin 3)) := by
  unfold_abbrev_sides
  after_results
  generalize hx : (m ((c : Thread nD τ).loc main_arg0) : Vec Ideal S4x4096x3 .f32) = x
  pointwise []

/-- The second coordinates of the points. -/
theorem V14 (c : Dev nD) (b : Fin 4) (i : Fin 4096) :
    (V m c main_v14 : Vec Ideal S4x1x4096 .f32) (ix3 b (0 : Fin 1) i) = (args m c).p (ix3 b i (1 : Fin 3)) := by
  unfold_abbrev_sides
  after_results
  generalize hx : (m ((c : Thread nD τ).loc main_arg0) : Vec Ideal S4x4096x3 .f32) = x
  pointwise []

/-- The third coordinates of the points. -/
theorem V15 (c : Dev nD) (b : Fin 4) (i : Fin 4096) :
    (V m c main_v15 : Vec Ideal S4x1x4096 .f32) (ix3 b (0 : Fin 1) i) = (args m c).p (ix3 b i (2 : Fin 3)) := by
  unfold_abbrev_sides
  after_results
  generalize hx : (m ((c : Thread nD τ).loc main_arg0) : Vec Ideal S4x4096x3 .f32) = x
  pointwise []

/-- The first coordinates of the queries. -/
theorem V16 (c : Dev nD) (b : Fin 4) (r : Fin 1024) :
    (V m c main_v16 : Vec Ideal S4x1024x1 .f32) (ix3 b r (0 : Fin 1)) = (args m c).q (ix3 b r (0 : Fin 3)) := by
  unfold_abbrev_sides
  after_results
  generalize hx : (m ((c : Thread nD τ).loc main_arg1) : Vec Ideal S4x1024x3 .f32) = x
  pointwise []

/-- The second coordinates of the queries. -/
theorem V17 (c : Dev nD) (b : Fin 4) (r : Fin 1024) :
    (V m c main_v17 : Vec Ideal S4x1024x1 .f32) (ix3 b r (0 : Fin 1)) = (args m c).q (ix3 b r (1 : Fin 3)) := by
  unfold_abbrev_sides
  after_results
  generalize hx : (m ((c : Thread nD τ).loc main_arg1) : Vec Ideal S4x1024x3 .f32) = x
  pointwise []

/-- The third coordinates of the queries. -/
theorem V18 (c : Dev nD) (b : Fin 4) (r : Fin 1024) :
    (V m c main_v18 : Vec Ideal S4x1024x1 .f32) (ix3 b r (0 : Fin 1)) = (args m c).q (ix3 b r (2 : Fin 3)) := by
  unfold_abbrev_sides
  after_results
  generalize hx : (m ((c : Thread nD τ).loc main_arg1) : Vec Ideal S4x1024x3 .f32) = x
  pointwise []

/-- The points' coordinates and features side by side. -/
theorem V0 (c : Dev nD) (b : Fin 4) (i : Fin 4096) (l : Fin 35) : (V m c main_v0 : Vec Ideal S4x4096x35 .f32) (ix3 b i l) = (args m c).tab b i l := by
  unfold_abbrev_sides
  after_results
  unfold In.tab
  show concatenate S4x4096x35 2 [⟨S4x4096x3, (args m c).p⟩, ⟨S4x4096x32, (args m c).h⟩] concatenates_S4x4096x3_S4x4096x32_S4x4096x35_d2 (ix3 b i l) = _
  pointwise []

/-! ## The windows' blocks -/

/-- The cloud of point `t`. -/
def bt (t : Fin cfg0.N) : Fin 4 := ⟨t.val / 8, by have := t.isLt; have h : cfg0.N = 32 := N_0; omega⟩

/-- The queries of point `t`. -/
def qr (t : Fin cfg0.N) (r : Fin 128) : Fin 1024 := ⟨t.val % 8 * 128 + r.val, by have := r.isLt; omega⟩

theorem idx0 : ∀ t : Fin cfg0.N, win0_0.index t = ![t.val / 8, 0, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 8, t.val % 8, 0] := (by decide +kernel : ∀ t : Fin grid0.N, _)

/-- The block of the points' first coordinates. -/
theorem blk0 (c : Dev nD) (t : Fin cfg0.N) (i : Fin 4096) :
    (iblk m c 0 t : Vec Ideal S1x1x4096 .f32) (ix3 (0 : Fin 1) (0 : Fin 1) i) = (args m c).p (ix3 (bt t) i (0 : Fin 3)) := by
  rw [← V13]
  blk_simp [iblk]
  congr 1
  unfold bt
  blk_ext [idx0]

/-- The block of the points' second coordinates. -/
theorem blk1 (c : Dev nD) (t : Fin cfg0.N) (i : Fin 4096) :
    (iblk m c 1 t : Vec Ideal S1x1x4096 .f32) (ix3 (0 : Fin 1) (0 : Fin 1) i) = (args m c).p (ix3 (bt t) i (1 : Fin 3)) := by
  rw [← V14]
  blk_simp [iblk]
  congr 1
  unfold bt
  blk_ext [idx1]

/-- The block of the points' third coordinates. -/
theorem blk2 (c : Dev nD) (t : Fin cfg0.N) (i : Fin 4096) :
    (iblk m c 2 t : Vec Ideal S1x1x4096 .f32) (ix3 (0 : Fin 1) (0 : Fin 1) i) = (args m c).p (ix3 (bt t) i (2 : Fin 3)) := by
  rw [← V15]
  blk_simp [iblk]
  congr 1
  unfold bt
  blk_ext [idx2]

/-- The block of the queries' first coordinates. -/
theorem blk3 (c : Dev nD) (t : Fin cfg0.N) (r : Fin 128) :
    (iblk m c 3 t : Vec Ideal S1x128x1 .f32) (ix3 (0 : Fin 1) r (0 : Fin 1)) = (args m c).q (ix3 (bt t) (qr t r) (0 : Fin 3)) := by
  rw [← V16]
  blk_simp [iblk]
  congr 1
  unfold bt qr
  blk_ext [idx3]

/-- The block of the queries' second coordinates. -/
theorem blk4 (c : Dev nD) (t : Fin cfg0.N) (r : Fin 128) :
    (iblk m c 4 t : Vec Ideal S1x128x1 .f32) (ix3 (0 : Fin 1) r (0 : Fin 1)) = (args m c).q (ix3 (bt t) (qr t r) (1 : Fin 3)) := by
  rw [← V17]
  blk_simp [iblk]
  congr 1
  unfold bt qr
  blk_ext [idx4]

/-- The block of the queries' third coordinates. -/
theorem blk5 (c : Dev nD) (t : Fin cfg0.N) (r : Fin 128) :
    (iblk m c 5 t : Vec Ideal S1x128x1 .f32) (ix3 (0 : Fin 1) r (0 : Fin 1)) = (args m c).q (ix3 (bt t) (qr t r) (2 : Fin 3)) := by
  rw [← V18]
  blk_simp [iblk]
  congr 1
  unfold bt qr
  blk_ext [idx5]

/-- The block of the points' rows. -/
theorem blk6 (c : Dev nD) (t : Fin cfg0.N) (i : Fin 4096) (l : Fin 35) :
    (iblk m c 6 t : Vec Ideal S1x4096x35 .f32) (ix3 (0 : Fin 1) i l) = (args m c).tab (bt t) i l := by
  rw [← V0]
  blk_simp [iblk]
  congr 1
  unfold bt
  blk_ext [idx6]

/-- The weights' block is all of them. -/
theorem blk7 (c : Dev nD) (t : Fin cfg0.N) : (iblk m c 7 t : Vec Ideal S35x64 .f32) = (args m c).w := by
  show _ = m ((c : Thread nD τ).loc main_arg3)
  rw [← V_main_arg3 m c]
  funext y
  blk_simp [iblk]
  congr 1
  blk_ext [idx7]

/-! ## A point's rounds -/

/-- The point's distances. -/
theorem hd (c : Dev nD) (t : Fin cfg0.N) (r : Fin 128) (i : Fin 4096) :
    k0_pay5 (iblk m c 0 t) (iblk m c 1 t) (iblk m c 2 t) (iblk m c 3 t) (iblk m c 4 t) (iblk m c 5 t) (ix2 r i) = (args m c).sq (bt t) (qr t r) i := by
  rw [pay5_apply, blk0, blk1, blk2, blk3, blk4, blk5]
  unfold In.sq
  rw [Fin.sum_univ_three]

/-- The point's rows. -/
theorem htb (c : Dev nD) (t : Fin cfg0.N) (i : Fin 4096) (l : Fin 35) : k0_pay4 (iblk m c 6 t) (ix2 i l) = (args m c).tab (bt t) i l := by
  rw [pay4_apply, blk6]

/-- The queries' part of the point's products. -/
theorem hqw (c : Dev nD) (t : Fin cfg0.N) (r : Fin 128) (j : Fin 64) :
    k0_pay7 (iblk m c 3 t) (iblk m c 4 t) (iblk m c 5 t) (iblk m c 7 t) (ix2 r j) = (args m c).qw (bt t) (qr t r) j := by
  rw [pay7_apply, blk3, blk4, blk5, blk7]
  unfold In.qw
  rw [Fin.sum_univ_three]
  rfl

/-- The marker behind the last column's number is the number of points. -/
theorem hcn : Ideal.ofBits .f32 0x45800000#32 = (((4096 : ℕ) : ℝ) : EReal) := by
  simp [Ideal.ofBits, Ideal.ieee]
  rw [← EReal.coe_mul]
  norm_num

variable {m}

/-- The largest products a point leaves. -/
theorem point_top (c : Dev nD) (ok : (args m c).Ok) (t : Fin cfg0.N) (r : Fin 128) (j : Fin 64) :
    (outsAt0 m c t.val t.isLt).1 (ix3 (0 : Fin 1) r j) = (args m c).top (bt t) (qr t r) j := by
  have hN : cfg0.N = 32 := N_0
  have ht := t.isLt
  have e := In.tile_top (fit) 0x45800000#32 hcn ok (bt t) (qr t) (hd m c t) pay6_apply (htb m c t) (blk7 m c t) (hqw m c t) r j
  rw [← e]
  by_cases h0 : t.val % 32 = 0
  · rw [outsAt0_A m c t h0 (by omega), out_A_8, ix2_eq_valueIdx, ix3_eq_valueIdx]
    dsimp only
    exact ValueIdx.shapeCast_ab_1ab_apply ..
  · rw [outsAt0_B m c t h0 (by omega), out_B_8, ix2_eq_valueIdx, ix3_eq_valueIdx]
    dsimp only
    exact ValueIdx.shapeCast_ab_1ab_apply ..

/-- A query's products summed. -/
def qsum (c : Dev nD) (j : Fin 64) (b : Fin 4) (r : Fin 1024) : EReal := ∑ k ∈ Finset.range 16, (args m c).y b r k j

/-- The squares of a query's products summed. -/
def qsumSq (c : Dev nD) (j : Fin 64) (b : Fin 4) (r : Fin 1024) : EReal := ∑ k ∈ Finset.range 16, (args m c).y b r k j * (args m c).y b r k j

/-- A tile's query, counted through all clouds. -/
theorem flat_tile (f : Fin 4 → Fin 1024 → EReal) (t : Fin cfg0.N) (r : Fin 128) : flat f (t.val * 128 + r.val) = f (bt t) (qr t r) := by
  have hN : cfg0.N = 32 := N_0
  have ht := t.isLt
  have hr := r.isLt
  unfold flat
  rw [dif_pos (by omega)]
  exact congrArg₂ f (Fin.ext (by show (t.val * 128 + r.val) / 1024 = t.val / 8; omega))
    (Fin.ext (by show (t.val * 128 + r.val) % 1024 = t.val % 8 * 128 + r.val; omega))

/-- The sums after point `n`: those of the queries up to it. -/
theorem point_total (c : Dev nD) (ok : (args m c).Ok) (j : Fin 64) : ∀ (n : ℕ) (h : n < cfg0.N),
    (outsAt0 m c n h).2.1 (ix2 (0 : Fin 1) j) = ∑ s ∈ Finset.range (n + 1), ∑ r : Fin 128, flat (qsum (m := m) c j) (s * 128 + r.val)
  | 0, h => by
    have e := In.tile_total (fit) 0x45800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 128, flat (qsum (m := m) c j) (0 * 128 + r.val)) = _ from Finset.sum_congr rfl fun r _ => flat_tile (qsum (m := m) c j) ⟨0, h⟩ r]
    refine Eq.trans ?_ e
    rw [outsAt0_A m c ⟨0, h⟩ rfl (by simp), out_A_9]
  | n + 1, h => by
    have hN : cfg0.N = 32 := N_0
    have e := In.tile_total (fit) 0x45800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_total c ok j n (Nat.lt_of_succ_lt h)]
    rw [show (∑ r : Fin 128, flat (qsum (m := m) c j) ((n + 1) * 128 + r.val)) = _ from Finset.sum_congr rfl fun r _ => flat_tile (qsum (m := m) c j) ⟨n + 1, h⟩ r]
    refine Eq.trans ?_ (congrArg (_ + ·) e)
    rw [outsAt0_B m c ⟨n + 1, h⟩ (by show ¬(n + 1) % 32 = 0; omega) (by show 1 ≤ n + 1; omega), out_B_9]
    rfl

/-- The sums of squares after point `n`: those of the queries up to it. -/
theorem point_totalSq (c : Dev nD) (ok : (args m c).Ok) (j : Fin 64) : ∀ (n : ℕ) (h : n < cfg0.N),
    (outsAt0 m c n h).2.2 (ix2 (0 : Fin 1) j) = ∑ s ∈ Finset.range (n + 1), ∑ r : Fin 128, flat (qsumSq (m := m) c j) (s * 128 + r.val)
  | 0, h => by
    have e := In.tile_totalSq (fit) 0x45800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 128, flat (qsumSq (m := m) c j) (0 * 128 + r.val)) = _ from Finset.sum_congr rfl fun r _ => flat_tile (qsumSq (m := m) c j) ⟨0, h⟩ r]
    refine Eq.trans ?_ e
    rw [outsAt0_A m c ⟨0, h⟩ rfl (by simp), out_A_10]
  | n + 1, h => by
    have hN : cfg0.N = 32 := N_0
    have e := In.tile_totalSq (fit) 0x45800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_totalSq c ok j n (Nat.lt_of_succ_lt h)]
    rw [show (∑ r : Fin 128, flat (qsumSq (m := m) c j) ((n + 1) * 128 + r.val)) = _ from Finset.sum_congr rfl fun r _ => flat_tile (qsumSq (m := m) c j) ⟨n + 1, h⟩ r]
    refine Eq.trans ?_ (congrArg (_ + ·) e)
    rw [outsAt0_B m c ⟨n + 1, h⟩ (by show ¬(n + 1) % 32 = 0; omega) (by show 1 ≤ n + 1; omega), out_B_10]
    rfl

/-! ## The result arrays -/

/-- THE FIRST RESULT holds each query's largest products. -/
theorem arr8 (c : Dev nD) (ok : (args m c).Ok) : (dats m 0 c).arrAt 8 cfg0.N = (fun i => (args m c).top (i 0) (i 1) (i 2) : Vec Ideal S4x1024x64 .f32) := by
  refine (dats m 0 c).arrAt_eq_of_covers 8 _ (by decide +kernel) fun t hf y => ?_
  blk_simp
  rw [after0_8]
  have ey : y = ix3 (0 : Fin 1) (y 1 : Fin 128) (y 2 : Fin 64) := by
    funext a
    match a with
    | ⟨0, _⟩ => exact Fin.ext (by have : (y 0).val < 1 := (y 0).isLt; show (y 0).val = 0; omega)
    | ⟨1, _⟩ => rfl
    | ⟨2, _⟩ => rfl
  refine ((congrArg (outsAt0 m c t.val t.isLt).1 ey).trans (point_top c ok t (y 1 : Fin 128) (y 2 : Fin 64))).trans ?_
  refine congr (congr (congrArg _ (Fin.ext ?_)) (Fin.ext ?_)) (Fin.ext ?_)
  · blk_simp [idx8]
    have : (y 0).val < 1 := (y 0).isLt
    show t.val / 8 = _
    omega
  · blk_simp [idx8]
    rfl
  · blk_simp [idx8]

/-- The last point. -/
abbrev tl : Fin cfg0.N := (⟨31, by decide +kernel⟩ : Fin grid0.N)

/-- THE SECOND RESULT holds the sums of all products of a column. -/
theorem arr9 (c : Dev nD) (ok : (args m c).Ok) : (dats m 0 c).arrAt 9 cfg0.N = (fun i => (args m c).total (i 1) : Vec Ideal S1x64 .f32) := by
  refine (dats m 0 c).arrAt_eq_of_after_last 9 tl (by decide +kernel) _ fun y => ?_
  blk_simp
  rw [after0_9]
  have ey : (fun a => ⟨(y a).val, (y a).isLt⟩ : S1x64.Idx) = ix2 (0 : Fin 1) (y 1 : Fin 64) := by
    funext a
    match a with
    | ⟨0, _⟩ => exact Fin.ext (by have : (y 0).val < 1 := (y 0).isLt; show (y 0).val = 0; omega)
    | ⟨1, _⟩ => rfl
  refine ((congrArg (outsAt0 m c tl.val tl.isLt).2.1 ey).trans (point_total c ok (y 1 : Fin 64) 31 tl.isLt)).trans ?_
  exact sum_flat (qsum c (y 1 : Fin 64)) 128 32 rfl

/-- THE THIRD RESULT holds the sums of the squares of all products of a column. -/
theorem arr10 (c : Dev nD) (ok : (args m c).Ok) : (dats m 0 c).arrAt 10 cfg0.N = (fun i => (args m c).totalSq (i 1) : Vec Ideal S1x64 .f32) := by
  refine (dats m 0 c).arrAt_eq_of_after_last 10 tl (by decide +kernel) _ fun y => ?_
  blk_simp
  rw [after0_10]
  have ey : (fun a => ⟨(y a).val, (y a).isLt⟩ : S1x64.Idx) = ix2 (0 : Fin 1) (y 1 : Fin 64) := by
    funext a
    match a with
    | ⟨0, _⟩ => exact Fin.ext (by have : (y 0).val < 1 := (y 0).isLt; show (y 0).val = 0; omega)
    | ⟨1, _⟩ => rfl
  refine ((congrArg (outsAt0 m c tl.val tl.isLt).2.2 ey).trans (point_totalSq c ok (y 1 : Fin 64) 31 tl.isLt)).trans ?_
  exact sum_flat (qsumSq c (y 1 : Fin 64)) 128 32 rfl

end Cert.Down2Array

end
-- ==== Proof.RefRead.lean ====
/-
  THE HOST OPERATIONS OF THE REFERENCE, READ AT AN INDEX: the positions a top-k returns, as the repeated search's picks (`Nearest`); a
  gather of whole rows, batch by batch; a sum over the three leading axes of a rank-4 array; the maximum over its third axis.
-/
module

public import proofs.«01_k».proof.Proof.Nearest
public import Idealize.ShloMosaic.Lib.StableHlo
public import Idealize.ShloMosaic.Lib.Pointwise
public import Idealize.ShloMosaic.Lib.ValueIdx
public import Idealize.ShloMosaic.PureOps.Ideal.Laws

@[expose] public section

noncomputable section

namespace Cert.RefRead

open Idealize.ShloMosaic Cert.Nearest

/-! ## The positions of the greatest -/

/-- THE POSITIONS A TOP-K OF NEGATED VALUES RETURNS, where the values `D` lie below `B`: entry `k` of row `(b, r)` is the word of the
    point that round `k` of the repeated search for the smallest value picks. -/
theorem topK_neg {N R n K : ℕ} (hn : 0 < n) (B : EReal) (x : FVec Ideal ⟨3, ![N, R, n]⟩ .f32)
    (h : (⟨3, ![N, R, n]⟩ : Shape).Slices (fun _ => 0) ⟨3, ![N, R, K]⟩) (hK : K ≤ n) (b : Fin N) (r : Fin R) (D : Fin n → EReal)
    (hx : ∀ i, x (ix3 b r i) = -D i) (hD : ∀ i, D i < B) (k : Fin K) :
    (Host.topK ⟨3, ![N, R, K]⟩ 2 (FloatOps.cmpfTotal .gt) x h).2 (ix3 b r k) = BitVec.ofNat 32 (near hn B D k.val).val := by
  have al : ∀ (j : (⟨3, ![N, R, n]⟩ : Shape).Idx) (i : Fin n), j.along (2 : Fin 3) i = ix3 (j 0) (j 1) i := by
    intro j i
    funext a
    match a with
    | ⟨0, _⟩ => rfl
    | ⟨1, _⟩ => rfl
    | ⟨2, _⟩ => rfl
  have key : ∀ j : (⟨3, ![N, R, n]⟩ : Shape).Idx, j 0 = b → j 1 = r →
      (Host.sort2 ⟨3, ![N, R, n]⟩ 2 (fun l r' => FloatOps.cmpfTotal .gt l.1 r'.1) x
        (fun i => if hd : 2 < 3 then iotaInDim (⟨3, ![N, R, n]⟩ : Shape) 32 ⟨2, hd⟩ i else (0#32 : BitVec 32))).2 j
        = BitVec.ofNat 32 (near hn B D (j 2).val).val := by
    intro j h0 h1
    rw [← sortedFrom_eq_near hn B D hD (j 2)]
    unfold Host.sort2
    rw [dif_pos (show 2 < (⟨3, ![N, R, n]⟩ : Shape).rank by show 2 < 3; decide)]
    dsimp only
    rw [dif_pos (by decide)]
    have hj : ∀ i : Fin n, x (j.along (2 : Fin 3) i) = -D i := fun i => by
      rw [← hx i]
      subst h0 h1
      exact congrArg x (al j i)
    have hc : (fun k k' : Fin n => (FloatOps.cmpfTotal (F := Ideal) (φ := .f32) .gt (x (j.along (2 : Fin 3) k)) (x (j.along (2 : Fin 3) k')) == 1#1))
        = fun k k' => decide (D k < D k') := by
      funext k k'
      rw [hj, hj]
      show (BitVec.ofBool (decide (-D k' < -D k)) == 1#1) = _
      simp only [EReal.neg_lt_neg_iff]
      by_cases hlt : D k < D k' <;> simp [hlt]
    show BitVec.ofNat 32 ((j.along (2 : Fin 3) (sortedFrom (fun k k' : Fin n => (FloatOps.cmpfTotal (F := Ideal) (φ := .f32) .gt (x (j.along (2 : Fin 3) k)) (x (j.along (2 : Fin 3) k')) == 1#1)) (j 2))) (2 : Fin 3)).val = _
    rw [hc]
    exact congrArg (fun i : Fin n => BitVec.ofNat 32 i.val) (Function.update_self (2 : Fin 3) _ j)
  unfold Host.topK
  dsimp only
  rw [show (near hn B D k.val) = near hn B D ((ix3 b r (⟨k.val, by have := k.isLt; omega⟩ : Fin n) : (⟨3, ![N, R, n]⟩ : Shape).Idx) 2).val from rfl,
    ← key (ix3 b r (⟨k.val, by have := k.isLt; omega⟩ : Fin n)) rfl rfl]
  unfold extractStridedSlice
  refine congrArg _ (funext fun a => ?_)
  match a with
  | ⟨0, _⟩ => exact Fin.ext (Nat.zero_add _)
  | ⟨1, _⟩ => exact Fin.ext (Nat.zero_add _)
  | ⟨2, _⟩ => exact Fin.ext (Nat.zero_add _)

/-- A position's word is not negative, so the wrap of negative positions leaves it. -/
theorem wrap_word (n v : ℕ) (hv : v < 2 ^ 31) :
    Scalar.select (IntOp.cmpi .slt (BitVec.ofNat 32 v) 0#32) (IntOp.addi (BitVec.ofNat 32 v) (BitVec.ofNat 32 n)) (BitVec.ofNat 32 v)
      = BitVec.ofNat 32 v := by
  have hi : (BitVec.ofNat 32 v).toInt = (v : ℤ) := by
    rw [BitVec.toInt_eq_toNat_of_lt (by rw [BitVec.toNat_ofNat]; omega), BitVec.toNat_ofNat, Nat.mod_eq_of_lt (by omega)]
  have hc : IntOp.cmpi .slt (BitVec.ofNat 32 v) 0#32 = 0#1 := by
    show BitVec.ofBool (BitVec.slt (BitVec.ofNat 32 v) 0#32) = 0#1
    rw [BitVec.slt_eq_decide, hi, decide_eq_false (by simp)]
    rfl
  rw [hc]
  rfl

/-! ## A gather of rows, batch by batch -/

/-- The dimension numbers of a gather of rows: operand `[N, n, C]`, positions `[N, R, K, 1]`, result `[N, R, K, C]`. -/
abbrev rowsDims (N n C R K : ℕ)
    (wf : GatherDims.WF ⟨3, ![N, n, C]⟩ ⟨4, ![N, R, K, 1]⟩ ⟨4, ![N, R, K, C]⟩ [3] [1] [0] [1] [0] 3 ![1, 1, C]) :
    GatherDims ⟨3, ![N, n, C]⟩ ⟨4, ![N, R, K, 1]⟩ ⟨4, ![N, R, K, C]⟩ where
  offsetDims := [3]
  collapsedSliceDims := [1]
  operandBatchingDims := [0]
  startIndicesBatchingDims := [0]
  startIndexMap := [1]
  indexVectorDim := 3
  sliceSizes := ![1, 1, C]
  wf := wf

/-- THE GATHER OF ROWS AT AN INDEX, where the position's word is that of `v`: the operand's row `v` of the same batch. -/
theorem gather_rows {α : Type} {N n C R K : ℕ}
    (wf : GatherDims.WF ⟨3, ![N, n, C]⟩ ⟨4, ![N, R, K, 1]⟩ ⟨4, ![N, R, K, C]⟩ [3] [1] [0] [1] [0] 3 ![1, 1, C])
    (x : (⟨3, ![N, n, C]⟩ : Shape).Idx → α) (idx : IVec ⟨4, ![N, R, K, 1]⟩ 32) (b : Fin N) (r : Fin R) (k : Fin K) (l : Fin C)
    (v : Fin n) (hv : n ≤ 2 ^ 31) (hi : idx (ix4 b r k (0 : Fin 1)) = BitVec.ofNat 32 v.val) :
    Host.gather (rowsDims N n C R K wf) x idx (ix4 b r k l) = x (ix3 b v l) := by
  have hvl := v.isLt
  unfold Host.gather
  congr 1
  funext a
  refine Fin.ext ?_
  show (rowsDims N n C R K wf).start (ix4 b r k l) idx a + (rowsDims N n C R K wf).batchCoord (ix4 b r k l) a
      + (rowsDims N n C R K wf).offCoord (ix4 b r k l) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims N n C R K wf).startIndexMap from List.mem_singleton.mpr rfl)]
    have hsi : (rowsDims N n C R K wf).siIdx (ix4 b r k l) ⟨List.idxOf (1 : Fin 3) (rowsDims N n C R K wf).startIndexMap,
        List.idxOf_lt_length_iff.2 (List.mem_singleton.mpr rfl)⟩ = ix4 b r k (0 : Fin 1) := by
      funext c
      refine Fin.ext ?_
      match c with
      | ⟨0, _⟩ => rfl
      | ⟨1, _⟩ => rfl
      | ⟨2, _⟩ => rfl
      | ⟨3, _⟩ => rfl
    rw [hsi, hi, BitVec.toInt_eq_toNat_of_lt (by rw [BitVec.toNat_ofNat]; omega), BitVec.toNat_ofNat, Nat.mod_eq_of_lt (by omega)]
    show min v.val (n - 1) = v.val
    omega
  · have h0 : (rowsDims N n C R K wf).start (ix4 b r k l) idx 2 = 0 := by
      unfold GatherDims.start
      rw [dif_neg (fun h => by simp at h)]
    rw [h0, GatherDims.batchCoord_eq_zero _ _ _ (fun h => by simp at h)]
    simp only [Nat.zero_add]
    unfold GatherDims.offCoord
    rw [dif_pos ((GatherDims.mem_sKept _ _).mpr ⟨fun h => by simp at h, fun h => by simp at h⟩)]
    rfl

/-! ## Sums and maxima -/

/-- A sum over the three leading axes of a rank-4 array. -/
theorem reduceAdd_012 {N R K C : ℕ} (h : (⟨4, ![N, R, K, C]⟩ : Shape).ReducesTo [0, 1, 2] ⟨1, ![C]⟩) (x : (⟨4, ![N, R, K, C]⟩ : Shape).Idx → EReal)
    (init : EReal) (j : Fin C) :
    Ideal.hostReduceAdd h x init (ix1 j) = init + ∑ b : Fin N, ∑ r : Fin R, ∑ k : Fin K, x (ix4 b r k j) := by
  unfold Ideal.hostReduceAdd
  congr 1
  have hd : ∀ i : (⟨4, ![N, R, K, C]⟩ : Shape).Idx, h.drop i = ix1 j ↔ i 3 = j := by
    intro i
    have e : (h.drop i 0).val = (i 3).val := rfl
    constructor
    · intro hij
      rw [hij] at e
      exact Fin.ext e.symm
    · intro hij
      funext a
      obtain rfl : a = 0 := Subsingleton.elim _ _
      exact Fin.ext (e.trans (congrArg Fin.val hij))
  rw [← Fintype.sum_prod_type' (f := fun (b : Fin N) (r : Fin R) => ∑ k : Fin K, x (ix4 b r k j)),
    ← Fintype.sum_prod_type' (f := fun (p : Fin N × Fin R) (k : Fin K) => x (ix4 p.1 p.2 k j))]
  refine (Finset.sum_bij (fun (p : (Fin N × Fin R) × Fin K) _ => (ix4 p.1.1 p.1.2 p.2 j : (⟨4, ![N, R, K, C]⟩ : Shape).Idx)) ?_ ?_ ?_ ?_).symm
  · intro p _
    exact Finset.mem_filter.mpr ⟨Finset.mem_univ _, (hd _).mpr rfl⟩
  · intro p _ p' _ e
    exact Prod.ext (Prod.ext (congrFun e 0) (congrFun e 1)) (congrFun e 2)
  · intro i hi
    refine ⟨((i 0, i 1), i 2), Finset.mem_univ _, ?_⟩
    have := (hd i).mp (Finset.mem_filter.mp hi).2
    rw [← this]
    exact (ix4_eta i)
  · intro p _
    rfl

/-- The maximum over the third axis of a rank-4 array, from minus infinity, is the supremum. -/
theorem reduceMax_2 {N R K C : ℕ} (h : (⟨4, ![N, R, K, C]⟩ : Shape).ReducesTo [2] ⟨3, ![N, R, C]⟩) (x : FVec Ideal ⟨4, ![N, R, K, C]⟩ .f32)
    (c : FVec Ideal ⟨0, ![]⟩ .f32) (hu : 0 < (⟨0, ![]⟩ : Shape).numel) (hc : c (Shape.Idx.first hu) = ⊥) (b : Fin N) (r : Fin R) (j : Fin C)
    (f : ℕ → EReal) (hf : ∀ k : Fin K, x (ix4 b r k j) = f k.val) :
    Host.reduce FloatOps.maximumf x c h hu (ix3 b r j) = (Finset.range K).sup f := by
  have e : Host.reduce FloatOps.maximumf x c h hu (ix3 b r j)
      = Finset.univ.fold max (c (Shape.Idx.first hu)) fun k : Fin K => x (ix4 b r k j) := by
    simp only [pointwise]
  rw [e, hc]
  show Finset.univ.sup (fun k : Fin K => x (ix4 b r k j)) = _
  simp only [hf]
  apply le_antisymm
  · exact Finset.sup_le fun k _ => Finset.le_sup (f := f) (Finset.mem_range.mpr k.isLt)
  · exact Finset.sup_le fun k hk => Finset.le_sup (f := fun k : Fin K => f k.val) (Finset.mem_univ (⟨k, Finset.mem_range.mp hk⟩ : Fin K))

end Cert.RefRead

end
-- ==== Proof.Ref2Array.lean ====
/-
  THE REFERENCE'S RESULTS, 4096 points and 1024 queries a cloud, as functions of the arguments (`Group.In`): the squared distances, the
  positions of the sixteen nearest, the gathered rows, their products with the weights, and the maxima and sums of these.
-/
module

public import proofs.«01_k».proof.Proof.Group
public import proofs.«01_k».proof.Proof.RefRead
public import proofs.«01_k».proof.Proof.Gen.Ref2Ideal.Read

@[expose] public section

set_option maxRecDepth 16384

noncomputable section

namespace Cert.Ref2Array

open Cert.Ref2Ideal Cert.Ref2Ideal.Gen Cert.Ref2Ideal.Read Idealize.ShloMosaic Cert.Group Cert.RefRead

attribute [local instance] Cert.Ref2Ideal.Gen.facts

variable (x0 : FVec Ideal ⟨3, ![4, 4096, 3]⟩ .f32) (x1 : FVec Ideal ⟨3, ![4, 1024, 3]⟩ .f32) (x2 : FVec Ideal ⟨3, ![4, 4096, 32]⟩ .f32)
  (x3 : FVec Ideal ⟨2, ![35, 64]⟩ .f32)

/-- The arguments. -/
def args : In 4 4096 1024 32 35 64 where
  p := x0
  q := x1
  h := x2
  w := x3
  hn := by decide
  ht := by decide

/-- The squared distances. -/
theorem v6_apply (b : Fin 4) (r : Fin 1024) (i : Fin 4096) : val_main_v6 (F := Ideal) x0 x1 (ix3 b r i) = (args x0 x1 x2 x3).sq b r i := by
  rw [val_main_v6_apply, val_main_cst_apply, show (FloatOps.ofBits (F := Ideal) .f32 0x00000000#32 : EReal) = 0 from Ideal.ofBits_zero_f32,
    zero_add]
  refine Finset.sum_congr rfl fun a _ => ?_
  rw [val_main_v5_apply, val_main_v4_apply, val_main_v2_apply, val_main_v3_apply, val_main_v0_apply, val_main_v1_apply]
  have e0 : idx_main_v0 (idx_main_v2 (idx_main_v6 (ix3 b r i) a)) = ix3 b r a := by
    funext c; match c with | ⟨0, _⟩ => rfl | ⟨1, _⟩ => rfl | ⟨2, _⟩ => rfl
  have e1 : idx_main_v1 (idx_main_v3 (idx_main_v6 (ix3 b r i) a)) = ix3 b i a := by
    funext c; match c with | ⟨0, _⟩ => rfl | ⟨1, _⟩ => rfl | ⟨2, _⟩ => rfl
  rw [e0, e1]
  rfl

variable {x0 x1 x2 x3} (ok : (args x0 x1 x2 x3).Ok)
include ok

/-- The positions of the nearest. -/
theorem indices_apply (b : Fin 4) (r : Fin 1024) (k : Fin 16) :
    val_main_indices (F := Ideal) x0 x1 (ix3 b r k) = BitVec.ofNat 32 ((args x0 x1 x2 x3).nbr b r k.val).val := by
  unfold val_main_indices
  refine topK_neg (by decide) _ _ _ (by decide) b r ((args x0 x1 x2 x3).sq b r) (fun i => ?_) (In.sq_lt ok b r) k
  rw [val_main_v7_apply, v6_apply x0 x1 x2 x3]
  rfl

/-- The positions the coordinates are gathered at. -/
theorem v13_apply (b : Fin 4) (r : Fin 1024) (k : Fin 16) :
    val_main_v13 (F := Ideal) x0 x1 (ix4 b r k (0 : Fin 1)) = BitVec.ofNat 32 ((args x0 x1 x2 x3).nbr b r k.val).val := by
  have e : idx_main_v13 (ix4 b r k (0 : Fin 1)) = ix3 b r k := by
    funext c; match c with | ⟨0, _⟩ => rfl | ⟨1, _⟩ => rfl | ⟨2, _⟩ => rfl
  rw [val_main_v13_apply, e, val_main_v12_apply, val_main_v9_apply, val_main_v11_apply, val_main_v8_apply, val_main_c_apply, val_main_v10_apply,
    val_main_c_0_apply, indices_apply ok]
  exact wrap_word 4096 _ (lt_trans (Fin.isLt _) (by decide))

/-- The positions the features are gathered at. -/
theorem v20_apply (b : Fin 4) (r : Fin 1024) (k : Fin 16) :
    val_main_v20 (F := Ideal) x0 x1 (ix4 b r k (0 : Fin 1)) = BitVec.ofNat 32 ((args x0 x1 x2 x3).nbr b r k.val).val := by
  have e : idx_main_v20 (ix4 b r k (0 : Fin 1)) = ix3 b r k := by
    funext c; match c with | ⟨0, _⟩ => rfl | ⟨1, _⟩ => rfl | ⟨2, _⟩ => rfl
  rw [val_main_v20_apply, e, val_main_v19_apply, val_main_v16_apply, val_main_v18_apply, val_main_v15_apply, val_main_c_1_apply, val_main_v17_apply,
    val_main_c_2_apply, indices_apply ok]
  exact wrap_word 4096 _ (lt_trans (Fin.isLt _) (by decide))

/-- The neighbours' coordinates. -/
theorem v14_apply (b : Fin 4) (r : Fin 1024) (k : Fin 16) (a : Fin 3) :
    val_main_v14 (F := Ideal) x0 x1 (ix4 b r k a) = x0 (ix3 b ((args x0 x1 x2 x3).nbr b r k.val) a) := by
  unfold val_main_v14
  exact gather_rows gather_S4x4096x3_S4x1024x16x1_S4x1024x16x3_3_1_0_0_1_3_113_wf x0 _ b r k a _ (by decide) (v13_apply ok b r k)

/-- The neighbours' features. -/
theorem v21_apply (b : Fin 4) (r : Fin 1024) (k : Fin 16) (l : Fin 32) :
    val_main_v21 (F := Ideal) x0 x1 x2 (ix4 b r k l) = x2 (ix3 b ((args x0 x1 x2 x3).nbr b r k.val) l) := by
  unfold val_main_v21
  exact gather_rows gather_S4x4096x32_S4x1024x16x1_S4x1024x16x32_3_1_0_0_1_3_1132_wf x2 _ b r k l _ (by decide) (v20_apply ok b r k)

/-- The neighbours' offsets. -/
theorem v24_apply (b : Fin 4) (r : Fin 1024) (k : Fin 16) (a : Fin 3) :
    val_main_v24 (F := Ideal) x0 x1 (ix4 b r k a) = x0 (ix3 b ((args x0 x1 x2 x3).nbr b r k.val) a) - x1 (ix3 b r a) := by
  have e : idx_main_v22 (idx_main_v23 (ix4 b r k a)) = ix3 b r a := by
    funext c; match c with | ⟨0, _⟩ => rfl | ⟨1, _⟩ => rfl | ⟨2, _⟩ => rfl
  rw [val_main_v24_apply, val_main_v23_apply, val_main_v22_apply, v14_apply ok, e]
  rfl

/-- The rows that meet the weights. -/
theorem v25_apply (b : Fin 4) (r : Fin 1024) (k : Fin 16) (l : Fin 35) :
    val_main_v25 (F := Ideal) x0 x1 x2 (ix4 b r k l) = (args x0 x1 x2 x3).cat b r k.val l := by
  unfold In.cat
  split_ifs with hl
  · rw [show (args x0 x1 x2 x3).p (ix3 b _ ⟨l.val, hl⟩) - (args x0 x1 x2 x3).q (ix3 b r ⟨l.val, hl⟩)
      = val_main_v24 (F := Ideal) x0 x1 (ix4 b r k ⟨l.val, hl⟩) from (v24_apply ok b r k ⟨l.val, hl⟩).symm]
    pointwise [val_main_v25, hl]
  · have hl' : l.val - 3 < 32 := by have := l.isLt; omega
    rw [show (args x0 x1 x2 x3).h (ix3 b _ ⟨l.val - 3, _⟩)
      = val_main_v21 (F := Ideal) x0 x1 x2 (ix4 b r k ⟨l.val - 3, hl'⟩) from (v21_apply ok b r k ⟨l.val - 3, hl'⟩).symm]
    pointwise [val_main_v25, hl]

/-- The products. -/
theorem v26_apply (b : Fin 4) (r : Fin 1024) (k : Fin 16) (j : Fin 64) :
    val_main_v26 (F := Ideal) x0 x1 x2 x3 (ix4 b r k j) = (args x0 x1 x2 x3).y b r k.val j := by
  rw [val_main_v26_apply]
  refine Finset.sum_congr rfl fun l _ => ?_
  have e : lidx_main_v26 (ix4 b r k j) l = ix4 b r k l := by
    funext c; match c with | ⟨0, _⟩ => rfl | ⟨1, _⟩ => rfl | ⟨2, _⟩ => rfl | ⟨3, _⟩ => rfl
  have e' : ridx_main_v26 (ix4 b r k j) l = ix2 l j := by
    funext c; match c with | ⟨0, _⟩ => rfl | ⟨1, _⟩ => rfl
  rw [e, e', v25_apply ok]
  rfl

/-- THE LARGEST PRODUCTS. -/
theorem top_eq : val_main_v32 (F := Ideal) x0 x1 x2 x3 = fun i => (args x0 x1 x2 x3).top (i 0) (i 1) (i 2) := by
  funext i
  rw [eq_ix3 i]
  unfold val_main_v32
  exact reduceMax_2 _ _ _ _ Cert.Step.ofBits_bot (i 0) (i 1) (i 2) _ fun k => v26_apply ok (i 0) (i 1) k (i 2)

/-- THE SUMS OF THE PRODUCTS. -/
theorem total_eq : val_main_v28 (F := Ideal) x0 x1 x2 x3 = fun i => (args x0 x1 x2 x3).total (i 1) := by
  funext i
  have e : idx_main_v28 i = ix1 (i 1) := by
    funext c; match c with | ⟨0, _⟩ => rfl
  rw [val_main_v28_apply, e]
  unfold val_main_v27
  simp only [Host.reduceAdd, Ideal.hostReduceAdd_def]
  rw [show (val_main_cst_3 (F := Ideal)) (Shape.Idx.first h_S_) = (0 : EReal) from Ideal.ofBits_zero_f32]
  refine (reduceAdd_012 _ _ _ _).trans ?_
  rw [zero_add]
  unfold In.total
  refine Finset.sum_congr rfl fun b _ => Finset.sum_congr rfl fun r _ => ?_
  rw [← Fin.sum_univ_eq_sum_range (fun k => (args x0 x1 x2 x3).y b r k (i 1)) 16]
  exact Finset.sum_congr rfl fun k _ => v26_apply ok b r k (i 1)

/-- THE SUMS OF THEIR SQUARES. -/
theorem totalSq_eq : val_main_v31 (F := Ideal) x0 x1 x2 x3 = fun i => (args x0 x1 x2 x3).totalSq (i 1) := by
  funext i
  have e : idx_main_v31 i = ix1 (i 1) := by
    funext c; match c with | ⟨0, _⟩ => rfl
  rw [val_main_v31_apply, e]
  unfold val_main_v30
  simp only [Host.reduceAdd, Ideal.hostReduceAdd_def]
  rw [show (val_main_cst_4 (F := Ideal)) (Shape.Idx.first h_S_) = (0 : EReal) from Ideal.ofBits_zero_f32]
  refine (reduceAdd_012 _ _ _ _).trans ?_
  rw [zero_add]
  unfold In.totalSq
  refine Finset.sum_congr rfl fun b _ => Finset.sum_congr rfl fun r _ => ?_
  rw [← Fin.sum_univ_eq_sum_range (fun k => (args x0 x1 x2 x3).y b r k (i 1) * (args x0 x1 x2 x3).y b r k (i 1)) 16]
  exact Finset.sum_congr rfl fun k _ =>
    congrArg₂ (fun u v : EReal => u * v) (v26_apply ok b r k (i 1)) (v26_apply ok b r k (i 1))

end Cert.Ref2Array

end
-- ==== Proof.Stage2.lean ====
/-
  THE CLAIM OF THE GROUPING CALL, 4096 points and 1024 queries a cloud: under its precondition the call's three result arrays are the
  reference's.
-/
module

public import proofs.«01_k».proof.Defs
public import proofs.«01_k».proof.Proof.Bounds
public import proofs.«01_k».proof.Proof.Down2Array
public import proofs.«01_k».proof.Proof.Ref2Array
public import proofs.«01_k».proof.Proof.Gen.Down2Ideal.Value
public import proofs.«01_k».proof.Proof.Gen.Ref2Ideal.Run
public import Idealize.ShloMosaic.Adequacy
public import Idealize.ShloMosaic.Init

@[expose] public section

set_option maxRecDepth 16384

noncomputable section

namespace Cert.Stage2

open Idealize.ShloMosaic Idealize.SL.Sem Cert.Group

/-- The side conditions of the precondition's operations. -/
theorem preFacts : Cert.Pre_bounded2.Facts where
  bcast_S_S4x4096x3 := by decide
  bcast_S_S4x1024x3 := by decide
  slices_S35x64_S3x64_0_0 := by decide
  bcast_S_S3x64 := by decide

attribute [local instance] Cert.Down2Ideal.Gen.facts Cert.Ref2Ideal.Gen.facts preFacts

/-- The precondition says that the coordinates and the first rows of the weights are real numbers within the bounds. -/
theorem ok (m : (ℓ : Loc Cert.Down2Ideal.nD Cert.Down2Ideal.τ Cert.Down2Ideal.sig) → Buf (Elt Ideal) ℓ)
    (h : Cert.Pre_Down2Ideal_bounded2 m) (c : Dev Cert.Down2Ideal.nD) : (Cert.Down2Array.args m c).Ok where
  p i := Cert.Bounds.abs_le (congrFun (h c).1 i)
  q i := Cert.Bounds.abs_le (congrFun (h c).2.1 i)
  w a j := by
    have e := Cert.Bounds.abs_lt (congrFun (h c).2.2 (ix2 a j))
    obtain ⟨x, hx⟩ := e
    refine ⟨x, Eq.trans (congrArg _ ?_) hx⟩
    funext d
    match d with
    | ⟨0, _⟩ => exact Fin.ext (Nat.zero_add _).symm
    | ⟨1, _⟩ => exact Fin.ext (Nat.zero_add _).symm

/-- The reference runs, leaves its arguments and has no semaphore. -/
theorem refFrame : Cert.quiescent_Ref2Ideal := fun m ρ _ =>
  (θ_run Cert.Ref2Ideal.defs _ _).mono (fun r h => ⟨fun c => (h c).2.2.2, sem_eq_zero_of_no_sems (by decide) r.2⟩)
    (Cert.Ref2Ideal.Value.run (F := Ideal) m ρ)

/-- THE ALGEBRAIC CLAIM: from arguments that agree and meet the precondition both programs end with the same three results, the largest
    products, their sums and the sums of their squares, and leave their arguments. -/
theorem algebraic : Cert.algebraic_Down2Ideal_Ref2Ideal_pre_bounded2 := by
  intro m g m' g' hpre hag
  have hk := Cert.Down2Ideal.Value.run_blocks (F := Ideal) m g
  have hr := Cert.Ref2Ideal.Value.run (F := Ideal) m' g'
  have hok := ok m hpre
  have hargs : ∀ c : Dev Cert.Ref2Ideal.nD, Cert.Ref2Array.args (m' ((c.tc : Thread Cert.Ref2Ideal.nD Cert.Ref2Ideal.τ).loc Cert.Ref2Ideal.main_arg0))
      (m' ((c.tc : Thread Cert.Ref2Ideal.nD Cert.Ref2Ideal.τ).loc Cert.Ref2Ideal.main_arg1))
      (m' ((c.tc : Thread Cert.Ref2Ideal.nD Cert.Ref2Ideal.τ).loc Cert.Ref2Ideal.main_arg2))
      (m' ((c.tc : Thread Cert.Ref2Ideal.nD Cert.Ref2Ideal.τ).loc Cert.Ref2Ideal.main_arg3)) = Cert.Down2Array.args m c := by
    intro c
    rw [(hag c).1, (hag c).2.1, (hag c).2.2.1, (hag c).2.2.2]
    rfl
  refine ⟨fun c => (Cert.Down2Ideal.Gen.dats m 0 c).arrAt 8 Cert.Down2Ideal.cfg0.N,
    fun c => (Cert.Down2Ideal.Gen.dats m 0 c).arrAt 9 Cert.Down2Ideal.cfg0.N,
    fun c => (Cert.Down2Ideal.Gen.dats m 0 c).arrAt 10 Cert.Down2Ideal.cfg0.N, hk, ?_⟩
  refine (θ_run Cert.Ref2Ideal.defs _ _).mono (fun r h c => ?_) hr
  obtain ⟨h0, h1, h2, h3⟩ := h c
  have hok' := hok c
  rw [← hargs c] at hok'
  refine ⟨h0.trans ?_, h1.trans ?_, h2.trans ?_, h3⟩
  · refine (Cert.Ref2Ideal.Read.val_main_v32_eq m' c).trans ((Cert.Ref2Array.top_eq hok').trans ?_)
    rw [hargs c]
    exact (Cert.Down2Array.arr8 c (hok c)).symm
  · refine (Cert.Ref2Ideal.Read.val_main_v28_eq m' c).trans ((Cert.Ref2Array.total_eq hok').trans ?_)
    rw [hargs c]
    exact (Cert.Down2Array.arr9 c (hok c)).symm
  · refine (Cert.Ref2Ideal.Read.val_main_v31_eq m' c).trans ((Cert.Ref2Array.totalSq_eq hok').trans ?_)
    rw [hargs c]
    exact (Cert.Down2Array.arr10 c (hok c)).symm

end Cert.Stage2

end
-- ==== Proof.Down3Value.lean ====
/-
  WHAT ONE POINT OF THE GROUPING CALL LEAVES in its result blocks, 1024 points and 256 queries a cloud, 128 queries a point: the rounds of
  `Step` on the point's blocks (`out_*_8` the largest products, `out_*_9` the sums, `out_*_10` the sums of squares; case A is the first
  point, case B a later one, which adds to what the point before left).
-/
module

public import proofs.«01_k».proof.Proof.Step
public import proofs.«01_k».proof.Proof.Gen.Down3Ideal.Value

@[expose] public section

set_option maxRecDepth 16384

noncomputable section

namespace Cert.Down3Value

open Cert.Down3Ideal Cert.Down3Ideal.Gen Idealize.ShloMosaic Idealize.ShloMosaic.TcCoe Idealize.SL.Sem

attribute [local instance] Cert.Down3Ideal.Gen.facts

/-- The shape conditions of this call's rounds. -/
theorem fit : Step.Fit 128 1024 128 := ⟨reduces_S128x1024_S128, shapeCasts_S128_S128x1, broadcasts_S128x1_S128x1024, reduces_S128x128_S128, shapeCasts_S128_S1x128⟩

/-- The offset of a whole rank-2 access. -/
theorem hz2 : (![0, 0] : Fin 2 → ℕ) = fun _ => 0 := by funext a; fin_cases a <;> rfl

/-- The offset of a whole rank-3 access. -/
theorem hz3 : (![0, 0, 0] : Fin 3 → ℕ) = fun _ => 0 := by funext a; fin_cases a <;> rfl

/-- The product with the mask contracts over the points. -/
theorem dot1 : dot_S128x1024_S1024x67_S128x67_1_0_0_1_n_n = DotDims.plain 128 1024 67 := rfl

/-- The product with the weights contracts over the features. -/
theorem dot2 : dot_S128x67_S67x128_S128x128_1_0_0_1_n_n = DotDims.plain 128 67 128 := rfl

/-- The largest products at the first point. -/
theorem out_A_8 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = shapeCast S1x128x128 (Step.top fit 0x44800000#32 (k0_pay5 x0 x1 x2 x3 x4 x5) k0_pay6 (k0_pay4 x6) x7 (k0_pay7 x3 x4 x5 x7) 16) shapeCasts_S128x128_S1x128x128 := by
  unfold out0_A_8
  rw [View.read_writes_junk_eq_canon]
  unfold kernelRun0_A
  dsimp only
  sl_unfold_words
  simp only [View.canon_unit_zero (S := S1x128x128) hz3, View.readAt_eq_ld, harg2.read_unread, harg3.read_unread, harg4.read_unread, harg5.read_unread, harg6.read_unread, harg7.read_unread, harg8.read_unread, harg9.read_unread,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at the first point. -/
theorem out_A_9 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.total fit 0x44800000#32 (k0_pay5 x0 x1 x2 x3 x4 x5) k0_pay6 (k0_pay4 x6) x7 (k0_pay7 x3 x4 x5 x7) 16 := by
  unfold out0_A_9
  rw [View.read_writes_junk_eq_canon]
  unfold kernelRun0_A
  dsimp only
  sl_unfold_words
  simp only [View.canon_unit_zero (S := S1x128) hz2, View.readAt_eq_ld, harg2.read_unread, harg3.read_unread, harg4.read_unread, harg5.read_unread, harg6.read_unread, harg7.read_unread, harg8.read_unread, harg9.read_unread,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at the first point. -/
theorem out_A_10 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : cond0_0 i) (hc1 : ¬cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.totalSq fit 0x44800000#32 (k0_pay5 x0 x1 x2 x3 x4 x5) k0_pay6 (k0_pay4 x6) x7 (k0_pay7 x3 x4 x5 x7) 16 := by
  unfold out0_A_10
  rw [View.read_writes_junk_eq_canon]
  unfold kernelRun0_A
  dsimp only
  sl_unfold_words
  simp only [View.canon_unit_zero (S := S1x128) hz2, View.readAt_eq_ld, harg2.read_unread, harg3.read_unread, harg4.read_unread, harg5.read_unread, harg6.read_unread, harg7.read_unread, harg8.read_unread, harg9.read_unread,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The largest products at a later point. -/
theorem out_B_8 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) (xo9 : Vec Ideal S1x128 .f32) (xo10 : Vec Ideal S1x128 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = shapeCast S1x128x128 (Step.top fit 0x44800000#32 (k0_pay5 x0 x1 x2 x3 x4 x5) k0_pay6 (k0_pay4 x6) x7 (k0_pay7 x3 x4 x5 x7) 16) shapeCasts_S128x128_S1x128x128 := by
  unfold out0_B_8
  rw [View.read_writes_junk_eq_canon]
  unfold kernelRun0_B
  dsimp only
  sl_unfold_words
  simp only [View.canon_unit_zero (S := S1x128x128) hz3, View.readAt_eq_ld, harg2.read_unread, harg3.read_unread, harg4.read_unread, harg5.read_unread, harg6.read_unread, harg7.read_unread, harg8.read_unread, harg9.read_unread, harg11.read_unread, harg12.read_unread, View.ld_unit_zero (S := S1x128) hz2,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at a later point, added to what was there. -/
theorem out_B_9 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) (xo9 : Vec Ideal S1x128 .f32) (xo10 : Vec Ideal S1x128 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo9 (Step.total fit 0x44800000#32 (k0_pay5 x0 x1 x2 x3 x4 x5) k0_pay6 (k0_pay4 x6) x7 (k0_pay7 x3 x4 x5 x7) 16) := by
  unfold out0_B_9
  rw [View.read_writes_junk_eq_canon]
  unfold kernelRun0_B
  dsimp only
  sl_unfold_words
  simp only [View.canon_unit_zero (S := S1x128) hz2, View.readAt_eq_ld, harg2.read_unread, harg3.read_unread, harg4.read_unread, harg5.read_unread, harg6.read_unread, harg7.read_unread, harg8.read_unread, harg9.read_unread, harg11.read_unread, harg12.read_unread, View.ld_unit_zero (S := S1x128) hz2,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at a later point, added to what was there. -/
theorem out_B_10 (c : Dev nD) (i : grid0.Coords) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1024x67 .f32) (harg8 : arg8.IsWhole) (arg9 : Memref sig .tc .vmem S67x128 .f32) (harg9 : arg9.IsWhole) (arg10 : Memref sig .tc .vmem S1x128x128 .f32) (harg10 : arg10.IsWhole) (arg11 : Memref sig .tc .vmem S1x128 .f32) (harg11 : arg11.IsWhole) (arg12 : Memref sig .tc .vmem S1x128 .f32) (harg12 : arg12.IsWhole) (hc0 : ¬cond0_0 i) (hc1 : cond0_1 i)
    (x0 : Vec Ideal S1x1x1024 .f32) (x1 : Vec Ideal S1x1x1024 .f32) (x2 : Vec Ideal S1x1x1024 .f32) (x3 : Vec Ideal S1x128x1 .f32) (x4 : Vec Ideal S1x128x1 .f32) (x5 : Vec Ideal S1x128x1 .f32) (x6 : Vec Ideal S1x1024x67 .f32) (x7 : Vec Ideal S67x128 .f32) (xo9 : Vec Ideal S1x128 .f32) (xo10 : Vec Ideal S1x128 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo10 (Step.totalSq fit 0x44800000#32 (k0_pay5 x0 x1 x2 x3 x4 x5) k0_pay6 (k0_pay4 x6) x7 (k0_pay7 x3 x4 x5 x7) 16) := by
  unfold out0_B_10
  rw [View.read_writes_junk_eq_canon]
  unfold kernelRun0_B
  dsimp only
  sl_unfold_words
  simp only [View.canon_unit_zero (S := S1x128) hz2, View.readAt_eq_ld, harg2.read_unread, harg3.read_unread, harg4.read_unread, harg5.read_unread, harg6.read_unread, harg7.read_unread, harg8.read_unread, harg9.read_unread, harg11.read_unread, harg12.read_unread, View.ld_unit_zero (S := S1x128) hz2,
    View.ld_unit_zero (S := S67x128) hz2, View.ld_unit_zero (S := S1x1x1024) hz3, View.ld_unit_zero (S := S1x128x1) hz3, View.ld_unit_zero (S := S1x1024x67) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

end Cert.Down3Value

end
-- ==== Proof.Down3Array.lean ====
/-
  THE RESULT ARRAYS OF THE GROUPING CALL, 1024 points and 256 queries a cloud, as functions of the arguments (`Group.In`): the blocks the
  call's windows cut from the host's arrays are the arguments' entries; point `t` works on cloud `t / 2` and its queries from
  `t % 2 * 128` on; the largest products are written point by point, the sums after the last point.
-/
module

public import proofs.«01_k».proof.Proof.Group
public import proofs.«01_k».proof.Proof.Down3Value
public import Idealize.ShloMosaic.Lib.Pipeline.Value
public import Idealize.ShloMosaic.Lib.Pipeline.ValueKit.Geometry

@[expose] public section

set_option maxRecDepth 16384

noncomputable section

namespace Cert.Down3Array

open Cert.Down3Ideal Cert.Down3Ideal.Gen Idealize.ShloMosaic Idealize.ShloMosaic.TcCoe Idealize.SL.Sem Cert.Step Cert.Group Cert.Down3Value

attribute [local instance] Cert.Down3Ideal.Gen.facts

/-! ## The body's first values, at an index -/

/-- The features' block, its unit axis dropped. -/
theorem pay4_apply (x6 : Vec Ideal S1x1024x67 .f32) (i : Fin 1024) (l : Fin 67) : k0_pay4 x6 (ix2 i l) = x6 (ix3 (0 : Fin 1) i l) := by
  unfold k0_pay4
  rw [ix2_eq_valueIdx, ix3_eq_valueIdx]
  exact ValueIdx.shapeCast_1ab_ab_apply ..

/-- The squared distances. -/
theorem pay5_apply (x0 x1 x2 : Vec Ideal S1x1x1024 .f32) (x3 x4 x5 : Vec Ideal S1x128x1 .f32) (r : Fin 128) (i : Fin 1024) :
    k0_pay5 x0 x1 x2 x3 x4 x5 (ix2 r i)
      = (x3 (ix3 (0 : Fin 1) r (0 : Fin 1)) - x0 (ix3 (0 : Fin 1) (0 : Fin 1) i)) * (x3 (ix3 (0 : Fin 1) r (0 : Fin 1)) - x0 (ix3 (0 : Fin 1) (0 : Fin 1) i))
        + (x4 (ix3 (0 : Fin 1) r (0 : Fin 1)) - x1 (ix3 (0 : Fin 1) (0 : Fin 1) i)) * (x4 (ix3 (0 : Fin 1) r (0 : Fin 1)) - x1 (ix3 (0 : Fin 1) (0 : Fin 1) i))
        + (x5 (ix3 (0 : Fin 1) r (0 : Fin 1)) - x2 (ix3 (0 : Fin 1) (0 : Fin 1) i)) * (x5 (ix3 (0 : Fin 1) r (0 : Fin 1)) - x2 (ix3 (0 : Fin 1) (0 : Fin 1) i)) := by
  pointwise [k0_pay5, k0_pay1, k0_pay2, k0_pay3]

/-- The number of the column. -/
theorem pay6_apply (r : Fin 128) (i : Fin 1024) : (k0_pay6 (F := Ideal)) (ix2 r i) = ((i.val : ℝ) : EReal) := by
  pointwise [k0_pay6]
  have hi := i.isLt
  have e : (BitVec.ofNat 32 i.val).toInt = (i.val : ℤ) := by
    rw [BitVec.toInt_eq_toNat_of_lt (by rw [BitVec.toNat_ofNat]; omega), BitVec.toNat_ofNat, Nat.mod_eq_of_lt (by omega)]
  show (((BitVec.ofNat 32 i.val).toInt : ℝ) : EReal) = _
  rw [e]
  norm_cast

/-- The query's part of the products. -/
theorem pay7_apply (x3 x4 x5 : Vec Ideal S1x128x1 .f32) (x7 : Vec Ideal S67x128 .f32) (r : Fin 128) (j : Fin 128) :
    k0_pay7 x3 x4 x5 x7 (ix2 r j)
      = x3 (ix3 (0 : Fin 1) r (0 : Fin 1)) * x7 (ix2 (0 : Fin 67) j) + x4 (ix3 (0 : Fin 1) r (0 : Fin 1)) * x7 (ix2 (1 : Fin 67) j)
        + x5 (ix3 (0 : Fin 1) r (0 : Fin 1)) * x7 (ix2 (2 : Fin 67) j) := by
  unfold k0_pay7
  rw [show dot_S128x3_S3x128_S128x128_1_0_0_1_n_n = DotDims.plain 128 3 128 from rfl, plain_apply, Fin.sum_univ_three]
  pointwise [k0_pay1, k0_pay2, k0_pay3]

/-! ## The host's arrays -/

variable (m : (ℓ : Loc nD τ sig) → Buf (Elt Ideal) ℓ)

/-- The arguments, as what the grouped products are computed from. -/
def args (c : Dev nD) : In 4 1024 256 64 67 128 where
  p := m ((c : Thread nD τ).loc main_arg0)
  q := m ((c : Thread nD τ).loc main_arg1)
  h := m ((c : Thread nD τ).loc main_arg2)
  w := m ((c : Thread nD τ).loc main_arg3)
  hn := by decide
  ht := rfl

/-- The first coordinates of the points. -/
theorem V13 (c : Dev nD) (b : Fin 4) (i : Fin 1024) :
    (V m c main_v13 : Vec Ideal S4x1x1024 .f32) (ix3 b (0 : Fin 1) i) = (args m c).p (ix3 b i (0 : Fin 3)) := by
  unfold_abbrev_sides
  after_results
  generalize hx : (m ((c : Thread nD τ).loc main_arg0) : Vec Ideal S4x1024x3 .f32) = x
  pointwise []

/-- The second coordinates of the points. -/
theorem V14 (c : Dev nD) (b : Fin 4) (i : Fin 1024) :
    (V m c main_v14 : Vec Ideal S4x1x1024 .f32) (ix3 b (0 : Fin 1) i) = (args m c).p (ix3 b i (1 : Fin 3)) := by
  unfold_abbrev_sides
  after_results
  generalize hx : (m ((c : Thread nD τ).loc main_arg0) : Vec Ideal S4x1024x3 .f32) = x
  pointwise []

/-- The third coordinates of the points. -/
theorem V15 (c : Dev nD) (b : Fin 4) (i : Fin 1024) :
    (V m c main_v15 : Vec Ideal S4x1x1024 .f32) (ix3 b (0 : Fin 1) i) = (args m c).p (ix3 b i (2 : Fin 3)) := by
  unfold_abbrev_sides
  after_results
  generalize hx : (m ((c : Thread nD τ).loc main_arg0) : Vec Ideal S4x1024x3 .f32) = x
  pointwise []

/-- The first coordinates of the queries. -/
theorem V16 (c : Dev nD) (b : Fin 4) (r : Fin 256) :
    (V m c main_v16 : Vec Ideal S4x256x1 .f32) (ix3 b r (0 : Fin 1)) = (args m c).q (ix3 b r (0 : Fin 3)) := by
  unfold_abbrev_sides
  after_results
  generalize hx : (m ((c : Thread nD τ).loc main_arg1) : Vec Ideal S4x256x3 .f32) = x
  pointwise []

/-- The second coordinates of the queries. -/
theorem V17 (c : Dev nD) (b : Fin 4) (r : Fin 256) :
    (V m c main_v17 : Vec Ideal S4x256x1 .f32) (ix3 b r (0 : Fin 1)) = (args m c).q (ix3 b r (1 : Fin 3)) := by
  unfold_abbrev_sides
  after_results
  generalize hx : (m ((c : Thread nD τ).loc main_arg1) : Vec Ideal S4x256x3 .f32) = x
  pointwise []

/-- The third coordinates of the queries. -/
theorem V18 (c : Dev nD) (b : Fin 4) (r : Fin 256) :
    (V m c main_v18 : Vec Ideal S4x256x1 .f32) (ix3 b r (0 : Fin 1)) = (args m c).q (ix3 b r (2 : Fin 3)) := by
  unfold_abbrev_sides
  after_results
  generalize hx : (m ((c : Thread nD τ).loc main_arg1) : Vec Ideal S4x256x3 .f32) = x
  pointwise []

/-- The points' coordinates and features side by side. -/
theorem V0 (c : Dev nD) (b : Fin 4) (i : Fin 1024) (l : Fin 67) : (V m c main_v0 : Vec Ideal S4x1024x67 .f32) (ix3 b i l) = (args m c).tab b i l := by
  unfold_abbrev_sides
  after_results
  unfold In.tab
  show concatenate S4x1024x67 2 [⟨S4x1024x3, (args m c).p⟩, ⟨S4x1024x64, (args m c).h⟩] concatenates_S4x1024x3_S4x1024x64_S4x1024x67_d2 (ix3 b i l) = _
  pointwise []

/-! ## The windows' blocks -/

/-- The cloud of point `t`. -/
def bt (t : Fin cfg0.N) : Fin 4 := ⟨t.val / 2, by have := t.isLt; have h : cfg0.N = 8 := N_0; omega⟩

/-- The queries of point `t`. -/
def qr (t : Fin cfg0.N) (r : Fin 128) : Fin 256 := ⟨t.val % 2 * 128 + r.val, by have := r.isLt; omega⟩

theorem idx0 : ∀ t : Fin cfg0.N, win0_0.index t = ![t.val / 2, 0, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val / 2, 0, 0] := (by decide +kernel : ∀ t : Fin grid0.N, _)
theorem idx3 : ∀ t : Fin cfg0.N, win0_3.index t = ![t.val / 2, t.val % 2, 0] := (by decide +kernel : ∀ t : Fin grid0.N, _)
theorem idx4 : ∀ t : Fin cfg0.N, win0_4.index t = ![t.val / 2, t.val % 2, 0] := (by decide +kernel : ∀ t : Fin grid0.N, _)
theorem idx5 : ∀ t : Fin cfg0.N, win0_5.index t = ![t.val / 2, t.val % 2, 0] := (by decide +kernel : ∀ t : Fin grid0.N, _)
theorem idx6 : ∀ t : Fin cfg0.N, win0_6.index t = ![t.val / 2, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 2, t.val % 2, 0] := (by decide +kernel : ∀ t : Fin grid0.N, _)

/-- The block of the points' first coordinates. -/
theorem blk0 (c : Dev nD) (t : Fin cfg0.N) (i : Fin 1024) :
    (iblk m c 0 t : Vec Ideal S1x1x1024 .f32) (ix3 (0 : Fin 1) (0 : Fin 1) i) = (args m c).p (ix3 (bt t) i (0 : Fin 3)) := by
  rw [← V13]
  blk_simp [iblk]
  congr 1
  unfold bt
  blk_ext [idx0]

/-- The block of the points' second coordinates. -/
theorem blk1 (c : Dev nD) (t : Fin cfg0.N) (i : Fin 1024) :
    (iblk m c 1 t : Vec Ideal S1x1x1024 .f32) (ix3 (0 : Fin 1) (0 : Fin 1) i) = (args m c).p (ix3 (bt t) i (1 : Fin 3)) := by
  rw [← V14]
  blk_simp [iblk]
  congr 1
  unfold bt
  blk_ext [idx1]

/-- The block of the points' third coordinates. -/
theorem blk2 (c : Dev nD) (t : Fin cfg0.N) (i : Fin 1024) :
    (iblk m c 2 t : Vec Ideal S1x1x1024 .f32) (ix3 (0 : Fin 1) (0 : Fin 1) i) = (args m c).p (ix3 (bt t) i (2 : Fin 3)) := by
  rw [← V15]
  blk_simp [iblk]
  congr 1
  unfold bt
  blk_ext [idx2]

/-- The block of the queries' first coordinates. -/
theorem blk3 (c : Dev nD) (t : Fin cfg0.N) (r : Fin 128) :
    (iblk m c 3 t : Vec Ideal S1x128x1 .f32) (ix3 (0 : Fin 1) r (0 : Fin 1)) = (args m c).q (ix3 (bt t) (qr t r) (0 : Fin 3)) := by
  rw [← V16]
  blk_simp [iblk]
  congr 1
  unfold bt qr
  blk_ext [idx3]

/-- The block of the queries' second coordinates. -/
theorem blk4 (c : Dev nD) (t : Fin cfg0.N) (r : Fin 128) :
    (iblk m c 4 t : Vec Ideal S1x128x1 .f32) (ix3 (0 : Fin 1) r (0 : Fin 1)) = (args m c).q (ix3 (bt t) (qr t r) (1 : Fin 3)) := by
  rw [← V17]
  blk_simp [iblk]
  congr 1
  unfold bt qr
  blk_ext [idx4]

/-- The block of the queries' third coordinates. -/
theorem blk5 (c : Dev nD) (t : Fin cfg0.N) (r : Fin 128) :
    (iblk m c 5 t : Vec Ideal S1x128x1 .f32) (ix3 (0 : Fin 1) r (0 : Fin 1)) = (args m c).q (ix3 (bt t) (qr t r) (2 : Fin 3)) := by
  rw [← V18]
  blk_simp [iblk]
  congr 1
  unfold bt qr
  blk_ext [idx5]

/-- The block of the points' rows. -/
theorem blk6 (c : Dev nD) (t : Fin cfg0.N) (i : Fin 1024) (l : Fin 67) :
    (iblk m c 6 t : Vec Ideal S1x1024x67 .f32) (ix3 (0 : Fin 1) i l) = (args m c).tab (bt t) i l := by
  rw [← V0]
  blk_simp [iblk]
  congr 1
  unfold bt
  blk_ext [idx6]

/-- The weights' block is all of them. -/
theorem blk7 (c : Dev nD) (t : Fin cfg0.N) : (iblk m c 7 t : Vec Ideal S67x128 .f32) = (args m c).w := by
  show _ = m ((c : Thread nD τ).loc main_arg3)
  rw [← V_main_arg3 m c]
  funext y
  blk_simp [iblk]
  congr 1
  blk_ext [idx7]

/-! ## A point's rounds -/

/-- The point's distances. -/
theorem hd (c : Dev nD) (t : Fin cfg0.N) (r : Fin 128) (i : Fin 1024) :
    k0_pay5 (iblk m c 0 t) (iblk m c 1 t) (iblk m c 2 t) (iblk m c 3 t) (iblk m c 4 t) (iblk m c 5 t) (ix2 r i) = (args m c).sq (bt t) (qr t r) i := by
  rw [pay5_apply, blk0, blk1, blk2, blk3, blk4, blk5]
  unfold In.sq
  rw [Fin.sum_univ_three]

/-- The point's rows. -/
theorem htb (c : Dev nD) (t : Fin cfg0.N) (i : Fin 1024) (l : Fin 67) : k0_pay4 (iblk m c 6 t) (ix2 i l) = (args m c).tab (bt t) i l := by
  rw [pay4_apply, blk6]

/-- The queries' part of the point's products. -/
theorem hqw (c : Dev nD) (t : Fin cfg0.N) (r : Fin 128) (j : Fin 128) :
    k0_pay7 (iblk m c 3 t) (iblk m c 4 t) (iblk m c 5 t) (iblk m c 7 t) (ix2 r j) = (args m c).qw (bt t) (qr t r) j := by
  rw [pay7_apply, blk3, blk4, blk5, blk7]
  unfold In.qw
  rw [Fin.sum_univ_three]
  rfl

/-- The marker behind the last column's number is the number of points. -/
theorem hcn : Ideal.ofBits .f32 0x44800000#32 = (((1024 : ℕ) : ℝ) : EReal) := by
  simp [Ideal.ofBits, Ideal.ieee]
  rw [← EReal.coe_mul]
  norm_num

variable {m}

/-- The largest products a point leaves. -/
theorem point_top (c : Dev nD) (ok : (args m c).Ok) (t : Fin cfg0.N) (r : Fin 128) (j : Fin 128) :
    (outsAt0 m c t.val t.isLt).1 (ix3 (0 : Fin 1) r j) = (args m c).top (bt t) (qr t r) j := by
  have hN : cfg0.N = 8 := N_0
  have ht := t.isLt
  have e := In.tile_top (fit) 0x44800000#32 hcn ok (bt t) (qr t) (hd m c t) pay6_apply (htb m c t) (blk7 m c t) (hqw m c t) r j
  rw [← e]
  by_cases h0 : t.val % 8 = 0
  · rw [outsAt0_A m c t h0 (by omega), out_A_8, ix2_eq_valueIdx, ix3_eq_valueIdx]
    dsimp only
    exact ValueIdx.shapeCast_ab_1ab_apply ..
  · rw [outsAt0_B m c t h0 (by omega), out_B_8, ix2_eq_valueIdx, ix3_eq_valueIdx]
    dsimp only
    exact ValueIdx.shapeCast_ab_1ab_apply ..

/-- A query's products summed. -/
def qsum (c : Dev nD) (j : Fin 128) (b : Fin 4) (r : Fin 256) : EReal := ∑ k ∈ Finset.range 16, (args m c).y b r k j

/-- The squares of a query's products summed. -/
def qsumSq (c : Dev nD) (j : Fin 128) (b : Fin 4) (r : Fin 256) : EReal := ∑ k ∈ Finset.range 16, (args m c).y b r k j * (args m c).y b r k j

/-- A tile's query, counted through all clouds. -/
theorem flat_tile (f : Fin 4 → Fin 256 → EReal) (t : Fin cfg0.N) (r : Fin 128) : flat f (t.val * 128 + r.val) = f (bt t) (qr t r) := by
  have hN : cfg0.N = 8 := N_0
  have ht := t.isLt
  have hr := r.isLt
  unfold flat
  rw [dif_pos (by omega)]
  exact congrArg₂ f (Fin.ext (by show (t.val * 128 + r.val) / 256 = t.val / 2; omega))
    (Fin.ext (by show (t.val * 128 + r.val) % 256 = t.val % 2 * 128 + r.val; omega))

/-- The sums after point `n`: those of the queries up to it. -/
theorem point_total (c : Dev nD) (ok : (args m c).Ok) (j : Fin 128) : ∀ (n : ℕ) (h : n < cfg0.N),
    (outsAt0 m c n h).2.1 (ix2 (0 : Fin 1) j) = ∑ s ∈ Finset.range (n + 1), ∑ r : Fin 128, flat (qsum (m := m) c j) (s * 128 + r.val)
  | 0, h => by
    have e := In.tile_total (fit) 0x44800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 128, flat (qsum (m := m) c j) (0 * 128 + r.val)) = _ from Finset.sum_congr rfl fun r _ => flat_tile (qsum (m := m) c j) ⟨0, h⟩ r]
    refine Eq.trans ?_ e
    rw [outsAt0_A m c ⟨0, h⟩ rfl (by simp), out_A_9]
  | n + 1, h => by
    have hN : cfg0.N = 8 := N_0
    have e := In.tile_total (fit) 0x44800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_total c ok j n (Nat.lt_of_succ_lt h)]
    rw [show (∑ r : Fin 128, flat (qsum (m := m) c j) ((n + 1) * 128 + r.val)) = _ from Finset.sum_congr rfl fun r _ => flat_tile (qsum (m := m) c j) ⟨n + 1, h⟩ r]
    refine Eq.trans ?_ (congrArg (_ + ·) e)
    rw [outsAt0_B m c ⟨n + 1, h⟩ (by show ¬(n + 1) % 8 = 0; omega) (by show 1 ≤ n + 1; omega), out_B_9]
    rfl

/-- The sums of squares after point `n`: those of the queries up to it. -/
theorem point_totalSq (c : Dev nD) (ok : (args m c).Ok) (j : Fin 128) : ∀ (n : ℕ) (h : n < cfg0.N),
    (outsAt0 m c n h).2.2 (ix2 (0 : Fin 1) j) = ∑ s ∈ Finset.range (n + 1), ∑ r : Fin 128, flat (qsumSq (m := m) c j) (s * 128 + r.val)
  | 0, h => by
    have e := In.tile_totalSq (fit) 0x44800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 128, flat (qsumSq (m := m) c j) (0 * 128 + r.val)) = _ from Finset.sum_congr rfl fun r _ => flat_tile (qsumSq (m := m) c j) ⟨0, h⟩ r]
    refine Eq.trans ?_ e
    rw [outsAt0_A m c ⟨0, h⟩ rfl (by simp), out_A_10]
  | n + 1, h => by
    have hN : cfg0.N = 8 := N_0
    have e := In.tile_totalSq (fit) 0x44800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_totalSq c ok j n (Nat.lt_of_succ_lt h)]
    rw [show (∑ r : Fin 128, flat (qsumSq (m := m) c j) ((n + 1) * 128 + r.val)) = _ from Finset.sum_congr rfl fun r _ => flat_tile (qsumSq (m := m) c j) ⟨n + 1, h⟩ r]
    refine Eq.trans ?_ (congrArg (_ + ·) e)
    rw [outsAt0_B m c ⟨n + 1, h⟩ (by show ¬(n + 1) % 8 = 0; omega) (by show 1 ≤ n + 1; omega), out_B_10]
    rfl

/-! ## The result arrays -/

/-- THE FIRST RESULT holds each query's largest products. -/
theorem arr8 (c : Dev nD) (ok : (args m c).Ok) : (dats m 0 c).arrAt 8 cfg0.N = (fun i => (args m c).top (i 0) (i 1) (i 2) : Vec Ideal S4x256x128 .f32) := by
  refine (dats m 0 c).arrAt_eq_of_covers 8 _ (by decide +kernel) fun t hf y => ?_
  blk_simp
  rw [after0_8]
  have ey : y = ix3 (0 : Fin 1) (y 1 : Fin 128) (y 2 : Fin 128) := by
    funext a
    match a with
    | ⟨0, _⟩ => exact Fin.ext (by have : (y 0).val < 1 := (y 0).isLt; show (y 0).val = 0; omega)
    | ⟨1, _⟩ => rfl
    | ⟨2, _⟩ => rfl
  refine ((congrArg (outsAt0 m c t.val t.isLt).1 ey).trans (point_top c ok t (y 1 : Fin 128) (y 2 : Fin 128))).trans ?_
  refine congr (congr (congrArg _ (Fin.ext ?_)) (Fin.ext ?_)) (Fin.ext ?_)
  · blk_simp [idx8]
    have : (y 0).val < 1 := (y 0).isLt
    show t.val / 2 = _
    omega
  · blk_simp [idx8]
    rfl
  · blk_simp [idx8]

/-- The last point. -/
abbrev tl : Fin cfg0.N := (⟨7, by decide +kernel⟩ : Fin grid0.N)

/-- THE SECOND RESULT holds the sums of all products of a column. -/
theorem arr9 (c : Dev nD) (ok : (args m c).Ok) : (dats m 0 c).arrAt 9 cfg0.N = (fun i => (args m c).total (i 1) : Vec Ideal S1x128 .f32) := by
  refine (dats m 0 c).arrAt_eq_of_after_last 9 tl (by decide +kernel) _ fun y => ?_
  blk_simp
  rw [after0_9]
  have ey : (fun a => ⟨(y a).val, (y a).isLt⟩ : S1x128.Idx) = ix2 (0 : Fin 1) (y 1 : Fin 128) := by
    funext a
    match a with
    | ⟨0, _⟩ => exact Fin.ext (by have : (y 0).val < 1 := (y 0).isLt; show (y 0).val = 0; omega)
    | ⟨1, _⟩ => rfl
  refine ((congrArg (outsAt0 m c tl.val tl.isLt).2.1 ey).trans (point_total c ok (y 1 : Fin 128) 7 tl.isLt)).trans ?_
  exact sum_flat (qsum c (y 1 : Fin 128)) 128 8 rfl

/-- THE THIRD RESULT holds the sums of the squares of all products of a column. -/
theorem arr10 (c : Dev nD) (ok : (args m c).Ok) : (dats m 0 c).arrAt 10 cfg0.N = (fun i => (args m c).totalSq (i 1) : Vec Ideal S1x128 .f32) := by
  refine (dats m 0 c).arrAt_eq_of_after_last 10 tl (by decide +kernel) _ fun y => ?_
  blk_simp
  rw [after0_10]
  have ey : (fun a => ⟨(y a).val, (y a).isLt⟩ : S1x128.Idx) = ix2 (0 : Fin 1) (y 1 : Fin 128) := by
    funext a
    match a with
    | ⟨0, _⟩ => exact Fin.ext (by have : (y 0).val < 1 := (y 0).isLt; show (y 0).val = 0; omega)
    | ⟨1, _⟩ => rfl
  refine ((congrArg (outsAt0 m c tl.val tl.isLt).2.2 ey).trans (point_totalSq c ok (y 1 : Fin 128) 7 tl.isLt)).trans ?_
  exact sum_flat (qsumSq c (y 1 : Fin 128)) 128 8 rfl

end Cert.Down3Array

end
-- ==== Proof.Ref3Array.lean ====
/-
  THE REFERENCE'S RESULTS, 1024 points and 256 queries a cloud, as functions of the arguments (`Group.In`): the squared distances, the
  positions of the sixteen nearest, the gathered rows, their products with the weights, and the maxima and sums of these.
-/
module

public import proofs.«01_k».proof.Proof.Group
public import proofs.«01_k».proof.Proof.RefRead
public import proofs.«01_k».proof.Proof.Gen.Ref3Ideal.Read

@[expose] public section

set_option maxRecDepth 16384

noncomputable section

namespace Cert.Ref3Array

open Cert.Ref3Ideal Cert.Ref3Ideal.Gen Cert.Ref3Ideal.Read Idealize.ShloMosaic Cert.Group Cert.RefRead

attribute [local instance] Cert.Ref3Ideal.Gen.facts

variable (x0 : FVec Ideal ⟨3, ![4, 1024, 3]⟩ .f32) (x1 : FVec Ideal ⟨3, ![4, 256, 3]⟩ .f32) (x2 : FVec Ideal ⟨3, ![4, 1024, 64]⟩ .f32)
  (x3 : FVec Ideal ⟨2, ![67, 128]⟩ .f32)

/-- The arguments. -/
def args : In 4 1024 256 64 67 128 where
  p := x0
  q := x1
  h := x2
  w := x3
  hn := by decide
  ht := by decide

/-- The squared distances. -/
theorem v6_apply (b : Fin 4) (r : Fin 256) (i : Fin 1024) : val_main_v6 (F := Ideal) x0 x1 (ix3 b r i) = (args x0 x1 x2 x3).sq b r i := by
  rw [val_main_v6_apply, val_main_cst_apply, show (FloatOps.ofBits (F := Ideal) .f32 0x00000000#32 : EReal) = 0 from Ideal.ofBits_zero_f32,
    zero_add]
  refine Finset.sum_congr rfl fun a _ => ?_
  rw [val_main_v5_apply, val_main_v4_apply, val_main_v2_apply, val_main_v3_apply, val_main_v0_apply, val_main_v1_apply]
  have e0 : idx_main_v0 (idx_main_v2 (idx_main_v6 (ix3 b r i) a)) = ix3 b r a := by
    funext c; match c with | ⟨0, _⟩ => rfl | ⟨1, _⟩ => rfl | ⟨2, _⟩ => rfl
  have e1 : idx_main_v1 (idx_main_v3 (idx_main_v6 (ix3 b r i) a)) = ix3 b i a := by
    funext c; match c with | ⟨0, _⟩ => rfl | ⟨1, _⟩ => rfl | ⟨2, _⟩ => rfl
  rw [e0, e1]
  rfl

variable {x0 x1 x2 x3} (ok : (args x0 x1 x2 x3).Ok)
include ok

/-- The positions of the nearest. -/
theorem indices_apply (b : Fin 4) (r : Fin 256) (k : Fin 16) :
    val_main_indices (F := Ideal) x0 x1 (ix3 b r k) = BitVec.ofNat 32 ((args x0 x1 x2 x3).nbr b r k.val).val := by
  unfold val_main_indices
  refine topK_neg (by decide) _ _ _ (by decide) b r ((args x0 x1 x2 x3).sq b r) (fun i => ?_) (In.sq_lt ok b r) k
  rw [val_main_v7_apply, v6_apply x0 x1 x2 x3]
  rfl

/-- The positions the coordinates are gathered at. -/
theorem v13_apply (b : Fin 4) (r : Fin 256) (k : Fin 16) :
    val_main_v13 (F := Ideal) x0 x1 (ix4 b r k (0 : Fin 1)) = BitVec.ofNat 32 ((args x0 x1 x2 x3).nbr b r k.val).val := by
  have e : idx_main_v13 (ix4 b r k (0 : Fin 1)) = ix3 b r k := by
    funext c; match c with | ⟨0, _⟩ => rfl | ⟨1, _⟩ => rfl | ⟨2, _⟩ => rfl
  rw [val_main_v13_apply, e, val_main_v12_apply, val_main_v9_apply, val_main_v11_apply, val_main_v8_apply, val_main_c_apply, val_main_v10_apply,
    val_main_c_0_apply, indices_apply ok]
  exact wrap_word 1024 _ (lt_trans (Fin.isLt _) (by decide))

/-- The positions the features are gathered at. -/
theorem v20_apply (b : Fin 4) (r : Fin 256) (k : Fin 16) :
    val_main_v20 (F := Ideal) x0 x1 (ix4 b r k (0 : Fin 1)) = BitVec.ofNat 32 ((args x0 x1 x2 x3).nbr b r k.val).val := by
  have e : idx_main_v20 (ix4 b r k (0 : Fin 1)) = ix3 b r k := by
    funext c; match c with | ⟨0, _⟩ => rfl | ⟨1, _⟩ => rfl | ⟨2, _⟩ => rfl
  rw [val_main_v20_apply, e, val_main_v19_apply, val_main_v16_apply, val_main_v18_apply, val_main_v15_apply, val_main_c_1_apply, val_main_v17_apply,
    val_main_c_2_apply, indices_apply ok]
  exact wrap_word 1024 _ (lt_trans (Fin.isLt _) (by decide))

/-- The neighbours' coordinates. -/
theorem v14_apply (b : Fin 4) (r : Fin 256) (k : Fin 16) (a : Fin 3) :
    val_main_v14 (F := Ideal) x0 x1 (ix4 b r k a) = x0 (ix3 b ((args x0 x1 x2 x3).nbr b r k.val) a) := by
  unfold val_main_v14
  exact gather_rows gather_S4x1024x3_S4x256x16x1_S4x256x16x3_3_1_0_0_1_3_113_wf x0 _ b r k a _ (by decide) (v13_apply ok b r k)

/-- The neighbours' features. -/
theorem v21_apply (b : Fin 4) (r : Fin 256) (k : Fin 16) (l : Fin 64) :
    val_main_v21 (F := Ideal) x0 x1 x2 (ix4 b r k l) = x2 (ix3 b ((args x0 x1 x2 x3).nbr b r k.val) l) := by
  unfold val_main_v21
  exact gather_rows gather_S4x1024x64_S4x256x16x1_S4x256x16x64_3_1_0_0_1_3_1164_wf x2 _ b r k l _ (by decide) (v20_apply ok b r k)

/-- The neighbours' offsets. -/
theorem v24_apply (b : Fin 4) (r : Fin 256) (k : Fin 16) (a : Fin 3) :
    val_main_v24 (F := Ideal) x0 x1 (ix4 b r k a) = x0 (ix3 b ((args x0 x1 x2 x3).nbr b r k.val) a) - x1 (ix3 b r a) := by
  have e : idx_main_v22 (idx_main_v23 (ix4 b r k a)) = ix3 b r a := by
    funext c; match c with | ⟨0, _⟩ => rfl | ⟨1, _⟩ => rfl | ⟨2, _⟩ => rfl
  rw [val_main_v24_apply, val_main_v23_apply, val_main_v22_apply, v14_apply ok, e]
  rfl

/-- The rows that meet the weights. -/
theorem v25_apply (b : Fin 4) (r : Fin 256) (k : Fin 16) (l : Fin 67) :
    val_main_v25 (F := Ideal) x0 x1 x2 (ix4 b r k l) = (args x0 x1 x2 x3).cat b r k.val l := by
  unfold In.cat
  split_ifs with hl
  · rw [show (args x0 x1 x2 x3).p (ix3 b _ ⟨l.val, hl⟩) - (args x0 x1 x2 x3).q (ix3 b r ⟨l.val, hl⟩)
      = val_main_v24 (F := Ideal) x0 x1 (ix4 b r k ⟨l.val, hl⟩) from (v24_apply ok b r k ⟨l.val, hl⟩).symm]
    pointwise [val_main_v25, hl]
  · have hl' : l.val - 3 < 64 := by have := l.isLt; omega
    rw [show (args x0 x1 x2 x3).h (ix3 b _ ⟨l.val - 3, _⟩)
      = val_main_v21 (F := Ideal) x0 x1 x2 (ix4 b r k ⟨l.val - 3, hl'⟩) from (v21_apply ok b r k ⟨l.val - 3, hl'⟩).symm]
    pointwise [val_main_v25, hl]

/-- The products. -/
theorem v26_apply (b : Fin 4) (r : Fin 256) (k : Fin 16) (j : Fin 128) :
    val_main_v26 (F := Ideal) x0 x1 x2 x3 (ix4 b r k j) = (args x0 x1 x2 x3).y b r k.val j := by
  rw [val_main_v26_apply]
  refine Finset.sum_congr rfl fun l _ => ?_
  have e : lidx_main_v26 (ix4 b r k j) l = ix4 b r k l := by
    funext c; match c with | ⟨0, _⟩ => rfl | ⟨1, _⟩ => rfl | ⟨2, _⟩ => rfl | ⟨3, _⟩ => rfl
  have e' : ridx_main_v26 (ix4 b r k j) l = ix2 l j := by
    funext c; match c with | ⟨0, _⟩ => rfl | ⟨1, _⟩ => rfl
  rw [e, e', v25_apply ok]
  rfl

/-- THE LARGEST PRODUCTS. -/
theorem top_eq : val_main_v32 (F := Ideal) x0 x1 x2 x3 = fun i => (args x0 x1 x2 x3).top (i 0) (i 1) (i 2) := by
  funext i
  rw [eq_ix3 i]
  unfold val_main_v32
  exact reduceMax_2 _ _ _ _ Cert.Step.ofBits_bot (i 0) (i 1) (i 2) _ fun k => v26_apply ok (i 0) (i 1) k (i 2)

/-- THE SUMS OF THE PRODUCTS. -/
theorem total_eq : val_main_v28 (F := Ideal) x0 x1 x2 x3 = fun i => (args x0 x1 x2 x3).total (i 1) := by
  funext i
  have e : idx_main_v28 i = ix1 (i 1) := by
    funext c; match c with | ⟨0, _⟩ => rfl
  rw [val_main_v28_apply, e]
  unfold val_main_v27
  simp only [Host.reduceAdd, Ideal.hostReduceAdd_def]
  rw [show (val_main_cst_3 (F := Ideal)) (Shape.Idx.first h_S_) = (0 : EReal) from Ideal.ofBits_zero_f32]
  refine (reduceAdd_012 _ _ _ _).trans ?_
  rw [zero_add]
  unfold In.total
  refine Finset.sum_congr rfl fun b _ => Finset.sum_congr rfl fun r _ => ?_
  rw [← Fin.sum_univ_eq_sum_range (fun k => (args x0 x1 x2 x3).y b r k (i 1)) 16]
  exact Finset.sum_congr rfl fun k _ => v26_apply ok b r k (i 1)

/-- THE SUMS OF THEIR SQUARES. -/
theorem totalSq_eq : val_main_v31 (F := Ideal) x0 x1 x2 x3 = fun i => (args x0 x1 x2 x3).totalSq (i 1) := by
  funext i
  have e : idx_main_v31 i = ix1 (i 1) := by
    funext c; match c with | ⟨0, _⟩ => rfl
  rw [val_main_v31_apply, e]
  unfold val_main_v30
  simp only [Host.reduceAdd, Ideal.hostReduceAdd_def]
  rw [show (val_main_cst_4 (F := Ideal)) (Shape.Idx.first h_S_) = (0 : EReal) from Ideal.ofBits_zero_f32]
  refine (reduceAdd_012 _ _ _ _).trans ?_
  rw [zero_add]
  unfold In.totalSq
  refine Finset.sum_congr rfl fun b _ => Finset.sum_congr rfl fun r _ => ?_
  rw [← Fin.sum_univ_eq_sum_range (fun k => (args x0 x1 x2 x3).y b r k (i 1) * (args x0 x1 x2 x3).y b r k (i 1)) 16]
  exact Finset.sum_congr rfl fun k _ =>
    congrArg₂ (fun u v : EReal => u * v) (v26_apply ok b r k (i 1)) (v26_apply ok b r k (i 1))

end Cert.Ref3Array

end
-- ==== Proof.Stage3.lean ====
/-
  THE CLAIM OF THE GROUPING CALL, 1024 points and 256 queries a cloud: under its precondition the call's three result arrays are the
  reference's.
-/
module

public import proofs.«01_k».proof.Defs
public import proofs.«01_k».proof.Proof.Bounds
public import proofs.«01_k».proof.Proof.Down3Array
public import proofs.«01_k».proof.Proof.Ref3Array
public import proofs.«01_k».proof.Proof.Gen.Down3Ideal.Value
public import proofs.«01_k».proof.Proof.Gen.Ref3Ideal.Run
public import Idealize.ShloMosaic.Adequacy
public import Idealize.ShloMosaic.Init

@[expose] public section

set_option maxRecDepth 16384

noncomputable section

namespace Cert.Stage3

open Idealize.ShloMosaic Idealize.SL.Sem Cert.Group

/-- The side conditions of the precondition's operations. -/
theorem preFacts : Cert.Pre_bounded3.Facts where
  bcast_S_S4x1024x3 := by decide
  bcast_S_S4x256x3 := by decide
  slices_S67x128_S3x128_0_0 := by decide
  bcast_S_S3x128 := by decide

attribute [local instance] Cert.Down3Ideal.Gen.facts Cert.Ref3Ideal.Gen.facts preFacts

/-- The precondition says that the coordinates and the first rows of the weights are real numbers within the bounds. -/
theorem ok (m : (ℓ : Loc Cert.Down3Ideal.nD Cert.Down3Ideal.τ Cert.Down3Ideal.sig) → Buf (Elt Ideal) ℓ)
    (h : Cert.Pre_Down3Ideal_bounded3 m) (c : Dev Cert.Down3Ideal.nD) : (Cert.Down3Array.args m c).Ok where
  p i := Cert.Bounds.abs_le (congrFun (h c).1 i)
  q i := Cert.Bounds.abs_le (congrFun (h c).2.1 i)
  w a j := by
    have e := Cert.Bounds.abs_lt (congrFun (h c).2.2 (ix2 a j))
    obtain ⟨x, hx⟩ := e
    refine ⟨x, Eq.trans (congrArg _ ?_) hx⟩
    funext d
    match d with
    | ⟨0, _⟩ => exact Fin.ext (Nat.zero_add _).symm
    | ⟨1, _⟩ => exact Fin.ext (Nat.zero_add _).symm

/-- The reference runs, leaves its arguments and has no semaphore. -/
theorem refFrame : Cert.quiescent_Ref3Ideal := fun m ρ _ =>
  (θ_run Cert.Ref3Ideal.defs _ _).mono (fun r h => ⟨fun c => (h c).2.2.2, sem_eq_zero_of_no_sems (by decide) r.2⟩)
    (Cert.Ref3Ideal.Value.run (F := Ideal) m ρ)

/-- THE ALGEBRAIC CLAIM: from arguments that agree and meet the precondition both programs end with the same three results, the largest
    products, their sums and the sums of their squares, and leave their arguments. -/
theorem algebraic : Cert.algebraic_Down3Ideal_Ref3Ideal_pre_bounded3 := by
  intro m g m' g' hpre hag
  have hk := Cert.Down3Ideal.Value.run_blocks (F := Ideal) m g
  have hr := Cert.Ref3Ideal.Value.run (F := Ideal) m' g'
  have hok := ok m hpre
  have hargs : ∀ c : Dev Cert.Ref3Ideal.nD, Cert.Ref3Array.args (m' ((c.tc : Thread Cert.Ref3Ideal.nD Cert.Ref3Ideal.τ).loc Cert.Ref3Ideal.main_arg0))
      (m' ((c.tc : Thread Cert.Ref3Ideal.nD Cert.Ref3Ideal.τ).loc Cert.Ref3Ideal.main_arg1))
      (m' ((c.tc : Thread Cert.Ref3Ideal.nD Cert.Ref3Ideal.τ).loc Cert.Ref3Ideal.main_arg2))
      (m' ((c.tc : Thread Cert.Ref3Ideal.nD Cert.Ref3Ideal.τ).loc Cert.Ref3Ideal.main_arg3)) = Cert.Down3Array.args m c := by
    intro c
    rw [(hag c).1, (hag c).2.1, (hag c).2.2.1, (hag c).2.2.2]
    rfl
  refine ⟨fun c => (Cert.Down3Ideal.Gen.dats m 0 c).arrAt 8 Cert.Down3Ideal.cfg0.N,
    fun c => (Cert.Down3Ideal.Gen.dats m 0 c).arrAt 9 Cert.Down3Ideal.cfg0.N,
    fun c => (Cert.Down3Ideal.Gen.dats m 0 c).arrAt 10 Cert.Down3Ideal.cfg0.N, hk, ?_⟩
  refine (θ_run Cert.Ref3Ideal.defs _ _).mono (fun r h c => ?_) hr
  obtain ⟨h0, h1, h2, h3⟩ := h c
  have hok' := hok c
  rw [← hargs c] at hok'
  refine ⟨h0.trans ?_, h1.trans ?_, h2.trans ?_, h3⟩
  · refine (Cert.Ref3Ideal.Read.val_main_v32_eq m' c).trans ((Cert.Ref3Array.top_eq hok').trans ?_)
    rw [hargs c]
    exact (Cert.Down3Array.arr8 c (hok c)).symm
  · refine (Cert.Ref3Ideal.Read.val_main_v28_eq m' c).trans ((Cert.Ref3Array.total_eq hok').trans ?_)
    rw [hargs c]
    exact (Cert.Down3Array.arr9 c (hok c)).symm
  · refine (Cert.Ref3Ideal.Read.val_main_v31_eq m' c).trans ((Cert.Ref3Array.totalSq_eq hok').trans ?_)
    rw [hargs c]
    exact (Cert.Down3Array.arr10 c (hok c)).symm

end Cert.Stage3

end
-- ==== Proof.Down4Value.lean ====
/-
  WHAT ONE POINT OF THE GROUPING CALL LEAVES in its result blocks, 256 points and 64 queries a cloud, 64 queries a point: the rounds of
  `Step` on the point's blocks (`out_*_8` the largest products, `out_*_9` the sums, `out_*_10` the sums of squares; case A is the first
  point, case B a later one, which adds to what the point before left).
-/
module

public import proofs.«01_k».proof.Proof.Step
public import proofs.«01_k».proof.Proof.Gen.Down4Ideal.Value

@[expose] public section

set_option maxRecDepth 16384

noncomputable section

namespace Cert.Down4Value

open Cert.Down4Ideal Cert.Down4Ideal.Gen Idealize.ShloMosaic Idealize.ShloMosaic.TcCoe Idealize.SL.Sem

attribute [local instance] Cert.Down4Ideal.Gen.facts

/-- The shape conditions of this call's rounds. -/
theorem fit : Step.Fit 64 256 256 := ⟨reduces_S64x256_S64, shapeCasts_S64_S64x1, broadcasts_S64x1_S64x256, reduces_S64x256_S256, shapeCasts_S256_S1x256⟩

/-- The offset of a whole rank-2 access. -/
theorem hz2 : (![0, 0] : Fin 2 → ℕ) = fun _ => 0 := by funext a; fin_cases a <;> rfl

/-- The offset of a whole rank-3 access. -/
theorem hz3 : (![0, 0, 0] : Fin 3 → ℕ) = fun _ => 0 := by funext a; fin_cases a <;> rfl

/-- The product with the mask contracts over the points. -/
theorem dot1 : dot_S64x256_S256x131_S64x131_1_0_0_1_n_n = DotDims.plain 64 256 131 := rfl

/-- The product with the weights contracts over the features. -/
theorem dot2 : dot_S64x131_S131x256_S64x256_1_0_0_1_n_n = DotDims.plain 64 131 256 := rfl

/-- The largest products at the first point. -/
theorem out_A_8 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : cond0_0 i) (hc1 : ¬cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = shapeCast S1x64x256 (Step.top fit 0x43800000#32 (k0_pay5 x0 x1 x2 x3 x4 x5) k0_pay6 (k0_pay4 x6) x7 (k0_pay7 x3 x4 x5 x7) 16) shapeCasts_S64x256_S1x64x256 := by
  unfold out0_A_8
  rw [View.read_writes_junk_eq_canon]
  unfold kernelRun0_A
  dsimp only
  sl_unfold_words
  simp only [View.canon_unit_zero (S := S1x64x256) hz3, View.readAt_eq_ld, harg2.read_unread, harg3.read_unread, harg4.read_unread, harg5.read_unread, harg6.read_unread, harg7.read_unread, harg8.read_unread, harg9.read_unread,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at the first point. -/
theorem out_A_9 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : cond0_0 i) (hc1 : ¬cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.total fit 0x43800000#32 (k0_pay5 x0 x1 x2 x3 x4 x5) k0_pay6 (k0_pay4 x6) x7 (k0_pay7 x3 x4 x5 x7) 16 := by
  unfold out0_A_9
  rw [View.read_writes_junk_eq_canon]
  unfold kernelRun0_A
  dsimp only
  sl_unfold_words
  simp only [View.canon_unit_zero (S := S1x256) hz2, View.readAt_eq_ld, harg2.read_unread, harg3.read_unread, harg4.read_unread, harg5.read_unread, harg6.read_unread, harg7.read_unread, harg8.read_unread, harg9.read_unread,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at the first point. -/
theorem out_A_10 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : cond0_0 i) (hc1 : ¬cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.totalSq fit 0x43800000#32 (k0_pay5 x0 x1 x2 x3 x4 x5) k0_pay6 (k0_pay4 x6) x7 (k0_pay7 x3 x4 x5 x7) 16 := by
  unfold out0_A_10
  rw [View.read_writes_junk_eq_canon]
  unfold kernelRun0_A
  dsimp only
  sl_unfold_words
  simp only [View.canon_unit_zero (S := S1x256) hz2, View.readAt_eq_ld, harg2.read_unread, harg3.read_unread, harg4.read_unread, harg5.read_unread, harg6.read_unread, harg7.read_unread, harg8.read_unread, harg9.read_unread,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The largest products at a later point. -/
theorem out_B_8 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : ¬cond0_0 i) (hc1 : cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) (xo9 : Vec Ideal S1x256 .f32) (xo10 : Vec Ideal S1x256 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = shapeCast S1x64x256 (Step.top fit 0x43800000#32 (k0_pay5 x0 x1 x2 x3 x4 x5) k0_pay6 (k0_pay4 x6) x7 (k0_pay7 x3 x4 x5 x7) 16) shapeCasts_S64x256_S1x64x256 := by
  unfold out0_B_8
  rw [View.read_writes_junk_eq_canon]
  unfold kernelRun0_B
  dsimp only
  sl_unfold_words
  simp only [View.canon_unit_zero (S := S1x64x256) hz3, View.readAt_eq_ld, harg2.read_unread, harg3.read_unread, harg4.read_unread, harg5.read_unread, harg6.read_unread, harg7.read_unread, harg8.read_unread, harg9.read_unread, harg11.read_unread, harg12.read_unread, View.ld_unit_zero (S := S1x256) hz2,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at a later point, added to what was there. -/
theorem out_B_9 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : ¬cond0_0 i) (hc1 : cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) (xo9 : Vec Ideal S1x256 .f32) (xo10 : Vec Ideal S1x256 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo9 (Step.total fit 0x43800000#32 (k0_pay5 x0 x1 x2 x3 x4 x5) k0_pay6 (k0_pay4 x6) x7 (k0_pay7 x3 x4 x5 x7) 16) := by
  unfold out0_B_9
  rw [View.read_writes_junk_eq_canon]
  unfold kernelRun0_B
  dsimp only
  sl_unfold_words
  simp only [View.canon_unit_zero (S := S1x256) hz2, View.readAt_eq_ld, harg2.read_unread, harg3.read_unread, harg4.read_unread, harg5.read_unread, harg6.read_unread, harg7.read_unread, harg8.read_unread, harg9.read_unread, harg11.read_unread, harg12.read_unread, View.ld_unit_zero (S := S1x256) hz2,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at a later point, added to what was there. -/
theorem out_B_10 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x64x1 .f32) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S1x256x131 .f32) (harg8 : arg8.IsWhole) (arg9 : Memref sig .tc .vmem S131x256 .f32) (harg9 : arg9.IsWhole) (arg10 : Memref sig .tc .vmem S1x64x256 .f32) (harg10 : arg10.IsWhole) (arg11 : Memref sig .tc .vmem S1x256 .f32) (harg11 : arg11.IsWhole) (arg12 : Memref sig .tc .vmem S1x256 .f32) (harg12 : arg12.IsWhole) (hc0 : ¬cond0_0 i) (hc1 : cond0_1 i)
    (x0 : Vec Ideal S1x1x256 .f32) (x1 : Vec Ideal S1x1x256 .f32) (x2 : Vec Ideal S1x1x256 .f32) (x3 : Vec Ideal S1x64x1 .f32) (x4 : Vec Ideal S1x64x1 .f32) (x5 : Vec Ideal S1x64x1 .f32) (x6 : Vec Ideal S1x256x131 .f32) (x7 : Vec Ideal S131x256 .f32) (xo9 : Vec Ideal S1x256 .f32) (xo10 : Vec Ideal S1x256 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo10 (Step.totalSq fit 0x43800000#32 (k0_pay5 x0 x1 x2 x3 x4 x5) k0_pay6 (k0_pay4 x6) x7 (k0_pay7 x3 x4 x5 x7) 16) := by
  unfold out0_B_10
  rw [View.read_writes_junk_eq_canon]
  unfold kernelRun0_B
  dsimp only
  sl_unfold_words
  simp only [View.canon_unit_zero (S := S1x256) hz2, View.readAt_eq_ld, harg2.read_unread, harg3.read_unread, harg4.read_unread, harg5.read_unread, harg6.read_unread, harg7.read_unread, harg8.read_unread, harg9.read_unread, harg11.read_unread, harg12.read_unread, View.ld_unit_zero (S := S1x256) hz2,
    View.ld_unit_zero (S := S131x256) hz2, View.ld_unit_zero (S := S1x1x256) hz3, View.ld_unit_zero (S := S1x64x1) hz3, View.ld_unit_zero (S := S1x256x131) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

end Cert.Down4Value

end
-- ==== Proof.Down4Array.lean ====
/-
  THE RESULT ARRAYS OF THE GROUPING CALL, 256 points and 64 queries a cloud, as functions of the arguments (`Group.In`): the blocks the
  call's windows cut from the host's arrays are the arguments' entries; point `t` works on cloud `t / 1` and its queries from
  `t % 1 * 64` on; the largest products are written point by point, the sums after the last point.
-/
module

public import proofs.«01_k».proof.Proof.Group
public import proofs.«01_k».proof.Proof.Down4Value
public import Idealize.ShloMosaic.Lib.Pipeline.Value
public import Idealize.ShloMosaic.Lib.Pipeline.ValueKit.Geometry

@[expose] public section

set_option maxRecDepth 16384

noncomputable section

namespace Cert.Down4Array

open Cert.Down4Ideal Cert.Down4Ideal.Gen Idealize.ShloMosaic Idealize.ShloMosaic.TcCoe Idealize.SL.Sem Cert.Step Cert.Group Cert.Down4Value

attribute [local instance] Cert.Down4Ideal.Gen.facts

/-! ## The body's first values, at an index -/

/-- The features' block, its unit axis dropped. -/
theorem pay4_apply (x6 : Vec Ideal S1x256x131 .f32) (i : Fin 256) (l : Fin 131) : k0_pay4 x6 (ix2 i l) = x6 (ix3 (0 : Fin 1) i l) := by
  unfold k0_pay4
  rw [ix2_eq_valueIdx, ix3_eq_valueIdx]
  exact ValueIdx.shapeCast_1ab_ab_apply ..

/-- The squared distances. -/
theorem pay5_apply (x0 x1 x2 : Vec Ideal S1x1x256 .f32) (x3 x4 x5 : Vec Ideal S1x64x1 .f32) (r : Fin 64) (i : Fin 256) :
    k0_pay5 x0 x1 x2 x3 x4 x5 (ix2 r i)
      = (x3 (ix3 (0 : Fin 1) r (0 : Fin 1)) - x0 (ix3 (0 : Fin 1) (0 : Fin 1) i)) * (x3 (ix3 (0 : Fin 1) r (0 : Fin 1)) - x0 (ix3 (0 : Fin 1) (0 : Fin 1) i))
        + (x4 (ix3 (0 : Fin 1) r (0 : Fin 1)) - x1 (ix3 (0 : Fin 1) (0 : Fin 1) i)) * (x4 (ix3 (0 : Fin 1) r (0 : Fin 1)) - x1 (ix3 (0 : Fin 1) (0 : Fin 1) i))
        + (x5 (ix3 (0 : Fin 1) r (0 : Fin 1)) - x2 (ix3 (0 : Fin 1) (0 : Fin 1) i)) * (x5 (ix3 (0 : Fin 1) r (0 : Fin 1)) - x2 (ix3 (0 : Fin 1) (0 : Fin 1) i)) := by
  pointwise [k0_pay5, k0_pay1, k0_pay2, k0_pay3]

/-- The number of the column. -/
theorem pay6_apply (r : Fin 64) (i : Fin 256) : (k0_pay6 (F := Ideal)) (ix2 r i) = ((i.val : ℝ) : EReal) := by
  pointwise [k0_pay6]
  have hi := i.isLt
  have e : (BitVec.ofNat 32 i.val).toInt = (i.val : ℤ) := by
    rw [BitVec.toInt_eq_toNat_of_lt (by rw [BitVec.toNat_ofNat]; omega), BitVec.toNat_ofNat, Nat.mod_eq_of_lt (by omega)]
  show (((BitVec.ofNat 32 i.val).toInt : ℝ) : EReal) = _
  rw [e]
  norm_cast

/-- The query's part of the products. -/
theorem pay7_apply (x3 x4 x5 : Vec Ideal S1x64x1 .f32) (x7 : Vec Ideal S131x256 .f32) (r : Fin 64) (j : Fin 256) :
    k0_pay7 x3 x4 x5 x7 (ix2 r j)
      = x3 (ix3 (0 : Fin 1) r (0 : Fin 1)) * x7 (ix2 (0 : Fin 131) j) + x4 (ix3 (0 : Fin 1) r (0 : Fin 1)) * x7 (ix2 (1 : Fin 131) j)
        + x5 (ix3 (0 : Fin 1) r (0 : Fin 1)) * x7 (ix2 (2 : Fin 131) j) := by
  unfold k0_pay7
  rw [show dot_S64x3_S3x256_S64x256_1_0_0_1_n_n = DotDims.plain 64 3 256 from rfl, plain_apply, Fin.sum_univ_three]
  pointwise [k0_pay1, k0_pay2, k0_pay3]

/-! ## The host's arrays -/

variable (m : (ℓ : Loc nD τ sig) → Buf (Elt Ideal) ℓ)

/-- The arguments, as what the grouped products are computed from. -/
def args (c : Dev nD) : In 4 256 64 128 131 256 where
  p := m ((c : Thread nD τ).loc main_arg0)
  q := m ((c : Thread nD τ).loc main_arg1)
  h := m ((c : Thread nD τ).loc main_arg2)
  w := m ((c : Thread nD τ).loc main_arg3)
  hn := by decide
  ht := rfl

/-- The first coordinates of the points. -/
theorem V13 (c : Dev nD) (b : Fin 4) (i : Fin 256) :
    (V m c main_v13 : Vec Ideal S4x1x256 .f32) (ix3 b (0 : Fin 1) i) = (args m c).p (ix3 b i (0 : Fin 3)) := by
  unfold_abbrev_sides
  after_results
  generalize hx : (m ((c : Thread nD τ).loc main_arg0) : Vec Ideal S4x256x3 .f32) = x
  pointwise []

/-- The second coordinates of the points. -/
theorem V14 (c : Dev nD) (b : Fin 4) (i : Fin 256) :
    (V m c main_v14 : Vec Ideal S4x1x256 .f32) (ix3 b (0 : Fin 1) i) = (args m c).p (ix3 b i (1 : Fin 3)) := by
  unfold_abbrev_sides
  after_results
  generalize hx : (m ((c : Thread nD τ).loc main_arg0) : Vec Ideal S4x256x3 .f32) = x
  pointwise []

/-- The third coordinates of the points. -/
theorem V15 (c : Dev nD) (b : Fin 4) (i : Fin 256) :
    (V m c main_v15 : Vec Ideal S4x1x256 .f32) (ix3 b (0 : Fin 1) i) = (args m c).p (ix3 b i (2 : Fin 3)) := by
  unfold_abbrev_sides
  after_results
  generalize hx : (m ((c : Thread nD τ).loc main_arg0) : Vec Ideal S4x256x3 .f32) = x
  pointwise []

/-- The first coordinates of the queries. -/
theorem V16 (c : Dev nD) (b : Fin 4) (r : Fin 64) :
    (V m c main_v16 : Vec Ideal S4x64x1 .f32) (ix3 b r (0 : Fin 1)) = (args m c).q (ix3 b r (0 : Fin 3)) := by
  unfold_abbrev_sides
  after_results
  generalize hx : (m ((c : Thread nD τ).loc main_arg1) : Vec Ideal S4x64x3 .f32) = x
  pointwise []

/-- The second coordinates of the queries. -/
theorem V17 (c : Dev nD) (b : Fin 4) (r : Fin 64) :
    (V m c main_v17 : Vec Ideal S4x64x1 .f32) (ix3 b r (0 : Fin 1)) = (args m c).q (ix3 b r (1 : Fin 3)) := by
  unfold_abbrev_sides
  after_results
  generalize hx : (m ((c : Thread nD τ).loc main_arg1) : Vec Ideal S4x64x3 .f32) = x
  pointwise []

/-- The third coordinates of the queries. -/
theorem V18 (c : Dev nD) (b : Fin 4) (r : Fin 64) :
    (V m c main_v18 : Vec Ideal S4x64x1 .f32) (ix3 b r (0 : Fin 1)) = (args m c).q (ix3 b r (2 : Fin 3)) := by
  unfold_abbrev_sides
  after_results
  generalize hx : (m ((c : Thread nD τ).loc main_arg1) : Vec Ideal S4x64x3 .f32) = x
  pointwise []

/-- The points' coordinates and features side by side. -/
theorem V0 (c : Dev nD) (b : Fin 4) (i : Fin 256) (l : Fin 131) : (V m c main_v0 : Vec Ideal S4x256x131 .f32) (ix3 b i l) = (args m c).tab b i l := by
  unfold_abbrev_sides
  after_results
  unfold In.tab
  show concatenate S4x256x131 2 [⟨S4x256x3, (args m c).p⟩, ⟨S4x256x128, (args m c).h⟩] concatenates_S4x256x3_S4x256x128_S4x256x131_d2 (ix3 b i l) = _
  pointwise []

/-! ## The windows' blocks -/

/-- The cloud of point `t`. -/
def bt (t : Fin cfg0.N) : Fin 4 := ⟨t.val / 1, by have := t.isLt; have h : cfg0.N = 4 := N_0; omega⟩

/-- The queries of point `t`. -/
def qr (t : Fin cfg0.N) (r : Fin 64) : Fin 64 := ⟨t.val % 1 * 64 + r.val, by have := r.isLt; omega⟩

theorem idx0 : ∀ t : Fin cfg0.N, win0_0.index t = ![t.val / 1, 0, 0] := (by decide +kernel : ∀ t : Fin grid0.N, _)
theorem idx1 : ∀ t : Fin cfg0.N, win0_1.index t = ![t.val / 1, 0, 0] := (by decide +kernel : ∀ t : Fin grid0.N, _)
theorem idx2 : ∀ t : Fin cfg0.N, win0_2.index t = ![t.val / 1, 0, 0] := (by decide +kernel : ∀ t : Fin grid0.N, _)
theorem idx3 : ∀ t : Fin cfg0.N, win0_3.index t = ![t.val / 1, t.val % 1, 0] := (by decide +kernel : ∀ t : Fin grid0.N, _)
theorem idx4 : ∀ t : Fin cfg0.N, win0_4.index t = ![t.val / 1, t.val % 1, 0] := (by decide +kernel : ∀ t : Fin grid0.N, _)
theorem idx5 : ∀ t : Fin cfg0.N, win0_5.index t = ![t.val / 1, t.val % 1, 0] := (by decide +kernel : ∀ t : Fin grid0.N, _)
theorem idx6 : ∀ t : Fin cfg0.N, win0_6.index t = ![t.val / 1, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 1, t.val % 1, 0] := (by decide +kernel : ∀ t : Fin grid0.N, _)

/-- The block of the points' first coordinates. -/
theorem blk0 (c : Dev nD) (t : Fin cfg0.N) (i : Fin 256) :
    (iblk m c 0 t : Vec Ideal S1x1x256 .f32) (ix3 (0 : Fin 1) (0 : Fin 1) i) = (args m c).p (ix3 (bt t) i (0 : Fin 3)) := by
  rw [← V13]
  blk_simp [iblk]
  congr 1
  unfold bt
  blk_ext [idx0]

/-- The block of the points' second coordinates. -/
theorem blk1 (c : Dev nD) (t : Fin cfg0.N) (i : Fin 256) :
    (iblk m c 1 t : Vec Ideal S1x1x256 .f32) (ix3 (0 : Fin 1) (0 : Fin 1) i) = (args m c).p (ix3 (bt t) i (1 : Fin 3)) := by
  rw [← V14]
  blk_simp [iblk]
  congr 1
  unfold bt
  blk_ext [idx1]

/-- The block of the points' third coordinates. -/
theorem blk2 (c : Dev nD) (t : Fin cfg0.N) (i : Fin 256) :
    (iblk m c 2 t : Vec Ideal S1x1x256 .f32) (ix3 (0 : Fin 1) (0 : Fin 1) i) = (args m c).p (ix3 (bt t) i (2 : Fin 3)) := by
  rw [← V15]
  blk_simp [iblk]
  congr 1
  unfold bt
  blk_ext [idx2]

/-- The block of the queries' first coordinates. -/
theorem blk3 (c : Dev nD) (t : Fin cfg0.N) (r : Fin 64) :
    (iblk m c 3 t : Vec Ideal S1x64x1 .f32) (ix3 (0 : Fin 1) r (0 : Fin 1)) = (args m c).q (ix3 (bt t) (qr t r) (0 : Fin 3)) := by
  rw [← V16]
  blk_simp [iblk]
  congr 1
  unfold bt qr
  blk_ext [idx3]

/-- The block of the queries' second coordinates. -/
theorem blk4 (c : Dev nD) (t : Fin cfg0.N) (r : Fin 64) :
    (iblk m c 4 t : Vec Ideal S1x64x1 .f32) (ix3 (0 : Fin 1) r (0 : Fin 1)) = (args m c).q (ix3 (bt t) (qr t r) (1 : Fin 3)) := by
  rw [← V17]
  blk_simp [iblk]
  congr 1
  unfold bt qr
  blk_ext [idx4]

/-- The block of the queries' third coordinates. -/
theorem blk5 (c : Dev nD) (t : Fin cfg0.N) (r : Fin 64) :
    (iblk m c 5 t : Vec Ideal S1x64x1 .f32) (ix3 (0 : Fin 1) r (0 : Fin 1)) = (args m c).q (ix3 (bt t) (qr t r) (2 : Fin 3)) := by
  rw [← V18]
  blk_simp [iblk]
  congr 1
  unfold bt qr
  blk_ext [idx5]

/-- The block of the points' rows. -/
theorem blk6 (c : Dev nD) (t : Fin cfg0.N) (i : Fin 256) (l : Fin 131) :
    (iblk m c 6 t : Vec Ideal S1x256x131 .f32) (ix3 (0 : Fin 1) i l) = (args m c).tab (bt t) i l := by
  rw [← V0]
  blk_simp [iblk]
  congr 1
  unfold bt
  blk_ext [idx6]

/-- The weights' block is all of them. -/
theorem blk7 (c : Dev nD) (t : Fin cfg0.N) : (iblk m c 7 t : Vec Ideal S131x256 .f32) = (args m c).w := by
  show _ = m ((c : Thread nD τ).loc main_arg3)
  rw [← V_main_arg3 m c]
  funext y
  blk_simp [iblk]
  congr 1
  blk_ext [idx7]

/-! ## A point's rounds -/

/-- The point's distances. -/
theorem hd (c : Dev nD) (t : Fin cfg0.N) (r : Fin 64) (i : Fin 256) :
    k0_pay5 (iblk m c 0 t) (iblk m c 1 t) (iblk m c 2 t) (iblk m c 3 t) (iblk m c 4 t) (iblk m c 5 t) (ix2 r i) = (args m c).sq (bt t) (qr t r) i := by
  rw [pay5_apply, blk0, blk1, blk2, blk3, blk4, blk5]
  unfold In.sq
  rw [Fin.sum_univ_three]

/-- The point's rows. -/
theorem htb (c : Dev nD) (t : Fin cfg0.N) (i : Fin 256) (l : Fin 131) : k0_pay4 (iblk m c 6 t) (ix2 i l) = (args m c).tab (bt t) i l := by
  rw [pay4_apply, blk6]

/-- The queries' part of the point's products. -/
theorem hqw (c : Dev nD) (t : Fin cfg0.N) (r : Fin 64) (j : Fin 256) :
    k0_pay7 (iblk m c 3 t) (iblk m c 4 t) (iblk m c 5 t) (iblk m c 7 t) (ix2 r j) = (args m c).qw (bt t) (qr t r) j := by
  rw [pay7_apply, blk3, blk4, blk5, blk7]
  unfold In.qw
  rw [Fin.sum_univ_three]
  rfl

/-- The marker behind the last column's number is the number of points. -/
theorem hcn : Ideal.ofBits .f32 0x43800000#32 = (((256 : ℕ) : ℝ) : EReal) := by
  simp [Ideal.ofBits, Ideal.ieee]
  rw [← EReal.coe_mul]
  norm_num

variable {m}

/-- The largest products a point leaves. -/
theorem point_top (c : Dev nD) (ok : (args m c).Ok) (t : Fin cfg0.N) (r : Fin 64) (j : Fin 256) :
    (outsAt0 m c t.val t.isLt).1 (ix3 (0 : Fin 1) r j) = (args m c).top (bt t) (qr t r) j := by
  have hN : cfg0.N = 4 := N_0
  have ht := t.isLt
  have e := In.tile_top (fit) 0x43800000#32 hcn ok (bt t) (qr t) (hd m c t) pay6_apply (htb m c t) (blk7 m c t) (hqw m c t) r j
  rw [← e]
  by_cases h0 : t.val % 4 = 0
  · rw [outsAt0_A m c t h0 (by omega), out_A_8, ix2_eq_valueIdx, ix3_eq_valueIdx]
    dsimp only
    exact ValueIdx.shapeCast_ab_1ab_apply ..
  · rw [outsAt0_B m c t h0 (by omega), out_B_8, ix2_eq_valueIdx, ix3_eq_valueIdx]
    dsimp only
    exact ValueIdx.shapeCast_ab_1ab_apply ..

/-- A query's products summed. -/
def qsum (c : Dev nD) (j : Fin 256) (b : Fin 4) (r : Fin 64) : EReal := ∑ k ∈ Finset.range 16, (args m c).y b r k j

/-- The squares of a query's products summed. -/
def qsumSq (c : Dev nD) (j : Fin 256) (b : Fin 4) (r : Fin 64) : EReal := ∑ k ∈ Finset.range 16, (args m c).y b r k j * (args m c).y b r k j

/-- A tile's query, counted through all clouds. -/
theorem flat_tile (f : Fin 4 → Fin 64 → EReal) (t : Fin cfg0.N) (r : Fin 64) : flat f (t.val * 64 + r.val) = f (bt t) (qr t r) := by
  have hN : cfg0.N = 4 := N_0
  have ht := t.isLt
  have hr := r.isLt
  unfold flat
  rw [dif_pos (by omega)]
  exact congrArg₂ f (Fin.ext (by show (t.val * 64 + r.val) / 64 = t.val / 1; omega))
    (Fin.ext (by show (t.val * 64 + r.val) % 64 = t.val % 1 * 64 + r.val; omega))

/-- The sums after point `n`: those of the queries up to it. -/
theorem point_total (c : Dev nD) (ok : (args m c).Ok) (j : Fin 256) : ∀ (n : ℕ) (h : n < cfg0.N),
    (outsAt0 m c n h).2.1 (ix2 (0 : Fin 1) j) = ∑ s ∈ Finset.range (n + 1), ∑ r : Fin 64, flat (qsum (m := m) c j) (s * 64 + r.val)
  | 0, h => by
    have e := In.tile_total (fit) 0x43800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 64, flat (qsum (m := m) c j) (0 * 64 + r.val)) = _ from Finset.sum_congr rfl fun r _ => flat_tile (qsum (m := m) c j) ⟨0, h⟩ r]
    refine Eq.trans ?_ e
    rw [outsAt0_A m c ⟨0, h⟩ rfl (by simp), out_A_9]
  | n + 1, h => by
    have hN : cfg0.N = 4 := N_0
    have e := In.tile_total (fit) 0x43800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_total c ok j n (Nat.lt_of_succ_lt h)]
    rw [show (∑ r : Fin 64, flat (qsum (m := m) c j) ((n + 1) * 64 + r.val)) = _ from Finset.sum_congr rfl fun r _ => flat_tile (qsum (m := m) c j) ⟨n + 1, h⟩ r]
    refine Eq.trans ?_ (congrArg (_ + ·) e)
    rw [outsAt0_B m c ⟨n + 1, h⟩ (by show ¬(n + 1) % 4 = 0; omega) (by show 1 ≤ n + 1; omega), out_B_9]
    rfl

/-- The sums of squares after point `n`: those of the queries up to it. -/
theorem point_totalSq (c : Dev nD) (ok : (args m c).Ok) (j : Fin 256) : ∀ (n : ℕ) (h : n < cfg0.N),
    (outsAt0 m c n h).2.2 (ix2 (0 : Fin 1) j) = ∑ s ∈ Finset.range (n + 1), ∑ r : Fin 64, flat (qsumSq (m := m) c j) (s * 64 + r.val)
  | 0, h => by
    have e := In.tile_totalSq (fit) 0x43800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 64, flat (qsumSq (m := m) c j) (0 * 64 + r.val)) = _ from Finset.sum_congr rfl fun r _ => flat_tile (qsumSq (m := m) c j) ⟨0, h⟩ r]
    refine Eq.trans ?_ e
    rw [outsAt0_A m c ⟨0, h⟩ rfl (by simp), out_A_10]
  | n + 1, h => by
    have hN : cfg0.N = 4 := N_0
    have e := In.tile_totalSq (fit) 0x43800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_totalSq c ok j n (Nat.lt_of_succ_lt h)]
    rw [show (∑ r : Fin 64, flat (qsumSq (m := m) c j) ((n + 1) * 64 + r.val)) = _ from Finset.sum_congr rfl fun r _ => flat_tile (qsumSq (m := m) c j) ⟨n + 1, h⟩ r]
    refine Eq.trans ?_ (congrArg (_ + ·) e)
    rw [outsAt0_B m c ⟨n + 1, h⟩ (by show ¬(n + 1) % 4 = 0; omega) (by show 1 ≤ n + 1; omega), out_B_10]
    rfl

/-! ## The result arrays -/

/-- THE FIRST RESULT holds each query's largest products. -/
theorem arr8 (c : Dev nD) (ok : (args m c).Ok) : (dats m 0 c).arrAt 8 cfg0.N = (fun i => (args m c).top (i 0) (i 1) (i 2) : Vec Ideal S4x64x256 .f32) := by
  refine (dats m 0 c).arrAt_eq_of_covers 8 _ (by decide +kernel) fun t hf y => ?_
  blk_simp
  rw [after0_8]
  have ey : y = ix3 (0 : Fin 1) (y 1 : Fin 64) (y 2 : Fin 256) := by
    funext a
    match a with
    | ⟨0, _⟩ => exact Fin.ext (by have : (y 0).val < 1 := (y 0).isLt; show (y 0).val = 0; omega)
    | ⟨1, _⟩ => rfl
    | ⟨2, _⟩ => rfl
  refine ((congrArg (outsAt0 m c t.val t.isLt).1 ey).trans (point_top c ok t (y 1 : Fin 64) (y 2 : Fin 256))).trans ?_
  refine congr (congr (congrArg _ (Fin.ext ?_)) (Fin.ext ?_)) (Fin.ext ?_)
  · blk_simp [idx8]
    have : (y 0).val < 1 := (y 0).isLt
    show t.val / 1 = _
    omega
  · blk_simp [idx8]
    rfl
  · blk_simp [idx8]

/-- The last point. -/
abbrev tl : Fin cfg0.N := (⟨3, by decide +kernel⟩ : Fin grid0.N)

/-- THE SECOND RESULT holds the sums of all products of a column. -/
theorem arr9 (c : Dev nD) (ok : (args m c).Ok) : (dats m 0 c).arrAt 9 cfg0.N = (fun i => (args m c).total (i 1) : Vec Ideal S1x256 .f32) := by
  refine (dats m 0 c).arrAt_eq_of_after_last 9 tl (by decide +kernel) _ fun y => ?_
  blk_simp
  rw [after0_9]
  have ey : (fun a => ⟨(y a).val, (y a).isLt⟩ : S1x256.Idx) = ix2 (0 : Fin 1) (y 1 : Fin 256) := by
    funext a
    match a with
    | ⟨0, _⟩ => exact Fin.ext (by have : (y 0).val < 1 := (y 0).isLt; show (y 0).val = 0; omega)
    | ⟨1, _⟩ => rfl
  refine ((congrArg (outsAt0 m c tl.val tl.isLt).2.1 ey).trans (point_total c ok (y 1 : Fin 256) 3 tl.isLt)).trans ?_
  exact sum_flat (qsum c (y 1 : Fin 256)) 64 4 rfl

/-- THE THIRD RESULT holds the sums of the squares of all products of a column. -/
theorem arr10 (c : Dev nD) (ok : (args m c).Ok) : (dats m 0 c).arrAt 10 cfg0.N = (fun i => (args m c).totalSq (i 1) : Vec Ideal S1x256 .f32) := by
  refine (dats m 0 c).arrAt_eq_of_after_last 10 tl (by decide +kernel) _ fun y => ?_
  blk_simp
  rw [after0_10]
  have ey : (fun a => ⟨(y a).val, (y a).isLt⟩ : S1x256.Idx) = ix2 (0 : Fin 1) (y 1 : Fin 256) := by
    funext a
    match a with
    | ⟨0, _⟩ => exact Fin.ext (by have : (y 0).val < 1 := (y 0).isLt; show (y 0).val = 0; omega)
    | ⟨1, _⟩ => rfl
  refine ((congrArg (outsAt0 m c tl.val tl.isLt).2.2 ey).trans (point_totalSq c ok (y 1 : Fin 256) 3 tl.isLt)).trans ?_
  exact sum_flat (qsumSq c (y 1 : Fin 256)) 64 4 rfl

end Cert.Down4Array

end
-- ==== Proof.Ref4Array.lean ====
/-
  THE REFERENCE'S RESULTS, 256 points and 64 queries a cloud, as functions of the arguments (`Group.In`): the squared distances, the
  positions of the sixteen nearest, the gathered rows, their products with the weights, and the maxima and sums of these.
-/
module

public import proofs.«01_k».proof.Proof.Group
public import proofs.«01_k».proof.Proof.RefRead
public import proofs.«01_k».proof.Proof.Gen.Ref4Ideal.Read

@[expose] public section

set_option maxRecDepth 16384

noncomputable section

namespace Cert.Ref4Array

open Cert.Ref4Ideal Cert.Ref4Ideal.Gen Cert.Ref4Ideal.Read Idealize.ShloMosaic Cert.Group Cert.RefRead

attribute [local instance] Cert.Ref4Ideal.Gen.facts

variable (x0 : FVec Ideal ⟨3, ![4, 256, 3]⟩ .f32) (x1 : FVec Ideal ⟨3, ![4, 64, 3]⟩ .f32) (x2 : FVec Ideal ⟨3, ![4, 256, 128]⟩ .f32)
  (x3 : FVec Ideal ⟨2, ![131, 256]⟩ .f32)

/-- The arguments. -/
def args : In 4 256 64 128 131 256 where
  p := x0
  q := x1
  h := x2
  w := x3
  hn := by decide
  ht := by decide

/-- The squared distances. -/
theorem v6_apply (b : Fin 4) (r : Fin 64) (i : Fin 256) : val_main_v6 (F := Ideal) x0 x1 (ix3 b r i) = (args x0 x1 x2 x3).sq b r i := by
  rw [val_main_v6_apply, val_main_cst_apply, show (FloatOps.ofBits (F := Ideal) .f32 0x00000000#32 : EReal) = 0 from Ideal.ofBits_zero_f32,
    zero_add]
  refine Finset.sum_congr rfl fun a _ => ?_
  rw [val_main_v5_apply, val_main_v4_apply, val_main_v2_apply, val_main_v3_apply, val_main_v0_apply, val_main_v1_apply]
  have e0 : idx_main_v0 (idx_main_v2 (idx_main_v6 (ix3 b r i) a)) = ix3 b r a := by
    funext c; match c with | ⟨0, _⟩ => rfl | ⟨1, _⟩ => rfl | ⟨2, _⟩ => rfl
  have e1 : idx_main_v1 (idx_main_v3 (idx_main_v6 (ix3 b r i) a)) = ix3 b i a := by
    funext c; match c with | ⟨0, _⟩ => rfl | ⟨1, _⟩ => rfl | ⟨2, _⟩ => rfl
  rw [e0, e1]
  rfl

variable {x0 x1 x2 x3} (ok : (args x0 x1 x2 x3).Ok)
include ok

/-- The positions of the nearest. -/
theorem indices_apply (b : Fin 4) (r : Fin 64) (k : Fin 16) :
    val_main_indices (F := Ideal) x0 x1 (ix3 b r k) = BitVec.ofNat 32 ((args x0 x1 x2 x3).nbr b r k.val).val := by
  unfold val_main_indices
  refine topK_neg (by decide) _ _ _ (by decide) b r ((args x0 x1 x2 x3).sq b r) (fun i => ?_) (In.sq_lt ok b r) k
  rw [val_main_v7_apply, v6_apply x0 x1 x2 x3]
  rfl

/-- The positions the coordinates are gathered at. -/
theorem v13_apply (b : Fin 4) (r : Fin 64) (k : Fin 16) :
    val_main_v13 (F := Ideal) x0 x1 (ix4 b r k (0 : Fin 1)) = BitVec.ofNat 32 ((args x0 x1 x2 x3).nbr b r k.val).val := by
  have e : idx_main_v13 (ix4 b r k (0 : Fin 1)) = ix3 b r k := by
    funext c; match c with | ⟨0, _⟩ => rfl | ⟨1, _⟩ => rfl | ⟨2, _⟩ => rfl
  rw [val_main_v13_apply, e, val_main_v12_apply, val_main_v9_apply, val_main_v11_apply, val_main_v8_apply, val_main_c_apply, val_main_v10_apply,
    val_main_c_0_apply, indices_apply ok]
  exact wrap_word 256 _ (lt_trans (Fin.isLt _) (by decide))

/-- The positions the features are gathered at. -/
theorem v20_apply (b : Fin 4) (r : Fin 64) (k : Fin 16) :
    val_main_v20 (F := Ideal) x0 x1 (ix4 b r k (0 : Fin 1)) = BitVec.ofNat 32 ((args x0 x1 x2 x3).nbr b r k.val).val := by
  have e : idx_main_v20 (ix4 b r k (0 : Fin 1)) = ix3 b r k := by
    funext c; match c with | ⟨0, _⟩ => rfl | ⟨1, _⟩ => rfl | ⟨2, _⟩ => rfl
  rw [val_main_v20_apply, e, val_main_v19_apply, val_main_v16_apply, val_main_v18_apply, val_main_v15_apply, val_main_c_1_apply, val_main_v17_apply,
    val_main_c_2_apply, indices_apply ok]
  exact wrap_word 256 _ (lt_trans (Fin.isLt _) (by decide))

/-- The neighbours' coordinates. -/
theorem v14_apply (b : Fin 4) (r : Fin 64) (k : Fin 16) (a : Fin 3) :
    val_main_v14 (F := Ideal) x0 x1 (ix4 b r k a) = x0 (ix3 b ((args x0 x1 x2 x3).nbr b r k.val) a) := by
  unfold val_main_v14
  exact gather_rows gather_S4x256x3_S4x64x16x1_S4x64x16x3_3_1_0_0_1_3_113_wf x0 _ b r k a _ (by decide) (v13_apply ok b r k)

/-- The neighbours' features. -/
theorem v21_apply (b : Fin 4) (r : Fin 64) (k : Fin 16) (l : Fin 128) :
    val_main_v21 (F := Ideal) x0 x1 x2 (ix4 b r k l) = x2 (ix3 b ((args x0 x1 x2 x3).nbr b r k.val) l) := by
  unfold val_main_v21
  exact gather_rows gather_S4x256x128_S4x64x16x1_S4x64x16x128_3_1_0_0_1_3_11128_wf x2 _ b r k l _ (by decide) (v20_apply ok b r k)

/-- The neighbours' offsets. -/
theorem v24_apply (b : Fin 4) (r : Fin 64) (k : Fin 16) (a : Fin 3) :
    val_main_v24 (F := Ideal) x0 x1 (ix4 b r k a) = x0 (ix3 b ((args x0 x1 x2 x3).nbr b r k.val) a) - x1 (ix3 b r a) := by
  have e : idx_main_v22 (idx_main_v23 (ix4 b r k a)) = ix3 b r a := by
    funext c; match c with | ⟨0, _⟩ => rfl | ⟨1, _⟩ => rfl | ⟨2, _⟩ => rfl
  rw [val_main_v24_apply, val_main_v23_apply, val_main_v22_apply, v14_apply ok, e]
  rfl

/-- The rows that meet the weights. -/
theorem v25_apply (b : Fin 4) (r : Fin 64) (k : Fin 16) (l : Fin 131) :
    val_main_v25 (F := Ideal) x0 x1 x2 (ix4 b r k l) = (args x0 x1 x2 x3).cat b r k.val l := by
  unfold In.cat
  split_ifs with hl
  · rw [show (args x0 x1 x2 x3).p (ix3 b _ ⟨l.val, hl⟩) - (args x0 x1 x2 x3).q (ix3 b r ⟨l.val, hl⟩)
      = val_main_v24 (F := Ideal) x0 x1 (ix4 b r k ⟨l.val, hl⟩) from (v24_apply ok b r k ⟨l.val, hl⟩).symm]
    pointwise [val_main_v25, hl]
  · have hl' : l.val - 3 < 128 := by have := l.isLt; omega
    rw [show (args x0 x1 x2 x3).h (ix3 b _ ⟨l.val - 3, _⟩)
      = val_main_v21 (F := Ideal) x0 x1 x2 (ix4 b r k ⟨l.val - 3, hl'⟩) from (v21_apply ok b r k ⟨l.val - 3, hl'⟩).symm]
    pointwise [val_main_v25, hl]

/-- The products. -/
theorem v26_apply (b : Fin 4) (r : Fin 64) (k : Fin 16) (j : Fin 256) :
    val_main_v26 (F := Ideal) x0 x1 x2 x3 (ix4 b r k j) = (args x0 x1 x2 x3).y b r k.val j := by
  rw [val_main_v26_apply]
  refine Finset.sum_congr rfl fun l _ => ?_
  have e : lidx_main_v26 (ix4 b r k j) l = ix4 b r k l := by
    funext c; match c with | ⟨0, _⟩ => rfl | ⟨1, _⟩ => rfl | ⟨2, _⟩ => rfl | ⟨3, _⟩ => rfl
  have e' : ridx_main_v26 (ix4 b r k j) l = ix2 l j := by
    funext c; match c with | ⟨0, _⟩ => rfl | ⟨1, _⟩ => rfl
  rw [e, e', v25_apply ok]
  rfl

/-- THE LARGEST PRODUCTS. -/
theorem top_eq : val_main_v32 (F := Ideal) x0 x1 x2 x3 = fun i => (args x0 x1 x2 x3).top (i 0) (i 1) (i 2) := by
  funext i
  rw [eq_ix3 i]
  unfold val_main_v32
  exact reduceMax_2 _ _ _ _ Cert.Step.ofBits_bot (i 0) (i 1) (i 2) _ fun k => v26_apply ok (i 0) (i 1) k (i 2)

/-- THE SUMS OF THE PRODUCTS. -/
theorem total_eq : val_main_v28 (F := Ideal) x0 x1 x2 x3 = fun i => (args x0 x1 x2 x3).total (i 1) := by
  funext i
  have e : idx_main_v28 i = ix1 (i 1) := by
    funext c; match c with | ⟨0, _⟩ => rfl
  rw [val_main_v28_apply, e]
  unfold val_main_v27
  simp only [Host.reduceAdd, Ideal.hostReduceAdd_def]
  rw [show (val_main_cst_3 (F := Ideal)) (Shape.Idx.first h_S_) = (0 : EReal) from Ideal.ofBits_zero_f32]
  refine (reduceAdd_012 _ _ _ _).trans ?_
  rw [zero_add]
  unfold In.total
  refine Finset.sum_congr rfl fun b _ => Finset.sum_congr rfl fun r _ => ?_
  rw [← Fin.sum_univ_eq_sum_range (fun k => (args x0 x1 x2 x3).y b r k (i 1)) 16]
  exact Finset.sum_congr rfl fun k _ => v26_apply ok b r k (i 1)

/-- THE SUMS OF THEIR SQUARES. -/
theorem totalSq_eq : val_main_v31 (F := Ideal) x0 x1 x2 x3 = fun i => (args x0 x1 x2 x3).totalSq (i 1) := by
  funext i
  have e : idx_main_v31 i = ix1 (i 1) := by
    funext c; match c with | ⟨0, _⟩ => rfl
  rw [val_main_v31_apply, e]
  unfold val_main_v30
  simp only [Host.reduceAdd, Ideal.hostReduceAdd_def]
  rw [show (val_main_cst_4 (F := Ideal)) (Shape.Idx.first h_S_) = (0 : EReal) from Ideal.ofBits_zero_f32]
  refine (reduceAdd_012 _ _ _ _).trans ?_
  rw [zero_add]
  unfold In.totalSq
  refine Finset.sum_congr rfl fun b _ => Finset.sum_congr rfl fun r _ => ?_
  rw [← Fin.sum_univ_eq_sum_range (fun k => (args x0 x1 x2 x3).y b r k (i 1) * (args x0 x1 x2 x3).y b r k (i 1)) 16]
  exact Finset.sum_congr rfl fun k _ =>
    congrArg₂ (fun u v : EReal => u * v) (v26_apply ok b r k (i 1)) (v26_apply ok b r k (i 1))

end Cert.Ref4Array

end
-- ==== Proof.Stage4.lean ====
/-
  THE CLAIM OF THE GROUPING CALL, 256 points and 64 queries a cloud: under its precondition the call's three result arrays are the
  reference's.
-/
module

public import proofs.«01_k».proof.Defs
public import proofs.«01_k».proof.Proof.Bounds
public import proofs.«01_k».proof.Proof.Down4Array
public import proofs.«01_k».proof.Proof.Ref4Array
public import proofs.«01_k».proof.Proof.Gen.Down4Ideal.Value
public import proofs.«01_k».proof.Proof.Gen.Ref4Ideal.Run
public import Idealize.ShloMosaic.Adequacy
public import Idealize.ShloMosaic.Init

@[expose] public section

set_option maxRecDepth 16384

noncomputable section

namespace Cert.Stage4

open Idealize.ShloMosaic Idealize.SL.Sem Cert.Group

/-- The side conditions of the precondition's operations. -/
theorem preFacts : Cert.Pre_bounded4.Facts where
  bcast_S_S4x256x3 := by decide
  bcast_S_S4x64x3 := by decide
  slices_S131x256_S3x256_0_0 := by decide
  bcast_S_S3x256 := by decide

attribute [local instance] Cert.Down4Ideal.Gen.facts Cert.Ref4Ideal.Gen.facts preFacts

/-- The precondition says that the coordinates and the first rows of the weights are real numbers within the bounds. -/
theorem ok (m : (ℓ : Loc Cert.Down4Ideal.nD Cert.Down4Ideal.τ Cert.Down4Ideal.sig) → Buf (Elt Ideal) ℓ)
    (h : Cert.Pre_Down4Ideal_bounded4 m) (c : Dev Cert.Down4Ideal.nD) : (Cert.Down4Array.args m c).Ok where
  p i := Cert.Bounds.abs_le (congrFun (h c).1 i)
  q i := Cert.Bounds.abs_le (congrFun (h c).2.1 i)
  w a j := by
    have e := Cert.Bounds.abs_lt (congrFun (h c).2.2 (ix2 a j))
    obtain ⟨x, hx⟩ := e
    refine ⟨x, Eq.trans (congrArg _ ?_) hx⟩
    funext d
    match d with
    | ⟨0, _⟩ => exact Fin.ext (Nat.zero_add _).symm
    | ⟨1, _⟩ => exact Fin.ext (Nat.zero_add _).symm

/-- The reference runs, leaves its arguments and has no semaphore. -/
theorem refFrame : Cert.quiescent_Ref4Ideal := fun m ρ _ =>
  (θ_run Cert.Ref4Ideal.defs _ _).mono (fun r h => ⟨fun c => (h c).2.2.2, sem_eq_zero_of_no_sems (by decide) r.2⟩)
    (Cert.Ref4Ideal.Value.run (F := Ideal) m ρ)

/-- THE ALGEBRAIC CLAIM: from arguments that agree and meet the precondition both programs end with the same three results, the largest
    products, their sums and the sums of their squares, and leave their arguments. -/
theorem algebraic : Cert.algebraic_Down4Ideal_Ref4Ideal_pre_bounded4 := by
  intro m g m' g' hpre hag
  have hk := Cert.Down4Ideal.Value.run_blocks (F := Ideal) m g
  have hr := Cert.Ref4Ideal.Value.run (F := Ideal) m' g'
  have hok := ok m hpre
  have hargs : ∀ c : Dev Cert.Ref4Ideal.nD, Cert.Ref4Array.args (m' ((c.tc : Thread Cert.Ref4Ideal.nD Cert.Ref4Ideal.τ).loc Cert.Ref4Ideal.main_arg0))
      (m' ((c.tc : Thread Cert.Ref4Ideal.nD Cert.Ref4Ideal.τ).loc Cert.Ref4Ideal.main_arg1))
      (m' ((c.tc : Thread Cert.Ref4Ideal.nD Cert.Ref4Ideal.τ).loc Cert.Ref4Ideal.main_arg2))
      (m' ((c.tc : Thread Cert.Ref4Ideal.nD Cert.Ref4Ideal.τ).loc Cert.Ref4Ideal.main_arg3)) = Cert.Down4Array.args m c := by
    intro c
    rw [(hag c).1, (hag c).2.1, (hag c).2.2.1, (hag c).2.2.2]
    rfl
  refine ⟨fun c => (Cert.Down4Ideal.Gen.dats m 0 c).arrAt 8 Cert.Down4Ideal.cfg0.N,
    fun c => (Cert.Down4Ideal.Gen.dats m 0 c).arrAt 9 Cert.Down4Ideal.cfg0.N,
    fun c => (Cert.Down4Ideal.Gen.dats m 0 c).arrAt 10 Cert.Down4Ideal.cfg0.N, hk, ?_⟩
  refine (θ_run Cert.Ref4Ideal.defs _ _).mono (fun r h c => ?_) hr
  obtain ⟨h0, h1, h2, h3⟩ := h c
  have hok' := hok c
  rw [← hargs c] at hok'
  refine ⟨h0.trans ?_, h1.trans ?_, h2.trans ?_, h3⟩
  · refine (Cert.Ref4Ideal.Read.val_main_v32_eq m' c).trans ((Cert.Ref4Array.top_eq hok').trans ?_)
    rw [hargs c]
    exact (Cert.Down4Array.arr8 c (hok c)).symm
  · refine (Cert.Ref4Ideal.Read.val_main_v28_eq m' c).trans ((Cert.Ref4Array.total_eq hok').trans ?_)
    rw [hargs c]
    exact (Cert.Down4Array.arr9 c (hok c)).symm
  · refine (Cert.Ref4Ideal.Read.val_main_v31_eq m' c).trans ((Cert.Ref4Array.totalSq_eq hok').trans ?_)
    rw [hargs c]
    exact (Cert.Down4Array.arr10 c (hok c)).symm

end Cert.Stage4

end
-- ==== Proof.Down5Value.lean ====
/-
  WHAT ONE POINT OF THE GROUPING CALL LEAVES in its result blocks, 64 points and 16 queries a cloud, 16 queries a point: the rounds of
  `Step` on the point's blocks (`out_*_8` the largest products, `out_*_9` the sums, `out_*_10` the sums of squares; case A is the first
  point, case B a later one, which adds to what the point before left).
-/
module

public import proofs.«01_k».proof.Proof.Step
public import proofs.«01_k».proof.Proof.Gen.Down5Ideal.Value

@[expose] public section

set_option maxRecDepth 16384

noncomputable section

namespace Cert.Down5Value

open Cert.Down5Ideal Cert.Down5Ideal.Gen Idealize.ShloMosaic Idealize.ShloMosaic.TcCoe Idealize.SL.Sem

attribute [local instance] Cert.Down5Ideal.Gen.facts

/-- The shape conditions of this call's rounds. -/
theorem fit : Step.Fit 16 64 1024 := ⟨reduces_S16x64_S16, shapeCasts_S16_S16x1, broadcasts_S16x1_S16x64, reduces_S16x1024_S1024, shapeCasts_S1024_S1x1024⟩

/-- The offset of a whole rank-2 access. -/
theorem hz2 : (![0, 0] : Fin 2 → ℕ) = fun _ => 0 := by funext a; fin_cases a <;> rfl

/-- The offset of a whole rank-3 access. -/
theorem hz3 : (![0, 0, 0] : Fin 3 → ℕ) = fun _ => 0 := by funext a; fin_cases a <;> rfl

/-- The product with the mask contracts over the points. -/
theorem dot1 : dot_S16x64_S64x259_S16x259_1_0_0_1_n_n = DotDims.plain 16 64 259 := rfl

/-- The product with the weights contracts over the features. -/
theorem dot2 : dot_S16x259_S259x1024_S16x1024_1_0_0_1_n_n = DotDims.plain 16 259 1024 := rfl

/-- The largest products at the first point. -/
theorem out_A_8 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = shapeCast S1x16x1024 (Step.top fit 0x42800000#32 (k0_pay5 x0 x1 x2 x3 x4 x5) k0_pay6 (k0_pay4 x6) x7 (k0_pay7 x3 x4 x5 x7) 16) shapeCasts_S16x1024_S1x16x1024 := by
  unfold out0_A_8
  rw [View.read_writes_junk_eq_canon]
  unfold kernelRun0_A
  dsimp only
  sl_unfold_words
  simp only [View.canon_unit_zero (S := S1x16x1024) hz3, View.readAt_eq_ld, harg2.read_unread, harg3.read_unread, harg4.read_unread, harg5.read_unread, harg6.read_unread, harg7.read_unread, harg8.read_unread, harg9.read_unread,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at the first point. -/
theorem out_A_9 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.total fit 0x42800000#32 (k0_pay5 x0 x1 x2 x3 x4 x5) k0_pay6 (k0_pay4 x6) x7 (k0_pay7 x3 x4 x5 x7) 16 := by
  unfold out0_A_9
  rw [View.read_writes_junk_eq_canon]
  unfold kernelRun0_A
  dsimp only
  sl_unfold_words
  simp only [View.canon_unit_zero (S := S1x1024) hz2, View.readAt_eq_ld, harg2.read_unread, harg3.read_unread, harg4.read_unread, harg5.read_unread, harg6.read_unread, harg7.read_unread, harg8.read_unread, harg9.read_unread,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at the first point. -/
theorem out_A_10 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : cond0_0 i) (hc1 : ¬cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = Step.totalSq fit 0x42800000#32 (k0_pay5 x0 x1 x2 x3 x4 x5) k0_pay6 (k0_pay4 x6) x7 (k0_pay7 x3 x4 x5 x7) 16 := by
  unfold out0_A_10
  rw [View.read_writes_junk_eq_canon]
  unfold kernelRun0_A
  dsimp only
  sl_unfold_words
  simp only [View.canon_unit_zero (S := S1x1024) hz2, View.readAt_eq_ld, harg2.read_unread, harg3.read_unread, harg4.read_unread, harg5.read_unread, harg6.read_unread, harg7.read_unread, harg8.read_unread, harg9.read_unread,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The largest products at a later point. -/
theorem out_B_8 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) (xo9 : Vec Ideal S1x1024 .f32) (xo10 : Vec Ideal S1x1024 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = shapeCast S1x16x1024 (Step.top fit 0x42800000#32 (k0_pay5 x0 x1 x2 x3 x4 x5) k0_pay6 (k0_pay4 x6) x7 (k0_pay7 x3 x4 x5 x7) 16) shapeCasts_S16x1024_S1x16x1024 := by
  unfold out0_B_8
  rw [View.read_writes_junk_eq_canon]
  unfold kernelRun0_B
  dsimp only
  sl_unfold_words
  simp only [View.canon_unit_zero (S := S1x16x1024) hz3, View.readAt_eq_ld, harg2.read_unread, harg3.read_unread, harg4.read_unread, harg5.read_unread, harg6.read_unread, harg7.read_unread, harg8.read_unread, harg9.read_unread, harg11.read_unread, harg12.read_unread, View.ld_unit_zero (S := S1x1024) hz2,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of products at a later point, added to what was there. -/
theorem out_B_9 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) (xo9 : Vec Ideal S1x1024 .f32) (xo10 : Vec Ideal S1x1024 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo9 (Step.total fit 0x42800000#32 (k0_pay5 x0 x1 x2 x3 x4 x5) k0_pay6 (k0_pay4 x6) x7 (k0_pay7 x3 x4 x5 x7) 16) := by
  unfold out0_B_9
  rw [View.read_writes_junk_eq_canon]
  unfold kernelRun0_B
  dsimp only
  sl_unfold_words
  simp only [View.canon_unit_zero (S := S1x1024) hz2, View.readAt_eq_ld, harg2.read_unread, harg3.read_unread, harg4.read_unread, harg5.read_unread, harg6.read_unread, harg7.read_unread, harg8.read_unread, harg9.read_unread, harg11.read_unread, harg12.read_unread, View.ld_unit_zero (S := S1x1024) hz2,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

/-- The sums of squares of products at a later point, added to what was there. -/
theorem out_B_10 (c : Dev nD) (i : grid0.Coords) (arg2 : Memref sig .tc .vmem S1x1x64 .f32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x16x1 .f32) (harg5 : arg5.IsWhole) (arg6 : Memref sig .tc .vmem S1x16x1 .f32) (harg6 : arg6.IsWhole) (arg7 : Memref sig .tc .vmem S1x16x1 .f32) (harg7 : arg7.IsWhole) (arg8 : Memref sig .tc .vmem S1x64x259 .f32) (harg8 : arg8.IsWhole) (arg9 : Memref sig .tc .vmem S259x1024 .f32) (harg9 : arg9.IsWhole) (arg10 : Memref sig .tc .vmem S1x16x1024 .f32) (harg10 : arg10.IsWhole) (arg11 : Memref sig .tc .vmem S1x1024 .f32) (harg11 : arg11.IsWhole) (arg12 : Memref sig .tc .vmem S1x1024 .f32) (harg12 : arg12.IsWhole) (hc0 : ¬cond0_0 i) (hc1 : cond0_1 i)
    (x0 : Vec Ideal S1x1x64 .f32) (x1 : Vec Ideal S1x1x64 .f32) (x2 : Vec Ideal S1x1x64 .f32) (x3 : Vec Ideal S1x16x1 .f32) (x4 : Vec Ideal S1x16x1 .f32) (x5 : Vec Ideal S1x16x1 .f32) (x6 : Vec Ideal S1x64x259 .f32) (x7 : Vec Ideal S259x1024 .f32) (xo9 : Vec Ideal S1x1024 .f32) (xo10 : Vec Ideal S1x1024 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10
      = addf xo10 (Step.totalSq fit 0x42800000#32 (k0_pay5 x0 x1 x2 x3 x4 x5) k0_pay6 (k0_pay4 x6) x7 (k0_pay7 x3 x4 x5 x7) 16) := by
  unfold out0_B_10
  rw [View.read_writes_junk_eq_canon]
  unfold kernelRun0_B
  dsimp only
  sl_unfold_words
  simp only [View.canon_unit_zero (S := S1x1024) hz2, View.readAt_eq_ld, harg2.read_unread, harg3.read_unread, harg4.read_unread, harg5.read_unread, harg6.read_unread, harg7.read_unread, harg8.read_unread, harg9.read_unread, harg11.read_unread, harg12.read_unread, View.ld_unit_zero (S := S1x1024) hz2,
    View.ld_unit_zero (S := S259x1024) hz2, View.ld_unit_zero (S := S1x1x64) hz3, View.ld_unit_zero (S := S1x16x1) hz3, View.ld_unit_zero (S := S1x64x259) hz3,
    shapeCast_self, dot1, dot2, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94,
    Step.rowMin_eq fit, Step.sel_eq fit, Step.strike_eq fit, Step.prod_eq fit, Step.colSum_eq fit]
  rfl

end Cert.Down5Value

end
-- ==== Proof.Down5Array.lean ====
/-
  THE RESULT ARRAYS OF THE GROUPING CALL, 64 points and 16 queries a cloud, as functions of the arguments (`Group.In`): the blocks the
  call's windows cut from the host's arrays are the arguments' entries; point `t` works on cloud `t / 1` and its queries from
  `t % 1 * 16` on; the largest products are written point by point, the sums after the last point.
-/
module

public import proofs.«01_k».proof.Proof.Group
public import proofs.«01_k».proof.Proof.Down5Value
public import Idealize.ShloMosaic.Lib.Pipeline.Value
public import Idealize.ShloMosaic.Lib.Pipeline.ValueKit.Geometry

@[expose] public section

set_option maxRecDepth 16384

noncomputable section

namespace Cert.Down5Array

open Cert.Down5Ideal Cert.Down5Ideal.Gen Idealize.ShloMosaic Idealize.ShloMosaic.TcCoe Idealize.SL.Sem Cert.Step Cert.Group Cert.Down5Value

attribute [local instance] Cert.Down5Ideal.Gen.facts

/-! ## The body's first values, at an index -/

/-- The features' block, its unit axis dropped. -/
theorem pay4_apply (x6 : Vec Ideal S1x64x259 .f32) (i : Fin 64) (l : Fin 259) : k0_pay4 x6 (ix2 i l) = x6 (ix3 (0 : Fin 1) i l) := by
  unfold k0_pay4
  rw [ix2_eq_valueIdx, ix3_eq_valueIdx]
  exact ValueIdx.shapeCast_1ab_ab_apply ..

/-- The squared distances. -/
theorem pay5_apply (x0 x1 x2 : Vec Ideal S1x1x64 .f32) (x3 x4 x5 : Vec Ideal S1x16x1 .f32) (r : Fin 16) (i : Fin 64) :
    k0_pay5 x0 x1 x2 x3 x4 x5 (ix2 r i)
      = (x3 (ix3 (0 : Fin 1) r (0 : Fin 1)) - x0 (ix3 (0 : Fin 1) (0 : Fin 1) i)) * (x3 (ix3 (0 : Fin 1) r (0 : Fin 1)) - x0 (ix3 (0 : Fin 1) (0 : Fin 1) i))
        + (x4 (ix3 (0 : Fin 1) r (0 : Fin 1)) - x1 (ix3 (0 : Fin 1) (0 : Fin 1) i)) * (x4 (ix3 (0 : Fin 1) r (0 : Fin 1)) - x1 (ix3 (0 : Fin 1) (0 : Fin 1) i))
        + (x5 (ix3 (0 : Fin 1) r (0 : Fin 1)) - x2 (ix3 (0 : Fin 1) (0 : Fin 1) i)) * (x5 (ix3 (0 : Fin 1) r (0 : Fin 1)) - x2 (ix3 (0 : Fin 1) (0 : Fin 1) i)) := by
  pointwise [k0_pay5, k0_pay1, k0_pay2, k0_pay3]

/-- The number of the column. -/
theorem pay6_apply (r : Fin 16) (i : Fin 64) : (k0_pay6 (F := Ideal)) (ix2 r i) = ((i.val : ℝ) : EReal) := by
  pointwise [k0_pay6]
  have hi := i.isLt
  have e : (BitVec.ofNat 32 i.val).toInt = (i.val : ℤ) := by
    rw [BitVec.toInt_eq_toNat_of_lt (by rw [BitVec.toNat_ofNat]; omega), BitVec.toNat_ofNat, Nat.mod_eq_of_lt (by omega)]
  show (((BitVec.ofNat 32 i.val).toInt : ℝ) : EReal) = _
  rw [e]
  norm_cast

/-- The query's part of the products. -/
theorem pay7_apply (x3 x4 x5 : Vec Ideal S1x16x1 .f32) (x7 : Vec Ideal S259x1024 .f32) (r : Fin 16) (j : Fin 1024) :
    k0_pay7 x3 x4 x5 x7 (ix2 r j)
      = x3 (ix3 (0 : Fin 1) r (0 : Fin 1)) * x7 (ix2 (0 : Fin 259) j) + x4 (ix3 (0 : Fin 1) r (0 : Fin 1)) * x7 (ix2 (1 : Fin 259) j)
        + x5 (ix3 (0 : Fin 1) r (0 : Fin 1)) * x7 (ix2 (2 : Fin 259) j) := by
  unfold k0_pay7
  rw [show dot_S16x3_S3x1024_S16x1024_1_0_0_1_n_n = DotDims.plain 16 3 1024 from rfl, plain_apply, Fin.sum_univ_three]
  pointwise [k0_pay1, k0_pay2, k0_pay3]

/-! ## The host's arrays -/

variable (m : (ℓ : Loc nD τ sig) → Buf (Elt Ideal) ℓ)

/-- The arguments, as what the grouped products are computed from. -/
def args (c : Dev nD) : In 4 64 16 256 259 1024 where
  p := m ((c : Thread nD τ).loc main_arg0)
  q := m ((c : Thread nD τ).loc main_arg1)
  h := m ((c : Thread nD τ).loc main_arg2)
  w := m ((c : Thread nD τ).loc main_arg3)
  hn := by decide
  ht := rfl

/-- The first coordinates of the points. -/
theorem V13 (c : Dev nD) (b : Fin 4) (i : Fin 64) :
    (V m c main_v13 : Vec Ideal S4x1x64 .f32) (ix3 b (0 : Fin 1) i) = (args m c).p (ix3 b i (0 : Fin 3)) := by
  unfold_abbrev_sides
  after_results
  generalize hx : (m ((c : Thread nD τ).loc main_arg0) : Vec Ideal S4x64x3 .f32) = x
  pointwise []

/-- The second coordinates of the points. -/
theorem V14 (c : Dev nD) (b : Fin 4) (i : Fin 64) :
    (V m c main_v14 : Vec Ideal S4x1x64 .f32) (ix3 b (0 : Fin 1) i) = (args m c).p (ix3 b i (1 : Fin 3)) := by
  unfold_abbrev_sides
  after_results
  generalize hx : (m ((c : Thread nD τ).loc main_arg0) : Vec Ideal S4x64x3 .f32) = x
  pointwise []

/-- The third coordinates of the points. -/
theorem V15 (c : Dev nD) (b : Fin 4) (i : Fin 64) :
    (V m c main_v15 : Vec Ideal S4x1x64 .f32) (ix3 b (0 : Fin 1) i) = (args m c).p (ix3 b i (2 : Fin 3)) := by
  unfold_abbrev_sides
  after_results
  generalize hx : (m ((c : Thread nD τ).loc main_arg0) : Vec Ideal S4x64x3 .f32) = x
  pointwise []

/-- The first coordinates of the queries. -/
theorem V16 (c : Dev nD) (b : Fin 4) (r : Fin 16) :
    (V m c main_v16 : Vec Ideal S4x16x1 .f32) (ix3 b r (0 : Fin 1)) = (args m c).q (ix3 b r (0 : Fin 3)) := by
  unfold_abbrev_sides
  after_results
  generalize hx : (m ((c : Thread nD τ).loc main_arg1) : Vec Ideal S4x16x3 .f32) = x
  pointwise []

/-- The second coordinates of the queries. -/
theorem V17 (c : Dev nD) (b : Fin 4) (r : Fin 16) :
    (V m c main_v17 : Vec Ideal S4x16x1 .f32) (ix3 b r (0 : Fin 1)) = (args m c).q (ix3 b r (1 : Fin 3)) := by
  unfold_abbrev_sides
  after_results
  generalize hx : (m ((c : Thread nD τ).loc main_arg1) : Vec Ideal S4x16x3 .f32) = x
  pointwise []

/-- The third coordinates of the queries. -/
theorem V18 (c : Dev nD) (b : Fin 4) (r : Fin 16) :
    (V m c main_v18 : Vec Ideal S4x16x1 .f32) (ix3 b r (0 : Fin 1)) = (args m c).q (ix3 b r (2 : Fin 3)) := by
  unfold_abbrev_sides
  after_results
  generalize hx : (m ((c : Thread nD τ).loc main_arg1) : Vec Ideal S4x16x3 .f32) = x
  pointwise []

/-- The points' coordinates and features side by side. -/
theorem V0 (c : Dev nD) (b : Fin 4) (i : Fin 64) (l : Fin 259) : (V m c main_v0 : Vec Ideal S4x64x259 .f32) (ix3 b i l) = (args m c).tab b i l := by
  unfold_abbrev_sides
  after_results
  unfold In.tab
  show concatenate S4x64x259 2 [⟨S4x64x3, (args m c).p⟩, ⟨S4x64x256, (args m c).h⟩] concatenates_S4x64x3_S4x64x256_S4x64x259_d2 (ix3 b i l) = _
  pointwise []

/-! ## The windows' blocks -/

/-- The cloud of point `t`. -/
def bt (t : Fin cfg0.N) : Fin 4 := ⟨t.val / 1, by have := t.isLt; have h : cfg0.N = 4 := N_0; omega⟩

/-- The queries of point `t`. -/
def qr (t : Fin cfg0.N) (r : Fin 16) : Fin 16 := ⟨t.val % 1 * 16 + r.val, by have := r.isLt; omega⟩

theorem idx0 : ∀ t : Fin cfg0.N, win0_0.index t = ![t.val / 1, 0, 0] := (by decide +kernel : ∀ t : Fin grid0.N, _)
theorem idx1 : ∀ t : Fin cfg0.N, win0_1.index t = ![t.val / 1, 0, 0] := (by decide +kernel : ∀ t : Fin grid0.N, _)
theorem idx2 : ∀ t : Fin cfg0.N, win0_2.index t = ![t.val / 1, 0, 0] := (by decide +kernel : ∀ t : Fin grid0.N, _)
theorem idx3 : ∀ t : Fin cfg0.N, win0_3.index t = ![t.val / 1, t.val % 1, 0] := (by decide +kernel : ∀ t : Fin grid0.N, _)
theorem idx4 : ∀ t : Fin cfg0.N, win0_4.index t = ![t.val / 1, t.val % 1, 0] := (by decide +kernel : ∀ t : Fin grid0.N, _)
theorem idx5 : ∀ t : Fin cfg0.N, win0_5.index t = ![t.val / 1, t.val % 1, 0] := (by decide +kernel : ∀ t : Fin grid0.N, _)
theorem idx6 : ∀ t : Fin cfg0.N, win0_6.index t = ![t.val / 1, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 1, t.val % 1, 0] := (by decide +kernel : ∀ t : Fin grid0.N, _)

/-- The block of the points' first coordinates. -/
theorem blk0 (c : Dev nD) (t : Fin cfg0.N) (i : Fin 64) :
    (iblk m c 0 t : Vec Ideal S1x1x64 .f32) (ix3 (0 : Fin 1) (0 : Fin 1) i) = (args m c).p (ix3 (bt t) i (0 : Fin 3)) := by
  rw [← V13]
  blk_simp [iblk]
  congr 1
  unfold bt
  blk_ext [idx0]

/-- The block of the points' second coordinates. -/
theorem blk1 (c : Dev nD) (t : Fin cfg0.N) (i : Fin 64) :
    (iblk m c 1 t : Vec Ideal S1x1x64 .f32) (ix3 (0 : Fin 1) (0 : Fin 1) i) = (args m c).p (ix3 (bt t) i (1 : Fin 3)) := by
  rw [← V14]
  blk_simp [iblk]
  congr 1
  unfold bt
  blk_ext [idx1]

/-- The block of the points' third coordinates. -/
theorem blk2 (c : Dev nD) (t : Fin cfg0.N) (i : Fin 64) :
    (iblk m c 2 t : Vec Ideal S1x1x64 .f32) (ix3 (0 : Fin 1) (0 : Fin 1) i) = (args m c).p (ix3 (bt t) i (2 : Fin 3)) := by
  rw [← V15]
  blk_simp [iblk]
  congr 1
  unfold bt
  blk_ext [idx2]

/-- The block of the queries' first coordinates. -/
theorem blk3 (c : Dev nD) (t : Fin cfg0.N) (r : Fin 16) :
    (iblk m c 3 t : Vec Ideal S1x16x1 .f32) (ix3 (0 : Fin 1) r (0 : Fin 1)) = (args m c).q (ix3 (bt t) (qr t r) (0 : Fin 3)) := by
  rw [← V16]
  blk_simp [iblk]
  congr 1
  unfold bt qr
  blk_ext [idx3]

/-- The block of the queries' second coordinates. -/
theorem blk4 (c : Dev nD) (t : Fin cfg0.N) (r : Fin 16) :
    (iblk m c 4 t : Vec Ideal S1x16x1 .f32) (ix3 (0 : Fin 1) r (0 : Fin 1)) = (args m c).q (ix3 (bt t) (qr t r) (1 : Fin 3)) := by
  rw [← V17]
  blk_simp [iblk]
  congr 1
  unfold bt qr
  blk_ext [idx4]

/-- The block of the queries' third coordinates. -/
theorem blk5 (c : Dev nD) (t : Fin cfg0.N) (r : Fin 16) :
    (iblk m c 5 t : Vec Ideal S1x16x1 .f32) (ix3 (0 : Fin 1) r (0 : Fin 1)) = (args m c).q (ix3 (bt t) (qr t r) (2 : Fin 3)) := by
  rw [← V18]
  blk_simp [iblk]
  congr 1
  unfold bt qr
  blk_ext [idx5]

/-- The block of the points' rows. -/
theorem blk6 (c : Dev nD) (t : Fin cfg0.N) (i : Fin 64) (l : Fin 259) :
    (iblk m c 6 t : Vec Ideal S1x64x259 .f32) (ix3 (0 : Fin 1) i l) = (args m c).tab (bt t) i l := by
  rw [← V0]
  blk_simp [iblk]
  congr 1
  unfold bt
  blk_ext [idx6]

/-- The weights' block is all of them. -/
theorem blk7 (c : Dev nD) (t : Fin cfg0.N) : (iblk m c 7 t : Vec Ideal S259x1024 .f32) = (args m c).w := by
  show _ = m ((c : Thread nD τ).loc main_arg3)
  rw [← V_main_arg3 m c]
  funext y
  blk_simp [iblk]
  congr 1
  blk_ext [idx7]

/-! ## A point's rounds -/

/-- The point's distances. -/
theorem hd (c : Dev nD) (t : Fin cfg0.N) (r : Fin 16) (i : Fin 64) :
    k0_pay5 (iblk m c 0 t) (iblk m c 1 t) (iblk m c 2 t) (iblk m c 3 t) (iblk m c 4 t) (iblk m c 5 t) (ix2 r i) = (args m c).sq (bt t) (qr t r) i := by
  rw [pay5_apply, blk0, blk1, blk2, blk3, blk4, blk5]
  unfold In.sq
  rw [Fin.sum_univ_three]

/-- The point's rows. -/
theorem htb (c : Dev nD) (t : Fin cfg0.N) (i : Fin 64) (l : Fin 259) : k0_pay4 (iblk m c 6 t) (ix2 i l) = (args m c).tab (bt t) i l := by
  rw [pay4_apply, blk6]

/-- The queries' part of the point's products. -/
theorem hqw (c : Dev nD) (t : Fin cfg0.N) (r : Fin 16) (j : Fin 1024) :
    k0_pay7 (iblk m c 3 t) (iblk m c 4 t) (iblk m c 5 t) (iblk m c 7 t) (ix2 r j) = (args m c).qw (bt t) (qr t r) j := by
  rw [pay7_apply, blk3, blk4, blk5, blk7]
  unfold In.qw
  rw [Fin.sum_univ_three]
  rfl

/-- The marker behind the last column's number is the number of points. -/
theorem hcn : Ideal.ofBits .f32 0x42800000#32 = (((64 : ℕ) : ℝ) : EReal) := by
  simp [Ideal.ofBits, Ideal.ieee]
  rw [← EReal.coe_mul]
  norm_num

variable {m}

/-- The largest products a point leaves. -/
theorem point_top (c : Dev nD) (ok : (args m c).Ok) (t : Fin cfg0.N) (r : Fin 16) (j : Fin 1024) :
    (outsAt0 m c t.val t.isLt).1 (ix3 (0 : Fin 1) r j) = (args m c).top (bt t) (qr t r) j := by
  have hN : cfg0.N = 4 := N_0
  have ht := t.isLt
  have e := In.tile_top (fit) 0x42800000#32 hcn ok (bt t) (qr t) (hd m c t) pay6_apply (htb m c t) (blk7 m c t) (hqw m c t) r j
  rw [← e]
  by_cases h0 : t.val % 4 = 0
  · rw [outsAt0_A m c t h0 (by omega), out_A_8, ix2_eq_valueIdx, ix3_eq_valueIdx]
    dsimp only
    exact ValueIdx.shapeCast_ab_1ab_apply ..
  · rw [outsAt0_B m c t h0 (by omega), out_B_8, ix2_eq_valueIdx, ix3_eq_valueIdx]
    dsimp only
    exact ValueIdx.shapeCast_ab_1ab_apply ..

/-- A query's products summed. -/
def qsum (c : Dev nD) (j : Fin 1024) (b : Fin 4) (r : Fin 16) : EReal := ∑ k ∈ Finset.range 16, (args m c).y b r k j

/-- The squares of a query's products summed. -/
def qsumSq (c : Dev nD) (j : Fin 1024) (b : Fin 4) (r : Fin 16) : EReal := ∑ k ∈ Finset.range 16, (args m c).y b r k j * (args m c).y b r k j

/-- A tile's query, counted through all clouds. -/
theorem flat_tile (f : Fin 4 → Fin 16 → EReal) (t : Fin cfg0.N) (r : Fin 16) : flat f (t.val * 16 + r.val) = f (bt t) (qr t r) := by
  have hN : cfg0.N = 4 := N_0
  have ht := t.isLt
  have hr := r.isLt
  unfold flat
  rw [dif_pos (by omega)]
  exact congrArg₂ f (Fin.ext (by show (t.val * 16 + r.val) / 16 = t.val / 1; omega))
    (Fin.ext (by show (t.val * 16 + r.val) % 16 = t.val % 1 * 16 + r.val; omega))

/-- The sums after point `n`: those of the queries up to it. -/
theorem point_total (c : Dev nD) (ok : (args m c).Ok) (j : Fin 1024) : ∀ (n : ℕ) (h : n < cfg0.N),
    (outsAt0 m c n h).2.1 (ix2 (0 : Fin 1) j) = ∑ s ∈ Finset.range (n + 1), ∑ r : Fin 16, flat (qsum (m := m) c j) (s * 16 + r.val)
  | 0, h => by
    have e := In.tile_total (fit) 0x42800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 16, flat (qsum (m := m) c j) (0 * 16 + r.val)) = _ from Finset.sum_congr rfl fun r _ => flat_tile (qsum (m := m) c j) ⟨0, h⟩ r]
    refine Eq.trans ?_ e
    rw [outsAt0_A m c ⟨0, h⟩ rfl (by simp), out_A_9]
  | n + 1, h => by
    have hN : cfg0.N = 4 := N_0
    have e := In.tile_total (fit) 0x42800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_total c ok j n (Nat.lt_of_succ_lt h)]
    rw [show (∑ r : Fin 16, flat (qsum (m := m) c j) ((n + 1) * 16 + r.val)) = _ from Finset.sum_congr rfl fun r _ => flat_tile (qsum (m := m) c j) ⟨n + 1, h⟩ r]
    refine Eq.trans ?_ (congrArg (_ + ·) e)
    rw [outsAt0_B m c ⟨n + 1, h⟩ (by show ¬(n + 1) % 4 = 0; omega) (by show 1 ≤ n + 1; omega), out_B_9]
    rfl

/-- The sums of squares after point `n`: those of the queries up to it. -/
theorem point_totalSq (c : Dev nD) (ok : (args m c).Ok) (j : Fin 1024) : ∀ (n : ℕ) (h : n < cfg0.N),
    (outsAt0 m c n h).2.2 (ix2 (0 : Fin 1) j) = ∑ s ∈ Finset.range (n + 1), ∑ r : Fin 16, flat (qsumSq (m := m) c j) (s * 16 + r.val)
  | 0, h => by
    have e := In.tile_totalSq (fit) 0x42800000#32 hcn ok (bt ⟨0, h⟩) (qr ⟨0, h⟩) (hd m c ⟨0, h⟩) pay6_apply (htb m c ⟨0, h⟩) (blk7 m c ⟨0, h⟩) (hqw m c ⟨0, h⟩) 0 j
    rw [Finset.sum_range_one]
    rw [show (∑ r : Fin 16, flat (qsumSq (m := m) c j) (0 * 16 + r.val)) = _ from Finset.sum_congr rfl fun r _ => flat_tile (qsumSq (m := m) c j) ⟨0, h⟩ r]
    refine Eq.trans ?_ e
    rw [outsAt0_A m c ⟨0, h⟩ rfl (by simp), out_A_10]
  | n + 1, h => by
    have hN : cfg0.N = 4 := N_0
    have e := In.tile_totalSq (fit) 0x42800000#32 hcn ok (bt ⟨n + 1, h⟩) (qr ⟨n + 1, h⟩) (hd m c ⟨n + 1, h⟩) pay6_apply (htb m c ⟨n + 1, h⟩) (blk7 m c ⟨n + 1, h⟩) (hqw m c ⟨n + 1, h⟩) 0 j
    rw [Finset.sum_range_succ, ← point_totalSq c ok j n (Nat.lt_of_succ_lt h)]
    rw [show (∑ r : Fin 16, flat (qsumSq (m := m) c j) ((n + 1) * 16 + r.val)) = _ from Finset.sum_congr rfl fun r _ => flat_tile (qsumSq (m := m) c j) ⟨n + 1, h⟩ r]
    refine Eq.trans ?_ (congrArg (_ + ·) e)
    rw [outsAt0_B m c ⟨n + 1, h⟩ (by show ¬(n + 1) % 4 = 0; omega) (by show 1 ≤ n + 1; omega), out_B_10]
    rfl

/-! ## The result arrays -/

/-- THE FIRST RESULT holds each query's largest products. -/
theorem arr8 (c : Dev nD) (ok : (args m c).Ok) : (dats m 0 c).arrAt 8 cfg0.N = (fun i => (args m c).top (i 0) (i 1) (i 2) : Vec Ideal S4x16x1024 .f32) := by
  refine (dats m 0 c).arrAt_eq_of_covers 8 _ (by decide +kernel) fun t hf y => ?_
  blk_simp
  rw [after0_8]
  have ey : y = ix3 (0 : Fin 1) (y 1 : Fin 16) (y 2 : Fin 1024) := by
    funext a
    match a with
    | ⟨0, _⟩ => exact Fin.ext (by have : (y 0).val < 1 := (y 0).isLt; show (y 0).val = 0; omega)
    | ⟨1, _⟩ => rfl
    | ⟨2, _⟩ => rfl
  refine ((congrArg (outsAt0 m c t.val t.isLt).1 ey).trans (point_top c ok t (y 1 : Fin 16) (y 2 : Fin 1024))).trans ?_
  refine congr (congr (congrArg _ (Fin.ext ?_)) (Fin.ext ?_)) (Fin.ext ?_)
  · blk_simp [idx8]
    have : (y 0).val < 1 := (y 0).isLt
    show t.val / 1 = _
    omega
  · blk_simp [idx8]
    rfl
  · blk_simp [idx8]

/-- The last point. -/
abbrev tl : Fin cfg0.N := (⟨3, by decide +kernel⟩ : Fin grid0.N)

/-- THE SECOND RESULT holds the sums of all products of a column. -/
theorem arr9 (c : Dev nD) (ok : (args m c).Ok) : (dats m 0 c).arrAt 9 cfg0.N = (fun i => (args m c).total (i 1) : Vec Ideal S1x1024 .f32) := by
  refine (dats m 0 c).arrAt_eq_of_after_last 9 tl (by decide +kernel) _ fun y => ?_
  blk_simp
  rw [after0_9]
  have ey : (fun a => ⟨(y a).val, (y a).isLt⟩ : S1x1024.Idx) = ix2 (0 : Fin 1) (y 1 : Fin 1024) := by
    funext a
    match a with
    | ⟨0, _⟩ => exact Fin.ext (by have : (y 0).val < 1 := (y 0).isLt; show (y 0).val = 0; omega)
    | ⟨1, _⟩ => rfl
  refine ((congrArg (outsAt0 m c tl.val tl.isLt).2.1 ey).trans (point_total c ok (y 1 : Fin 1024) 3 tl.isLt)).trans ?_
  exact sum_flat (qsum c (y 1 : Fin 1024)) 16 4 rfl

/-- THE THIRD RESULT holds the sums of the squares of all products of a column. -/
theorem arr10 (c : Dev nD) (ok : (args m c).Ok) : (dats m 0 c).arrAt 10 cfg0.N = (fun i => (args m c).totalSq (i 1) : Vec Ideal S1x1024 .f32) := by
  refine (dats m 0 c).arrAt_eq_of_after_last 10 tl (by decide +kernel) _ fun y => ?_
  blk_simp
  rw [after0_10]
  have ey : (fun a => ⟨(y a).val, (y a).isLt⟩ : S1x1024.Idx) = ix2 (0 : Fin 1) (y 1 : Fin 1024) := by
    funext a
    match a with
    | ⟨0, _⟩ => exact Fin.ext (by have : (y 0).val < 1 := (y 0).isLt; show (y 0).val = 0; omega)
    | ⟨1, _⟩ => rfl
  refine ((congrArg (outsAt0 m c tl.val tl.isLt).2.2 ey).trans (point_totalSq c ok (y 1 : Fin 1024) 3 tl.isLt)).trans ?_
  exact sum_flat (qsumSq c (y 1 : Fin 1024)) 16 4 rfl

end Cert.Down5Array

end
-- ==== Proof.Ref5Array.lean ====
/-
  THE REFERENCE'S RESULTS, 64 points and 16 queries a cloud, as functions of the arguments (`Group.In`): the squared distances, the
  positions of the sixteen nearest, the gathered rows, their products with the weights, and the maxima and sums of these.
-/
module

public import proofs.«01_k».proof.Proof.Group
public import proofs.«01_k».proof.Proof.RefRead
public import proofs.«01_k».proof.Proof.Gen.Ref5Ideal.Read

@[expose] public section

set_option maxRecDepth 16384

noncomputable section

namespace Cert.Ref5Array

open Cert.Ref5Ideal Cert.Ref5Ideal.Gen Cert.Ref5Ideal.Read Idealize.ShloMosaic Cert.Group Cert.RefRead

attribute [local instance] Cert.Ref5Ideal.Gen.facts

variable (x0 : FVec Ideal ⟨3, ![4, 64, 3]⟩ .f32) (x1 : FVec Ideal ⟨3, ![4, 16, 3]⟩ .f32) (x2 : FVec Ideal ⟨3, ![4, 64, 256]⟩ .f32)
  (x3 : FVec Ideal ⟨2, ![259, 1024]⟩ .f32)

/-- The arguments. -/
def args : In 4 64 16 256 259 1024 where
  p := x0
  q := x1
  h := x2
  w := x3
  hn := by decide
  ht := by decide

/-- The squared distances. -/
theorem v6_apply (b : Fin 4) (r : Fin 16) (i : Fin 64) : val_main_v6 (F := Ideal) x0 x1 (ix3 b r i) = (args x0 x1 x2 x3).sq b r i := by
  rw [val_main_v6_apply, val_main_cst_apply, show (FloatOps.ofBits (F := Ideal) .f32 0x00000000#32 : EReal) = 0 from Ideal.ofBits_zero_f32,
    zero_add]
  refine Finset.sum_congr rfl fun a _ => ?_
  rw [val_main_v5_apply, val_main_v4_apply, val_main_v2_apply, val_main_v3_apply, val_main_v0_apply, val_main_v1_apply]
  have e0 : idx_main_v0 (idx_main_v2 (idx_main_v6 (ix3 b r i) a)) = ix3 b r a := by
    funext c; match c with | ⟨0, _⟩ => rfl | ⟨1, _⟩ => rfl | ⟨2, _⟩ => rfl
  have e1 : idx_main_v1 (idx_main_v3 (idx_main_v6 (ix3 b r i) a)) = ix3 b i a := by
    funext c; match c with | ⟨0, _⟩ => rfl | ⟨1, _⟩ => rfl | ⟨2, _⟩ => rfl
  rw [e0, e1]
  rfl

variable {x0 x1 x2 x3} (ok : (args x0 x1 x2 x3).Ok)
include ok

/-- The positions of the nearest. -/
theorem indices_apply (b : Fin 4) (r : Fin 16) (k : Fin 16) :
    val_main_indices (F := Ideal) x0 x1 (ix3 b r k) = BitVec.ofNat 32 ((args x0 x1 x2 x3).nbr b r k.val).val := by
  unfold val_main_indices
  refine topK_neg (by decide) _ _ _ (by decide) b r ((args x0 x1 x2 x3).sq b r) (fun i => ?_) (In.sq_lt ok b r) k
  rw [val_main_v7_apply, v6_apply x0 x1 x2 x3]
  rfl

/-- The positions the coordinates are gathered at. -/
theorem v13_apply (b : Fin 4) (r : Fin 16) (k : Fin 16) :
    val_main_v13 (F := Ideal) x0 x1 (ix4 b r k (0 : Fin 1)) = BitVec.ofNat 32 ((args x0 x1 x2 x3).nbr b r k.val).val := by
  have e : idx_main_v13 (ix4 b r k (0 : Fin 1)) = ix3 b r k := by
    funext c; match c with | ⟨0, _⟩ => rfl | ⟨1, _⟩ => rfl | ⟨2, _⟩ => rfl
  rw [val_main_v13_apply, e, val_main_v12_apply, val_main_v9_apply, val_main_v11_apply, val_main_v8_apply, val_main_c_apply, val_main_v10_apply,
    val_main_c_0_apply, indices_apply ok]
  exact wrap_word 64 _ (lt_trans (Fin.isLt _) (by decide))

/-- The positions the features are gathered at. -/
theorem v20_apply (b : Fin 4) (r : Fin 16) (k : Fin 16) :
    val_main_v20 (F := Ideal) x0 x1 (ix4 b r k (0 : Fin 1)) = BitVec.ofNat 32 ((args x0 x1 x2 x3).nbr b r k.val).val := by
  have e : idx_main_v20 (ix4 b r k (0 : Fin 1)) = ix3 b r k := by
    funext c; match c with | ⟨0, _⟩ => rfl | ⟨1, _⟩ => rfl | ⟨2, _⟩ => rfl
  rw [val_main_v20_apply, e, val_main_v19_apply, val_main_v16_apply, val_main_v18_apply, val_main_v15_apply, val_main_c_1_apply, val_main_v17_apply,
    val_main_c_2_apply, indices_apply ok]
  exact wrap_word 64 _ (lt_trans (Fin.isLt _) (by decide))

/-- The neighbours' coordinates. -/
theorem v14_apply (b : Fin 4) (r : Fin 16) (k : Fin 16) (a : Fin 3) :
    val_main_v14 (F := Ideal) x0 x1 (ix4 b r k a) = x0 (ix3 b ((args x0 x1 x2 x3).nbr b r k.val) a) := by
  unfold val_main_v14
  exact gather_rows gather_S4x64x3_S4x16x16x1_S4x16x16x3_3_1_0_0_1_3_113_wf x0 _ b r k a _ (by decide) (v13_apply ok b r k)

/-- The neighbours' features. -/
theorem v21_apply (b : Fin 4) (r : Fin 16) (k : Fin 16) (l : Fin 256) :
    val_main_v21 (F := Ideal) x0 x1 x2 (ix4 b r k l) = x2 (ix3 b ((args x0 x1 x2 x3).nbr b r k.val) l) := by
  unfold val_main_v21
  exact gather_rows gather_S4x64x256_S4x16x16x1_S4x16x16x256_3_1_0_0_1_3_11256_wf x2 _ b r k l _ (by decide) (v20_apply ok b r k)

/-- The neighbours' offsets. -/
theorem v24_apply (b : Fin 4) (r : Fin 16) (k : Fin 16) (a : Fin 3) :
    val_main_v24 (F := Ideal) x0 x1 (ix4 b r k a) = x0 (ix3 b ((args x0 x1 x2 x3).nbr b r k.val) a) - x1 (ix3 b r a) := by
  have e : idx_main_v22 (idx_main_v23 (ix4 b r k a)) = ix3 b r a := by
    funext c; match c with | ⟨0, _⟩ => rfl | ⟨1, _⟩ => rfl | ⟨2, _⟩ => rfl
  rw [val_main_v24_apply, val_main_v23_apply, val_main_v22_apply, v14_apply ok, e]
  rfl

/-- The rows that meet the weights. -/
theorem v25_apply (b : Fin 4) (r : Fin 16) (k : Fin 16) (l : Fin 259) :
    val_main_v25 (F := Ideal) x0 x1 x2 (ix4 b r k l) = (args x0 x1 x2 x3).cat b r k.val l := by
  unfold In.cat
  split_ifs with hl
  · rw [show (args x0 x1 x2 x3).p (ix3 b _ ⟨l.val, hl⟩) - (args x0 x1 x2 x3).q (ix3 b r ⟨l.val, hl⟩)
      = val_main_v24 (F := Ideal) x0 x1 (ix4 b r k ⟨l.val, hl⟩) from (v24_apply ok b r k ⟨l.val, hl⟩).symm]
    pointwise [val_main_v25, hl]
  · have hl' : l.val - 3 < 256 := by have := l.isLt; omega
    rw [show (args x0 x1 x2 x3).h (ix3 b _ ⟨l.val - 3, _⟩)
      = val_main_v21 (F := Ideal) x0 x1 x2 (ix4 b r k ⟨l.val - 3, hl'⟩) from (v21_apply ok b r k ⟨l.val - 3, hl'⟩).symm]
    pointwise [val_main_v25, hl]

/-- The products. -/
theorem v26_apply (b : Fin 4) (r : Fin 16) (k : Fin 16) (j : Fin 1024) :
    val_main_v26 (F := Ideal) x0 x1 x2 x3 (ix4 b r k j) = (args x0 x1 x2 x3).y b r k.val j := by
  rw [val_main_v26_apply]
  refine Finset.sum_congr rfl fun l _ => ?_
  have e : lidx_main_v26 (ix4 b r k j) l = ix4 b r k l := by
    funext c; match c with | ⟨0, _⟩ => rfl | ⟨1, _⟩ => rfl | ⟨2, _⟩ => rfl | ⟨3, _⟩ => rfl
  have e' : ridx_main_v26 (ix4 b r k j) l = ix2 l j := by
    funext c; match c with | ⟨0, _⟩ => rfl | ⟨1, _⟩ => rfl
  rw [e, e', v25_apply ok]
  rfl

/-- THE LARGEST PRODUCTS. -/
theorem top_eq : val_main_v32 (F := Ideal) x0 x1 x2 x3 = fun i => (args x0 x1 x2 x3).top (i 0) (i 1) (i 2) := by
  funext i
  rw [eq_ix3 i]
  unfold val_main_v32
  exact reduceMax_2 _ _ _ _ Cert.Step.ofBits_bot (i 0) (i 1) (i 2) _ fun k => v26_apply ok (i 0) (i 1) k (i 2)

/-- THE SUMS OF THE PRODUCTS. -/
theorem total_eq : val_main_v28 (F := Ideal) x0 x1 x2 x3 = fun i => (args x0 x1 x2 x3).total (i 1) := by
  funext i
  have e : idx_main_v28 i = ix1 (i 1) := by
    funext c; match c with | ⟨0, _⟩ => rfl
  rw [val_main_v28_apply, e]
  unfold val_main_v27
  simp only [Host.reduceAdd, Ideal.hostReduceAdd_def]
  rw [show (val_main_cst_3 (F := Ideal)) (Shape.Idx.first h_S_) = (0 : EReal) from Ideal.ofBits_zero_f32]
  refine (reduceAdd_012 _ _ _ _).trans ?_
  rw [zero_add]
  unfold In.total
  refine Finset.sum_congr rfl fun b _ => Finset.sum_congr rfl fun r _ => ?_
  rw [← Fin.sum_univ_eq_sum_range (fun k => (args x0 x1 x2 x3).y b r k (i 1)) 16]
  exact Finset.sum_congr rfl fun k _ => v26_apply ok b r k (i 1)

/-- THE SUMS OF THEIR SQUARES. -/
theorem totalSq_eq : val_main_v31 (F := Ideal) x0 x1 x2 x3 = fun i => (args x0 x1 x2 x3).totalSq (i 1) := by
  funext i
  have e : idx_main_v31 i = ix1 (i 1) := by
    funext c; match c with | ⟨0, _⟩ => rfl
  rw [val_main_v31_apply, e]
  unfold val_main_v30
  simp only [Host.reduceAdd, Ideal.hostReduceAdd_def]
  rw [show (val_main_cst_4 (F := Ideal)) (Shape.Idx.first h_S_) = (0 : EReal) from Ideal.ofBits_zero_f32]
  refine (reduceAdd_012 _ _ _ _).trans ?_
  rw [zero_add]
  unfold In.totalSq
  refine Finset.sum_congr rfl fun b _ => Finset.sum_congr rfl fun r _ => ?_
  rw [← Fin.sum_univ_eq_sum_range (fun k => (args x0 x1 x2 x3).y b r k (i 1) * (args x0 x1 x2 x3).y b r k (i 1)) 16]
  exact Finset.sum_congr rfl fun k _ =>
    congrArg₂ (fun u v : EReal => u * v) (v26_apply ok b r k (i 1)) (v26_apply ok b r k (i 1))

end Cert.Ref5Array

end
-- ==== Proof.Stage5.lean ====
/-
  THE CLAIM OF THE GROUPING CALL, 64 points and 16 queries a cloud: under its precondition the call's three result arrays are the
  reference's.
-/
module

public import proofs.«01_k».proof.Defs
public import proofs.«01_k».proof.Proof.Bounds
public import proofs.«01_k».proof.Proof.Down5Array
public import proofs.«01_k».proof.Proof.Ref5Array
public import proofs.«01_k».proof.Proof.Gen.Down5Ideal.Value
public import proofs.«01_k».proof.Proof.Gen.Ref5Ideal.Run
public import Idealize.ShloMosaic.Adequacy
public import Idealize.ShloMosaic.Init

@[expose] public section

set_option maxRecDepth 16384

noncomputable section

namespace Cert.Stage5

open Idealize.ShloMosaic Idealize.SL.Sem Cert.Group

/-- The side conditions of the precondition's operations. -/
theorem preFacts : Cert.Pre_bounded5.Facts where
  bcast_S_S4x64x3 := by decide
  bcast_S_S4x16x3 := by decide
  slices_S259x1024_S3x1024_0_0 := by decide
  bcast_S_S3x1024 := by decide

attribute [local instance] Cert.Down5Ideal.Gen.facts Cert.Ref5Ideal.Gen.facts preFacts

/-- The precondition says that the coordinates and the first rows of the weights are real numbers within the bounds. -/
theorem ok (m : (ℓ : Loc Cert.Down5Ideal.nD Cert.Down5Ideal.τ Cert.Down5Ideal.sig) → Buf (Elt Ideal) ℓ)
    (h : Cert.Pre_Down5Ideal_bounded5 m) (c : Dev Cert.Down5Ideal.nD) : (Cert.Down5Array.args m c).Ok where
  p i := Cert.Bounds.abs_le (congrFun (h c).1 i)
  q i := Cert.Bounds.abs_le (congrFun (h c).2.1 i)
  w a j := by
    have e := Cert.Bounds.abs_lt (congrFun (h c).2.2 (ix2 a j))
    obtain ⟨x, hx⟩ := e
    refine ⟨x, Eq.trans (congrArg _ ?_) hx⟩
    funext d
    match d with
    | ⟨0, _⟩ => exact Fin.ext (Nat.zero_add _).symm
    | ⟨1, _⟩ => exact Fin.ext (Nat.zero_add _).symm

/-- The reference runs, leaves its arguments and has no semaphore. -/
theorem refFrame : Cert.quiescent_Ref5Ideal := fun m ρ _ =>
  (θ_run Cert.Ref5Ideal.defs _ _).mono (fun r h => ⟨fun c => (h c).2.2.2, sem_eq_zero_of_no_sems (by decide) r.2⟩)
    (Cert.Ref5Ideal.Value.run (F := Ideal) m ρ)

/-- THE ALGEBRAIC CLAIM: from arguments that agree and meet the precondition both programs end with the same three results, the largest
    products, their sums and the sums of their squares, and leave their arguments. -/
theorem algebraic : Cert.algebraic_Down5Ideal_Ref5Ideal_pre_bounded5 := by
  intro m g m' g' hpre hag
  have hk := Cert.Down5Ideal.Value.run_blocks (F := Ideal) m g
  have hr := Cert.Ref5Ideal.Value.run (F := Ideal) m' g'
  have hok := ok m hpre
  have hargs : ∀ c : Dev Cert.Ref5Ideal.nD, Cert.Ref5Array.args (m' ((c.tc : Thread Cert.Ref5Ideal.nD Cert.Ref5Ideal.τ).loc Cert.Ref5Ideal.main_arg0))
      (m' ((c.tc : Thread Cert.Ref5Ideal.nD Cert.Ref5Ideal.τ).loc Cert.Ref5Ideal.main_arg1))
      (m' ((c.tc : Thread Cert.Ref5Ideal.nD Cert.Ref5Ideal.τ).loc Cert.Ref5Ideal.main_arg2))
      (m' ((c.tc : Thread Cert.Ref5Ideal.nD Cert.Ref5Ideal.τ).loc Cert.Ref5Ideal.main_arg3)) = Cert.Down5Array.args m c := by
    intro c
    rw [(hag c).1, (hag c).2.1, (hag c).2.2.1, (hag c).2.2.2]
    rfl
  refine ⟨fun c => (Cert.Down5Ideal.Gen.dats m 0 c).arrAt 8 Cert.Down5Ideal.cfg0.N,
    fun c => (Cert.Down5Ideal.Gen.dats m 0 c).arrAt 9 Cert.Down5Ideal.cfg0.N,
    fun c => (Cert.Down5Ideal.Gen.dats m 0 c).arrAt 10 Cert.Down5Ideal.cfg0.N, hk, ?_⟩
  refine (θ_run Cert.Ref5Ideal.defs _ _).mono (fun r h c => ?_) hr
  obtain ⟨h0, h1, h2, h3⟩ := h c
  have hok' := hok c
  rw [← hargs c] at hok'
  refine ⟨h0.trans ?_, h1.trans ?_, h2.trans ?_, h3⟩
  · refine (Cert.Ref5Ideal.Read.val_main_v32_eq m' c).trans ((Cert.Ref5Array.top_eq hok').trans ?_)
    rw [hargs c]
    exact (Cert.Down5Array.arr8 c (hok c)).symm
  · refine (Cert.Ref5Ideal.Read.val_main_v28_eq m' c).trans ((Cert.Ref5Array.total_eq hok').trans ?_)
    rw [hargs c]
    exact (Cert.Down5Array.arr9 c (hok c)).symm
  · refine (Cert.Ref5Ideal.Read.val_main_v31_eq m' c).trans ((Cert.Ref5Array.totalSq_eq hok').trans ?_)
    rw [hargs c]
    exact (Cert.Down5Array.arr10 c (hok c)).symm

end Cert.Stage5

end
-- ==== Proof.Norm.lean ====
/-
  THE NORMALISATION OF A STAGE'S PRODUCTS. The kernel has of the products only the largest per query, the sums and the sums of squares: it
  takes the variance as the mean square less the squared mean, and applies one increasing function to the largest product. The reference
  takes the variance as the mean squared deviation, normalises every product, and takes the largest afterwards. For non-negative scales
  the two are equal. Where a column holds an infinite product the kernel's variance is minus infinity and the reference's plus infinity; both
  normalise the whole column to zero.
-/
module

public import Idealize.ShloMosaic.Lib.StableHlo
public import Idealize.ShloMosaic.Lib.Pointwise
public import Idealize.ShloMosaic.Lib.ValueIdx
public import Idealize.ShloMosaic.PureOps.Ideal.Laws

@[expose] public section

noncomputable section

namespace Cert.Norm

open Idealize.ShloMosaic

/-! ## Real numbers among the extended ones -/

/-- A quotient by a real number that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A sum of real numbers is a real number. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The variance -/

/-- THE MEAN SQUARE LESS THE SQUARED MEAN IS THE MEAN SQUARED DEVIATION, of real numbers. -/
theorem var_eq {ι : Type} [Fintype ι] (f : ι → EReal) (hf : ∀ i, ∃ x : ℝ, f i = (x : EReal)) (n : ℝ) (hn : n = Fintype.card ι) (h0 : n ≠ 0) :
    Ideal.div (∑ i, f i * f i) (n : EReal) - Ideal.div (∑ i, f i) (n : EReal) * Ideal.div (∑ i, f i) (n : EReal)
      = Ideal.div (∑ i, (f i - Ideal.div (∑ i, f i) (n : EReal)) * (f i - Ideal.div (∑ i, f i) (n : EReal))) (n : EReal) := by
  choose x hx using hf
  simp only [hx, ← EReal.coe_mul, sum_coe]
  rw [div_coe _ _ h0, div_coe _ _ h0]
  simp only [← EReal.coe_sub, ← EReal.coe_mul, sum_coe]
  rw [div_coe _ _ h0]
  congr 1
  have e : ∀ i, (x i - (∑ i, x i) / n) * (x i - (∑ i, x i) / n) = x i * x i - 2 * ((∑ i, x i) / n) * x i + ((∑ i, x i) / n) * ((∑ i, x i) / n) := fun i => by ring
  rw [Finset.sum_congr rfl fun i _ => e i, Finset.sum_add_distrib, Finset.sum_sub_distrib, ← Finset.mul_sum, Finset.sum_const, Finset.card_univ,
    nsmul_eq_mul, ← hn]
  field_simp
  ring

/-! ## Infinite entries -/

/-- A sum with a term that is minus infinity is minus infinity. -/
theorem sum_bot {ι : Type} [Fintype ι] (f : ι → EReal) (i : ι) (h : f i = ⊥) : ∑ i, f i = ⊥ := by
  classical
  rw [← Finset.add_sum_erase _ _ (Finset.mem_univ i), h, EReal.bot_add]

/-- A sum with a term that is plus infinity and none that is minus infinity is plus infinity. -/
theorem sum_top {ι : Type} [Fintype ι] (f : ι → EReal) (i : ι) (h : f i = ⊤) (hb : ∀ i, f i ≠ ⊥) : ∑ i, f i = ⊤ := by
  classical
  rw [← Finset.add_sum_erase _ _ (Finset.mem_univ i), h]
  refine EReal.top_add_of_ne_bot (Finset.sum_induction f (fun x => x ≠ ⊥) (fun a b ha hb => ?_) (by simp) fun i _ => hb i)
  rw [Ne, EReal.add_eq_bot_iff]
  tauto

/-- A positive number divides infinity to infinity. -/
theorem div_inf (x : EReal) (hx : x = ⊤ ∨ x = ⊥) (n : ℝ) (h0 : 0 < n) : Ideal.div x (n : EReal) = x := by
  unfold Ideal.div
  rw [if_neg (by exact_mod_cast h0.ne'), ← EReal.coe_inv]
  rcases hx with rfl | rfl
  · exact EReal.top_mul_coe_of_pos (inv_pos.mpr h0)
  · exact EReal.bot_mul_coe_of_pos (inv_pos.mpr h0)

/-- An infinite number's square is plus infinity. -/
theorem sq_inf (x : EReal) (hx : x = ⊤ ∨ x = ⊥) : x * x = ⊤ := by
  rcases hx with rfl | rfl
  · exact EReal.top_mul_top
  · exact EReal.bot_mul_bot

/-- A square is not negative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The difference to an infinite number is infinite. -/
theorem sub_inf (z x : EReal) (hx : x = ⊤ ∨ x = ⊥) : z - x = ⊤ ∨ z - x = ⊥ := by
  rw [sub_eq_add_neg]
  rcases hx with rfl | rfl
  · exact Or.inr (by rw [EReal.neg_top, EReal.add_bot])
  · rw [EReal.neg_bot]
    rcases eq_or_ne z ⊥ with rfl | hz
    · exact Or.inr (EReal.bot_add _)
    · exact Or.inl (EReal.add_top_of_ne_bot hz)

/-- A sum of squares one of which is plus infinity is plus infinity. -/
theorem sumSq_top {ι : Type} [Fintype ι] (f : ι → EReal) (i : ι) (h : f i * f i = ⊤) : ∑ i, f i * f i = ⊤ :=
  top_le_iff.mp (h ▸ Finset.single_le_sum (f := fun i => f i * f i) (fun i _ => sq_nonneg (f i)) (Finset.mem_univ i))

/-- THE MEAN AND THE VARIANCES OF NUMBERS ONE OF WHICH IS INFINITE: the mean is infinite, the mean square less the squared mean is minus
    infinity, the mean squared deviation plus infinity. -/
theorem inf_stats {ι : Type} [Fintype ι] (f : ι → EReal) (i : ι) (hi : f i = ⊤ ∨ f i = ⊥) (n : ℝ) (h0 : 0 < n) :
    Ideal.div (∑ i, f i * f i) (n : EReal) - Ideal.div (∑ i, f i) (n : EReal) * Ideal.div (∑ i, f i) (n : EReal) = ⊥
      ∧ Ideal.div (∑ i, (f i - Ideal.div (∑ i, f i) (n : EReal)) * (f i - Ideal.div (∑ i, f i) (n : EReal))) (n : EReal) = ⊤ := by
  have hs : (∑ i, f i) = ⊤ ∨ (∑ i, f i) = ⊥ := by
    by_cases hb : ∃ k, f k = ⊥
    · obtain ⟨k, hk⟩ := hb
      exact Or.inr (sum_bot f k hk)
    · push Not at hb
      exact Or.inl (sum_top f i (hi.resolve_right (hb i)) hb)
  rw [div_inf _ hs n h0, sq_inf _ hs, sumSq_top f i (sq_inf _ hi), div_inf _ (Or.inl rfl) n h0,
    sumSq_top (fun i => f i - ∑ i, f i) i (sq_inf _ (sub_inf _ _ hs)), div_inf _ (Or.inl rfl) n h0]
  exact ⟨by rw [sub_eq_add_neg, EReal.neg_top, EReal.add_bot], rfl⟩

/-- Every number is zero over an infinite one. -/
theorem div_by_inf (a x : EReal) (hx : x = ⊤ ∨ x = ⊥) : Ideal.div a x = 0 := by
  unfold Ideal.div
  rcases hx with rfl | rfl
  · rw [if_neg (by simp), EReal.inv_top, mul_zero]
  · rw [if_neg (by simp), EReal.inv_bot, mul_zero]

/-! ## The largest of the normalised -/

/-- A factor moves from the quotient to the divided. -/
theorem div_mul (a g s : EReal) (hs : s ≠ 0) : Ideal.div a s * g = a * Ideal.div g s := by
  unfold Ideal.div
  rw [if_neg hs, if_neg hs, mul_assoc, mul_comm s⁻¹ g]

/-- An increasing function of the largest of finitely many is the largest of its values. -/
theorem sup_mono {K : ℕ} (hK : 0 < K) (f : Fin K → EReal) (φ : EReal → EReal) (hφ : Monotone φ) :
    (Finset.univ.sup fun k => φ (f k)) = φ (Finset.univ.sup f) := by
  have : Nonempty (Fin K) := ⟨⟨0, hK⟩⟩
  obtain ⟨k, _, hk⟩ := Finset.exists_mem_eq_sup Finset.univ Finset.univ_nonempty f
  apply le_antisymm
  · exact Finset.sup_le fun i _ => hφ (Finset.le_sup (Finset.mem_univ i))
  · rw [hk]
    exact Finset.le_sup (f := fun k => φ (f k)) (Finset.mem_univ k)

/-- The shifted and scaled value, cut off at zero. -/
def act (mu c b z : EReal) : EReal := max ((z - mu) * c + b) 0

/-- It increases with the value where the scale is not negative. -/
theorem act_mono (mu c b : EReal) (hc : 0 ≤ c) : Monotone (act mu c b) := fun z z' h =>
  max_le_max (add_le_add (mul_le_mul_of_nonneg_right (EReal.sub_le_sub h le_rfl) hc) le_rfl) le_rfl

/-- What keeps the deviation from zero. -/
abbrev eps : EReal := Ideal.ofBits .f32 0x3727C5AC#32

theorem eps_pos : ∃ e : ℝ, 0 < e ∧ eps = (e : EReal) := by
  refine ⟨10995116 * (2 ^ 40)⁻¹, by positivity, ?_⟩
  simp [eps, Ideal.ofBits, Ideal.ieee]

/-! ## A stage's products -/

/-- The products and the scale and shift of each column. -/
structure In (N R K C : ℕ) where
  y : FVec Ideal ⟨4, ![N, R, K, C]⟩ .f32
  g : FVec Ideal ⟨1, ![C]⟩ .f32
  b : FVec Ideal ⟨1, ![C]⟩ .f32

namespace In

variable {N R K C : ℕ} (A : In N R K C)

/-- The sums of a column. -/
def total (j : Fin C) : EReal := ∑ b : Fin N, ∑ r : Fin R, ∑ k : Fin K, A.y (ix4 b r k j)

/-- The sums of a column's squares. -/
def totalSq (j : Fin C) : EReal := ∑ b : Fin N, ∑ r : Fin R, ∑ k : Fin K, A.y (ix4 b r k j) * A.y (ix4 b r k j)

/-- The largest of a query's products. -/
def top (b : Fin N) (r : Fin R) (j : Fin C) : EReal := Finset.univ.sup fun k : Fin K => A.y (ix4 b r k j)

/-- The mean of a column, of `n` entries. -/
def mean (n : EReal) (j : Fin C) : EReal := Ideal.div (A.total j) n

/-- The variance of a column as the kernel has it. -/
def varK (n : EReal) (j : Fin C) : EReal := Ideal.div (A.totalSq j) n - A.mean n j * A.mean n j

/-- The variance of a column as the reference has it. -/
def varR (n : EReal) (j : Fin C) : EReal :=
  Ideal.div (∑ b : Fin N, ∑ r : Fin R, ∑ k : Fin K, (A.y (ix4 b r k j) - A.mean n j) * (A.y (ix4 b r k j) - A.mean n j)) n

/-- The kernel's feature of a query. -/
def feat (n : EReal) (b : Fin N) (r : Fin R) (j : Fin C) : EReal :=
  act (A.mean n j) (Ideal.div (A.g (ix1 j)) (Ideal.sqrt (A.varK n j + eps))) (A.b (ix1 j)) (A.top b r j)

/-- The reference's normalised product. -/
def normed (n : EReal) (b : Fin N) (r : Fin R) (k : Fin K) (j : Fin C) : EReal :=
  max (Ideal.div (A.y (ix4 b r k j) - A.mean n j) (Ideal.sqrt (A.varR n j + eps)) * A.g (ix1 j) + A.b (ix1 j)) 0

/-- The scales are not negative. -/
def Ok : Prop := ∀ i, 0 ≤ A.g i

variable {A}

/-- The two variances of a column of real numbers are equal. -/
theorem var (j : Fin C) (hy : ∀ b r k, ∃ x : ℝ, A.y (ix4 b r k j) = (x : EReal)) (n : ℝ) (hn : n = N * (R * K)) (h0 : n ≠ 0) :
    A.varK (n : EReal) j = A.varR (n : EReal) j := by
  have h := var_eq (fun p : Fin N × Fin R × Fin K => A.y (ix4 p.1 p.2.1 p.2.2 j)) (fun p => hy _ _ _) n (by simp [hn]) h0
  simp only [Fintype.sum_prod_type] at h
  exact h

/-- The two variances of a column with an infinite entry. -/
theorem var_inf (j : Fin C) (b : Fin N) (r : Fin R) (k : Fin K) (hy : A.y (ix4 b r k j) = ⊤ ∨ A.y (ix4 b r k j) = ⊥) (n : ℝ) (h0 : 0 < n) :
    A.varK (n : EReal) j = ⊥ ∧ A.varR (n : EReal) j = ⊤ := by
  have h := inf_stats (fun p : Fin N × Fin R × Fin K => A.y (ix4 p.1 p.2.1 p.2.2 j)) (b, r, k) hy n h0
  simp only [Fintype.sum_prod_type] at h
  exact h

/-- The variance of a column of real numbers is a real number and not negative. -/
theorem varR_nonneg (j : Fin C) (hy : ∀ b r k, ∃ x : ℝ, A.y (ix4 b r k j) = (x : EReal)) (n : ℝ) (h0 : 0 < n) :
    ∃ v : ℝ, 0 ≤ v ∧ A.varR (n : EReal) j = (v : EReal) := by
  choose x hx using hy
  unfold varR mean total
  simp only [hx, sum_coe]
  rw [div_coe _ _ h0.ne']
  simp only [← EReal.coe_sub, ← EReal.coe_mul, sum_coe]
  rw [div_coe _ _ h0.ne']
  refine ⟨_, ?_, rfl⟩
  exact div_nonneg (Finset.sum_nonneg fun _ _ => Finset.sum_nonneg fun _ _ => Finset.sum_nonneg fun _ _ => mul_self_nonneg _) h0.le

/-- The largest of a query's normalised products is the kernel's feature, in a column of real numbers. -/
theorem feat_real (ok : A.Ok) (hK : 0 < K) (n : ℝ) (hn : n = N * (R * K)) (h0 : 0 < n) (b : Fin N) (r : Fin R) (j : Fin C)
    (hy : ∀ b r k, ∃ x : ℝ, A.y (ix4 b r k j) = (x : EReal)) :
    (Finset.univ.sup fun k : Fin K => A.normed (n : EReal) b r k j) = A.feat (n : EReal) b r j := by
  obtain ⟨v, hv, ev⟩ := varR_nonneg j hy n h0
  obtain ⟨e, he, ee⟩ := eps_pos
  have hs : ∃ s : ℝ, 0 < s ∧ Ideal.sqrt (A.varR (n : EReal) j + eps) = (s : EReal) := by
    refine ⟨Real.sqrt (v + e), Real.sqrt_pos.mpr (by linarith), ?_⟩
    rw [ev, ee, ← EReal.coe_add]
    show (if v + e < 0 then ⊥ else (Real.sqrt (v + e) : EReal)) = _
    rw [if_neg (by linarith)]
  obtain ⟨s, hs0, hs⟩ := hs
  have hsn : (s : EReal) ≠ 0 := by exact_mod_cast hs0.ne'
  unfold feat
  rw [var j hy n hn h0.ne', hs]
  have hc : 0 ≤ Ideal.div (A.g (ix1 j)) (s : EReal) := by
    unfold Ideal.div
    rw [if_neg hsn, ← EReal.coe_inv]
    exact mul_nonneg (ok _) (by exact_mod_cast (inv_pos.mpr hs0).le)
  unfold top
  rw [← sup_mono hK _ _ (act_mono _ _ _ hc)]
  refine Finset.sup_congr rfl fun k _ => ?_
  unfold normed act
  rw [hs, div_mul _ _ _ hsn]

/-- The largest of a query's normalised products is the kernel's feature, in a column with an infinite entry: both are the shift, cut off
    at zero. -/
theorem feat_inf (hK : 0 < K) (n : ℝ) (h0 : 0 < n) (b : Fin N) (r : Fin R) (j : Fin C) (b' : Fin N) (r' : Fin R) (k' : Fin K)
    (hy : A.y (ix4 b' r' k' j) = ⊤ ∨ A.y (ix4 b' r' k' j) = ⊥) :
    (Finset.univ.sup fun k : Fin K => A.normed (n : EReal) b r k j) = A.feat (n : EReal) b r j := by
  obtain ⟨hK', hR'⟩ := var_inf j b' r' k' hy n h0
  obtain ⟨e, he, ee⟩ := eps_pos
  have s1 : Ideal.sqrt (A.varK (n : EReal) j + eps) = ⊥ := by
    rw [hK', EReal.bot_add]
    rfl
  have s2 : Ideal.sqrt (A.varR (n : EReal) j + eps) = ⊤ := by
    rw [hR', ee, EReal.top_add_coe]
    rfl
  have : Nonempty (Fin K) := ⟨⟨0, hK⟩⟩
  unfold feat act normed
  rw [s1, s2]
  simp only [div_by_inf _ _ (Or.inl rfl : (⊤ : EReal) = ⊤ ∨ (⊤ : EReal) = ⊥), div_by_inf _ _ (Or.inr rfl : (⊥ : EReal) = ⊤ ∨ (⊥ : EReal) = ⊥),
    mul_zero, zero_mul, zero_add]
  exact Finset.sup_const Finset.univ_nonempty _

/-- THE LARGEST OF A QUERY'S NORMALISED PRODUCTS IS THE KERNEL'S FEATURE. -/
theorem feat_eq (ok : A.Ok) (hK : 0 < K) (n : ℝ) (hn : n = N * (R * K)) (h0 : 0 < n) (b : Fin N) (r : Fin R) (j : Fin C) :
    (Finset.univ.sup fun k : Fin K => A.normed (n : EReal) b r k j) = A.feat (n : EReal) b r j := by
  by_cases h : ∃ b' r' k', A.y (ix4 b' r' k' j) = ⊤ ∨ A.y (ix4 b' r' k' j) = ⊥
  · obtain ⟨b', r', k', hy⟩ := h
    exact feat_inf hK n h0 b r j b' r' k' hy
  · push Not at h
    refine feat_real ok hK n hn h0 b r j fun b' r' k' => ?_
    obtain ⟨ht, hb⟩ := h b' r' k'
    exact ⟨EReal.toReal (A.y (ix4 b' r' k' j)), (EReal.coe_toReal ht hb).symm⟩

end In

end Cert.Norm

end
-- ==== Proof.NormRead.lean ====
/-
  THE HOST OPERATIONS OF THE NORMALISATION, READ AT AN INDEX: the greatest over the third axis of a rank-4 array, as a supremum over it;
  a sum over the three leading axes.
-/
module

public import proofs.«01_k».proof.Proof.RefRead

@[expose] public section

noncomputable section

namespace Cert.NormRead

open Idealize.ShloMosaic Cert.RefRead

/-- The pattern of minus infinity. -/
theorem ofBits_bot : Ideal.ofBits .f32 0xFF800000#32 = ⊥ := by simp [Ideal.ofBits, Ideal.ieee]

/-- The maximum over the third axis of a rank-4 array, from minus infinity, is the supremum over it. -/
theorem reduceMax {N R K C : ℕ} (h : (⟨4, ![N, R, K, C]⟩ : Shape).ReducesTo [2] ⟨3, ![N, R, C]⟩) (x : FVec Ideal ⟨4, ![N, R, K, C]⟩ .f32)
    (c : FVec Ideal ⟨0, ![]⟩ .f32) (hu : 0 < (⟨0, ![]⟩ : Shape).numel) (hc : c (Shape.Idx.first hu) = ⊥) (b : Fin N) (r : Fin R) (j : Fin C) :
    Host.reduce FloatOps.maximumf x c h hu (ix3 b r j) = Finset.univ.sup fun k : Fin K => (x (ix4 b r k j) : EReal) := by
  have e : Host.reduce FloatOps.maximumf x c h hu (ix3 b r j)
      = Finset.univ.fold max (c (Shape.Idx.first hu)) fun k : Fin K => x (ix4 b r k j) := by
    simp only [pointwise]
  rw [e, hc]
  rfl

/-- A sum over the three leading axes of a rank-4 array, from zero. -/
theorem reduceSum {N R K C : ℕ} (h : (⟨4, ![N, R, K, C]⟩ : Shape).ReducesTo [0, 1, 2] ⟨1, ![C]⟩) (x : FVec Ideal ⟨4, ![N, R, K, C]⟩ .f32)
    (c : FVec Ideal ⟨0, ![]⟩ .f32) (hu : 0 < (⟨0, ![]⟩ : Shape).numel) (hc : c (Shape.Idx.first hu) = (0 : EReal)) (j : Fin C) :
    Host.reduceAdd x c h hu (ix1 j) = (∑ b : Fin N, ∑ r : Fin R, ∑ k : Fin K, x (ix4 b r k j) : EReal) := by
  simp only [Host.reduceAdd, Ideal.hostReduceAdd_def]
  rw [hc]
  exact (reduceAdd_012 h x 0 j).trans (zero_add _)

/-- A vector as a row. -/
theorem row_apply {α : Type} {C : ℕ} (x : (⟨1, ![C]⟩ : Shape).Idx → α) (h : (⟨1, ![C]⟩ : Shape).BroadcastsInDim ⟨2, ![1, C]⟩ ![1]) (j : Fin C) :
    broadcastInDim ⟨2, ![1, C]⟩ ![1] h x (ix2 (0 : Fin 1) j) = x (ix1 j) :=
  broadcastInDim_apply _ h x _ _ fun a => match a with | ⟨0, _⟩ => by show j.val = if C = 1 then 0 else j.val; split <;> omega

end Cert.NormRead

end
-- ==== Proof.Norm2Array.lean ====
/-
  THE RESULT ARRAY OF THE SECOND STAGE'S NORMALISATION, 1024 queries a cloud and 64 columns, as a function of the arguments (`Norm.In`): the queries and
  their features side by side.
-/
module

public import proofs.«01_k».proof.Proof.Norm
public import proofs.«01_k».proof.Proof.NormRead
public import proofs.«01_k».proof.Proof.RefRead
public import proofs.«01_k».proof.Proof.Gen.Norm2Ideal.Value
public import Idealize.ShloMosaic.Lib.ValueLayoutCasts
public import Idealize.ShloMosaic.Lib.Pipeline.Value
public import Idealize.ShloMosaic.Lib.Pipeline.ValueKit.Geometry

@[expose] public section

set_option maxRecDepth 16384

noncomputable section

namespace Cert.Norm2Array

open Cert.Norm2Ideal Cert.Norm2Ideal.Gen Idealize.ShloMosaic Idealize.ShloMosaic.TcCoe Idealize.SL.Sem Cert.Norm Cert.RefRead Cert.NormRead

attribute [local instance] Cert.Norm2Ideal.Gen.facts

/-- The number of a column's products. -/
abbrev cnt : EReal := Ideal.ofBits .f32 0x47800000#32

/-! ## The body's value, at an index -/

/-- The shifted, scaled and cut off rows. -/
theorem pay2_apply (v0 v4 v10 v24 : Vec Ideal S1x64 .f32) (v16 : Vec Ideal S4x1024x64 .f32) (b : Fin 4) (r : Fin 1024) (j : Fin 64) :
    k0_pay2 v0 v4 v10 v16 v24 (ix3 b r j)
      = act (Ideal.div (v0 (ix2 (0 : Fin 1) j)) cnt)
          (Ideal.div (v10 (ix2 (0 : Fin 1) j)) (Ideal.sqrt ((Ideal.div (v4 (ix2 (0 : Fin 1) j)) cnt
            - Ideal.div (v0 (ix2 (0 : Fin 1) j)) cnt * Ideal.div (v0 (ix2 (0 : Fin 1) j)) cnt) + eps)))
          (v24 (ix2 (0 : Fin 1) j)) (v16 (ix3 b r j)) := by
  pointwise [k0_pay2]
  rfl

/-! ## The host's arrays -/

/-- A vector reshaped to a row. -/
theorem row_cast (x : Vec Ideal S64 .f32) (j : Fin 64) : shapeCast S1x64 x shapeCasts_S64_S1x64 (ix2 (0 : Fin 1) j) = x (ix1 j) := by
  rw [ix2_eq_valueIdx, ix1_eq_valueIdx]
  exact ValueIdx.shapeCast_a_1a_apply ..

variable (m : (ℓ : Loc nD τ sig) → Buf (Elt Ideal) ℓ)

/-- The arguments. -/
def args (c : Dev nD) : In 4 1024 16 64 where
  y := m ((c : Thread nD τ).loc main_arg0)
  g := m ((c : Thread nD τ).loc main_arg2)
  b := m ((c : Thread nD τ).loc main_arg3)

/-- The queries. -/
def qs (c : Dev nD) : Vec Ideal S4x1024x3 .f32 := m ((c : Thread nD τ).loc main_arg1)

/-- The largest product of each query. -/
theorem V5 (c : Dev nD) (b : Fin 4) (r : Fin 1024) (j : Fin 64) : (V m c main_v5 : Vec Ideal S4x1024x64 .f32) (ix3 b r j) = (args m c).top b r j := by
  unfold_abbrev_sides
  after_results
  exact reduceMax _ _ _ _ ofBits_bot b r j

/-- The sums of the columns. -/
theorem V1 (c : Dev nD) (j : Fin 64) : (V m c main_v1 : Vec Ideal S1x64 .f32) (ix2 (0 : Fin 1) j) = (args m c).total j := by
  unfold_abbrev_sides
  after_results
  refine (row_apply _ _ j).trans ?_
  exact reduceSum _ _ _ _ Ideal.ofBits_zero_f32 j

/-- The sums of the columns' squares. -/
theorem V4 (c : Dev nD) (j : Fin 64) : (V m c main_v4 : Vec Ideal S1x64 .f32) (ix2 (0 : Fin 1) j) = (args m c).totalSq j := by
  unfold_abbrev_sides
  after_results
  refine (row_apply _ _ j).trans ?_
  exact reduceSum _ _ _ _ Ideal.ofBits_zero_f32 j

/-- The scales. -/
theorem V12 (c : Dev nD) (j : Fin 64) : (V m c main_v12 : Vec Ideal S1x64 .f32) (ix2 (0 : Fin 1) j) = (args m c).g (ix1 j) := by
  unfold_abbrev_sides
  after_results
  generalize hx : (m ((c : Thread nD τ).loc main_arg2) : Vec Ideal S64 .f32) = x
  exact row_cast x j

/-- The shifts. -/
theorem V13 (c : Dev nD) (j : Fin 64) : (V m c main_v13 : Vec Ideal S1x64 .f32) (ix2 (0 : Fin 1) j) = (args m c).b (ix1 j) := by
  unfold_abbrev_sides
  after_results
  generalize hx : (m ((c : Thread nD τ).loc main_arg3) : Vec Ideal S64 .f32) = x
  exact row_cast x j

/-- The first coordinates of the queries. -/
theorem V7 (c : Dev nD) (b : Fin 4) (r : Fin 1024) : (V m c main_v7 : Vec Ideal S4x1024 .f32) (ix2 b r) = qs m c (ix3 b r (0 : Fin 3)) := by
  unfold_abbrev_sides
  after_results
  unfold qs
  generalize hx : (m ((c : Thread nD τ).loc main_arg1) : Vec Ideal S4x1024x3 .f32) = x
  pointwise []

/-- The second coordinates of the queries. -/
theorem V9 (c : Dev nD) (b : Fin 4) (r : Fin 1024) : (V m c main_v9 : Vec Ideal S4x1024 .f32) (ix2 b r) = qs m c (ix3 b r (1 : Fin 3)) := by
  unfold_abbrev_sides
  after_results
  unfold qs
  generalize hx : (m ((c : Thread nD τ).loc main_arg1) : Vec Ideal S4x1024x3 .f32) = x
  pointwise []

/-- The third coordinates of the queries. -/
theorem V11 (c : Dev nD) (b : Fin 4) (r : Fin 1024) : (V m c main_v11 : Vec Ideal S4x1024 .f32) (ix2 b r) = qs m c (ix3 b r (2 : Fin 3)) := by
  unfold_abbrev_sides
  after_results
  unfold qs
  generalize hx : (m ((c : Thread nD τ).loc main_arg1) : Vec Ideal S4x1024x3 .f32) = x
  pointwise []

/-! ## The windows' blocks: there is one point, and every block is the whole array -/

/-- The one point. -/
abbrev tl : Fin cfg0.N := (⟨0, by decide +kernel⟩ : Fin grid0.N)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)

/-- The block of the largest products is the whole array, whatever it holds. -/
theorem whole0 (c : Dev nD) (t : Fin cfg0.N) (W : Buf (Elt Ideal) ((c : Thread nD τ).loc main_v5)) :
    (((cfg0.win 0).blk t).view.read (Elt Ideal) W : Vec Ideal S4x1024x64 .f32) = W := by
  funext y
  show (W : Vec Ideal S4x1024x64 .f32) (((cfg0.win 0).blk t).view.emb y) = (W : Vec Ideal S4x1024x64 .f32) y
  refine congrArg (W : Vec Ideal S4x1024x64 .f32) (funext fun a => Fin.ext ?_)
  refine Pipeline.Window.rect_emb_val_of_index_zero win0_0 t a ?_ y
  rw [idx0]
  match a with
  | ⟨0, _⟩ => rfl
  | ⟨1, _⟩ => rfl
  | ⟨2, _⟩ => rfl

/-- The block of the largest products. -/
theorem blk0 (c : Dev nD) (t : Fin cfg0.N) : (iblk m c 0 t : Vec Ideal S4x1024x64 .f32) = V m c main_v5 := whole0 c t (V m c main_v5)

/-- The block of the sums is the whole array, whatever it holds. -/
theorem whole1 (c : Dev nD) (t : Fin cfg0.N) (W : Buf (Elt Ideal) ((c : Thread nD τ).loc main_v1)) :
    (((cfg0.win 1).blk t).view.read (Elt Ideal) W : Vec Ideal S1x64 .f32) = W := by
  funext y
  show (W : Vec Ideal S1x64 .f32) (((cfg0.win 1).blk t).view.emb y) = (W : Vec Ideal S1x64 .f32) y
  refine congrArg (W : Vec Ideal S1x64 .f32) (funext fun a => Fin.ext ?_)
  refine Pipeline.Window.rect_emb_val_of_index_zero win0_1 t a ?_ y
  rw [idx1]
  match a with
  | ⟨0, _⟩ => rfl
  | ⟨1, _⟩ => rfl

/-- The block of the sums. -/
theorem blk1 (c : Dev nD) (t : Fin cfg0.N) : (iblk m c 1 t : Vec Ideal S1x64 .f32) = V m c main_v1 := whole1 c t (V m c main_v1)

/-- The block of the sums of squares is the whole array, whatever it holds. -/
theorem whole2 (c : Dev nD) (t : Fin cfg0.N) (W : Buf (Elt Ideal) ((c : Thread nD τ).loc main_v4)) :
    (((cfg0.win 2).blk t).view.read (Elt Ideal) W : Vec Ideal S1x64 .f32) = W := by
  funext y
  show (W : Vec Ideal S1x64 .f32) (((cfg0.win 2).blk t).view.emb y) = (W : Vec Ideal S1x64 .f32) y
  refine congrArg (W : Vec Ideal S1x64 .f32) (funext fun a => Fin.ext ?_)
  refine Pipeline.Window.rect_emb_val_of_index_zero win0_2 t a ?_ y
  rw [idx2]
  match a with
  | ⟨0, _⟩ => rfl
  | ⟨1, _⟩ => rfl

/-- The block of the sums of squares. -/
theorem blk2 (c : Dev nD) (t : Fin cfg0.N) : (iblk m c 2 t : Vec Ideal S1x64 .f32) = V m c main_v4 := whole2 c t (V m c main_v4)

/-- The block of the scales is the whole array, whatever it holds. -/
theorem whole3 (c : Dev nD) (t : Fin cfg0.N) (W : Buf (Elt Ideal) ((c : Thread nD τ).loc main_v12)) :
    (((cfg0.win 3).blk t).view.read (Elt Ideal) W : Vec Ideal S1x64 .f32) = W := by
  funext y
  show (W : Vec Ideal S1x64 .f32) (((cfg0.win 3).blk t).view.emb y) = (W : Vec Ideal S1x64 .f32) y
  refine congrArg (W : Vec Ideal S1x64 .f32) (funext fun a => Fin.ext ?_)
  refine Pipeline.Window.rect_emb_val_of_index_zero win0_3 t a ?_ y
  rw [idx3]
  match a with
  | ⟨0, _⟩ => rfl
  | ⟨1, _⟩ => rfl

/-- The block of the scales. -/
theorem blk3 (c : Dev nD) (t : Fin cfg0.N) : (iblk m c 3 t : Vec Ideal S1x64 .f32) = V m c main_v12 := whole3 c t (V m c main_v12)

/-- The block of the shifts is the whole array, whatever it holds. -/
theorem whole4 (c : Dev nD) (t : Fin cfg0.N) (W : Buf (Elt Ideal) ((c : Thread nD τ).loc main_v13)) :
    (((cfg0.win 4).blk t).view.read (Elt Ideal) W : Vec Ideal S1x64 .f32) = W := by
  funext y
  show (W : Vec Ideal S1x64 .f32) (((cfg0.win 4).blk t).view.emb y) = (W : Vec Ideal S1x64 .f32) y
  refine congrArg (W : Vec Ideal S1x64 .f32) (funext fun a => Fin.ext ?_)
  refine Pipeline.Window.rect_emb_val_of_index_zero win0_4 t a ?_ y
  rw [idx4]
  match a with
  | ⟨0, _⟩ => rfl
  | ⟨1, _⟩ => rfl

/-- The block of the shifts. -/
theorem blk4 (c : Dev nD) (t : Fin cfg0.N) : (iblk m c 4 t : Vec Ideal S1x64 .f32) = V m c main_v13 := whole4 c t (V m c main_v13)

/-- The block of the queries' first coordinates is the whole array, whatever it holds. -/
theorem whole5 (c : Dev nD) (t : Fin cfg0.N) (W : Buf (Elt Ideal) ((c : Thread nD τ).loc main_v7)) :
    (((cfg0.win 5).blk t).view.read (Elt Ideal) W : Vec Ideal S4x1024 .f32) = W := by
  funext y
  show (W : Vec Ideal S4x1024 .f32) (((cfg0.win 5).blk t).view.emb y) = (W : Vec Ideal S4x1024 .f32) y
  refine congrArg (W : Vec Ideal S4x1024 .f32) (funext fun a => Fin.ext ?_)
  refine Pipeline.Window.rect_emb_val_of_index_zero win0_5 t a ?_ y
  rw [idx5]
  match a with
  | ⟨0, _⟩ => rfl
  | ⟨1, _⟩ => rfl

/-- The block of the queries' first coordinates. -/
theorem blk5 (c : Dev nD) (t : Fin cfg0.N) : (iblk m c 5 t : Vec Ideal S4x1024 .f32) = V m c main_v7 := whole5 c t (V m c main_v7)

/-- The block of the queries' second coordinates is the whole array, whatever it holds. -/
theorem whole6 (c : Dev nD) (t : Fin cfg0.N) (W : Buf (Elt Ideal) ((c : Thread nD τ).loc main_v9)) :
    (((cfg0.win 6).blk t).view.read (Elt Ideal) W : Vec Ideal S4x1024 .f32) = W := by
  funext y
  show (W : Vec Ideal S4x1024 .f32) (((cfg0.win 6).blk t).view.emb y) = (W : Vec Ideal S4x1024 .f32) y
  refine congrArg (W : Vec Ideal S4x1024 .f32) (funext fun a => Fin.ext ?_)
  refine Pipeline.Window.rect_emb_val_of_index_zero win0_6 t a ?_ y
  rw [idx6]
  match a with
  | ⟨0, _⟩ => rfl
  | ⟨1, _⟩ => rfl

/-- The block of the queries' second coordinates. -/
theorem blk6 (c : Dev nD) (t : Fin cfg0.N) : (iblk m c 6 t : Vec Ideal S4x1024 .f32) = V m c main_v9 := whole6 c t (V m c main_v9)

/-- The block of the queries' third coordinates is the whole array, whatever it holds. -/
theorem whole7 (c : Dev nD) (t : Fin cfg0.N) (W : Buf (Elt Ideal) ((c : Thread nD τ).loc main_v11)) :
    (((cfg0.win 7).blk t).view.read (Elt Ideal) W : Vec Ideal S4x1024 .f32) = W := by
  funext y
  show (W : Vec Ideal S4x1024 .f32) (((cfg0.win 7).blk t).view.emb y) = (W : Vec Ideal S4x1024 .f32) y
  refine congrArg (W : Vec Ideal S4x1024 .f32) (funext fun a => Fin.ext ?_)
  refine Pipeline.Window.rect_emb_val_of_index_zero win0_7 t a ?_ y
  rw [idx7]
  match a with
  | ⟨0, _⟩ => rfl
  | ⟨1, _⟩ => rfl

/-- The block of the queries' third coordinates. -/
theorem blk7 (c : Dev nD) (t : Fin cfg0.N) : (iblk m c 7 t : Vec Ideal S4x1024 .f32) = V m c main_v11 := whole7 c t (V m c main_v11)

/-! ## The result array -/

theorem hz2 : (![0, 0] : Fin 2 → ℕ) = fun _ => 0 := by decide

theorem hz3 : (![0, 0, 0] : Fin 3 → ℕ) = fun _ => 0 := by decide

/-- The queries and the features side by side. -/
def result (A : In 4 1024 16 64) (q : Vec Ideal S4x1024x3 .f32) : Vec Ideal S4x1024x67 .f32 :=
  concatenate S4x1024x67 2 [⟨S4x1024x3, q⟩, ⟨S4x1024x64, fun i => A.feat cnt (i 0) (i 1) (i 2)⟩] concatenates_S4x1024x3_S4x1024x64_S4x1024x67_d2

/-- The features of blocks that hold a stage's numbers. -/
theorem pay_feat (A : In 4 1024 16 64) (x0 : Vec Ideal S4x1024x64 .f32) (x1 x2 x3 x4 : Vec Ideal S1x64 .f32) (h0 : ∀ b r j, x0 (ix3 b r j) = A.top b r j)
    (h1 : ∀ j, x1 (ix2 (0 : Fin 1) j) = A.total j) (h2 : ∀ j, x2 (ix2 (0 : Fin 1) j) = A.totalSq j) (h3 : ∀ j, x3 (ix2 (0 : Fin 1) j) = A.g (ix1 j))
    (h4 : ∀ j, x4 (ix2 (0 : Fin 1) j) = A.b (ix1 j)) : k0_pay2 x1 x2 x3 x0 x4 = fun i => A.feat cnt (i 0) (i 1) (i 2) := by
  suffices h : ∀ (b : Fin 4) (r : Fin 1024) (j : Fin 64), k0_pay2 x1 x2 x3 x0 x4 (ix3 b r j) = A.feat cnt b r j by
    funext i
    exact (congrArg (k0_pay2 x1 x2 x3 x0 x4) (eq_ix3 i)).trans (h (i 0) (i 1) (i 2))
  intro b r j
  refine (pay2_apply x1 x2 x3 x4 x0 b r j).trans ?_
  rw [h1, h2, h3, h4, h0]
  rfl

/-- The three columns of coordinates side by side. -/
def coords (x5 x6 x7 : Vec Ideal S4x1024 .f32) : Vec Ideal S4x1024x3 .f32 :=
  concatenate S4x1024x3 2 [⟨S4x1024x1, k0_pay3 x5⟩, ⟨S4x1024x1, k0_pay4 x6⟩, ⟨S4x1024x1, shapeCast S4x1024x1 (k0_pay5 x7) shapeCasts_S4x1024_S4x1024x1⟩]
    concatenates_S4x1024x1_S4x1024x1_S4x1024x1_S4x1024x3_d2

/-- The body loads whole blocks and stores one. -/
theorem out_eq (x0 : Vec Ideal S4x1024x64 .f32) (x1 x2 x3 x4 : Vec Ideal S1x64 .f32) (x5 x6 x7 : Vec Ideal S4x1024 .f32) :
    out0_8 x0 x1 x2 x3 x4 x5 x6 x7 = concatenate S4x1024x67 2 [⟨S4x1024x3, coords x5 x6 x7⟩, ⟨S4x1024x64, k0_pay2 x1 x2 x3 x0 x4⟩]
      concatenates_S4x1024x3_S4x1024x64_S4x1024x67_d2 := by
  unfold out0_8
  simp only [View.canon_unit_zero (S := S4x1024x67) hz3, View.ld_unit_zero (S := S1x64) hz2, View.ld_unit_zero (S := S4x1024) hz2,
    View.ld_unit_zero (S := S4x1024x64) hz3]
  rfl

/-- They are the queries. -/
theorem pay_q (q : Vec Ideal S4x1024x3 .f32) (x5 x6 x7 : Vec Ideal S4x1024 .f32) (h5 : ∀ b r, x5 (ix2 b r) = q (ix3 b r (0 : Fin 3)))
    (h6 : ∀ b r, x6 (ix2 b r) = q (ix3 b r (1 : Fin 3))) (h7 : ∀ b r, x7 (ix2 b r) = q (ix3 b r (2 : Fin 3))) : coords x5 x6 x7 = q := by
  suffices h : ∀ (b : Fin 4) (r : Fin 1024) (j : Fin 3), coords x5 x6 x7 (ix3 b r j) = q (ix3 b r j) by
    funext i
    exact (congrArg (coords x5 x6 x7) (eq_ix3 i)).trans ((h (i 0) (i 1) (i 2)).trans (congrArg q (eq_ix3 i).symm))
  intro b r j
  match j with
  | ⟨0, _⟩ => exact Eq.trans (by pointwise [coords, k0_pay3, k0_pay4, k0_pay5]) (h5 b r)
  | ⟨1, _⟩ => exact Eq.trans (by pointwise [coords, k0_pay3, k0_pay4, k0_pay5]) (h6 b r)
  | ⟨2, _⟩ => exact Eq.trans (by pointwise [coords, k0_pay3, k0_pay4, k0_pay5]) (h7 b r)

/-- What the one point leaves. -/
theorem after (c : Dev nD) (t : Fin cfg0.N) : ((dats m 0 c).after 8 t : Vec Ideal S4x1024x67 .f32) = result (args m c) (qs m c) := by
  rw [after0_8, out_eq]
  rw [pay_q (qs m c) (iblk m c 5 t) (iblk m c 6 t) (iblk m c 7 t) (fun b r => by rw [blk5, V7]) (fun b r => by rw [blk6, V9]) (fun b r => by rw [blk7, V11]),
    pay_feat (args m c) (iblk m c 0 t) (iblk m c 1 t) (iblk m c 2 t) (iblk m c 3 t) (iblk m c 4 t) (fun b r j => by rw [blk0, V5])
      (fun j => by rw [blk1, V1]) (fun j => by rw [blk2, V4]) (fun j => by rw [blk3, V12]) (fun j => by rw [blk4, V13])]
  rfl

/-- THE RESULT ARRAY holds the queries and the features. -/
theorem arr (c : Dev nD) : (dats m 0 c).arrAt 8 cfg0.N = result (args m c) (qs m c) := by
  refine (dats m 0 c).arrAt_eq_of_after_last 8 tl (by decide +kernel) _ fun y => ?_
  blk_simp
  rw [after]

end Cert.Norm2Array

end
-- ==== Proof.NormRef2Array.lean ====
/-
  THE REFERENCE'S RESULT of the second stage's normalisation as a function of the arguments (`Norm.In`): the queries and the largest normalised
  products, which are the kernel's features, side by side.
-/
module

public import proofs.«01_k».proof.Proof.Norm
public import proofs.«01_k».proof.Proof.NormRead
public import proofs.«01_k».proof.Proof.Gen.NormRef2Ideal.Read

@[expose] public section

set_option maxRecDepth 16384

noncomputable section

namespace Cert.NormRef2Array

open Cert.NormRef2Ideal Cert.NormRef2Ideal.Gen Cert.NormRef2Ideal.Read Idealize.ShloMosaic Cert.Norm Cert.NormRead

attribute [local instance] Cert.NormRef2Ideal.Gen.facts

variable (x0 : FVec Ideal ⟨4, ![4, 1024, 16, 64]⟩ .f32) (x2 x3 : FVec Ideal ⟨1, ![64]⟩ .f32)

/-- The arguments. -/
def args : In 4 1024 16 64 where
  y := x0
  g := x2
  b := x3

/-- The number of a column's products. -/
abbrev cnt : EReal := Ideal.ofBits .f32 0x47800000#32

/-- It is their number. -/
theorem cnt_eq : cnt = ((65536 : ℝ) : EReal) := by
  simp [cnt, Ideal.ofBits, Ideal.ieee]
  rw [← EReal.coe_mul]
  norm_num

/-- The number less nothing, as the variance's divisor is written. -/
theorem v8_apply (i : S_.Idx) : val_main_call0_v8 (F := Ideal) i = cnt := by
  rw [val_main_call0_v8_apply, val_main_call0_cst_1_apply, val_main_call0_v7_apply, val_main_c_apply]
  show cnt - (((0#32 : BitVec 32).toInt : ℝ) : EReal) = cnt
  simp

/-- The means. -/
theorem v3_apply (u v w : Fin 1) (j : Fin 64) : val_main_v3 (F := Ideal) x0 (ix4 u v w j) = (args x0 x2 x3).mean cnt j := by
  rw [val_main_v3_apply, val_main_v1_apply, val_main_v2_apply, val_main_cst_0_apply]
  have e : idx_main_v1 (ix4 u v w j) = ix1 j := by
    funext c; match c with | ⟨0, _⟩ => rfl
  rw [e]
  exact congrArg (fun a : EReal => Ideal.div a cnt) (reduceSum _ _ _ _ Ideal.ofBits_zero_f32 j)

/-- The means the variance is taken about. -/
theorem w3_apply (u v w : Fin 1) (j : Fin 64) : val_main_call0_v3 (F := Ideal) x0 (ix4 u v w j) = (args x0 x2 x3).mean cnt j := by
  rw [val_main_call0_v3_apply, val_main_call0_v1_apply, val_main_call0_v2_apply, val_main_call0_cst_0_apply]
  have e : idx_main_call0_v1 (ix4 u v w j) = ix1 j := by
    funext c; match c with | ⟨0, _⟩ => rfl
  rw [e]
  exact congrArg (fun a : EReal => Ideal.div a cnt) (reduceSum _ _ _ _ Ideal.ofBits_zero_f32 j)

/-- The squared deviations. -/
theorem w6_apply (b : Fin 4) (r : Fin 1024) (k : Fin 16) (j : Fin 64) : val_main_call0_v6 (F := Ideal) x0 (ix4 b r k j)
    = ((x0 (ix4 b r k j) : EReal) - (args x0 x2 x3).mean cnt j) * (x0 (ix4 b r k j) - (args x0 x2 x3).mean cnt j) := by
  have e : idx_main_call0_v4 (ix4 b r k j) = ix4 (0 : Fin 1) (0 : Fin 1) (0 : Fin 1) j := by
    funext c; match c with | ⟨0, _⟩ => rfl | ⟨1, _⟩ => rfl | ⟨2, _⟩ => rfl | ⟨3, _⟩ => rfl
  rw [val_main_call0_v6_apply, val_main_call0_v5_apply, val_main_call0_v4_apply, e, w3_apply x0 x2 x3]
  rfl

/-- The variances. -/
theorem v4_apply (u v w : Fin 1) (j : Fin 64) : val_main_v4 (F := Ideal) x0 (ix4 u v w j) = (args x0 x2 x3).varR cnt j := by
  have e : idx_main_call0_v10 (ix4 u v w j) = ix1 j := by
    funext c; match c with | ⟨0, _⟩ => rfl
  have h : val_main_call0_v12 (F := Ideal) x0 (ix4 u v w j) = (args x0 x2 x3).varR cnt j := by
    rw [val_main_call0_v12_apply, val_main_call0_v10_apply, val_main_call0_v11_apply, v8_apply, e]
    refine (congrArg (fun a : EReal => Ideal.div a cnt) (reduceSum _ _ _ _ Ideal.ofBits_zero_f32 j)).trans ?_
    unfold In.varR
    exact congrArg (fun a : EReal => Ideal.div a cnt) (Finset.sum_congr rfl fun b _ => Finset.sum_congr rfl fun r _ => Finset.sum_congr rfl fun k _ =>
      w6_apply x0 x2 x3 b r k j)
  have hp : ∀ i : S1x1x1x64.Idx, broadcastInDim S1x1x1x64 ![] bcast_S_S1x1x1x64 (val_main_call0_v13 (F := Ideal)) i = 1#1 := by
    intro i
    show val_main_call0_v13 (F := Ideal) _ = _
    rw [val_main_call0_v13_apply, v8_apply, val_main_call0_cst_3_apply]
    show Ideal.cmp .ogt cnt (Ideal.ofBits .f32 0x00000000#32) = 1#1
    rw [cnt_eq, Ideal.ofBits_zero_f32]
    show BitVec.ofBool (decide ((0 : EReal) < ((65536 : ℝ) : EReal))) = 1#1
    rw [decide_eq_true (by exact_mod_cast (by norm_num : (0 : ℝ) < 65536))]
    rfl
  rw [← h]
  show Scalar.select _ _ _ = _
  rw [hp]
  rfl

/-- The normalised products. -/
theorem v18_apply (b : Fin 4) (r : Fin 1024) (k : Fin 16) (j : Fin 64) :
    val_main_v18 (F := Ideal) x0 x2 x3 (ix4 b r k j) = (args x0 x2 x3).normed cnt b r k j := by
  have e5 : idx_main_v5 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e10 : idx_main_v10 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e12 : idx_main_v12 (idx_main_v13 (ix4 b r k j)) = ix1 j := by
    funext c; match c with | ⟨0, _⟩ => rfl
  have e15 : idx_main_v15 (idx_main_v16 (ix4 b r k j)) = ix1 j := by
    funext c; match c with | ⟨0, _⟩ => rfl
  rw [val_main_v18_apply, val_main_call1_v0_apply, val_main_call1_cst_apply, val_main_v17_apply, val_main_v16_apply, val_main_v15_apply, e15,
    val_main_v14_apply, val_main_v13_apply, val_main_v12_apply, e12, val_main_v11_apply, val_main_v10_apply, e10, val_main_v9_apply,
    val_main_v8_apply, v4_apply x0 x2 x3, val_main_v7_apply, val_main_cst_1_apply, val_main_v6_apply, val_main_v5_apply, e5, v3_apply x0 x2 x3]
  unfold In.normed
  rw [← Ideal.ofBits_zero_f32]
  rfl

variable {x0 x2 x3} (ok : (args x0 x2 x3).Ok)
include ok

/-- The features. -/
theorem v19_apply (b : Fin 4) (r : Fin 1024) (j : Fin 64) : val_main_v19 (F := Ideal) x0 x2 x3 (ix3 b r j) = (args x0 x2 x3).feat cnt b r j := by
  have h := In.feat_eq ok (by decide) 65536 (by norm_num) (by norm_num) b r j
  rw [← cnt_eq] at h
  rw [← h]
  unfold val_main_v19
  refine (reduceMax _ _ _ _ ofBits_bot b r j).trans ?_
  exact Finset.sup_congr rfl fun k _ => v18_apply x0 x2 x3 b r k j

/-- THE RESULT: the queries and the features side by side. -/
theorem result_eq (x1 : FVec Ideal ⟨3, ![4, 1024, 3]⟩ .f32) : val_main_v20 (F := Ideal) x0 x1 x2 x3
    = concatenate S4x1024x67 2 [⟨S4x1024x3, x1⟩, ⟨S4x1024x64, fun i => (args x0 x2 x3).feat cnt (i 0) (i 1) (i 2)⟩]
        concatenates_S4x1024x3_S4x1024x64_S4x1024x67_d2 := by
  have h : val_main_v19 (F := Ideal) x0 x2 x3 = fun i => (args x0 x2 x3).feat cnt (i 0) (i 1) (i 2) := by
    funext i
    exact (congrArg (val_main_v19 (F := Ideal) x0 x2 x3) (eq_ix3 i)).trans (v19_apply ok (i 0) (i 1) (i 2))
  unfold val_main_v20
  rw [h]

end Cert.NormRef2Array

end
-- ==== Proof.NormStage2.lean ====
/-
  THE CLAIM OF THE SECOND STAGE'S NORMALISATION, 1024 queries a cloud and 64 columns: under its precondition the call's result array is the
  reference's.
-/
module

public import proofs.«01_k».proof.Defs
public import proofs.«01_k».proof.Proof.Bounds
public import proofs.«01_k».proof.Proof.Norm2Array
public import proofs.«01_k».proof.Proof.NormRef2Array
public import proofs.«01_k».proof.Proof.Gen.Norm2Ideal.Value
public import proofs.«01_k».proof.Proof.Gen.NormRef2Ideal.Run
public import Idealize.ShloMosaic.Adequacy
public import Idealize.ShloMosaic.Init

@[expose] public section

set_option maxRecDepth 16384

noncomputable section

namespace Cert.NormStage2

open Idealize.ShloMosaic Idealize.SL.Sem Cert.Norm

/-- The side conditions of the precondition's operations. -/
theorem preFacts : Cert.Pre_nonneg2.Facts where
  bcast_S_S64 := by decide

attribute [local instance] Cert.Norm2Ideal.Gen.facts Cert.NormRef2Ideal.Gen.facts preFacts

/-- The precondition says that the scales are not negative. -/
theorem ok (m : (ℓ : Loc Cert.Norm2Ideal.nD Cert.Norm2Ideal.τ Cert.Norm2Ideal.sig) → Buf (Elt Ideal) ℓ)
    (h : Cert.Pre_Norm2Ideal_nonneg2 m) (c : Dev Cert.Norm2Ideal.nD) : (Cert.Norm2Array.args m c).Ok :=
  fun i => Cert.Bounds.zero_le (congrFun (h c) i)

/-- The reference runs, leaves its arguments and has no semaphore. -/
theorem refFrame : Cert.quiescent_NormRef2Ideal := fun m ρ _ =>
  (θ_run Cert.NormRef2Ideal.defs _ _).mono (fun r h => ⟨fun c => (h c).2, sem_eq_zero_of_no_sems (by decide) r.2⟩)
    (Cert.NormRef2Ideal.Value.run (F := Ideal) m ρ)

/-- THE ALGEBRAIC CLAIM: from arguments that agree and meet the precondition both programs end with the same result and leave their
    arguments. -/
theorem algebraic : Cert.algebraic_Norm2Ideal_NormRef2Ideal_pre_nonneg2 := by
  intro m g m' g' hpre hag
  have hk := Cert.Norm2Ideal.Value.run_blocks (F := Ideal) m g
  have hr := Cert.NormRef2Ideal.Value.run (F := Ideal) m' g'
  have hok := ok m hpre
  have hargs : ∀ c : Dev Cert.NormRef2Ideal.nD, Cert.NormRef2Array.args (m' ((c.tc : Thread Cert.NormRef2Ideal.nD Cert.NormRef2Ideal.τ).loc Cert.NormRef2Ideal.main_arg0))
      (m' ((c.tc : Thread Cert.NormRef2Ideal.nD Cert.NormRef2Ideal.τ).loc Cert.NormRef2Ideal.main_arg2))
      (m' ((c.tc : Thread Cert.NormRef2Ideal.nD Cert.NormRef2Ideal.τ).loc Cert.NormRef2Ideal.main_arg3)) = Cert.Norm2Array.args m c := by
    intro c
    rw [(hag c).1, (hag c).2.2.1, (hag c).2.2.2]
    rfl
  refine ⟨fun c => (Cert.Norm2Ideal.Gen.dats m 0 c).arrAt 8 Cert.Norm2Ideal.cfg0.N, hk, ?_⟩
  refine (θ_run Cert.NormRef2Ideal.defs _ _).mono (fun r h c => ?_) hr
  obtain ⟨h0, h1⟩ := h c
  have hok' := hok c
  rw [← hargs c] at hok'
  refine ⟨h0.trans ?_, h1⟩
  refine (Cert.NormRef2Ideal.Read.val_main_v20_eq (F := Ideal) _ _ _ _).trans ((Cert.NormRef2Array.result_eq hok' _).trans ?_)
  rw [hargs c, (hag c).2.1]
  exact (Cert.Norm2Array.arr m c).symm

end Cert.NormStage2

end
-- ==== Proof.Norm3Array.lean ====
/-
  THE RESULT ARRAY OF THE THIRD STAGE'S NORMALISATION, 256 queries a cloud and 128 columns, as a function of the arguments (`Norm.In`): the queries and
  their features side by side.
-/
module

public import proofs.«01_k».proof.Proof.Norm
public import proofs.«01_k».proof.Proof.NormRead
public import proofs.«01_k».proof.Proof.RefRead
public import proofs.«01_k».proof.Proof.Gen.Norm3Ideal.Value
public import Idealize.ShloMosaic.Lib.ValueLayoutCasts
public import Idealize.ShloMosaic.Lib.Pipeline.Value
public import Idealize.ShloMosaic.Lib.Pipeline.ValueKit.Geometry

@[expose] public section

set_option maxRecDepth 16384

noncomputable section

namespace Cert.Norm3Array

open Cert.Norm3Ideal Cert.Norm3Ideal.Gen Idealize.ShloMosaic Idealize.ShloMosaic.TcCoe Idealize.SL.Sem Cert.Norm Cert.RefRead Cert.NormRead

attribute [local instance] Cert.Norm3Ideal.Gen.facts

/-- The number of a column's products. -/
abbrev cnt : EReal := Ideal.ofBits .f32 0x46800000#32

/-! ## The body's value, at an index -/

/-- The shifted, scaled and cut off rows. -/
theorem pay2_apply (v0 v4 v10 v24 : Vec Ideal S1x128 .f32) (v16 : Vec Ideal S4x256x128 .f32) (b : Fin 4) (r : Fin 256) (j : Fin 128) :
    k0_pay2 v0 v4 v10 v16 v24 (ix3 b r j)
      = act (Ideal.div (v0 (ix2 (0 : Fin 1) j)) cnt)
          (Ideal.div (v10 (ix2 (0 : Fin 1) j)) (Ideal.sqrt ((Ideal.div (v4 (ix2 (0 : Fin 1) j)) cnt
            - Ideal.div (v0 (ix2 (0 : Fin 1) j)) cnt * Ideal.div (v0 (ix2 (0 : Fin 1) j)) cnt) + eps)))
          (v24 (ix2 (0 : Fin 1) j)) (v16 (ix3 b r j)) := by
  pointwise [k0_pay2]
  rfl

/-! ## The host's arrays -/

/-- A vector reshaped to a row. -/
theorem row_cast (x : Vec Ideal S128 .f32) (j : Fin 128) : shapeCast S1x128 x shapeCasts_S128_S1x128 (ix2 (0 : Fin 1) j) = x (ix1 j) := by
  rw [ix2_eq_valueIdx, ix1_eq_valueIdx]
  exact ValueIdx.shapeCast_a_1a_apply ..

variable (m : (ℓ : Loc nD τ sig) → Buf (Elt Ideal) ℓ)

/-- The arguments. -/
def args (c : Dev nD) : In 4 256 16 128 where
  y := m ((c : Thread nD τ).loc main_arg0)
  g := m ((c : Thread nD τ).loc main_arg2)
  b := m ((c : Thread nD τ).loc main_arg3)

/-- The queries. -/
def qs (c : Dev nD) : Vec Ideal S4x256x3 .f32 := m ((c : Thread nD τ).loc main_arg1)

/-- The largest product of each query. -/
theorem V5 (c : Dev nD) (b : Fin 4) (r : Fin 256) (j : Fin 128) : (V m c main_v5 : Vec Ideal S4x256x128 .f32) (ix3 b r j) = (args m c).top b r j := by
  unfold_abbrev_sides
  after_results
  exact reduceMax _ _ _ _ ofBits_bot b r j

/-- The sums of the columns. -/
theorem V1 (c : Dev nD) (j : Fin 128) : (V m c main_v1 : Vec Ideal S1x128 .f32) (ix2 (0 : Fin 1) j) = (args m c).total j := by
  unfold_abbrev_sides
  after_results
  refine (row_apply _ _ j).trans ?_
  exact reduceSum _ _ _ _ Ideal.ofBits_zero_f32 j

/-- The sums of the columns' squares. -/
theorem V4 (c : Dev nD) (j : Fin 128) : (V m c main_v4 : Vec Ideal S1x128 .f32) (ix2 (0 : Fin 1) j) = (args m c).totalSq j := by
  unfold_abbrev_sides
  after_results
  refine (row_apply _ _ j).trans ?_
  exact reduceSum _ _ _ _ Ideal.ofBits_zero_f32 j

/-- The scales. -/
theorem V12 (c : Dev nD) (j : Fin 128) : (V m c main_v12 : Vec Ideal S1x128 .f32) (ix2 (0 : Fin 1) j) = (args m c).g (ix1 j) := by
  unfold_abbrev_sides
  after_results
  generalize hx : (m ((c : Thread nD τ).loc main_arg2) : Vec Ideal S128 .f32) = x
  exact row_cast x j

/-- The shifts. -/
theorem V13 (c : Dev nD) (j : Fin 128) : (V m c main_v13 : Vec Ideal S1x128 .f32) (ix2 (0 : Fin 1) j) = (args m c).b (ix1 j) := by
  unfold_abbrev_sides
  after_results
  generalize hx : (m ((c : Thread nD τ).loc main_arg3) : Vec Ideal S128 .f32) = x
  exact row_cast x j

/-- The first coordinates of the queries. -/
theorem V7 (c : Dev nD) (b : Fin 4) (r : Fin 256) : (V m c main_v7 : Vec Ideal S4x256 .f32) (ix2 b r) = qs m c (ix3 b r (0 : Fin 3)) := by
  unfold_abbrev_sides
  after_results
  unfold qs
  generalize hx : (m ((c : Thread nD τ).loc main_arg1) : Vec Ideal S4x256x3 .f32) = x
  pointwise []

/-- The second coordinates of the queries. -/
theorem V9 (c : Dev nD) (b : Fin 4) (r : Fin 256) : (V m c main_v9 : Vec Ideal S4x256 .f32) (ix2 b r) = qs m c (ix3 b r (1 : Fin 3)) := by
  unfold_abbrev_sides
  after_results
  unfold qs
  generalize hx : (m ((c : Thread nD τ).loc main_arg1) : Vec Ideal S4x256x3 .f32) = x
  pointwise []

/-- The third coordinates of the queries. -/
theorem V11 (c : Dev nD) (b : Fin 4) (r : Fin 256) : (V m c main_v11 : Vec Ideal S4x256 .f32) (ix2 b r) = qs m c (ix3 b r (2 : Fin 3)) := by
  unfold_abbrev_sides
  after_results
  unfold qs
  generalize hx : (m ((c : Thread nD τ).loc main_arg1) : Vec Ideal S4x256x3 .f32) = x
  pointwise []

/-! ## The windows' blocks: there is one point, and every block is the whole array -/

/-- The one point. -/
abbrev tl : Fin cfg0.N := (⟨0, by decide +kernel⟩ : Fin grid0.N)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)

/-- The block of the largest products is the whole array, whatever it holds. -/
theorem whole0 (c : Dev nD) (t : Fin cfg0.N) (W : Buf (Elt Ideal) ((c : Thread nD τ).loc main_v5)) :
    (((cfg0.win 0).blk t).view.read (Elt Ideal) W : Vec Ideal S4x256x128 .f32) = W := by
  funext y
  show (W : Vec Ideal S4x256x128 .f32) (((cfg0.win 0).blk t).view.emb y) = (W : Vec Ideal S4x256x128 .f32) y
  refine congrArg (W : Vec Ideal S4x256x128 .f32) (funext fun a => Fin.ext ?_)
  refine Pipeline.Window.rect_emb_val_of_index_zero win0_0 t a ?_ y
  rw [idx0]
  match a with
  | ⟨0, _⟩ => rfl
  | ⟨1, _⟩ => rfl
  | ⟨2, _⟩ => rfl

/-- The block of the largest products. -/
theorem blk0 (c : Dev nD) (t : Fin cfg0.N) : (iblk m c 0 t : Vec Ideal S4x256x128 .f32) = V m c main_v5 := whole0 c t (V m c main_v5)

/-- The block of the sums is the whole array, whatever it holds. -/
theorem whole1 (c : Dev nD) (t : Fin cfg0.N) (W : Buf (Elt Ideal) ((c : Thread nD τ).loc main_v1)) :
    (((cfg0.win 1).blk t).view.read (Elt Ideal) W : Vec Ideal S1x128 .f32) = W := by
  funext y
  show (W : Vec Ideal S1x128 .f32) (((cfg0.win 1).blk t).view.emb y) = (W : Vec Ideal S1x128 .f32) y
  refine congrArg (W : Vec Ideal S1x128 .f32) (funext fun a => Fin.ext ?_)
  refine Pipeline.Window.rect_emb_val_of_index_zero win0_1 t a ?_ y
  rw [idx1]
  match a with
  | ⟨0, _⟩ => rfl
  | ⟨1, _⟩ => rfl

/-- The block of the sums. -/
theorem blk1 (c : Dev nD) (t : Fin cfg0.N) : (iblk m c 1 t : Vec Ideal S1x128 .f32) = V m c main_v1 := whole1 c t (V m c main_v1)

/-- The block of the sums of squares is the whole array, whatever it holds. -/
theorem whole2 (c : Dev nD) (t : Fin cfg0.N) (W : Buf (Elt Ideal) ((c : Thread nD τ).loc main_v4)) :
    (((cfg0.win 2).blk t).view.read (Elt Ideal) W : Vec Ideal S1x128 .f32) = W := by
  funext y
  show (W : Vec Ideal S1x128 .f32) (((cfg0.win 2).blk t).view.emb y) = (W : Vec Ideal S1x128 .f32) y
  refine congrArg (W : Vec Ideal S1x128 .f32) (funext fun a => Fin.ext ?_)
  refine Pipeline.Window.rect_emb_val_of_index_zero win0_2 t a ?_ y
  rw [idx2]
  match a with
  | ⟨0, _⟩ => rfl
  | ⟨1, _⟩ => rfl

/-- The block of the sums of squares. -/
theorem blk2 (c : Dev nD) (t : Fin cfg0.N) : (iblk m c 2 t : Vec Ideal S1x128 .f32) = V m c main_v4 := whole2 c t (V m c main_v4)

/-- The block of the scales is the whole array, whatever it holds. -/
theorem whole3 (c : Dev nD) (t : Fin cfg0.N) (W : Buf (Elt Ideal) ((c : Thread nD τ).loc main_v12)) :
    (((cfg0.win 3).blk t).view.read (Elt Ideal) W : Vec Ideal S1x128 .f32) = W := by
  funext y
  show (W : Vec Ideal S1x128 .f32) (((cfg0.win 3).blk t).view.emb y) = (W : Vec Ideal S1x128 .f32) y
  refine congrArg (W : Vec Ideal S1x128 .f32) (funext fun a => Fin.ext ?_)
  refine Pipeline.Window.rect_emb_val_of_index_zero win0_3 t a ?_ y
  rw [idx3]
  match a with
  | ⟨0, _⟩ => rfl
  | ⟨1, _⟩ => rfl

/-- The block of the scales. -/
theorem blk3 (c : Dev nD) (t : Fin cfg0.N) : (iblk m c 3 t : Vec Ideal S1x128 .f32) = V m c main_v12 := whole3 c t (V m c main_v12)

/-- The block of the shifts is the whole array, whatever it holds. -/
theorem whole4 (c : Dev nD) (t : Fin cfg0.N) (W : Buf (Elt Ideal) ((c : Thread nD τ).loc main_v13)) :
    (((cfg0.win 4).blk t).view.read (Elt Ideal) W : Vec Ideal S1x128 .f32) = W := by
  funext y
  show (W : Vec Ideal S1x128 .f32) (((cfg0.win 4).blk t).view.emb y) = (W : Vec Ideal S1x128 .f32) y
  refine congrArg (W : Vec Ideal S1x128 .f32) (funext fun a => Fin.ext ?_)
  refine Pipeline.Window.rect_emb_val_of_index_zero win0_4 t a ?_ y
  rw [idx4]
  match a with
  | ⟨0, _⟩ => rfl
  | ⟨1, _⟩ => rfl

/-- The block of the shifts. -/
theorem blk4 (c : Dev nD) (t : Fin cfg0.N) : (iblk m c 4 t : Vec Ideal S1x128 .f32) = V m c main_v13 := whole4 c t (V m c main_v13)

/-- The block of the queries' first coordinates is the whole array, whatever it holds. -/
theorem whole5 (c : Dev nD) (t : Fin cfg0.N) (W : Buf (Elt Ideal) ((c : Thread nD τ).loc main_v7)) :
    (((cfg0.win 5).blk t).view.read (Elt Ideal) W : Vec Ideal S4x256 .f32) = W := by
  funext y
  show (W : Vec Ideal S4x256 .f32) (((cfg0.win 5).blk t).view.emb y) = (W : Vec Ideal S4x256 .f32) y
  refine congrArg (W : Vec Ideal S4x256 .f32) (funext fun a => Fin.ext ?_)
  refine Pipeline.Window.rect_emb_val_of_index_zero win0_5 t a ?_ y
  rw [idx5]
  match a with
  | ⟨0, _⟩ => rfl
  | ⟨1, _⟩ => rfl

/-- The block of the queries' first coordinates. -/
theorem blk5 (c : Dev nD) (t : Fin cfg0.N) : (iblk m c 5 t : Vec Ideal S4x256 .f32) = V m c main_v7 := whole5 c t (V m c main_v7)

/-- The block of the queries' second coordinates is the whole array, whatever it holds. -/
theorem whole6 (c : Dev nD) (t : Fin cfg0.N) (W : Buf (Elt Ideal) ((c : Thread nD τ).loc main_v9)) :
    (((cfg0.win 6).blk t).view.read (Elt Ideal) W : Vec Ideal S4x256 .f32) = W := by
  funext y
  show (W : Vec Ideal S4x256 .f32) (((cfg0.win 6).blk t).view.emb y) = (W : Vec Ideal S4x256 .f32) y
  refine congrArg (W : Vec Ideal S4x256 .f32) (funext fun a => Fin.ext ?_)
  refine Pipeline.Window.rect_emb_val_of_index_zero win0_6 t a ?_ y
  rw [idx6]
  match a with
  | ⟨0, _⟩ => rfl
  | ⟨1, _⟩ => rfl

/-- The block of the queries' second coordinates. -/
theorem blk6 (c : Dev nD) (t : Fin cfg0.N) : (iblk m c 6 t : Vec Ideal S4x256 .f32) = V m c main_v9 := whole6 c t (V m c main_v9)

/-- The block of the queries' third coordinates is the whole array, whatever it holds. -/
theorem whole7 (c : Dev nD) (t : Fin cfg0.N) (W : Buf (Elt Ideal) ((c : Thread nD τ).loc main_v11)) :
    (((cfg0.win 7).blk t).view.read (Elt Ideal) W : Vec Ideal S4x256 .f32) = W := by
  funext y
  show (W : Vec Ideal S4x256 .f32) (((cfg0.win 7).blk t).view.emb y) = (W : Vec Ideal S4x256 .f32) y
  refine congrArg (W : Vec Ideal S4x256 .f32) (funext fun a => Fin.ext ?_)
  refine Pipeline.Window.rect_emb_val_of_index_zero win0_7 t a ?_ y
  rw [idx7]
  match a with
  | ⟨0, _⟩ => rfl
  | ⟨1, _⟩ => rfl

/-- The block of the queries' third coordinates. -/
theorem blk7 (c : Dev nD) (t : Fin cfg0.N) : (iblk m c 7 t : Vec Ideal S4x256 .f32) = V m c main_v11 := whole7 c t (V m c main_v11)

/-! ## The result array -/

theorem hz2 : (![0, 0] : Fin 2 → ℕ) = fun _ => 0 := by decide

theorem hz3 : (![0, 0, 0] : Fin 3 → ℕ) = fun _ => 0 := by decide

/-- The queries and the features side by side. -/
def result (A : In 4 256 16 128) (q : Vec Ideal S4x256x3 .f32) : Vec Ideal S4x256x131 .f32 :=
  concatenate S4x256x131 2 [⟨S4x256x3, q⟩, ⟨S4x256x128, fun i => A.feat cnt (i 0) (i 1) (i 2)⟩] concatenates_S4x256x3_S4x256x128_S4x256x131_d2

/-- The features of blocks that hold a stage's numbers. -/
theorem pay_feat (A : In 4 256 16 128) (x0 : Vec Ideal S4x256x128 .f32) (x1 x2 x3 x4 : Vec Ideal S1x128 .f32) (h0 : ∀ b r j, x0 (ix3 b r j) = A.top b r j)
    (h1 : ∀ j, x1 (ix2 (0 : Fin 1) j) = A.total j) (h2 : ∀ j, x2 (ix2 (0 : Fin 1) j) = A.totalSq j) (h3 : ∀ j, x3 (ix2 (0 : Fin 1) j) = A.g (ix1 j))
    (h4 : ∀ j, x4 (ix2 (0 : Fin 1) j) = A.b (ix1 j)) : k0_pay2 x1 x2 x3 x0 x4 = fun i => A.feat cnt (i 0) (i 1) (i 2) := by
  suffices h : ∀ (b : Fin 4) (r : Fin 256) (j : Fin 128), k0_pay2 x1 x2 x3 x0 x4 (ix3 b r j) = A.feat cnt b r j by
    funext i
    exact (congrArg (k0_pay2 x1 x2 x3 x0 x4) (eq_ix3 i)).trans (h (i 0) (i 1) (i 2))
  intro b r j
  refine (pay2_apply x1 x2 x3 x4 x0 b r j).trans ?_
  rw [h1, h2, h3, h4, h0]
  rfl

/-- The three columns of coordinates side by side. -/
def coords (x5 x6 x7 : Vec Ideal S4x256 .f32) : Vec Ideal S4x256x3 .f32 :=
  concatenate S4x256x3 2 [⟨S4x256x1, k0_pay3 x5⟩, ⟨S4x256x1, k0_pay4 x6⟩, ⟨S4x256x1, shapeCast S4x256x1 (k0_pay5 x7) shapeCasts_S4x256_S4x256x1⟩]
    concatenates_S4x256x1_S4x256x1_S4x256x1_S4x256x3_d2

/-- The body loads whole blocks and stores one. -/
theorem out_eq (x0 : Vec Ideal S4x256x128 .f32) (x1 x2 x3 x4 : Vec Ideal S1x128 .f32) (x5 x6 x7 : Vec Ideal S4x256 .f32) :
    out0_8 x0 x1 x2 x3 x4 x5 x6 x7 = concatenate S4x256x131 2 [⟨S4x256x3, coords x5 x6 x7⟩, ⟨S4x256x128, k0_pay2 x1 x2 x3 x0 x4⟩]
      concatenates_S4x256x3_S4x256x128_S4x256x131_d2 := by
  unfold out0_8
  simp only [View.canon_unit_zero (S := S4x256x131) hz3, View.ld_unit_zero (S := S1x128) hz2, View.ld_unit_zero (S := S4x256) hz2,
    View.ld_unit_zero (S := S4x256x128) hz3]
  rfl

/-- They are the queries. -/
theorem pay_q (q : Vec Ideal S4x256x3 .f32) (x5 x6 x7 : Vec Ideal S4x256 .f32) (h5 : ∀ b r, x5 (ix2 b r) = q (ix3 b r (0 : Fin 3)))
    (h6 : ∀ b r, x6 (ix2 b r) = q (ix3 b r (1 : Fin 3))) (h7 : ∀ b r, x7 (ix2 b r) = q (ix3 b r (2 : Fin 3))) : coords x5 x6 x7 = q := by
  suffices h : ∀ (b : Fin 4) (r : Fin 256) (j : Fin 3), coords x5 x6 x7 (ix3 b r j) = q (ix3 b r j) by
    funext i
    exact (congrArg (coords x5 x6 x7) (eq_ix3 i)).trans ((h (i 0) (i 1) (i 2)).trans (congrArg q (eq_ix3 i).symm))
  intro b r j
  match j with
  | ⟨0, _⟩ => exact Eq.trans (by pointwise [coords, k0_pay3, k0_pay4, k0_pay5]) (h5 b r)
  | ⟨1, _⟩ => exact Eq.trans (by pointwise [coords, k0_pay3, k0_pay4, k0_pay5]) (h6 b r)
  | ⟨2, _⟩ => exact Eq.trans (by pointwise [coords, k0_pay3, k0_pay4, k0_pay5]) (h7 b r)

/-- What the one point leaves. -/
theorem after (c : Dev nD) (t : Fin cfg0.N) : ((dats m 0 c).after 8 t : Vec Ideal S4x256x131 .f32) = result (args m c) (qs m c) := by
  rw [after0_8, out_eq]
  rw [pay_q (qs m c) (iblk m c 5 t) (iblk m c 6 t) (iblk m c 7 t) (fun b r => by rw [blk5, V7]) (fun b r => by rw [blk6, V9]) (fun b r => by rw [blk7, V11]),
    pay_feat (args m c) (iblk m c 0 t) (iblk m c 1 t) (iblk m c 2 t) (iblk m c 3 t) (iblk m c 4 t) (fun b r j => by rw [blk0, V5])
      (fun j => by rw [blk1, V1]) (fun j => by rw [blk2, V4]) (fun j => by rw [blk3, V12]) (fun j => by rw [blk4, V13])]
  rfl

/-- THE RESULT ARRAY holds the queries and the features. -/
theorem arr (c : Dev nD) : (dats m 0 c).arrAt 8 cfg0.N = result (args m c) (qs m c) := by
  refine (dats m 0 c).arrAt_eq_of_after_last 8 tl (by decide +kernel) _ fun y => ?_
  blk_simp
  rw [after]

end Cert.Norm3Array

end
-- ==== Proof.NormRef3Array.lean ====
/-
  THE REFERENCE'S RESULT of the third stage's normalisation as a function of the arguments (`Norm.In`): the queries and the largest normalised
  products, which are the kernel's features, side by side.
-/
module

public import proofs.«01_k».proof.Proof.Norm
public import proofs.«01_k».proof.Proof.NormRead
public import proofs.«01_k».proof.Proof.Gen.NormRef3Ideal.Read

@[expose] public section

set_option maxRecDepth 16384

noncomputable section

namespace Cert.NormRef3Array

open Cert.NormRef3Ideal Cert.NormRef3Ideal.Gen Cert.NormRef3Ideal.Read Idealize.ShloMosaic Cert.Norm Cert.NormRead

attribute [local instance] Cert.NormRef3Ideal.Gen.facts

variable (x0 : FVec Ideal ⟨4, ![4, 256, 16, 128]⟩ .f32) (x2 x3 : FVec Ideal ⟨1, ![128]⟩ .f32)

/-- The arguments. -/
def args : In 4 256 16 128 where
  y := x0
  g := x2
  b := x3

/-- The number of a column's products. -/
abbrev cnt : EReal := Ideal.ofBits .f32 0x46800000#32

/-- It is their number. -/
theorem cnt_eq : cnt = ((16384 : ℝ) : EReal) := by
  simp [cnt, Ideal.ofBits, Ideal.ieee]
  rw [← EReal.coe_mul]
  norm_num

/-- The number less nothing, as the variance's divisor is written. -/
theorem v8_apply (i : S_.Idx) : val_main_call0_v8 (F := Ideal) i = cnt := by
  rw [val_main_call0_v8_apply, val_main_call0_cst_1_apply, val_main_call0_v7_apply, val_main_c_apply]
  show cnt - (((0#32 : BitVec 32).toInt : ℝ) : EReal) = cnt
  simp

/-- The means. -/
theorem v3_apply (u v w : Fin 1) (j : Fin 128) : val_main_v3 (F := Ideal) x0 (ix4 u v w j) = (args x0 x2 x3).mean cnt j := by
  rw [val_main_v3_apply, val_main_v1_apply, val_main_v2_apply, val_main_cst_0_apply]
  have e : idx_main_v1 (ix4 u v w j) = ix1 j := by
    funext c; match c with | ⟨0, _⟩ => rfl
  rw [e]
  exact congrArg (fun a : EReal => Ideal.div a cnt) (reduceSum _ _ _ _ Ideal.ofBits_zero_f32 j)

/-- The means the variance is taken about. -/
theorem w3_apply (u v w : Fin 1) (j : Fin 128) : val_main_call0_v3 (F := Ideal) x0 (ix4 u v w j) = (args x0 x2 x3).mean cnt j := by
  rw [val_main_call0_v3_apply, val_main_call0_v1_apply, val_main_call0_v2_apply, val_main_call0_cst_0_apply]
  have e : idx_main_call0_v1 (ix4 u v w j) = ix1 j := by
    funext c; match c with | ⟨0, _⟩ => rfl
  rw [e]
  exact congrArg (fun a : EReal => Ideal.div a cnt) (reduceSum _ _ _ _ Ideal.ofBits_zero_f32 j)

/-- The squared deviations. -/
theorem w6_apply (b : Fin 4) (r : Fin 256) (k : Fin 16) (j : Fin 128) : val_main_call0_v6 (F := Ideal) x0 (ix4 b r k j)
    = ((x0 (ix4 b r k j) : EReal) - (args x0 x2 x3).mean cnt j) * (x0 (ix4 b r k j) - (args x0 x2 x3).mean cnt j) := by
  have e : idx_main_call0_v4 (ix4 b r k j) = ix4 (0 : Fin 1) (0 : Fin 1) (0 : Fin 1) j := by
    funext c; match c with | ⟨0, _⟩ => rfl | ⟨1, _⟩ => rfl | ⟨2, _⟩ => rfl | ⟨3, _⟩ => rfl
  rw [val_main_call0_v6_apply, val_main_call0_v5_apply, val_main_call0_v4_apply, e, w3_apply x0 x2 x3]
  rfl

/-- The variances. -/
theorem v4_apply (u v w : Fin 1) (j : Fin 128) : val_main_v4 (F := Ideal) x0 (ix4 u v w j) = (args x0 x2 x3).varR cnt j := by
  have e : idx_main_call0_v10 (ix4 u v w j) = ix1 j := by
    funext c; match c with | ⟨0, _⟩ => rfl
  have h : val_main_call0_v12 (F := Ideal) x0 (ix4 u v w j) = (args x0 x2 x3).varR cnt j := by
    rw [val_main_call0_v12_apply, val_main_call0_v10_apply, val_main_call0_v11_apply, v8_apply, e]
    refine (congrArg (fun a : EReal => Ideal.div a cnt) (reduceSum _ _ _ _ Ideal.ofBits_zero_f32 j)).trans ?_
    unfold In.varR
    exact congrArg (fun a : EReal => Ideal.div a cnt) (Finset.sum_congr rfl fun b _ => Finset.sum_congr rfl fun r _ => Finset.sum_congr rfl fun k _ =>
      w6_apply x0 x2 x3 b r k j)
  have hp : ∀ i : S1x1x1x128.Idx, broadcastInDim S1x1x1x128 ![] bcast_S_S1x1x1x128 (val_main_call0_v13 (F := Ideal)) i = 1#1 := by
    intro i
    show val_main_call0_v13 (F := Ideal) _ = _
    rw [val_main_call0_v13_apply, v8_apply, val_main_call0_cst_3_apply]
    show Ideal.cmp .ogt cnt (Ideal.ofBits .f32 0x00000000#32) = 1#1
    rw [cnt_eq, Ideal.ofBits_zero_f32]
    show BitVec.ofBool (decide ((0 : EReal) < ((16384 : ℝ) : EReal))) = 1#1
    rw [decide_eq_true (by exact_mod_cast (by norm_num : (0 : ℝ) < 16384))]
    rfl
  rw [← h]
  show Scalar.select _ _ _ = _
  rw [hp]
  rfl

/-- The normalised products. -/
theorem v18_apply (b : Fin 4) (r : Fin 256) (k : Fin 16) (j : Fin 128) :
    val_main_v18 (F := Ideal) x0 x2 x3 (ix4 b r k j) = (args x0 x2 x3).normed cnt b r k j := by
  have e5 : idx_main_v5 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e10 : idx_main_v10 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e12 : idx_main_v12 (idx_main_v13 (ix4 b r k j)) = ix1 j := by
    funext c; match c with | ⟨0, _⟩ => rfl
  have e15 : idx_main_v15 (idx_main_v16 (ix4 b r k j)) = ix1 j := by
    funext c; match c with | ⟨0, _⟩ => rfl
  rw [val_main_v18_apply, val_main_call1_v0_apply, val_main_call1_cst_apply, val_main_v17_apply, val_main_v16_apply, val_main_v15_apply, e15,
    val_main_v14_apply, val_main_v13_apply, val_main_v12_apply, e12, val_main_v11_apply, val_main_v10_apply, e10, val_main_v9_apply,
    val_main_v8_apply, v4_apply x0 x2 x3, val_main_v7_apply, val_main_cst_1_apply, val_main_v6_apply, val_main_v5_apply, e5, v3_apply x0 x2 x3]
  unfold In.normed
  rw [← Ideal.ofBits_zero_f32]
  rfl

variable {x0 x2 x3} (ok : (args x0 x2 x3).Ok)
include ok

/-- The features. -/
theorem v19_apply (b : Fin 4) (r : Fin 256) (j : Fin 128) : val_main_v19 (F := Ideal) x0 x2 x3 (ix3 b r j) = (args x0 x2 x3).feat cnt b r j := by
  have h := In.feat_eq ok (by decide) 16384 (by norm_num) (by norm_num) b r j
  rw [← cnt_eq] at h
  rw [← h]
  unfold val_main_v19
  refine (reduceMax _ _ _ _ ofBits_bot b r j).trans ?_
  exact Finset.sup_congr rfl fun k _ => v18_apply x0 x2 x3 b r k j

/-- THE RESULT: the queries and the features side by side. -/
theorem result_eq (x1 : FVec Ideal ⟨3, ![4, 256, 3]⟩ .f32) : val_main_v20 (F := Ideal) x0 x1 x2 x3
    = concatenate S4x256x131 2 [⟨S4x256x3, x1⟩, ⟨S4x256x128, fun i => (args x0 x2 x3).feat cnt (i 0) (i 1) (i 2)⟩]
        concatenates_S4x256x3_S4x256x128_S4x256x131_d2 := by
  have h : val_main_v19 (F := Ideal) x0 x2 x3 = fun i => (args x0 x2 x3).feat cnt (i 0) (i 1) (i 2) := by
    funext i
    exact (congrArg (val_main_v19 (F := Ideal) x0 x2 x3) (eq_ix3 i)).trans (v19_apply ok (i 0) (i 1) (i 2))
  unfold val_main_v20
  rw [h]

end Cert.NormRef3Array

end
-- ==== Proof.NormStage3.lean ====
/-
  THE CLAIM OF THE THIRD STAGE'S NORMALISATION, 256 queries a cloud and 128 columns: under its precondition the call's result array is the
  reference's.
-/
module

public import proofs.«01_k».proof.Defs
public import proofs.«01_k».proof.Proof.Bounds
public import proofs.«01_k».proof.Proof.Norm3Array
public import proofs.«01_k».proof.Proof.NormRef3Array
public import proofs.«01_k».proof.Proof.Gen.Norm3Ideal.Value
public import proofs.«01_k».proof.Proof.Gen.NormRef3Ideal.Run
public import Idealize.ShloMosaic.Adequacy
public import Idealize.ShloMosaic.Init

@[expose] public section

set_option maxRecDepth 16384

noncomputable section

namespace Cert.NormStage3

open Idealize.ShloMosaic Idealize.SL.Sem Cert.Norm

/-- The side conditions of the precondition's operations. -/
theorem preFacts : Cert.Pre_nonneg3.Facts where
  bcast_S_S128 := by decide

attribute [local instance] Cert.Norm3Ideal.Gen.facts Cert.NormRef3Ideal.Gen.facts preFacts

/-- The precondition says that the scales are not negative. -/
theorem ok (m : (ℓ : Loc Cert.Norm3Ideal.nD Cert.Norm3Ideal.τ Cert.Norm3Ideal.sig) → Buf (Elt Ideal) ℓ)
    (h : Cert.Pre_Norm3Ideal_nonneg3 m) (c : Dev Cert.Norm3Ideal.nD) : (Cert.Norm3Array.args m c).Ok :=
  fun i => Cert.Bounds.zero_le (congrFun (h c) i)

/-- The reference runs, leaves its arguments and has no semaphore. -/
theorem refFrame : Cert.quiescent_NormRef3Ideal := fun m ρ _ =>
  (θ_run Cert.NormRef3Ideal.defs _ _).mono (fun r h => ⟨fun c => (h c).2, sem_eq_zero_of_no_sems (by decide) r.2⟩)
    (Cert.NormRef3Ideal.Value.run (F := Ideal) m ρ)

/-- THE ALGEBRAIC CLAIM: from arguments that agree and meet the precondition both programs end with the same result and leave their
    arguments. -/
theorem algebraic : Cert.algebraic_Norm3Ideal_NormRef3Ideal_pre_nonneg3 := by
  intro m g m' g' hpre hag
  have hk := Cert.Norm3Ideal.Value.run_blocks (F := Ideal) m g
  have hr := Cert.NormRef3Ideal.Value.run (F := Ideal) m' g'
  have hok := ok m hpre
  have hargs : ∀ c : Dev Cert.NormRef3Ideal.nD, Cert.NormRef3Array.args (m' ((c.tc : Thread Cert.NormRef3Ideal.nD Cert.NormRef3Ideal.τ).loc Cert.NormRef3Ideal.main_arg0))
      (m' ((c.tc : Thread Cert.NormRef3Ideal.nD Cert.NormRef3Ideal.τ).loc Cert.NormRef3Ideal.main_arg2))
      (m' ((c.tc : Thread Cert.NormRef3Ideal.nD Cert.NormRef3Ideal.τ).loc Cert.NormRef3Ideal.main_arg3)) = Cert.Norm3Array.args m c := by
    intro c
    rw [(hag c).1, (hag c).2.2.1, (hag c).2.2.2]
    rfl
  refine ⟨fun c => (Cert.Norm3Ideal.Gen.dats m 0 c).arrAt 8 Cert.Norm3Ideal.cfg0.N, hk, ?_⟩
  refine (θ_run Cert.NormRef3Ideal.defs _ _).mono (fun r h c => ?_) hr
  obtain ⟨h0, h1⟩ := h c
  have hok' := hok c
  rw [← hargs c] at hok'
  refine ⟨h0.trans ?_, h1⟩
  refine (Cert.NormRef3Ideal.Read.val_main_v20_eq (F := Ideal) _ _ _ _).trans ((Cert.NormRef3Array.result_eq hok' _).trans ?_)
  rw [hargs c, (hag c).2.1]
  exact (Cert.Norm3Array.arr m c).symm

end Cert.NormStage3

end
-- ==== Proof.Norm4Array.lean ====
/-
  THE RESULT ARRAY OF THE FOURTH STAGE'S NORMALISATION, 64 queries a cloud and 256 columns, as a function of the arguments (`Norm.In`): the queries and
  their features side by side.
-/
module

public import proofs.«01_k».proof.Proof.Norm
public import proofs.«01_k».proof.Proof.NormRead
public import proofs.«01_k».proof.Proof.RefRead
public import proofs.«01_k».proof.Proof.Gen.Norm4Ideal.Value
public import Idealize.ShloMosaic.Lib.ValueLayoutCasts
public import Idealize.ShloMosaic.Lib.Pipeline.Value
public import Idealize.ShloMosaic.Lib.Pipeline.ValueKit.Geometry

@[expose] public section

set_option maxRecDepth 16384

noncomputable section

namespace Cert.Norm4Array

open Cert.Norm4Ideal Cert.Norm4Ideal.Gen Idealize.ShloMosaic Idealize.ShloMosaic.TcCoe Idealize.SL.Sem Cert.Norm Cert.RefRead Cert.NormRead

attribute [local instance] Cert.Norm4Ideal.Gen.facts

/-- The number of a column's products. -/
abbrev cnt : EReal := Ideal.ofBits .f32 0x45800000#32

/-! ## The body's value, at an index -/

/-- The shifted, scaled and cut off rows. -/
theorem pay2_apply (v0 v4 v10 v24 : Vec Ideal S1x256 .f32) (v16 : Vec Ideal S4x64x256 .f32) (b : Fin 4) (r : Fin 64) (j : Fin 256) :
    k0_pay2 v0 v4 v10 v16 v24 (ix3 b r j)
      = act (Ideal.div (v0 (ix2 (0 : Fin 1) j)) cnt)
          (Ideal.div (v10 (ix2 (0 : Fin 1) j)) (Ideal.sqrt ((Ideal.div (v4 (ix2 (0 : Fin 1) j)) cnt
            - Ideal.div (v0 (ix2 (0 : Fin 1) j)) cnt * Ideal.div (v0 (ix2 (0 : Fin 1) j)) cnt) + eps)))
          (v24 (ix2 (0 : Fin 1) j)) (v16 (ix3 b r j)) := by
  pointwise [k0_pay2]
  rfl

/-! ## The host's arrays -/

/-- A vector reshaped to a row. -/
theorem row_cast (x : Vec Ideal S256 .f32) (j : Fin 256) : shapeCast S1x256 x shapeCasts_S256_S1x256 (ix2 (0 : Fin 1) j) = x (ix1 j) := by
  rw [ix2_eq_valueIdx, ix1_eq_valueIdx]
  exact ValueIdx.shapeCast_a_1a_apply ..

variable (m : (ℓ : Loc nD τ sig) → Buf (Elt Ideal) ℓ)

/-- The arguments. -/
def args (c : Dev nD) : In 4 64 16 256 where
  y := m ((c : Thread nD τ).loc main_arg0)
  g := m ((c : Thread nD τ).loc main_arg2)
  b := m ((c : Thread nD τ).loc main_arg3)

/-- The queries. -/
def qs (c : Dev nD) : Vec Ideal S4x64x3 .f32 := m ((c : Thread nD τ).loc main_arg1)

/-- The largest product of each query. -/
theorem V5 (c : Dev nD) (b : Fin 4) (r : Fin 64) (j : Fin 256) : (V m c main_v5 : Vec Ideal S4x64x256 .f32) (ix3 b r j) = (args m c).top b r j := by
  unfold_abbrev_sides
  after_results
  exact reduceMax _ _ _ _ ofBits_bot b r j

/-- The sums of the columns. -/
theorem V1 (c : Dev nD) (j : Fin 256) : (V m c main_v1 : Vec Ideal S1x256 .f32) (ix2 (0 : Fin 1) j) = (args m c).total j := by
  unfold_abbrev_sides
  after_results
  refine (row_apply _ _ j).trans ?_
  exact reduceSum _ _ _ _ Ideal.ofBits_zero_f32 j

/-- The sums of the columns' squares. -/
theorem V4 (c : Dev nD) (j : Fin 256) : (V m c main_v4 : Vec Ideal S1x256 .f32) (ix2 (0 : Fin 1) j) = (args m c).totalSq j := by
  unfold_abbrev_sides
  after_results
  refine (row_apply _ _ j).trans ?_
  exact reduceSum _ _ _ _ Ideal.ofBits_zero_f32 j

/-- The scales. -/
theorem V12 (c : Dev nD) (j : Fin 256) : (V m c main_v12 : Vec Ideal S1x256 .f32) (ix2 (0 : Fin 1) j) = (args m c).g (ix1 j) := by
  unfold_abbrev_sides
  after_results
  generalize hx : (m ((c : Thread nD τ).loc main_arg2) : Vec Ideal S256 .f32) = x
  exact row_cast x j

/-- The shifts. -/
theorem V13 (c : Dev nD) (j : Fin 256) : (V m c main_v13 : Vec Ideal S1x256 .f32) (ix2 (0 : Fin 1) j) = (args m c).b (ix1 j) := by
  unfold_abbrev_sides
  after_results
  generalize hx : (m ((c : Thread nD τ).loc main_arg3) : Vec Ideal S256 .f32) = x
  exact row_cast x j

/-- The first coordinates of the queries. -/
theorem V7 (c : Dev nD) (b : Fin 4) (r : Fin 64) : (V m c main_v7 : Vec Ideal S4x64 .f32) (ix2 b r) = qs m c (ix3 b r (0 : Fin 3)) := by
  unfold_abbrev_sides
  after_results
  unfold qs
  generalize hx : (m ((c : Thread nD τ).loc main_arg1) : Vec Ideal S4x64x3 .f32) = x
  pointwise []

/-- The second coordinates of the queries. -/
theorem V9 (c : Dev nD) (b : Fin 4) (r : Fin 64) : (V m c main_v9 : Vec Ideal S4x64 .f32) (ix2 b r) = qs m c (ix3 b r (1 : Fin 3)) := by
  unfold_abbrev_sides
  after_results
  unfold qs
  generalize hx : (m ((c : Thread nD τ).loc main_arg1) : Vec Ideal S4x64x3 .f32) = x
  pointwise []

/-- The third coordinates of the queries. -/
theorem V11 (c : Dev nD) (b : Fin 4) (r : Fin 64) : (V m c main_v11 : Vec Ideal S4x64 .f32) (ix2 b r) = qs m c (ix3 b r (2 : Fin 3)) := by
  unfold_abbrev_sides
  after_results
  unfold qs
  generalize hx : (m ((c : Thread nD τ).loc main_arg1) : Vec Ideal S4x64x3 .f32) = x
  pointwise []

/-! ## The windows' blocks: there is one point, and every block is the whole array -/

/-- The one point. -/
abbrev tl : Fin cfg0.N := (⟨0, by decide +kernel⟩ : Fin grid0.N)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)

/-- The block of the largest products is the whole array, whatever it holds. -/
theorem whole0 (c : Dev nD) (t : Fin cfg0.N) (W : Buf (Elt Ideal) ((c : Thread nD τ).loc main_v5)) :
    (((cfg0.win 0).blk t).view.read (Elt Ideal) W : Vec Ideal S4x64x256 .f32) = W := by
  funext y
  show (W : Vec Ideal S4x64x256 .f32) (((cfg0.win 0).blk t).view.emb y) = (W : Vec Ideal S4x64x256 .f32) y
  refine congrArg (W : Vec Ideal S4x64x256 .f32) (funext fun a => Fin.ext ?_)
  refine Pipeline.Window.rect_emb_val_of_index_zero win0_0 t a ?_ y
  rw [idx0]
  match a with
  | ⟨0, _⟩ => rfl
  | ⟨1, _⟩ => rfl
  | ⟨2, _⟩ => rfl

/-- The block of the largest products. -/
theorem blk0 (c : Dev nD) (t : Fin cfg0.N) : (iblk m c 0 t : Vec Ideal S4x64x256 .f32) = V m c main_v5 := whole0 c t (V m c main_v5)

/-- The block of the sums is the whole array, whatever it holds. -/
theorem whole1 (c : Dev nD) (t : Fin cfg0.N) (W : Buf (Elt Ideal) ((c : Thread nD τ).loc main_v1)) :
    (((cfg0.win 1).blk t).view.read (Elt Ideal) W : Vec Ideal S1x256 .f32) = W := by
  funext y
  show (W : Vec Ideal S1x256 .f32) (((cfg0.win 1).blk t).view.emb y) = (W : Vec Ideal S1x256 .f32) y
  refine congrArg (W : Vec Ideal S1x256 .f32) (funext fun a => Fin.ext ?_)
  refine Pipeline.Window.rect_emb_val_of_index_zero win0_1 t a ?_ y
  rw [idx1]
  match a with
  | ⟨0, _⟩ => rfl
  | ⟨1, _⟩ => rfl

/-- The block of the sums. -/
theorem blk1 (c : Dev nD) (t : Fin cfg0.N) : (iblk m c 1 t : Vec Ideal S1x256 .f32) = V m c main_v1 := whole1 c t (V m c main_v1)

/-- The block of the sums of squares is the whole array, whatever it holds. -/
theorem whole2 (c : Dev nD) (t : Fin cfg0.N) (W : Buf (Elt Ideal) ((c : Thread nD τ).loc main_v4)) :
    (((cfg0.win 2).blk t).view.read (Elt Ideal) W : Vec Ideal S1x256 .f32) = W := by
  funext y
  show (W : Vec Ideal S1x256 .f32) (((cfg0.win 2).blk t).view.emb y) = (W : Vec Ideal S1x256 .f32) y
  refine congrArg (W : Vec Ideal S1x256 .f32) (funext fun a => Fin.ext ?_)
  refine Pipeline.Window.rect_emb_val_of_index_zero win0_2 t a ?_ y
  rw [idx2]
  match a with
  | ⟨0, _⟩ => rfl
  | ⟨1, _⟩ => rfl

/-- The block of the sums of squares. -/
theorem blk2 (c : Dev nD) (t : Fin cfg0.N) : (iblk m c 2 t : Vec Ideal S1x256 .f32) = V m c main_v4 := whole2 c t (V m c main_v4)

/-- The block of the scales is the whole array, whatever it holds. -/
theorem whole3 (c : Dev nD) (t : Fin cfg0.N) (W : Buf (Elt Ideal) ((c : Thread nD τ).loc main_v12)) :
    (((cfg0.win 3).blk t).view.read (Elt Ideal) W : Vec Ideal S1x256 .f32) = W := by
  funext y
  show (W : Vec Ideal S1x256 .f32) (((cfg0.win 3).blk t).view.emb y) = (W : Vec Ideal S1x256 .f32) y
  refine congrArg (W : Vec Ideal S1x256 .f32) (funext fun a => Fin.ext ?_)
  refine Pipeline.Window.rect_emb_val_of_index_zero win0_3 t a ?_ y
  rw [idx3]
  match a with
  | ⟨0, _⟩ => rfl
  | ⟨1, _⟩ => rfl

/-- The block of the scales. -/
theorem blk3 (c : Dev nD) (t : Fin cfg0.N) : (iblk m c 3 t : Vec Ideal S1x256 .f32) = V m c main_v12 := whole3 c t (V m c main_v12)

/-- The block of the shifts is the whole array, whatever it holds. -/
theorem whole4 (c : Dev nD) (t : Fin cfg0.N) (W : Buf (Elt Ideal) ((c : Thread nD τ).loc main_v13)) :
    (((cfg0.win 4).blk t).view.read (Elt Ideal) W : Vec Ideal S1x256 .f32) = W := by
  funext y
  show (W : Vec Ideal S1x256 .f32) (((cfg0.win 4).blk t).view.emb y) = (W : Vec Ideal S1x256 .f32) y
  refine congrArg (W : Vec Ideal S1x256 .f32) (funext fun a => Fin.ext ?_)
  refine Pipeline.Window.rect_emb_val_of_index_zero win0_4 t a ?_ y
  rw [idx4]
  match a with
  | ⟨0, _⟩ => rfl
  | ⟨1, _⟩ => rfl

/-- The block of the shifts. -/
theorem blk4 (c : Dev nD) (t : Fin cfg0.N) : (iblk m c 4 t : Vec Ideal S1x256 .f32) = V m c main_v13 := whole4 c t (V m c main_v13)

/-- The block of the queries' first coordinates is the whole array, whatever it holds. -/
theorem whole5 (c : Dev nD) (t : Fin cfg0.N) (W : Buf (Elt Ideal) ((c : Thread nD τ).loc main_v7)) :
    (((cfg0.win 5).blk t).view.read (Elt Ideal) W : Vec Ideal S4x64 .f32) = W := by
  funext y
  show (W : Vec Ideal S4x64 .f32) (((cfg0.win 5).blk t).view.emb y) = (W : Vec Ideal S4x64 .f32) y
  refine congrArg (W : Vec Ideal S4x64 .f32) (funext fun a => Fin.ext ?_)
  refine Pipeline.Window.rect_emb_val_of_index_zero win0_5 t a ?_ y
  rw [idx5]
  match a with
  | ⟨0, _⟩ => rfl
  | ⟨1, _⟩ => rfl

/-- The block of the queries' first coordinates. -/
theorem blk5 (c : Dev nD) (t : Fin cfg0.N) : (iblk m c 5 t : Vec Ideal S4x64 .f32) = V m c main_v7 := whole5 c t (V m c main_v7)

/-- The block of the queries' second coordinates is the whole array, whatever it holds. -/
theorem whole6 (c : Dev nD) (t : Fin cfg0.N) (W : Buf (Elt Ideal) ((c : Thread nD τ).loc main_v9)) :
    (((cfg0.win 6).blk t).view.read (Elt Ideal) W : Vec Ideal S4x64 .f32) = W := by
  funext y
  show (W : Vec Ideal S4x64 .f32) (((cfg0.win 6).blk t).view.emb y) = (W : Vec Ideal S4x64 .f32) y
  refine congrArg (W : Vec Ideal S4x64 .f32) (funext fun a => Fin.ext ?_)
  refine Pipeline.Window.rect_emb_val_of_index_zero win0_6 t a ?_ y
  rw [idx6]
  match a with
  | ⟨0, _⟩ => rfl
  | ⟨1, _⟩ => rfl

/-- The block of the queries' second coordinates. -/
theorem blk6 (c : Dev nD) (t : Fin cfg0.N) : (iblk m c 6 t : Vec Ideal S4x64 .f32) = V m c main_v9 := whole6 c t (V m c main_v9)

/-- The block of the queries' third coordinates is the whole array, whatever it holds. -/
theorem whole7 (c : Dev nD) (t : Fin cfg0.N) (W : Buf (Elt Ideal) ((c : Thread nD τ).loc main_v11)) :
    (((cfg0.win 7).blk t).view.read (Elt Ideal) W : Vec Ideal S4x64 .f32) = W := by
  funext y
  show (W : Vec Ideal S4x64 .f32) (((cfg0.win 7).blk t).view.emb y) = (W : Vec Ideal S4x64 .f32) y
  refine congrArg (W : Vec Ideal S4x64 .f32) (funext fun a => Fin.ext ?_)
  refine Pipeline.Window.rect_emb_val_of_index_zero win0_7 t a ?_ y
  rw [idx7]
  match a with
  | ⟨0, _⟩ => rfl
  | ⟨1, _⟩ => rfl

/-- The block of the queries' third coordinates. -/
theorem blk7 (c : Dev nD) (t : Fin cfg0.N) : (iblk m c 7 t : Vec Ideal S4x64 .f32) = V m c main_v11 := whole7 c t (V m c main_v11)

/-! ## The result array -/

theorem hz2 : (![0, 0] : Fin 2 → ℕ) = fun _ => 0 := by decide

theorem hz3 : (![0, 0, 0] : Fin 3 → ℕ) = fun _ => 0 := by decide

/-- The queries and the features side by side. -/
def result (A : In 4 64 16 256) (q : Vec Ideal S4x64x3 .f32) : Vec Ideal S4x64x259 .f32 :=
  concatenate S4x64x259 2 [⟨S4x64x3, q⟩, ⟨S4x64x256, fun i => A.feat cnt (i 0) (i 1) (i 2)⟩] concatenates_S4x64x3_S4x64x256_S4x64x259_d2

/-- The features of blocks that hold a stage's numbers. -/
theorem pay_feat (A : In 4 64 16 256) (x0 : Vec Ideal S4x64x256 .f32) (x1 x2 x3 x4 : Vec Ideal S1x256 .f32) (h0 : ∀ b r j, x0 (ix3 b r j) = A.top b r j)
    (h1 : ∀ j, x1 (ix2 (0 : Fin 1) j) = A.total j) (h2 : ∀ j, x2 (ix2 (0 : Fin 1) j) = A.totalSq j) (h3 : ∀ j, x3 (ix2 (0 : Fin 1) j) = A.g (ix1 j))
    (h4 : ∀ j, x4 (ix2 (0 : Fin 1) j) = A.b (ix1 j)) : k0_pay2 x1 x2 x3 x0 x4 = fun i => A.feat cnt (i 0) (i 1) (i 2) := by
  suffices h : ∀ (b : Fin 4) (r : Fin 64) (j : Fin 256), k0_pay2 x1 x2 x3 x0 x4 (ix3 b r j) = A.feat cnt b r j by
    funext i
    exact (congrArg (k0_pay2 x1 x2 x3 x0 x4) (eq_ix3 i)).trans (h (i 0) (i 1) (i 2))
  intro b r j
  refine (pay2_apply x1 x2 x3 x4 x0 b r j).trans ?_
  rw [h1, h2, h3, h4, h0]
  rfl

/-- The three columns of coordinates side by side. -/
def coords (x5 x6 x7 : Vec Ideal S4x64 .f32) : Vec Ideal S4x64x3 .f32 :=
  concatenate S4x64x3 2 [⟨S4x64x1, k0_pay3 x5⟩, ⟨S4x64x1, k0_pay4 x6⟩, ⟨S4x64x1, shapeCast S4x64x1 (k0_pay5 x7) shapeCasts_S4x64_S4x64x1⟩]
    concatenates_S4x64x1_S4x64x1_S4x64x1_S4x64x3_d2

/-- The body loads whole blocks and stores one. -/
theorem out_eq (x0 : Vec Ideal S4x64x256 .f32) (x1 x2 x3 x4 : Vec Ideal S1x256 .f32) (x5 x6 x7 : Vec Ideal S4x64 .f32) :
    out0_8 x0 x1 x2 x3 x4 x5 x6 x7 = concatenate S4x64x259 2 [⟨S4x64x3, coords x5 x6 x7⟩, ⟨S4x64x256, k0_pay2 x1 x2 x3 x0 x4⟩]
      concatenates_S4x64x3_S4x64x256_S4x64x259_d2 := by
  unfold out0_8
  simp only [View.canon_unit_zero (S := S4x64x259) hz3, View.ld_unit_zero (S := S1x256) hz2, View.ld_unit_zero (S := S4x64) hz2,
    View.ld_unit_zero (S := S4x64x256) hz3]
  rfl

/-- They are the queries. -/
theorem pay_q (q : Vec Ideal S4x64x3 .f32) (x5 x6 x7 : Vec Ideal S4x64 .f32) (h5 : ∀ b r, x5 (ix2 b r) = q (ix3 b r (0 : Fin 3)))
    (h6 : ∀ b r, x6 (ix2 b r) = q (ix3 b r (1 : Fin 3))) (h7 : ∀ b r, x7 (ix2 b r) = q (ix3 b r (2 : Fin 3))) : coords x5 x6 x7 = q := by
  suffices h : ∀ (b : Fin 4) (r : Fin 64) (j : Fin 3), coords x5 x6 x7 (ix3 b r j) = q (ix3 b r j) by
    funext i
    exact (congrArg (coords x5 x6 x7) (eq_ix3 i)).trans ((h (i 0) (i 1) (i 2)).trans (congrArg q (eq_ix3 i).symm))
  intro b r j
  match j with
  | ⟨0, _⟩ => exact Eq.trans (by pointwise [coords, k0_pay3, k0_pay4, k0_pay5]) (h5 b r)
  | ⟨1, _⟩ => exact Eq.trans (by pointwise [coords, k0_pay3, k0_pay4, k0_pay5]) (h6 b r)
  | ⟨2, _⟩ => exact Eq.trans (by pointwise [coords, k0_pay3, k0_pay4, k0_pay5]) (h7 b r)

/-- What the one point leaves. -/
theorem after (c : Dev nD) (t : Fin cfg0.N) : ((dats m 0 c).after 8 t : Vec Ideal S4x64x259 .f32) = result (args m c) (qs m c) := by
  rw [after0_8, out_eq]
  rw [pay_q (qs m c) (iblk m c 5 t) (iblk m c 6 t) (iblk m c 7 t) (fun b r => by rw [blk5, V7]) (fun b r => by rw [blk6, V9]) (fun b r => by rw [blk7, V11]),
    pay_feat (args m c) (iblk m c 0 t) (iblk m c 1 t) (iblk m c 2 t) (iblk m c 3 t) (iblk m c 4 t) (fun b r j => by rw [blk0, V5])
      (fun j => by rw [blk1, V1]) (fun j => by rw [blk2, V4]) (fun j => by rw [blk3, V12]) (fun j => by rw [blk4, V13])]
  rfl

/-- THE RESULT ARRAY holds the queries and the features. -/
theorem arr (c : Dev nD) : (dats m 0 c).arrAt 8 cfg0.N = result (args m c) (qs m c) := by
  refine (dats m 0 c).arrAt_eq_of_after_last 8 tl (by decide +kernel) _ fun y => ?_
  blk_simp
  rw [after]

end Cert.Norm4Array

end
-- ==== Proof.NormRef4Array.lean ====
/-
  THE REFERENCE'S RESULT of the fourth stage's normalisation as a function of the arguments (`Norm.In`): the queries and the largest normalised
  products, which are the kernel's features, side by side.
-/
module

public import proofs.«01_k».proof.Proof.Norm
public import proofs.«01_k».proof.Proof.NormRead
public import proofs.«01_k».proof.Proof.Gen.NormRef4Ideal.Read

@[expose] public section

set_option maxRecDepth 16384

noncomputable section

namespace Cert.NormRef4Array

open Cert.NormRef4Ideal Cert.NormRef4Ideal.Gen Cert.NormRef4Ideal.Read Idealize.ShloMosaic Cert.Norm Cert.NormRead

attribute [local instance] Cert.NormRef4Ideal.Gen.facts

variable (x0 : FVec Ideal ⟨4, ![4, 64, 16, 256]⟩ .f32) (x2 x3 : FVec Ideal ⟨1, ![256]⟩ .f32)

/-- The arguments. -/
def args : In 4 64 16 256 where
  y := x0
  g := x2
  b := x3

/-- The number of a column's products. -/
abbrev cnt : EReal := Ideal.ofBits .f32 0x45800000#32

/-- It is their number. -/
theorem cnt_eq : cnt = ((4096 : ℝ) : EReal) := by
  simp [cnt, Ideal.ofBits, Ideal.ieee]
  rw [← EReal.coe_mul]
  norm_num

/-- The number less nothing, as the variance's divisor is written. -/
theorem v8_apply (i : S_.Idx) : val_main_call0_v8 (F := Ideal) i = cnt := by
  rw [val_main_call0_v8_apply, val_main_call0_cst_1_apply, val_main_call0_v7_apply, val_main_c_apply]
  show cnt - (((0#32 : BitVec 32).toInt : ℝ) : EReal) = cnt
  simp

/-- The means. -/
theorem v3_apply (u v w : Fin 1) (j : Fin 256) : val_main_v3 (F := Ideal) x0 (ix4 u v w j) = (args x0 x2 x3).mean cnt j := by
  rw [val_main_v3_apply, val_main_v1_apply, val_main_v2_apply, val_main_cst_0_apply]
  have e : idx_main_v1 (ix4 u v w j) = ix1 j := by
    funext c; match c with | ⟨0, _⟩ => rfl
  rw [e]
  exact congrArg (fun a : EReal => Ideal.div a cnt) (reduceSum _ _ _ _ Ideal.ofBits_zero_f32 j)

/-- The means the variance is taken about. -/
theorem w3_apply (u v w : Fin 1) (j : Fin 256) : val_main_call0_v3 (F := Ideal) x0 (ix4 u v w j) = (args x0 x2 x3).mean cnt j := by
  rw [val_main_call0_v3_apply, val_main_call0_v1_apply, val_main_call0_v2_apply, val_main_call0_cst_0_apply]
  have e : idx_main_call0_v1 (ix4 u v w j) = ix1 j := by
    funext c; match c with | ⟨0, _⟩ => rfl
  rw [e]
  exact congrArg (fun a : EReal => Ideal.div a cnt) (reduceSum _ _ _ _ Ideal.ofBits_zero_f32 j)

/-- The squared deviations. -/
theorem w6_apply (b : Fin 4) (r : Fin 64) (k : Fin 16) (j : Fin 256) : val_main_call0_v6 (F := Ideal) x0 (ix4 b r k j)
    = ((x0 (ix4 b r k j) : EReal) - (args x0 x2 x3).mean cnt j) * (x0 (ix4 b r k j) - (args x0 x2 x3).mean cnt j) := by
  have e : idx_main_call0_v4 (ix4 b r k j) = ix4 (0 : Fin 1) (0 : Fin 1) (0 : Fin 1) j := by
    funext c; match c with | ⟨0, _⟩ => rfl | ⟨1, _⟩ => rfl | ⟨2, _⟩ => rfl | ⟨3, _⟩ => rfl
  rw [val_main_call0_v6_apply, val_main_call0_v5_apply, val_main_call0_v4_apply, e, w3_apply x0 x2 x3]
  rfl

/-- The variances. -/
theorem v4_apply (u v w : Fin 1) (j : Fin 256) : val_main_v4 (F := Ideal) x0 (ix4 u v w j) = (args x0 x2 x3).varR cnt j := by
  have e : idx_main_call0_v10 (ix4 u v w j) = ix1 j := by
    funext c; match c with | ⟨0, _⟩ => rfl
  have h : val_main_call0_v12 (F := Ideal) x0 (ix4 u v w j) = (args x0 x2 x3).varR cnt j := by
    rw [val_main_call0_v12_apply, val_main_call0_v10_apply, val_main_call0_v11_apply, v8_apply, e]
    refine (congrArg (fun a : EReal => Ideal.div a cnt) (reduceSum _ _ _ _ Ideal.ofBits_zero_f32 j)).trans ?_
    unfold In.varR
    exact congrArg (fun a : EReal => Ideal.div a cnt) (Finset.sum_congr rfl fun b _ => Finset.sum_congr rfl fun r _ => Finset.sum_congr rfl fun k _ =>
      w6_apply x0 x2 x3 b r k j)
  have hp : ∀ i : S1x1x1x256.Idx, broadcastInDim S1x1x1x256 ![] bcast_S_S1x1x1x256 (val_main_call0_v13 (F := Ideal)) i = 1#1 := by
    intro i
    show val_main_call0_v13 (F := Ideal) _ = _
    rw [val_main_call0_v13_apply, v8_apply, val_main_call0_cst_3_apply]
    show Ideal.cmp .ogt cnt (Ideal.ofBits .f32 0x00000000#32) = 1#1
    rw [cnt_eq, Ideal.ofBits_zero_f32]
    show BitVec.ofBool (decide ((0 : EReal) < ((4096 : ℝ) : EReal))) = 1#1
    rw [decide_eq_true (by exact_mod_cast (by norm_num : (0 : ℝ) < 4096))]
    rfl
  rw [← h]
  show Scalar.select _ _ _ = _
  rw [hp]
  rfl

/-- The normalised products. -/
theorem v18_apply (b : Fin 4) (r : Fin 64) (k : Fin 16) (j : Fin 256) :
    val_main_v18 (F := Ideal) x0 x2 x3 (ix4 b r k j) = (args x0 x2 x3).normed cnt b r k j := by
  have e5 : idx_main_v5 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e10 : idx_main_v10 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e12 : idx_main_v12 (idx_main_v13 (ix4 b r k j)) = ix1 j := by
    funext c; match c with | ⟨0, _⟩ => rfl
  have e15 : idx_main_v15 (idx_main_v16 (ix4 b r k j)) = ix1 j := by
    funext c; match c with | ⟨0, _⟩ => rfl
  rw [val_main_v18_apply, val_main_call1_v0_apply, val_main_call1_cst_apply, val_main_v17_apply, val_main_v16_apply, val_main_v15_apply, e15,
    val_main_v14_apply, val_main_v13_apply, val_main_v12_apply, e12, val_main_v11_apply, val_main_v10_apply, e10, val_main_v9_apply,
    val_main_v8_apply, v4_apply x0 x2 x3, val_main_v7_apply, val_main_cst_1_apply, val_main_v6_apply, val_main_v5_apply, e5, v3_apply x0 x2 x3]
  unfold In.normed
  rw [← Ideal.ofBits_zero_f32]
  rfl

variable {x0 x2 x3} (ok : (args x0 x2 x3).Ok)
include ok

/-- The features. -/
theorem v19_apply (b : Fin 4) (r : Fin 64) (j : Fin 256) : val_main_v19 (F := Ideal) x0 x2 x3 (ix3 b r j) = (args x0 x2 x3).feat cnt b r j := by
  have h := In.feat_eq ok (by decide) 4096 (by norm_num) (by norm_num) b r j
  rw [← cnt_eq] at h
  rw [← h]
  unfold val_main_v19
  refine (reduceMax _ _ _ _ ofBits_bot b r j).trans ?_
  exact Finset.sup_congr rfl fun k _ => v18_apply x0 x2 x3 b r k j

/-- THE RESULT: the queries and the features side by side. -/
theorem result_eq (x1 : FVec Ideal ⟨3, ![4, 64, 3]⟩ .f32) : val_main_v20 (F := Ideal) x0 x1 x2 x3
    = concatenate S4x64x259 2 [⟨S4x64x3, x1⟩, ⟨S4x64x256, fun i => (args x0 x2 x3).feat cnt (i 0) (i 1) (i 2)⟩]
        concatenates_S4x64x3_S4x64x256_S4x64x259_d2 := by
  have h : val_main_v19 (F := Ideal) x0 x2 x3 = fun i => (args x0 x2 x3).feat cnt (i 0) (i 1) (i 2) := by
    funext i
    exact (congrArg (val_main_v19 (F := Ideal) x0 x2 x3) (eq_ix3 i)).trans (v19_apply ok (i 0) (i 1) (i 2))
  unfold val_main_v20
  rw [h]

end Cert.NormRef4Array

end
-- ==== Proof.NormStage4.lean ====
/-
  THE CLAIM OF THE FOURTH STAGE'S NORMALISATION, 64 queries a cloud and 256 columns: under its precondition the call's result array is the
  reference's.
-/
module

public import proofs.«01_k».proof.Defs
public import proofs.«01_k».proof.Proof.Bounds
public import proofs.«01_k».proof.Proof.Norm4Array
public import proofs.«01_k».proof.Proof.NormRef4Array
public import proofs.«01_k».proof.Proof.Gen.Norm4Ideal.Value
public import proofs.«01_k».proof.Proof.Gen.NormRef4Ideal.Run
public import Idealize.ShloMosaic.Adequacy
public import Idealize.ShloMosaic.Init

@[expose] public section

set_option maxRecDepth 16384

noncomputable section

namespace Cert.NormStage4

open Idealize.ShloMosaic Idealize.SL.Sem Cert.Norm

/-- The side conditions of the precondition's operations. -/
theorem preFacts : Cert.Pre_nonneg4.Facts where
  bcast_S_S256 := by decide

attribute [local instance] Cert.Norm4Ideal.Gen.facts Cert.NormRef4Ideal.Gen.facts preFacts

/-- The precondition says that the scales are not negative. -/
theorem ok (m : (ℓ : Loc Cert.Norm4Ideal.nD Cert.Norm4Ideal.τ Cert.Norm4Ideal.sig) → Buf (Elt Ideal) ℓ)
    (h : Cert.Pre_Norm4Ideal_nonneg4 m) (c : Dev Cert.Norm4Ideal.nD) : (Cert.Norm4Array.args m c).Ok :=
  fun i => Cert.Bounds.zero_le (congrFun (h c) i)

/-- The reference runs, leaves its arguments and has no semaphore. -/
theorem refFrame : Cert.quiescent_NormRef4Ideal := fun m ρ _ =>
  (θ_run Cert.NormRef4Ideal.defs _ _).mono (fun r h => ⟨fun c => (h c).2, sem_eq_zero_of_no_sems (by decide) r.2⟩)
    (Cert.NormRef4Ideal.Value.run (F := Ideal) m ρ)

/-- THE ALGEBRAIC CLAIM: from arguments that agree and meet the precondition both programs end with the same result and leave their
    arguments. -/
theorem algebraic : Cert.algebraic_Norm4Ideal_NormRef4Ideal_pre_nonneg4 := by
  intro m g m' g' hpre hag
  have hk := Cert.Norm4Ideal.Value.run_blocks (F := Ideal) m g
  have hr := Cert.NormRef4Ideal.Value.run (F := Ideal) m' g'
  have hok := ok m hpre
  have hargs : ∀ c : Dev Cert.NormRef4Ideal.nD, Cert.NormRef4Array.args (m' ((c.tc : Thread Cert.NormRef4Ideal.nD Cert.NormRef4Ideal.τ).loc Cert.NormRef4Ideal.main_arg0))
      (m' ((c.tc : Thread Cert.NormRef4Ideal.nD Cert.NormRef4Ideal.τ).loc Cert.NormRef4Ideal.main_arg2))
      (m' ((c.tc : Thread Cert.NormRef4Ideal.nD Cert.NormRef4Ideal.τ).loc Cert.NormRef4Ideal.main_arg3)) = Cert.Norm4Array.args m c := by
    intro c
    rw [(hag c).1, (hag c).2.2.1, (hag c).2.2.2]
    rfl
  refine ⟨fun c => (Cert.Norm4Ideal.Gen.dats m 0 c).arrAt 8 Cert.Norm4Ideal.cfg0.N, hk, ?_⟩
  refine (θ_run Cert.NormRef4Ideal.defs _ _).mono (fun r h c => ?_) hr
  obtain ⟨h0, h1⟩ := h c
  have hok' := hok c
  rw [← hargs c] at hok'
  refine ⟨h0.trans ?_, h1⟩
  refine (Cert.NormRef4Ideal.Read.val_main_v20_eq (F := Ideal) _ _ _ _).trans ((Cert.NormRef4Array.result_eq hok' _).trans ?_)
  rw [hargs c, (hag c).2.1]
  exact (Cert.Norm4Array.arr m c).symm

end Cert.NormStage4

end
-- ==== Proof.Norm5Array.lean ====
/-
  THE RESULT ARRAY OF THE LAST NORMALISATION, 16 queries a cloud and 1024 columns, as a function of the arguments (`Norm.In`): the mean of
  the queries' features.
-/
module

public import proofs.«01_k».proof.Proof.Norm
public import proofs.«01_k».proof.Proof.NormRead
public import proofs.«01_k».proof.Proof.RefRead
public import proofs.«01_k».proof.Proof.Gen.Norm5Ideal.Value
public import Idealize.ShloMosaic.Lib.ValueLayoutCasts
public import Idealize.ShloMosaic.Lib.Pipeline.Value
public import Idealize.ShloMosaic.Lib.Pipeline.ValueKit.Geometry

@[expose] public section

set_option maxRecDepth 16384

noncomputable section

namespace Cert.Norm5Array

open Cert.Norm5Ideal Cert.Norm5Ideal.Gen Idealize.ShloMosaic Idealize.ShloMosaic.TcCoe Idealize.SL.Sem Cert.Norm Cert.RefRead Cert.NormRead

attribute [local instance] Cert.Norm5Ideal.Gen.facts

/-- The number of a column's products. -/
abbrev cnt : EReal := Ideal.ofBits .f32 0x44800000#32

/-! ## The body's value, at an index -/

/-- The mean of the shifted, scaled and cut off rows. -/
theorem pay1_apply (v0 v4 v10 v24 : Vec Ideal S1x1024 .f32) (v16 : Vec Ideal S4x16x1024 .f32) (b : Fin 4) (j : Fin 1024) :
    k0_pay1 v0 v4 v10 v16 v24 (ix2 b j)
      = Ideal.div (∑ r : Fin 16, act (Ideal.div (v0 (ix2 (0 : Fin 1) j)) cnt)
          (Ideal.div (v10 (ix2 (0 : Fin 1) j)) (Ideal.sqrt ((Ideal.div (v4 (ix2 (0 : Fin 1) j)) cnt
            - Ideal.div (v0 (ix2 (0 : Fin 1) j)) cnt * Ideal.div (v0 (ix2 (0 : Fin 1) j)) cnt) + eps)))
          (v24 (ix2 (0 : Fin 1) j)) (v16 (ix3 b r j))) (Ideal.ofBits .f32 0x41800000#32) := by
  pointwise [k0_pay1]
  rfl

/-! ## The host's arrays -/

/-- A vector reshaped to a row. -/
theorem row_cast (x : Vec Ideal S1024 .f32) (j : Fin 1024) : shapeCast S1x1024 x shapeCasts_S1024_S1x1024 (ix2 (0 : Fin 1) j) = x (ix1 j) := by
  rw [ix2_eq_valueIdx, ix1_eq_valueIdx]
  exact ValueIdx.shapeCast_a_1a_apply ..

variable (m : (ℓ : Loc nD τ sig) → Buf (Elt Ideal) ℓ)

/-- The arguments. -/
def args (c : Dev nD) : In 4 16 16 1024 where
  y := m ((c : Thread nD τ).loc main_arg0)
  g := m ((c : Thread nD τ).loc main_arg2)
  b := m ((c : Thread nD τ).loc main_arg3)

/-- The largest product of each query. -/
theorem V5 (c : Dev nD) (b : Fin 4) (r : Fin 16) (j : Fin 1024) : (V m c main_v5 : Vec Ideal S4x16x1024 .f32) (ix3 b r j) = (args m c).top b r j := by
  unfold_abbrev_sides
  after_results
  exact reduceMax _ _ _ _ ofBits_bot b r j

/-- The sums of the columns. -/
theorem V1 (c : Dev nD) (j : Fin 1024) : (V m c main_v1 : Vec Ideal S1x1024 .f32) (ix2 (0 : Fin 1) j) = (args m c).total j := by
  unfold_abbrev_sides
  after_results
  refine (row_apply _ _ j).trans ?_
  exact reduceSum _ _ _ _ Ideal.ofBits_zero_f32 j

/-- The sums of the columns' squares. -/
theorem V4 (c : Dev nD) (j : Fin 1024) : (V m c main_v4 : Vec Ideal S1x1024 .f32) (ix2 (0 : Fin 1) j) = (args m c).totalSq j := by
  unfold_abbrev_sides
  after_results
  refine (row_apply _ _ j).trans ?_
  exact reduceSum _ _ _ _ Ideal.ofBits_zero_f32 j

/-- The scales. -/
theorem V12 (c : Dev nD) (j : Fin 1024) : (V m c main_v12 : Vec Ideal S1x1024 .f32) (ix2 (0 : Fin 1) j) = (args m c).g (ix1 j) := by
  unfold_abbrev_sides
  after_results
  generalize hx : (m ((c : Thread nD τ).loc main_arg2) : Vec Ideal S1024 .f32) = x
  exact row_cast x j

/-- The shifts. -/
theorem V13 (c : Dev nD) (j : Fin 1024) : (V m c main_v13 : Vec Ideal S1x1024 .f32) (ix2 (0 : Fin 1) j) = (args m c).b (ix1 j) := by
  unfold_abbrev_sides
  after_results
  generalize hx : (m ((c : Thread nD τ).loc main_arg3) : Vec Ideal S1024 .f32) = x
  exact row_cast x j

/-! ## The windows' blocks: there is one point, and every block is the whole array -/

/-- The one point. -/
abbrev tl : Fin cfg0.N := (⟨0, by decide +kernel⟩ : Fin grid0.N)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx8 : ∀ t : Fin cfg0.N, win0_8.index t = ![0, 0] := (by decide +kernel : ∀ t : Fin grid0.N, _)

/-- The block of the largest products is the whole array, whatever it holds. -/
theorem whole0 (c : Dev nD) (t : Fin cfg0.N) (W : Buf (Elt Ideal) ((c : Thread nD τ).loc main_v5)) :
    (((cfg0.win 0).blk t).view.read (Elt Ideal) W : Vec Ideal S4x16x1024 .f32) = W := by
  funext y
  show (W : Vec Ideal S4x16x1024 .f32) (((cfg0.win 0).blk t).view.emb y) = (W : Vec Ideal S4x16x1024 .f32) y
  refine congrArg (W : Vec Ideal S4x16x1024 .f32) (funext fun a => Fin.ext ?_)
  refine Pipeline.Window.rect_emb_val_of_index_zero win0_0 t a ?_ y
  rw [idx0]
  match a with
  | ⟨0, _⟩ => rfl
  | ⟨1, _⟩ => rfl
  | ⟨2, _⟩ => rfl

/-- The block of the largest products. -/
theorem blk0 (c : Dev nD) (t : Fin cfg0.N) : (iblk m c 0 t : Vec Ideal S4x16x1024 .f32) = V m c main_v5 := whole0 c t (V m c main_v5)

/-- The block of the sums is the whole array, whatever it holds. -/
theorem whole1 (c : Dev nD) (t : Fin cfg0.N) (W : Buf (Elt Ideal) ((c : Thread nD τ).loc main_v1)) :
    (((cfg0.win 1).blk t).view.read (Elt Ideal) W : Vec Ideal S1x1024 .f32) = W := by
  funext y
  show (W : Vec Ideal S1x1024 .f32) (((cfg0.win 1).blk t).view.emb y) = (W : Vec Ideal S1x1024 .f32) y
  refine congrArg (W : Vec Ideal S1x1024 .f32) (funext fun a => Fin.ext ?_)
  refine Pipeline.Window.rect_emb_val_of_index_zero win0_1 t a ?_ y
  rw [idx1]
  match a with
  | ⟨0, _⟩ => rfl
  | ⟨1, _⟩ => rfl

/-- The block of the sums. -/
theorem blk1 (c : Dev nD) (t : Fin cfg0.N) : (iblk m c 1 t : Vec Ideal S1x1024 .f32) = V m c main_v1 := whole1 c t (V m c main_v1)

/-- The block of the sums of squares is the whole array, whatever it holds. -/
theorem whole2 (c : Dev nD) (t : Fin cfg0.N) (W : Buf (Elt Ideal) ((c : Thread nD τ).loc main_v4)) :
    (((cfg0.win 2).blk t).view.read (Elt Ideal) W : Vec Ideal S1x1024 .f32) = W := by
  funext y
  show (W : Vec Ideal S1x1024 .f32) (((cfg0.win 2).blk t).view.emb y) = (W : Vec Ideal S1x1024 .f32) y
  refine congrArg (W : Vec Ideal S1x1024 .f32) (funext fun a => Fin.ext ?_)
  refine Pipeline.Window.rect_emb_val_of_index_zero win0_2 t a ?_ y
  rw [idx2]
  match a with
  | ⟨0, _⟩ => rfl
  | ⟨1, _⟩ => rfl

/-- The block of the sums of squares. -/
theorem blk2 (c : Dev nD) (t : Fin cfg0.N) : (iblk m c 2 t : Vec Ideal S1x1024 .f32) = V m c main_v4 := whole2 c t (V m c main_v4)

/-- The block of the scales is the whole array, whatever it holds. -/
theorem whole3 (c : Dev nD) (t : Fin cfg0.N) (W : Buf (Elt Ideal) ((c : Thread nD τ).loc main_v12)) :
    (((cfg0.win 3).blk t).view.read (Elt Ideal) W : Vec Ideal S1x1024 .f32) = W := by
  funext y
  show (W : Vec Ideal S1x1024 .f32) (((cfg0.win 3).blk t).view.emb y) = (W : Vec Ideal S1x1024 .f32) y
  refine congrArg (W : Vec Ideal S1x1024 .f32) (funext fun a => Fin.ext ?_)
  refine Pipeline.Window.rect_emb_val_of_index_zero win0_3 t a ?_ y
  rw [idx3]
  match a with
  | ⟨0, _⟩ => rfl
  | ⟨1, _⟩ => rfl

/-- The block of the scales. -/
theorem blk3 (c : Dev nD) (t : Fin cfg0.N) : (iblk m c 3 t : Vec Ideal S1x1024 .f32) = V m c main_v12 := whole3 c t (V m c main_v12)

/-- The block of the shifts is the whole array, whatever it holds. -/
theorem whole4 (c : Dev nD) (t : Fin cfg0.N) (W : Buf (Elt Ideal) ((c : Thread nD τ).loc main_v13)) :
    (((cfg0.win 4).blk t).view.read (Elt Ideal) W : Vec Ideal S1x1024 .f32) = W := by
  funext y
  show (W : Vec Ideal S1x1024 .f32) (((cfg0.win 4).blk t).view.emb y) = (W : Vec Ideal S1x1024 .f32) y
  refine congrArg (W : Vec Ideal S1x1024 .f32) (funext fun a => Fin.ext ?_)
  refine Pipeline.Window.rect_emb_val_of_index_zero win0_4 t a ?_ y
  rw [idx4]
  match a with
  | ⟨0, _⟩ => rfl
  | ⟨1, _⟩ => rfl

/-- The block of the shifts. -/
theorem blk4 (c : Dev nD) (t : Fin cfg0.N) : (iblk m c 4 t : Vec Ideal S1x1024 .f32) = V m c main_v13 := whole4 c t (V m c main_v13)

/-! ## The result array -/

theorem hz2 : (![0, 0] : Fin 2 → ℕ) = fun _ => 0 := by decide

theorem hz3 : (![0, 0, 0] : Fin 3 → ℕ) = fun _ => 0 := by decide

/-- The body loads whole blocks and stores one. -/
theorem out_eq (x0 : Vec Ideal S4x16x1024 .f32) (x1 x2 x3 x4 : Vec Ideal S1x1024 .f32) (x5 x6 x7 : Vec Ideal S4x16 .f32) :
    out0_8 x0 x1 x2 x3 x4 x5 x6 x7 = k0_pay1 x1 x2 x3 x0 x4 := by
  unfold out0_8
  simp only [View.canon_unit_zero (S := S4x1024) hz2, View.ld_unit_zero (S := S1x1024) hz2, View.ld_unit_zero (S := S4x16x1024) hz3]

/-- The result: the mean of a cloud's features. -/
def result (A : In 4 16 16 1024) : Vec Ideal S4x1024 .f32 :=
  fun i => Ideal.div (∑ r : Fin 16, A.feat cnt (i 0) r (i 1)) (Ideal.ofBits .f32 0x41800000#32)

/-- What the body leaves of blocks that hold a stage's numbers. -/
theorem pay_result (A : In 4 16 16 1024) (x0 : Vec Ideal S4x16x1024 .f32) (x1 x2 x3 x4 : Vec Ideal S1x1024 .f32) (h0 : ∀ b r j, x0 (ix3 b r j) = A.top b r j)
    (h1 : ∀ j, x1 (ix2 (0 : Fin 1) j) = A.total j) (h2 : ∀ j, x2 (ix2 (0 : Fin 1) j) = A.totalSq j) (h3 : ∀ j, x3 (ix2 (0 : Fin 1) j) = A.g (ix1 j))
    (h4 : ∀ j, x4 (ix2 (0 : Fin 1) j) = A.b (ix1 j)) : k0_pay1 x1 x2 x3 x0 x4 = result A := by
  suffices h : ∀ (b : Fin 4) (j : Fin 1024), k0_pay1 x1 x2 x3 x0 x4 (ix2 b j) = result A (ix2 b j) by
    funext i
    rw [eq_ix2 i]
    exact h (i 0) (i 1)
  intro b j
  refine (pay1_apply x1 x2 x3 x4 x0 b j).trans ?_
  rw [h1, h2, h3, h4]
  refine congrArg (fun a : EReal => Ideal.div a (Ideal.ofBits .f32 0x41800000#32)) (Finset.sum_congr rfl fun r _ => ?_)
  rw [h0]
  rfl

/-- What the one point leaves. -/
theorem after (c : Dev nD) (t : Fin cfg0.N) : ((dats m 0 c).after 8 t : Vec Ideal S4x1024 .f32) = result (args m c) := by
  rw [after0_8, out_eq]
  refine pay_result (args m c) _ _ _ _ _ (fun b r j => ?_) (fun j => ?_) (fun j => ?_) (fun j => ?_) (fun j => ?_)
  · rw [blk0, V5]
  · rw [blk1, V1]
  · rw [blk2, V4]
  · rw [blk3, V12]
  · rw [blk4, V13]

/-- THE RESULT ARRAY holds the means of the features. -/
theorem arr (c : Dev nD) : (dats m 0 c).arrAt 8 cfg0.N = result (args m c) := by
  refine (dats m 0 c).arrAt_eq_of_after_last 8 tl (by decide +kernel) _ fun y => ?_
  blk_simp
  rw [after]

end Cert.Norm5Array

end
-- ==== Proof.NormRef5Array.lean ====
/-
  THE REFERENCE'S RESULT of the last normalisation as a function of the arguments (`Norm.In`): the mean of the largest normalised products,
  which are the kernel's features.
-/
module

public import proofs.«01_k».proof.Proof.Norm
public import proofs.«01_k».proof.Proof.NormRead
public import proofs.«01_k».proof.Proof.Gen.NormRef5Ideal.Read

@[expose] public section

set_option maxRecDepth 16384

noncomputable section

namespace Cert.NormRef5Array

open Cert.NormRef5Ideal Cert.NormRef5Ideal.Gen Cert.NormRef5Ideal.Read Idealize.ShloMosaic Cert.Norm Cert.NormRead

attribute [local instance] Cert.NormRef5Ideal.Gen.facts

variable (x0 : FVec Ideal ⟨4, ![4, 16, 16, 1024]⟩ .f32) (x2 x3 : FVec Ideal ⟨1, ![1024]⟩ .f32)

/-- The arguments. -/
def args : In 4 16 16 1024 where
  y := x0
  g := x2
  b := x3

/-- The number of a column's products. -/
abbrev cnt : EReal := Ideal.ofBits .f32 0x44800000#32

/-- It is their number. -/
theorem cnt_eq : cnt = ((1024 : ℝ) : EReal) := by
  simp [cnt, Ideal.ofBits, Ideal.ieee]
  rw [← EReal.coe_mul]
  norm_num

/-- The number less nothing, as the variance's divisor is written. -/
theorem v8_apply (i : S_.Idx) : val_main_call0_v8 (F := Ideal) i = cnt := by
  rw [val_main_call0_v8_apply, val_main_call0_cst_1_apply, val_main_call0_v7_apply, val_main_c_apply]
  show cnt - (((0#32 : BitVec 32).toInt : ℝ) : EReal) = cnt
  simp

/-- The means. -/
theorem v3_apply (u v w : Fin 1) (j : Fin 1024) : val_main_v3 (F := Ideal) x0 (ix4 u v w j) = (args x0 x2 x3).mean cnt j := by
  rw [val_main_v3_apply, val_main_v1_apply, val_main_v2_apply, val_main_cst_0_apply]
  have e : idx_main_v1 (ix4 u v w j) = ix1 j := by
    funext c; match c with | ⟨0, _⟩ => rfl
  rw [e]
  exact congrArg (fun a : EReal => Ideal.div a cnt) (reduceSum _ _ _ _ Ideal.ofBits_zero_f32 j)

/-- The means the variance is taken about. -/
theorem w3_apply (u v w : Fin 1) (j : Fin 1024) : val_main_call0_v3 (F := Ideal) x0 (ix4 u v w j) = (args x0 x2 x3).mean cnt j := by
  rw [val_main_call0_v3_apply, val_main_call0_v1_apply, val_main_call0_v2_apply, val_main_call0_cst_0_apply]
  have e : idx_main_call0_v1 (ix4 u v w j) = ix1 j := by
    funext c; match c with | ⟨0, _⟩ => rfl
  rw [e]
  exact congrArg (fun a : EReal => Ideal.div a cnt) (reduceSum _ _ _ _ Ideal.ofBits_zero_f32 j)

/-- The squared deviations. -/
theorem w6_apply (b : Fin 4) (r : Fin 16) (k : Fin 16) (j : Fin 1024) : val_main_call0_v6 (F := Ideal) x0 (ix4 b r k j)
    = ((x0 (ix4 b r k j) : EReal) - (args x0 x2 x3).mean cnt j) * (x0 (ix4 b r k j) - (args x0 x2 x3).mean cnt j) := by
  have e : idx_main_call0_v4 (ix4 b r k j) = ix4 (0 : Fin 1) (0 : Fin 1) (0 : Fin 1) j := by
    funext c; match c with | ⟨0, _⟩ => rfl | ⟨1, _⟩ => rfl | ⟨2, _⟩ => rfl | ⟨3, _⟩ => rfl
  rw [val_main_call0_v6_apply, val_main_call0_v5_apply, val_main_call0_v4_apply, e, w3_apply x0 x2 x3]
  rfl

/-- The variances. -/
theorem v4_apply (u v w : Fin 1) (j : Fin 1024) : val_main_v4 (F := Ideal) x0 (ix4 u v w j) = (args x0 x2 x3).varR cnt j := by
  have e : idx_main_call0_v10 (ix4 u v w j) = ix1 j := by
    funext c; match c with | ⟨0, _⟩ => rfl
  have h : val_main_call0_v12 (F := Ideal) x0 (ix4 u v w j) = (args x0 x2 x3).varR cnt j := by
    rw [val_main_call0_v12_apply, val_main_call0_v10_apply, val_main_call0_v11_apply, v8_apply, e]
    refine (congrArg (fun a : EReal => Ideal.div a cnt) (reduceSum _ _ _ _ Ideal.ofBits_zero_f32 j)).trans ?_
    unfold In.varR
    exact congrArg (fun a : EReal => Ideal.div a cnt) (Finset.sum_congr rfl fun b _ => Finset.sum_congr rfl fun r _ => Finset.sum_congr rfl fun k _ =>
      w6_apply x0 x2 x3 b r k j)
  have hp : ∀ i : S1x1x1x1024.Idx, broadcastInDim S1x1x1x1024 ![] bcast_S_S1x1x1x1024 (val_main_call0_v13 (F := Ideal)) i = 1#1 := by
    intro i
    show val_main_call0_v13 (F := Ideal) _ = _
    rw [val_main_call0_v13_apply, v8_apply, val_main_call0_cst_3_apply]
    show Ideal.cmp .ogt cnt (Ideal.ofBits .f32 0x00000000#32) = 1#1
    rw [cnt_eq, Ideal.ofBits_zero_f32]
    show BitVec.ofBool (decide ((0 : EReal) < ((1024 : ℝ) : EReal))) = 1#1
    rw [decide_eq_true (by exact_mod_cast (by norm_num : (0 : ℝ) < 1024))]
    rfl
  rw [← h]
  show Scalar.select _ _ _ = _
  rw [hp]
  rfl

/-- The normalised products. -/
theorem v18_apply (b : Fin 4) (r : Fin 16) (k : Fin 16) (j : Fin 1024) :
    val_main_v18 (F := Ideal) x0 x2 x3 (ix4 b r k j) = (args x0 x2 x3).normed cnt b r k j := by
  have e5 : idx_main_v5 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e10 : idx_main_v10 (ix4 b r k j) = ix4 (0 : Fin 1) (0 : Fin 1) (0 : Fin 1) j := by
    funext c; match c with | ⟨0, _⟩ => rfl | ⟨1, _⟩ => rfl | ⟨2, _⟩ => rfl | ⟨3, _⟩ => rfl
  have e12 : idx_main_v12 (idx_main_v13 (ix4 b r k j)) = ix1 j := by
    funext c; match c with | ⟨0, _⟩ => rfl
  have e15 : idx_main_v15 (idx_main_v16 (ix4 b r k j)) = ix1 j := by
    funext c; match c with | ⟨0, _⟩ => rfl
  rw [val_main_v18_apply, val_main_call1_v0_apply, val_main_call1_cst_apply, val_main_v17_apply, val_main_v16_apply, val_main_v15_apply, e15,
    val_main_v14_apply, val_main_v13_apply, val_main_v12_apply, e12, val_main_v11_apply, val_main_v10_apply, e10, val_main_v9_apply,
    val_main_v8_apply, v4_apply x0 x2 x3, val_main_v7_apply, val_main_cst_1_apply, val_main_v6_apply, val_main_v5_apply, e5, v3_apply x0 x2 x3]
  unfold In.normed
  rw [← Ideal.ofBits_zero_f32]
  rfl

variable {x0 x2 x3} (ok : (args x0 x2 x3).Ok)
include ok

/-- The features. -/
theorem v19_apply (b : Fin 4) (r : Fin 16) (j : Fin 1024) : val_main_v19 (F := Ideal) x0 x2 x3 (ix3 b r j) = (args x0 x2 x3).feat cnt b r j := by
  have h := In.feat_eq ok (by decide) 1024 (by norm_num) (by norm_num) b r j
  rw [← cnt_eq] at h
  rw [← h]
  unfold val_main_v19
  refine (reduceMax _ _ _ _ ofBits_bot b r j).trans ?_
  exact Finset.sup_congr rfl fun k _ => v18_apply x0 x2 x3 b r k j

/-- THE RESULT: the means of the features. -/
theorem result_eq : val_main_v22 (F := Ideal) x0 x2 x3
    = fun i => Ideal.div (∑ r : Fin 16, (args x0 x2 x3).feat cnt (i 0) r (i 1)) (Ideal.ofBits .f32 0x41800000#32) := by
  funext i
  rw [val_main_v22_apply, val_main_v21_apply, val_main_cst_4_apply, val_main_v20_apply, val_main_cst_3_apply,
    show (FloatOps.ofBits (F := Ideal) .f32 0x00000000#32 : EReal) = 0 from Ideal.ofBits_zero_f32, zero_add]
  refine congrArg (fun a : EReal => Ideal.div a (Ideal.ofBits .f32 0x41800000#32)) (Finset.sum_congr rfl fun r _ => ?_)
  have e : idx_main_v20 i r = ix3 (i 0) r (i 1) := by
    funext c; match c with | ⟨0, _⟩ => rfl | ⟨1, _⟩ => rfl | ⟨2, _⟩ => rfl
  exact (congrArg (val_main_v19 (F := Ideal) x0 x2 x3) e).trans (v19_apply ok (i 0) r (i 1))

end Cert.NormRef5Array

end
-- ==== Proof.NormStage5.lean ====
/-
  THE CLAIM OF THE LAST NORMALISATION, 16 queries a cloud and 1024 columns: under its precondition the call's result array is the
  reference's.
-/
module

public import proofs.«01_k».proof.Defs
public import proofs.«01_k».proof.Proof.Bounds
public import proofs.«01_k».proof.Proof.Norm5Array
public import proofs.«01_k».proof.Proof.NormRef5Array
public import proofs.«01_k».proof.Proof.Gen.Norm5Ideal.Value
public import proofs.«01_k».proof.Proof.Gen.NormRef5Ideal.Run
public import Idealize.ShloMosaic.Adequacy
public import Idealize.ShloMosaic.Init

@[expose] public section

set_option maxRecDepth 16384

noncomputable section

namespace Cert.NormStage5

open Idealize.ShloMosaic Idealize.SL.Sem Cert.Norm

/-- The side conditions of the precondition's operations. -/
theorem preFacts : Cert.Pre_nonneg5.Facts where
  bcast_S_S1024 := by decide

attribute [local instance] Cert.Norm5Ideal.Gen.facts Cert.NormRef5Ideal.Gen.facts preFacts

/-- The precondition says that the scales are not negative. -/
theorem ok (m : (ℓ : Loc Cert.Norm5Ideal.nD Cert.Norm5Ideal.τ Cert.Norm5Ideal.sig) → Buf (Elt Ideal) ℓ)
    (h : Cert.Pre_Norm5Ideal_nonneg5 m) (c : Dev Cert.Norm5Ideal.nD) : (Cert.Norm5Array.args m c).Ok :=
  fun i => Cert.Bounds.zero_le (congrFun (h c) i)

/-- The reference runs, leaves its arguments and has no semaphore. -/
theorem refFrame : Cert.quiescent_NormRef5Ideal := fun m ρ _ =>
  (θ_run Cert.NormRef5Ideal.defs _ _).mono (fun r h => ⟨fun c => (h c).2, sem_eq_zero_of_no_sems (by decide) r.2⟩)
    (Cert.NormRef5Ideal.Value.run (F := Ideal) m ρ)

/-- THE ALGEBRAIC CLAIM: from arguments that agree and meet the precondition both programs end with the same result and leave their
    arguments. -/
theorem algebraic : Cert.algebraic_Norm5Ideal_NormRef5Ideal_pre_nonneg5 := by
  intro m g m' g' hpre hag
  have hk := Cert.Norm5Ideal.Value.run_blocks (F := Ideal) m g
  have hr := Cert.NormRef5Ideal.Value.run (F := Ideal) m' g'
  have hok := ok m hpre
  have hargs : ∀ c : Dev Cert.NormRef5Ideal.nD, Cert.NormRef5Array.args (m' ((c.tc : Thread Cert.NormRef5Ideal.nD Cert.NormRef5Ideal.τ).loc Cert.NormRef5Ideal.main_arg0))
      (m' ((c.tc : Thread Cert.NormRef5Ideal.nD Cert.NormRef5Ideal.τ).loc Cert.NormRef5Ideal.main_arg2))
      (m' ((c.tc : Thread Cert.NormRef5Ideal.nD Cert.NormRef5Ideal.τ).loc Cert.NormRef5Ideal.main_arg3)) = Cert.Norm5Array.args m c := by
    intro c
    rw [(hag c).1, (hag c).2.2.1, (hag c).2.2.2]
    rfl
  refine ⟨fun c => (Cert.Norm5Ideal.Gen.dats m 0 c).arrAt 8 Cert.Norm5Ideal.cfg0.N, hk, ?_⟩
  refine (θ_run Cert.NormRef5Ideal.defs _ _).mono (fun r h c => ?_) hr
  obtain ⟨h0, h1⟩ := h c
  have hok' := hok c
  rw [← hargs c] at hok'
  refine ⟨h0.trans ?_, h1⟩
  refine (Cert.NormRef5Ideal.Read.val_main_v22_eq (F := Ideal) _ _ _).trans ((Cert.NormRef5Array.result_eq hok').trans ?_)
  rw [hargs c]
  exact (Cert.Norm5Array.arr m c).symm

end Cert.NormStage5

end
-- ==== Proof.MlpMath.lean ====
/-
  THE FIRST LAYER: a point's features are its product with the weights, normalised by the mean and the variance of the product over all the
  points of all the clouds, scaled, shifted and cut off at zero. A point's row is its coordinates followed by its features.
-/
module

public import proofs.«01_k».proof.Proof.RefRead
public import Idealize.ShloMosaic.Lib.ValueLayoutCasts
public import Idealize.ShloMosaic.Lib.MatmulPlain

@[expose] public section

noncomputable section

namespace Cert.MlpMath

open Idealize.ShloMosaic Cert.RefRead

/-- The arguments: the points, the weights, the scales and the shifts. -/
structure In where
  x : (⟨3, ![4, 4096, 6]⟩ : Shape).Idx → EReal
  w : (⟨2, ![6, 32]⟩ : Shape).Idx → EReal
  g : (⟨1, ![32]⟩ : Shape).Idx → EReal
  b : (⟨1, ![32]⟩ : Shape).Idx → EReal

/-- The number of points. -/
abbrev cnt : EReal := Ideal.ofBits .f32 0x46800000#32

/-- What is added to the variance. -/
abbrev eps : EReal := Ideal.ofBits .f32 0x3727C5AC#32

/-- It is their number. -/
theorem cnt_eq : cnt = ((16384 : ℝ) : EReal) := by
  simp [cnt, Ideal.ofBits, Ideal.ieee]
  rw [← EReal.coe_mul]
  norm_num

namespace In

variable (A : In)

/-- A point's product with the weights. -/
def prod (b : Fin 4) (r : Fin 4096) (j : Fin 32) : EReal := ∑ k : Fin 6, A.x (ix3 b r k) * A.w (ix2 k j)

/-- The mean of a column's products. -/
def mean (j : Fin 32) : EReal := Ideal.div (∑ b : Fin 4, ∑ r : Fin 4096, A.prod b r j) cnt

/-- Their mean squared deviation. -/
def var (j : Fin 32) : EReal :=
  Ideal.div (∑ b : Fin 4, ∑ r : Fin 4096, (A.prod b r j - A.mean j) * (A.prod b r j - A.mean j)) cnt

/-- A point's features. -/
def feat (b : Fin 4) (r : Fin 4096) (j : Fin 32) : EReal :=
  max (Ideal.div (A.prod b r j - A.mean j) (Ideal.sqrt (A.var j + eps)) * A.g (ix1 j) + A.b (ix1 j)) 0

/-- A point's coordinates, then its features. -/
def cell (b : Fin 4) (r : Fin 4096) (l : Fin 35) : EReal :=
  if hl : l.val < 3 then A.x (ix3 b r ⟨l.val, by omega⟩) else A.feat b r ⟨l.val - 3, by have := l.isLt; omega⟩

end In

/-! ## The points one after another -/

/-- The cloud of a row. -/
def bn (n : Fin 16384) : Fin 4 := ⟨n.val / 4096, by have := n.isLt; omega⟩

/-- The point of a row. -/
def rn (n : Fin 16384) : Fin 4096 := ⟨n.val % 4096, Nat.mod_lt _ (by norm_num)⟩

/-- A sum over the rows is a sum over the clouds and their points. -/
theorem sum_rows (f : Fin 4 → Fin 4096 → EReal) : ∑ n : Fin 16384, f (bn n) (rn n) = ∑ b : Fin 4, ∑ r : Fin 4096, f b r := by
  rw [← Fintype.sum_prod_type' (f := f)]
  exact Fintype.sum_equiv (finProdFinEquiv (m := 4) (n := 4096)).symm (fun n : Fin 16384 => f (bn n) (rn n)) (fun p => f p.1 p.2) fun n => rfl

/-- The rows: every point's coordinates and features. -/
def result (A : In) : (⟨2, ![16384, 35]⟩ : Shape).Idx → EReal := fun i => A.cell (bn (i 0)) (rn (i 0)) (i 1)

/-! ## Operations read at an index -/

/-- A product of two matrices, from zero. -/
theorem plain_apply {a b c : ℕ} (l : FVec Ideal ⟨2, ![a, b]⟩ .f32) (r : FVec Ideal ⟨2, ![b, c]⟩ .f32) (i : Fin a) (j : Fin c) :
    matmul (DotDims.plain a b c) none l r (constant ⟨2, ![a, c]⟩ .f32 0x00000000#32) (ix2 i j) = (∑ k : Fin b, l (ix2 i k) * r (ix2 k j) : EReal) := by
  rw [ix2_eq_valueIdx]
  refine (Ideal.matmul_plain_apply none l r _ i j).trans ?_
  rw [show (constant (F := Ideal) ⟨2, ![a, c]⟩ .f32 0x00000000#32 (ValueIdx.ix2 i j)) = (0 : EReal) from Ideal.ofBits_zero_f32, zero_add]
  simp only [ix2_eq_valueIdx]

/-- A sum over the two leading axes of a rank-3 array. -/
theorem reduceAdd_01 {N R C : ℕ} (h : (⟨3, ![N, R, C]⟩ : Shape).ReducesTo [0, 1] ⟨1, ![C]⟩) (x : (⟨3, ![N, R, C]⟩ : Shape).Idx → EReal)
    (init : EReal) (j : Fin C) :
    Ideal.hostReduceAdd h x init (ix1 j) = init + ∑ b : Fin N, ∑ r : Fin R, x (ix3 b r j) := by
  unfold Ideal.hostReduceAdd
  congr 1
  have hd : ∀ i : (⟨3, ![N, R, C]⟩ : Shape).Idx, h.drop i = ix1 j ↔ i 2 = j := by
    intro i
    have e : (h.drop i 0).val = (i 2).val := rfl
    constructor
    · intro hij
      rw [hij] at e
      exact Fin.ext e.symm
    · intro hij
      funext a
      obtain rfl : a = 0 := Subsingleton.elim _ _
      exact Fin.ext (e.trans (congrArg Fin.val hij))
  rw [← Fintype.sum_prod_type' (f := fun (b : Fin N) (r : Fin R) => x (ix3 b r j))]
  refine (Finset.sum_bij (fun (p : Fin N × Fin R) _ => (ix3 p.1 p.2 j : (⟨3, ![N, R, C]⟩ : Shape).Idx)) ?_ ?_ ?_ ?_).symm
  · intro p _
    exact Finset.mem_filter.mpr ⟨Finset.mem_univ _, (hd _).mpr rfl⟩
  · intro p _ p' _ e
    exact Prod.ext (congrFun e 0) (congrFun e 1)
  · intro i hi
    refine ⟨(i 0, i 1), Finset.mem_univ _, ?_⟩
    have := (hd i).mp (Finset.mem_filter.mp hi).2
    rw [← this]
    funext a
    match a with
    | ⟨0, _⟩ => rfl
    | ⟨1, _⟩ => rfl
    | ⟨2, _⟩ => rfl
  · intro p _
    rfl

/-- A sum over the two leading axes of a rank-3 array, from zero. -/
theorem reduceSum {N R C : ℕ} (h : (⟨3, ![N, R, C]⟩ : Shape).ReducesTo [0, 1] ⟨1, ![C]⟩) (x : FVec Ideal ⟨3, ![N, R, C]⟩ .f32)
    (c : FVec Ideal ⟨0, ![]⟩ .f32) (hu : 0 < (⟨0, ![]⟩ : Shape).numel) (hc : c (Shape.Idx.first hu) = (0 : EReal)) (j : Fin C) :
    Host.reduceAdd x c h hu (ix1 j) = (∑ b : Fin N, ∑ r : Fin R, x (ix3 b r j) : EReal) := by
  simp only [Host.reduceAdd, Ideal.hostReduceAdd_def]
  rw [hc]
  exact (reduceAdd_01 h x 0 j).trans (zero_add _)

/-- Coordinates followed by features, read at an index. -/
theorem concat2_apply {n : ℕ} (p : (⟨2, ![n, 3]⟩ : Shape).Idx → EReal) (f : (⟨2, ![n, 32]⟩ : Shape).Idx → EReal)
    (h : Shape.Concatenates [⟨2, ![n, 3]⟩, ⟨2, ![n, 32]⟩] ⟨2, ![n, 35]⟩ 1) (i : Fin n) (l : Fin 35) :
    concatenate ⟨2, ![n, 35]⟩ 1 [⟨⟨2, ![n, 3]⟩, p⟩, ⟨⟨2, ![n, 32]⟩, f⟩] h (ix2 i l)
      = if hl : l.val < 3 then p (ix2 i ⟨l.val, hl⟩) else f (ix2 i ⟨l.val - 3, by have := l.isLt; omega⟩) := by
  by_cases hl : l.val < 3
  · rw [dif_pos hl]
    exact concatenate_pair_apply_left 1 p f h (ix2 i l) rfl (ix2 i ⟨l.val, hl⟩) fun b => match b with
      | ⟨0, _⟩ => rfl
      | ⟨1, _⟩ => rfl
  · rw [dif_neg hl]
    refine concatenate_pair_apply_right 1 p f h (ix2 i l) rfl rfl (ix2 i ⟨l.val - 3, by have := l.isLt; omega⟩) (fun b hb => ?_) ?_
    · match b with
      | ⟨0, _⟩ => rfl
      | ⟨1, _⟩ => exact absurd rfl hb
    · show l.val - 3 + 3 = l.val
      omega

/-- The same of a rank-3 array. -/
theorem concat3_apply {m n : ℕ} (p : (⟨3, ![m, n, 3]⟩ : Shape).Idx → EReal) (f : (⟨3, ![m, n, 32]⟩ : Shape).Idx → EReal)
    (h : Shape.Concatenates [⟨3, ![m, n, 3]⟩, ⟨3, ![m, n, 32]⟩] ⟨3, ![m, n, 35]⟩ 2) (b : Fin m) (i : Fin n) (l : Fin 35) :
    concatenate ⟨3, ![m, n, 35]⟩ 2 [⟨⟨3, ![m, n, 3]⟩, p⟩, ⟨⟨3, ![m, n, 32]⟩, f⟩] h (ix3 b i l)
      = if hl : l.val < 3 then p (ix3 b i ⟨l.val, hl⟩) else f (ix3 b i ⟨l.val - 3, by have := l.isLt; omega⟩) := by
  by_cases hl : l.val < 3
  · rw [dif_pos hl]
    exact concatenate_pair_apply_left 2 p f h (ix3 b i l) rfl (ix3 b i ⟨l.val, hl⟩) fun c => match c with
      | ⟨0, _⟩ => rfl
      | ⟨1, _⟩ => rfl
      | ⟨2, _⟩ => rfl
  · rw [dif_neg hl]
    refine concatenate_pair_apply_right 2 p f h (ix3 b i l) rfl rfl (ix3 b i ⟨l.val - 3, by have := l.isLt; omega⟩) (fun c hc => ?_) ?_
    · match c with
      | ⟨0, _⟩ => rfl
      | ⟨1, _⟩ => rfl
      | ⟨2, _⟩ => exact absurd rfl hc
    · show l.val - 3 + 3 = l.val
      omega

end Cert.MlpMath

end
-- ==== Proof.MlpArray.lean ====
/-
  THE RESULT ARRAY OF THE FIRST LAYER'S CALL, as a function of the arguments (`MlpMath.In`).
-/
module

public import proofs.«01_k».proof.Proof.MlpMath
public import proofs.«01_k».proof.Proof.Gen.MlpIdeal.Value
public import Idealize.ShloMosaic.Lib.ValueLayoutCasts
public import Idealize.ShloMosaic.Lib.Pipeline.Value
public import Idealize.ShloMosaic.Lib.Pipeline.ValueKit.Geometry

@[expose] public section

set_option maxRecDepth 16384

noncomputable section

namespace Cert.MlpArray

open Cert.MlpIdeal Cert.MlpIdeal.Gen Idealize.ShloMosaic Idealize.ShloMosaic.TcCoe Idealize.SL.Sem Cert.RefRead Cert.MlpMath

attribute [local instance] Cert.MlpIdeal.Gen.facts

/-! ## The body's value, at an index -/

/-- The normalised, scaled, shifted and cut off products. -/
def normed (y : FVec Ideal S16384x32 .f32) (g b : Vec Ideal S1x32 .f32) : FVec Ideal S16384x32 .f32 :=
  have v4 : FVec Ideal S32 .f32 := multiReduction .add [0] S32 y 0x00000000#32 reduces_S16384x32_S32 (.inl rfl) rfl
  have v5 : FVec Ideal S1x32 .f32 := shapeCast S1x32 v4 shapeCasts_S32_S1x32
  have cst_4 : Ideal .f32 := Scalar.ofBits .f32 0x46800000#32
  have v6 : FVec Ideal S1x32 .f32 := broadcast S1x32 cst_4
  have v7 : FVec Ideal S1x32 .f32 := divf v5 v6
  have v8 : FVec Ideal S16384x32 .f32 := broadcastTo S16384x32 v7 broadcasts_S1x32_S16384x32
  have v9 : FVec Ideal S16384x32 .f32 := subf y v8
  have v10 : FVec Ideal S16384x32 .f32 := mulf v9 v9
  have v11 : FVec Ideal S32 .f32 := multiReduction .add [0] S32 v10 0x00000000#32 reduces_S16384x32_S32 (.inl rfl) rfl
  have v12 : FVec Ideal S1x32 .f32 := shapeCast S1x32 v11 shapeCasts_S32_S1x32
  have cst_6 : Ideal .f32 := Scalar.ofBits .f32 0x46800000#32
  have v13 : FVec Ideal S1x32 .f32 := broadcast S1x32 cst_6
  have v14 : FVec Ideal S1x32 .f32 := divf v12 v13
  have v15 : FVec Ideal S16384x32 .f32 := broadcastTo S16384x32 v7 broadcasts_S1x32_S16384x32
  have v16 : FVec Ideal S16384x32 .f32 := subf y v15
  have cst_7 : Ideal .f32 := Scalar.ofBits .f32 0x3727C5AC#32
  have v17 : FVec Ideal S1x32 .f32 := broadcast S1x32 cst_7
  have v18 : FVec Ideal S1x32 .f32 := addf v14 v17
  have v19 : FVec Ideal S1x32 .f32 := sqrt v18
  have v20 : FVec Ideal S16384x32 .f32 := broadcastTo S16384x32 v19 broadcasts_S1x32_S16384x32
  have v21 : FVec Ideal S16384x32 .f32 := divf v16 v20
  have v23 : FVec Ideal S1x32 .f32 := shapeCast S1x32 g shapeCasts_S1x32_S1x32
  have v24 : FVec Ideal S16384x32 .f32 := broadcastTo S16384x32 v23 broadcasts_S1x32_S16384x32
  have v25 : FVec Ideal S16384x32 .f32 := mulf v21 v24
  have v27 : FVec Ideal S1x32 .f32 := shapeCast S1x32 b shapeCasts_S1x32_S1x32
  have v28 : FVec Ideal S16384x32 .f32 := broadcastTo S16384x32 v27 broadcasts_S1x32_S16384x32
  have v29 : FVec Ideal S16384x32 .f32 := addf v25 v28
  have cst_12 : Ideal .f32 := Scalar.ofBits .f32 0x00000000#32
  have v31 : FVec Ideal S16384x32 .f32 := broadcast S16384x32 cst_12
  have v32 : FVec Ideal S16384x32 .f32 := maximumf v29 v31
  v32

/-- They are, at an index: the product less the column's mean, divided by the root of its variance. -/
theorem normed_apply (y : FVec Ideal S16384x32 .f32) (g b : Vec Ideal S1x32 .f32) (n : Fin 16384) (j : Fin 32) :
    normed y g b (ix2 n j)
      = max (Ideal.div (y (ix2 n j) - Ideal.div (∑ k : Fin 16384, y (ix2 k j)) cnt)
          (Ideal.sqrt (Ideal.div (∑ i : Fin 16384, (y (ix2 i j) - Ideal.div (∑ k : Fin 16384, y (ix2 k j)) cnt)
            * (y (ix2 i j) - Ideal.div (∑ k : Fin 16384, y (ix2 k j)) cnt)) cnt + eps)) * g (ix2 (0 : Fin 1) j) + b (ix2 (0 : Fin 1) j)) 0 := by
  rw [← Ideal.ofBits_zero_f32]
  pointwise [normed]

/-- The body's value: the coordinates, then the normalised products. -/
theorem pay_eq (x : Vec Ideal S16384x6 .f32) (w : Vec Ideal S6x32 .f32) (g b : Vec Ideal S1x32 .f32) :
    k0_pay1 x w g b = concatenate S16384x35 1 [⟨S16384x3, extractStridedSlice S16384x3 ![0, 0] (shapeCast S16384x6 x shapeCasts_S16384x6_S16384x6) slices_S16384x6_o0_0_S16384x3⟩,
      ⟨S16384x32, normed (matmul (φ₁ := .f32) (φ₂ := .f32) (DotDims.plain 16384 6 32) none (shapeCast S16384x6 x shapeCasts_S16384x6_S16384x6 : Vec Ideal S16384x6 .f32) w
        (constant S16384x32 .f32 0x00000000#32)) g b⟩] concatenates_S16384x3_S16384x32_S16384x35_d1 := rfl

/-- A row's coordinates. -/
theorem slice_apply (x : Vec Ideal S16384x6 .f32) (n : Fin 16384) (l : Fin 3) :
    extractStridedSlice S16384x3 ![0, 0] x slices_S16384x6_o0_0_S16384x3 (ix2 n l) = x (ix2 n ⟨l.val, by omega⟩) :=
  extractStridedSlice_apply ![0, 0] x slices_S16384x6_o0_0_S16384x3 (ix2 n l) (ix2 n ⟨l.val, by omega⟩) fun a => match a with
    | ⟨0, _⟩ => by show n.val = 0 + n.val; omega
    | ⟨1, _⟩ => by show l.val = 0 + l.val; omega

/-- A reshape to the same shape. -/
theorem cast_self (x : Vec Ideal S16384x6 .f32) : (shapeCast S16384x6 x shapeCasts_S16384x6_S16384x6 : Vec Ideal S16384x6 .f32) = x :=
  funext fun i => shapeCast_apply x shapeCasts_S16384x6_S16384x6 i i rfl

/-- What the body leaves of blocks that hold the arguments. -/
theorem pay_result (A : In) (x : Vec Ideal S16384x6 .f32) (w : Vec Ideal S6x32 .f32) (g b : Vec Ideal S1x32 .f32)
    (h0 : ∀ n k, x (ix2 n k) = A.x (ix3 (bn n) (rn n) k)) (h1 : w = A.w) (h2 : ∀ j, g (ix2 (0 : Fin 1) j) = A.g (ix1 j))
    (h3 : ∀ j, b (ix2 (0 : Fin 1) j) = A.b (ix1 j)) : k0_pay1 x w g b = result A := by
  suffices h : ∀ (n : Fin 16384) (l : Fin 35), k0_pay1 x w g b (ix2 n l) = result A (ix2 n l) by
    funext i
    rw [eq_ix2 i]
    exact h (i 0) (i 1)
  intro n l
  rw [pay_eq, cast_self]
  refine (concat2_apply _ _ _ n l).trans ?_
  show _ = A.cell (bn n) (rn n) l
  unfold In.cell
  split
  · rw [slice_apply, h0]
  · have hy : ∀ (i : Fin 16384) (j : Fin 32), (matmul (φ₁ := .f32) (φ₂ := .f32) (DotDims.plain 16384 6 32) none x w (constant S16384x32 .f32 0x00000000#32) : FVec Ideal S16384x32 .f32) (ix2 i j)
        = A.prod (bn i) (rn i) j := by
      intro i j
      refine (plain_apply x w i j).trans ?_
      unfold In.prod
      rw [h1]
      exact Finset.sum_congr rfl fun k _ => by rw [h0]
    rw [normed_apply]
    simp only [hy, h2, h3]
    unfold In.feat In.var In.mean
    rw [sum_rows (fun b r => A.prod b r _)]
    rw [sum_rows (fun b r => (A.prod b r _ - Ideal.div (∑ b : Fin 4, ∑ r : Fin 4096, A.prod b r _) cnt)
      * (A.prod b r _ - Ideal.div (∑ b : Fin 4, ∑ r : Fin 4096, A.prod b r _) cnt))]

/-! ## The host's arrays -/

/-- A vector reshaped to a row. -/
theorem row_cast (x : Vec Ideal S32 .f32) (j : Fin 32) : shapeCast S1x32 x shapeCasts_S32_S1x32 (ix2 (0 : Fin 1) j) = x (ix1 j) := by
  rw [ix2_eq_valueIdx, ix1_eq_valueIdx]
  exact ValueIdx.shapeCast_a_1a_apply ..

/-- The points reshaped to rows. -/
theorem rows_cast (x : Vec Ideal S4x4096x6 .f32) (n : Fin 16384) (k : Fin 6) :
    shapeCast S16384x6 x shapeCasts_S4x4096x6_S16384x6 (ix2 n k) = x (ix3 (bn n) (rn n) k) :=
  shapeCast_apply x shapeCasts_S4x4096x6_S16384x6 (ix2 n k) (ix3 (bn n) (rn n) k) (by
    rewrite [Shape.rowMajor_val_three, Shape.rowMajor_val_two]
    show (n.val / 4096 * 4096 + n.val % 4096) * 6 + k.val = n.val * 6 + k.val
    omega)

variable (m : (ℓ : Loc nD τ sig) → Buf (Elt Ideal) ℓ)

/-- The arguments. -/
def args (c : Dev nD) : In where
  x := m ((c : Thread nD τ).loc main_arg0)
  w := m ((c : Thread nD τ).loc main_arg1)
  g := m ((c : Thread nD τ).loc main_arg2)
  b := m ((c : Thread nD τ).loc main_arg3)

/-- The points' rows. -/
theorem V0 (c : Dev nD) (n : Fin 16384) (k : Fin 6) : (V m c main_v0 : Vec Ideal S16384x6 .f32) (ix2 n k) = (args m c).x (ix3 (bn n) (rn n) k) := by
  unfold_abbrev_sides
  after_results
  generalize hx : (m ((c : Thread nD τ).loc main_arg0) : Vec Ideal S4x4096x6 .f32) = x
  exact rows_cast x n k

/-- The scales. -/
theorem V1 (c : Dev nD) (j : Fin 32) : (V m c main_v1 : Vec Ideal S1x32 .f32) (ix2 (0 : Fin 1) j) = (args m c).g (ix1 j) := by
  unfold_abbrev_sides
  after_results
  generalize hx : (m ((c : Thread nD τ).loc main_arg2) : Vec Ideal S32 .f32) = x
  exact row_cast x j

/-- The shifts. -/
theorem V2 (c : Dev nD) (j : Fin 32) : (V m c main_v2 : Vec Ideal S1x32 .f32) (ix2 (0 : Fin 1) j) = (args m c).b (ix1 j) := by
  unfold_abbrev_sides
  after_results
  generalize hx : (m ((c : Thread nD τ).loc main_arg3) : Vec Ideal S32 .f32) = x
  exact row_cast x j

/-! ## The windows' blocks: there is one point, and every block is the whole array -/

/-- The one point. -/
abbrev tl : Fin cfg0.N := (⟨0, by decide +kernel⟩ : Fin grid0.N)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- The block of the points is the whole array, whatever it holds. -/
theorem whole0 (c : Dev nD) (t : Fin cfg0.N) (W : Buf (Elt Ideal) ((c : Thread nD τ).loc main_v0)) :
    (((cfg0.win 0).blk t).view.read (Elt Ideal) W : Vec Ideal S16384x6 .f32) = W := by
  funext y
  show (W : Vec Ideal S16384x6 .f32) (((cfg0.win 0).blk t).view.emb y) = (W : Vec Ideal S16384x6 .f32) y
  refine congrArg (W : Vec Ideal S16384x6 .f32) (funext fun a => Fin.ext ?_)
  refine Pipeline.Window.rect_emb_val_of_index_zero win0_0 t a ?_ y
  rw [idx0]
  match a with
  | ⟨0, _⟩ => rfl
  | ⟨1, _⟩ => rfl

/-- The block of the points. -/
theorem blk0 (c : Dev nD) (t : Fin cfg0.N) : (iblk m c 0 t : Vec Ideal S16384x6 .f32) = V m c main_v0 := whole0 c t (V m c main_v0)

/-- The block of the weights is the whole array, whatever it holds. -/
theorem whole1 (c : Dev nD) (t : Fin cfg0.N) (W : Buf (Elt Ideal) ((c : Thread nD τ).loc main_arg1)) :
    (((cfg0.win 1).blk t).view.read (Elt Ideal) W : Vec Ideal S6x32 .f32) = W := by
  funext y
  show (W : Vec Ideal S6x32 .f32) (((cfg0.win 1).blk t).view.emb y) = (W : Vec Ideal S6x32 .f32) y
  refine congrArg (W : Vec Ideal S6x32 .f32) (funext fun a => Fin.ext ?_)
  refine Pipeline.Window.rect_emb_val_of_index_zero win0_1 t a ?_ y
  rw [idx1]
  match a with
  | ⟨0, _⟩ => rfl
  | ⟨1, _⟩ => rfl

/-- The block of the weights. -/
theorem blk1 (c : Dev nD) (t : Fin cfg0.N) : (iblk m c 1 t : Vec Ideal S6x32 .f32) = V m c main_arg1 := whole1 c t (V m c main_arg1)

/-- The block of the scales is the whole array, whatever it holds. -/
theorem whole2 (c : Dev nD) (t : Fin cfg0.N) (W : Buf (Elt Ideal) ((c : Thread nD τ).loc main_v1)) :
    (((cfg0.win 2).blk t).view.read (Elt Ideal) W : Vec Ideal S1x32 .f32) = W := by
  funext y
  show (W : Vec Ideal S1x32 .f32) (((cfg0.win 2).blk t).view.emb y) = (W : Vec Ideal S1x32 .f32) y
  refine congrArg (W : Vec Ideal S1x32 .f32) (funext fun a => Fin.ext ?_)
  refine Pipeline.Window.rect_emb_val_of_index_zero win0_2 t a ?_ y
  rw [idx2]
  match a with
  | ⟨0, _⟩ => rfl
  | ⟨1, _⟩ => rfl

/-- The block of the scales. -/
theorem blk2 (c : Dev nD) (t : Fin cfg0.N) : (iblk m c 2 t : Vec Ideal S1x32 .f32) = V m c main_v1 := whole2 c t (V m c main_v1)

/-- The block of the shifts is the whole array, whatever it holds. -/
theorem whole3 (c : Dev nD) (t : Fin cfg0.N) (W : Buf (Elt Ideal) ((c : Thread nD τ).loc main_v2)) :
    (((cfg0.win 3).blk t).view.read (Elt Ideal) W : Vec Ideal S1x32 .f32) = W := by
  funext y
  show (W : Vec Ideal S1x32 .f32) (((cfg0.win 3).blk t).view.emb y) = (W : Vec Ideal S1x32 .f32) y
  refine congrArg (W : Vec Ideal S1x32 .f32) (funext fun a => Fin.ext ?_)
  refine Pipeline.Window.rect_emb_val_of_index_zero win0_3 t a ?_ y
  rw [idx3]
  match a with
  | ⟨0, _⟩ => rfl
  | ⟨1, _⟩ => rfl

/-- The block of the shifts. -/
theorem blk3 (c : Dev nD) (t : Fin cfg0.N) : (iblk m c 3 t : Vec Ideal S1x32 .f32) = V m c main_v2 := whole3 c t (V m c main_v2)

/-! ## The result array -/

theorem hz2 : (![0, 0] : Fin 2 → ℕ) = fun _ => 0 := by decide

/-- The body loads whole blocks and stores one. -/
theorem out_eq (x0 : Vec Ideal S16384x6 .f32) (x1 : Vec Ideal S6x32 .f32) (x2 x3 : Vec Ideal S1x32 .f32) :
    out0_4 x0 x1 x2 x3 = k0_pay1 x0 x1 x2 x3 := by
  unfold out0_4
  simp only [View.canon_unit_zero (S := S16384x35) hz2, View.ld_unit_zero (S := S16384x6) hz2, View.ld_unit_zero (S := S6x32) hz2,
    View.ld_unit_zero (S := S1x32) hz2]

/-- What the one point leaves. -/
theorem after (c : Dev nD) (t : Fin cfg0.N) : ((dats m 0 c).after 4 t : Vec Ideal S16384x35 .f32) = result (args m c) := by
  rw [after0_4, out_eq]
  refine pay_result (args m c) _ _ _ _ (fun n k => ?_) ?_ (fun j => ?_) (fun j => ?_)
  · rw [blk0, V0]
  · rw [blk1, V_main_arg1]
    rfl
  · rw [blk2, V1]
  · rw [blk3, V2]

/-- THE RESULT ARRAY holds the rows. -/
theorem arr (c : Dev nD) : (dats m 0 c).arrAt 4 cfg0.N = result (args m c) := by
  refine (dats m 0 c).arrAt_eq_of_after_last 4 tl (by decide +kernel) _ fun y => ?_
  blk_simp
  rw [after]

end Cert.MlpArray

end
-- ==== Proof.MlpRefArray.lean ====
/-
  THE REFERENCE'S RESULT of the first layer as a function of the arguments (`MlpMath.In`).
-/
module

public import proofs.«01_k».proof.Proof.MlpMath
public import proofs.«01_k».proof.Proof.Gen.MlpRefIdeal.Read

@[expose] public section

set_option maxRecDepth 16384

noncomputable section

namespace Cert.MlpRefArray

open Cert.MlpRefIdeal Cert.MlpRefIdeal.Gen Cert.MlpRefIdeal.Read Idealize.ShloMosaic Cert.RefRead Cert.MlpMath

attribute [local instance] Cert.MlpRefIdeal.Gen.facts

variable (x0 : FVec Ideal ⟨3, ![4, 4096, 6]⟩ .f32) (x1 : FVec Ideal ⟨2, ![6, 32]⟩ .f32) (x2 x3 : FVec Ideal ⟨1, ![32]⟩ .f32)

/-- The arguments. -/
def args : In where
  x := x0
  w := x1
  g := x2
  b := x3

/-- The number less nothing, as the variance's divisor is written. -/
theorem v8_apply (i : S_.Idx) : val_main_call0_v8 (F := Ideal) i = cnt := by
  rw [val_main_call0_v8_apply, val_main_call0_cst_1_apply, val_main_call0_v7_apply, val_main_c_apply]
  show cnt - (((0#32 : BitVec 32).toInt : ℝ) : EReal) = cnt
  simp

/-- The products. -/
theorem v1_apply (b : Fin 4) (r : Fin 4096) (j : Fin 32) : val_main_v1 (F := Ideal) x0 x1 (ix3 b r j) = (args x0 x1 x2 x3).prod b r j := by
  rw [val_main_v1_apply]
  refine Finset.sum_congr rfl fun k _ => ?_
  have el : lidx_main_v1 (ix3 b r j) k = ix3 b r k := by
    funext c; match c with | ⟨0, _⟩ => rfl | ⟨1, _⟩ => rfl | ⟨2, _⟩ => rfl
  have er : ridx_main_v1 (ix3 b r j) k = ix2 k j := by
    funext c; match c with | ⟨0, _⟩ => rfl | ⟨1, _⟩ => rfl
  rw [el, er]
  rfl

/-- The mean of a column's products, as both parts of the reference take it. -/
theorem sum_apply (j : Fin 32) (c : FVec Ideal S_ .f32) (hc : c (Shape.Idx.first h_S_) = (0 : EReal)) :
    Ideal.div (Host.reduceAdd (val_main_v1 (F := Ideal) x0 x1) c reducesTo_S4x4096x32_S32_d0_1 h_S_ (ix1 j)) cnt = (args x0 x1 x2 x3).mean j := by
  refine (congrArg (fun a : EReal => Ideal.div a cnt) (reduceSum _ _ _ _ hc j)).trans ?_
  unfold In.mean
  exact congrArg (fun a : EReal => Ideal.div a cnt) (Finset.sum_congr rfl fun b _ => Finset.sum_congr rfl fun r _ => v1_apply x0 x1 x2 x3 b r j)

/-- The means. -/
theorem v5_apply (u v : Fin 1) (j : Fin 32) : val_main_v5 (F := Ideal) x0 x1 (ix3 u v j) = (args x0 x1 x2 x3).mean j := by
  rw [val_main_v5_apply, val_main_v3_apply, val_main_v4_apply, val_main_cst_0_apply]
  have e : idx_main_v3 (ix3 u v j) = ix1 j := by
    funext c; match c with | ⟨0, _⟩ => rfl
  rw [e]
  exact sum_apply x0 x1 x2 x3 j _ Ideal.ofBits_zero_f32

/-- The means the variance is taken about. -/
theorem w3_apply (u v : Fin 1) (j : Fin 32) : val_main_call0_v3 (F := Ideal) x0 x1 (ix3 u v j) = (args x0 x1 x2 x3).mean j := by
  rw [val_main_call0_v3_apply, val_main_call0_v1_apply, val_main_call0_v2_apply, val_main_call0_cst_0_apply]
  have e : idx_main_call0_v1 (ix3 u v j) = ix1 j := by
    funext c; match c with | ⟨0, _⟩ => rfl
  rw [e]
  exact sum_apply x0 x1 x2 x3 j _ Ideal.ofBits_zero_f32

/-- The squared deviations. -/
theorem w6_apply (b : Fin 4) (r : Fin 4096) (j : Fin 32) : val_main_call0_v6 (F := Ideal) x0 x1 (ix3 b r j)
    = ((args x0 x1 x2 x3).prod b r j - (args x0 x1 x2 x3).mean j) * ((args x0 x1 x2 x3).prod b r j - (args x0 x1 x2 x3).mean j) := by
  have e : idx_main_call0_v4 (ix3 b r j) = ix3 (0 : Fin 1) (0 : Fin 1) j := by
    funext c; match c with | ⟨0, _⟩ => rfl | ⟨1, _⟩ => rfl | ⟨2, _⟩ => rfl
  rw [val_main_call0_v6_apply, val_main_call0_v5_apply, val_main_call0_v4_apply, e, w3_apply x0 x1 x2 x3, v1_apply x0 x1 x2 x3]
  rfl

/-- The variances. -/
theorem v6_apply (u v : Fin 1) (j : Fin 32) : val_main_v6 (F := Ideal) x0 x1 (ix3 u v j) = (args x0 x1 x2 x3).var j := by
  have e : idx_main_call0_v10 (ix3 u v j) = ix1 j := by
    funext c; match c with | ⟨0, _⟩ => rfl
  have h : val_main_call0_v12 (F := Ideal) x0 x1 (ix3 u v j) = (args x0 x1 x2 x3).var j := by
    rw [val_main_call0_v12_apply, val_main_call0_v10_apply, val_main_call0_v11_apply, v8_apply, e]
    refine (congrArg (fun a : EReal => Ideal.div a cnt) (reduceSum _ _ _ _ Ideal.ofBits_zero_f32 j)).trans ?_
    unfold In.var
    exact congrArg (fun a : EReal => Ideal.div a cnt) (Finset.sum_congr rfl fun b _ => Finset.sum_congr rfl fun r _ => w6_apply x0 x1 x2 x3 b r j)
  have hp : ∀ i : S1x1x32.Idx, broadcastInDim S1x1x32 ![] bcast_S_S1x1x32 (val_main_call0_v13 (F := Ideal)) i = 1#1 := by
    intro i
    show val_main_call0_v13 (F := Ideal) _ = _
    rw [val_main_call0_v13_apply, v8_apply, val_main_call0_cst_3_apply]
    show Ideal.cmp .ogt cnt (Ideal.ofBits .f32 0x00000000#32) = 1#1
    rw [cnt_eq, Ideal.ofBits_zero_f32]
    show BitVec.ofBool (decide ((0 : EReal) < ((16384 : ℝ) : EReal))) = 1#1
    rw [decide_eq_true (by exact_mod_cast (by norm_num : (0 : ℝ) < 16384))]
    rfl
  rw [← h]
  show Scalar.select _ _ _ = _
  rw [hp]
  rfl

/-- The features. -/
theorem v20_apply (b : Fin 4) (r : Fin 4096) (j : Fin 32) :
    val_main_v20 (F := Ideal) x0 x1 x2 x3 (ix3 b r j) = (args x0 x1 x2 x3).feat b r j := by
  have e7 : idx_main_v7 (ix3 b r j) = ix3 (0 : Fin 1) (0 : Fin 1) j := by
    funext c; match c with | ⟨0, _⟩ => rfl | ⟨1, _⟩ => rfl | ⟨2, _⟩ => rfl
  have e12 : idx_main_v12 (ix3 b r j) = ix3 (0 : Fin 1) (0 : Fin 1) j := by
    funext c; match c with | ⟨0, _⟩ => rfl | ⟨1, _⟩ => rfl | ⟨2, _⟩ => rfl
  have e14 : idx_main_v14 (idx_main_v15 (ix3 b r j)) = ix1 j := by
    funext c; match c with | ⟨0, _⟩ => rfl
  have e17 : idx_main_v17 (idx_main_v18 (ix3 b r j)) = ix1 j := by
    funext c; match c with | ⟨0, _⟩ => rfl
  rw [val_main_v20_apply, val_main_call1_v0_apply, val_main_call1_cst_apply, val_main_v19_apply, val_main_v18_apply, val_main_v17_apply, e17,
    val_main_v16_apply, val_main_v15_apply, val_main_v14_apply, e14, val_main_v13_apply, val_main_v12_apply, e12, val_main_v11_apply,
    val_main_v10_apply, v6_apply x0 x1 x2 x3, val_main_v9_apply, val_main_cst_1_apply, val_main_v8_apply, val_main_v7_apply, e7,
    v5_apply x0 x1 x2 x3, v1_apply x0 x1 x2 x3]
  unfold In.feat
  rw [← Ideal.ofBits_zero_f32]
  rfl

/-- The coordinates, then the features. -/
theorem v21_apply (b : Fin 4) (r : Fin 4096) (l : Fin 35) :
    val_main_v21 (F := Ideal) x0 x1 x2 x3 (ix3 b r l) = (args x0 x1 x2 x3).cell b r l := by
  unfold val_main_v21
  refine (concat3_apply _ _ _ b r l).trans ?_
  unfold In.cell
  split
  · rw [val_main_v0_apply]
    refine congrArg x0 ?_
    funext c; match c with | ⟨0, _⟩ => rfl | ⟨1, _⟩ => rfl | ⟨2, _⟩ => rfl
  · exact v20_apply x0 x1 x2 x3 b r _

/-- THE RESULT: the rows. -/
theorem result_eq : val_main_v22 (F := Ideal) x0 x1 x2 x3 = result (args x0 x1 x2 x3) := by
  suffices h : ∀ (n : Fin 16384) (l : Fin 35), val_main_v22 (F := Ideal) x0 x1 x2 x3 (ix2 n l) = result (args x0 x1 x2 x3) (ix2 n l) by
    funext i
    rw [eq_ix2 i]
    exact h (i 0) (i 1)
  intro n l
  rw [val_main_v22_apply]
  have e : idx_main_v22 (ix2 n l) = ix3 (bn n) (rn n) l := by
    have hl := l.isLt
    funext c
    match c with
    | ⟨0, _⟩ => exact Fin.ext (by show (n.val * 35 + l.val) / 143360 = n.val / 4096; omega)
    | ⟨1, _⟩ => exact Fin.ext (by show (n.val * 35 + l.val) / 35 % 4096 = n.val % 4096; omega)
    | ⟨2, _⟩ => exact Fin.ext (by show (n.val * 35 + l.val) % 35 = l.val; omega)
  rw [e]
  exact v21_apply x0 x1 x2 x3 (bn n) (rn n) l

end Cert.MlpRefArray

end
-- ==== Proof.MlpStage.lean ====
/-
  THE CLAIM OF THE FIRST LAYER: the call's result array is the reference's, of all arguments.
-/
module

public import proofs.«01_k».proof.Defs
public import proofs.«01_k».proof.Proof.MlpArray
public import proofs.«01_k».proof.Proof.MlpRefArray
public import proofs.«01_k».proof.Proof.Gen.MlpIdeal.Value
public import proofs.«01_k».proof.Proof.Gen.MlpRefIdeal.Run
public import Idealize.ShloMosaic.Adequacy
public import Idealize.ShloMosaic.Init

@[expose] public section

set_option maxRecDepth 16384

noncomputable section

namespace Cert.MlpStage

open Idealize.ShloMosaic Idealize.SL.Sem

attribute [local instance] Cert.MlpIdeal.Gen.facts Cert.MlpRefIdeal.Gen.facts

/-- The reference runs, leaves its arguments and has no semaphore. -/
theorem refFrame : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- THE ALGEBRAIC CLAIM: from arguments that agree both programs end with the same result and leave their arguments. -/
theorem algebraic : Cert.algebraic_MlpIdeal_MlpRefIdeal := by
  intro m g m' g' hpre hag
  have hk := Cert.MlpIdeal.Value.run_blocks (F := Ideal) m g
  have hr := Cert.MlpRefIdeal.Value.run (F := Ideal) m' g'
  have hargs : ∀ c : Dev Cert.MlpRefIdeal.nD, Cert.MlpRefArray.args (m' ((c.tc : Thread Cert.MlpRefIdeal.nD Cert.MlpRefIdeal.τ).loc Cert.MlpRefIdeal.main_arg0))
      (m' ((c.tc : Thread Cert.MlpRefIdeal.nD Cert.MlpRefIdeal.τ).loc Cert.MlpRefIdeal.main_arg1))
      (m' ((c.tc : Thread Cert.MlpRefIdeal.nD Cert.MlpRefIdeal.τ).loc Cert.MlpRefIdeal.main_arg2))
      (m' ((c.tc : Thread Cert.MlpRefIdeal.nD Cert.MlpRefIdeal.τ).loc Cert.MlpRefIdeal.main_arg3)) = Cert.MlpArray.args m c := by
    intro c
    rw [(hag c).1, (hag c).2.1, (hag c).2.2.1, (hag c).2.2.2]
    rfl
  refine ⟨fun c => (Cert.MlpIdeal.Gen.dats m 0 c).arrAt 4 Cert.MlpIdeal.cfg0.N, hk, ?_⟩
  refine (θ_run Cert.MlpRefIdeal.defs _ _).mono (fun r h c => ?_) hr
  obtain ⟨h0, h1⟩ := h c
  refine ⟨h0.trans ?_, h1⟩
  refine (Cert.MlpRefIdeal.Read.val_main_v22_eq (F := Ideal) _ _ _ _).trans ((Cert.MlpRefArray.result_eq _ _ _ _).trans ?_)
  rw [hargs c]
  exact (Cert.MlpArray.arr m c).symm

end Cert.MlpStage

end
-- ==== Proof.lean ====
/- The claims of this certificate, put together: the frames are the generated ones, nothing was rewritten, and the algebraic claim of each
   call is its `Stage` module's. -/
module

public import proofs.«01_k».proof.Defs
public import proofs.«01_k».proof.Proof.Gen.Down2.Frame
public import proofs.«01_k».proof.Proof.Gen.Down2Ideal.Frame
public import proofs.«01_k».proof.Proof.Gen.Down2Ideal.Value
public import proofs.«01_k».proof.Proof.Gen.Ref2Ideal.Run
public import proofs.«01_k».proof.Proof.Gen.Ref2Ideal.Read
public import proofs.«01_k».proof.Proof.Stage2
public import proofs.«01_k».proof.Proof.Gen.Down3.Frame
public import proofs.«01_k».proof.Proof.Gen.Down3Ideal.Frame
public import proofs.«01_k».proof.Proof.Gen.Down3Ideal.Value
public import proofs.«01_k».proof.Proof.Gen.Ref3Ideal.Run
public import proofs.«01_k».proof.Proof.Gen.Ref3Ideal.Read
public import proofs.«01_k».proof.Proof.Stage3
public import proofs.«01_k».proof.Proof.Gen.Down4.Frame
public import proofs.«01_k».proof.Proof.Gen.Down4Ideal.Frame
public import proofs.«01_k».proof.Proof.Gen.Down4Ideal.Value
public import proofs.«01_k».proof.Proof.Gen.Ref4Ideal.Run
public import proofs.«01_k».proof.Proof.Gen.Ref4Ideal.Read
public import proofs.«01_k».proof.Proof.Stage4
public import proofs.«01_k».proof.Proof.Gen.Down5.Frame
public import proofs.«01_k».proof.Proof.Gen.Down5Ideal.Frame
public import proofs.«01_k».proof.Proof.Gen.Down5Ideal.Value
public import proofs.«01_k».proof.Proof.Gen.Ref5Ideal.Run
public import proofs.«01_k».proof.Proof.Gen.Ref5Ideal.Read
public import proofs.«01_k».proof.Proof.Stage5
public import proofs.«01_k».proof.Proof.Gen.Norm2.Frame
public import proofs.«01_k».proof.Proof.Gen.Norm2Ideal.Frame
public import proofs.«01_k».proof.Proof.Gen.Norm2Ideal.Value
public import proofs.«01_k».proof.Proof.Gen.NormRef2Ideal.Run
public import proofs.«01_k».proof.Proof.Gen.NormRef2Ideal.Read
public import proofs.«01_k».proof.Proof.NormStage2
public import proofs.«01_k».proof.Proof.Gen.Norm3.Frame
public import proofs.«01_k».proof.Proof.Gen.Norm3Ideal.Frame
public import proofs.«01_k».proof.Proof.Gen.Norm3Ideal.Value
public import proofs.«01_k».proof.Proof.Gen.NormRef3Ideal.Run
public import proofs.«01_k».proof.Proof.Gen.NormRef3Ideal.Read
public import proofs.«01_k».proof.Proof.NormStage3
public import proofs.«01_k».proof.Proof.Gen.Norm4.Frame
public import proofs.«01_k».proof.Proof.Gen.Norm4Ideal.Frame
public import proofs.«01_k».proof.Proof.Gen.Norm4Ideal.Value
public import proofs.«01_k».proof.Proof.Gen.NormRef4Ideal.Run
public import proofs.«01_k».proof.Proof.Gen.NormRef4Ideal.Read
public import proofs.«01_k».proof.Proof.NormStage4
public import proofs.«01_k».proof.Proof.Gen.Norm5.Frame
public import proofs.«01_k».proof.Proof.Gen.Norm5Ideal.Frame
public import proofs.«01_k».proof.Proof.Gen.Norm5Ideal.Value
public import proofs.«01_k».proof.Proof.Gen.NormRef5Ideal.Run
public import proofs.«01_k».proof.Proof.Gen.NormRef5Ideal.Read
public import proofs.«01_k».proof.Proof.NormStage5
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.MlpStage
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Down2.Gen.facts, Cert.Down2Ideal.Gen.facts, Cert.Ref2Ideal.Gen.facts, Cert.Down3.Gen.facts, Cert.Down3Ideal.Gen.facts, Cert.Ref3Ideal.Gen.facts, Cert.Down4.Gen.facts, Cert.Down4Ideal.Gen.facts, Cert.Ref4Ideal.Gen.facts, Cert.Down5.Gen.facts, Cert.Down5Ideal.Gen.facts, Cert.Ref5Ideal.Gen.facts, Cert.Norm2.Gen.facts, Cert.Norm2Ideal.Gen.facts, Cert.NormRef2Ideal.Gen.facts, Cert.Norm3.Gen.facts, Cert.Norm3Ideal.Gen.facts, Cert.NormRef3Ideal.Gen.facts, Cert.Norm4.Gen.facts, Cert.Norm4Ideal.Gen.facts, Cert.NormRef4Ideal.Gen.facts, Cert.Norm5.Gen.facts, Cert.Norm5Ideal.Gen.facts, Cert.NormRef5Ideal.Gen.facts, Cert.Mlp.Gen.facts, Cert.MlpIdeal.Gen.facts, Cert.MlpRefIdeal.Gen.facts, Cert.Stage2.preFacts, Cert.Stage3.preFacts, Cert.Stage4.preFacts, Cert.Stage5.preFacts, Cert.NormStage2.preFacts, Cert.NormStage3.preFacts, Cert.NormStage4.preFacts, Cert.NormStage5.preFacts,
  fun m ρ _ => Cert.Down2.Gen.frame m ρ,
  fun m ρ _ => Cert.Down2Ideal.Gen.frame m ρ,
  fun m ρ _ => Cert.Down2Ideal.Gen.frame m ρ,
  Cert.Stage2.refFrame,
  fun m ρ _ => Cert.Stage2.refFrame m ρ trivial,
  fun m ρ _ => Cert.Down3.Gen.frame m ρ,
  fun m ρ _ => Cert.Down3Ideal.Gen.frame m ρ,
  fun m ρ _ => Cert.Down3Ideal.Gen.frame m ρ,
  Cert.Stage3.refFrame,
  fun m ρ _ => Cert.Stage3.refFrame m ρ trivial,
  fun m ρ _ => Cert.Down4.Gen.frame m ρ,
  fun m ρ _ => Cert.Down4Ideal.Gen.frame m ρ,
  fun m ρ _ => Cert.Down4Ideal.Gen.frame m ρ,
  Cert.Stage4.refFrame,
  fun m ρ _ => Cert.Stage4.refFrame m ρ trivial,
  fun m ρ _ => Cert.Down5.Gen.frame m ρ,
  fun m ρ _ => Cert.Down5Ideal.Gen.frame m ρ,
  fun m ρ _ => Cert.Down5Ideal.Gen.frame m ρ,
  Cert.Stage5.refFrame,
  fun m ρ _ => Cert.Stage5.refFrame m ρ trivial,
  fun m ρ _ => Cert.Norm2.Gen.frame m ρ,
  fun m ρ _ => Cert.Norm2Ideal.Gen.frame m ρ,
  fun m ρ _ => Cert.Norm2Ideal.Gen.frame m ρ,
  Cert.NormStage2.refFrame,
  fun m ρ _ => Cert.NormStage2.refFrame m ρ trivial,
  fun m ρ _ => Cert.Norm3.Gen.frame m ρ,
  fun m ρ _ => Cert.Norm3Ideal.Gen.frame m ρ,
  fun m ρ _ => Cert.Norm3Ideal.Gen.frame m ρ,
  Cert.NormStage3.refFrame,
  fun m ρ _ => Cert.NormStage3.refFrame m ρ trivial,
  fun m ρ _ => Cert.Norm4.Gen.frame m ρ,
  fun m ρ _ => Cert.Norm4Ideal.Gen.frame m ρ,
  fun m ρ _ => Cert.Norm4Ideal.Gen.frame m ρ,
  Cert.NormStage4.refFrame,
  fun m ρ _ => Cert.NormStage4.refFrame m ρ trivial,
  fun m ρ _ => Cert.Norm5.Gen.frame m ρ,
  fun m ρ _ => Cert.Norm5Ideal.Gen.frame m ρ,
  fun m ρ _ => Cert.Norm5Ideal.Gen.frame m ρ,
  Cert.NormStage5.refFrame,
  fun m ρ _ => Cert.NormStage5.refFrame m ρ trivial,
  fun m ρ _ => Cert.Mlp.Gen.frame m ρ,
  fun m ρ _ => Cert.MlpIdeal.Gen.frame m ρ,
  Cert.MlpStage.refFrame,
  trivial,
  Cert.Stage2.algebraic,
  trivial,
  Cert.Stage3.algebraic,
  trivial,
  Cert.Stage4.algebraic,
  trivial,
  Cert.Stage5.algebraic,
  trivial,
  Cert.NormStage2.algebraic,
  trivial,
  Cert.NormStage3.algebraic,
  trivial,
  Cert.NormStage4.algebraic,
  trivial,
  Cert.NormStage5.algebraic,
  trivial,
  Cert.MlpStage.algebraic⟩

end Cert.Proof

end
